-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S16384 : Shape := ⟨1, ![16384]⟩
abbrev S1000000x32 : Shape := ⟨2, ![1000000, 32]⟩
abbrev S100000x32 : Shape := ⟨2, ![100000, 32]⟩
abbrev S1000000x1 : Shape := ⟨2, ![1000000, 1]⟩
abbrev S100000x1 : Shape := ⟨2, ![100000, 1]⟩
abbrev S_ : Shape := ⟨0, ![]⟩

class Facts : Prop where
  bcast_S_S16384 : S_.BroadcastsInDim S16384 (![] : Fin 0 → Fin S16384.rank)
  reducesTo_S16384_S_d0 : S16384.ReducesTo [0] S_
  h_S_ : 0 < S_.numel

variable [Facts]

def fn {F : FTy → Type} [FloatOps F] (main_arg0 : IVec S16384 32) (main_arg1 : IVec S16384 32) (main_arg2 : FVec F S1000000x32 .f32) (main_arg3 : FVec F S100000x32 .f32) (main_arg4 : FVec F S1000000x1 .f32) (main_arg5 : FVec F S100000x1 .f32) : IVec S_ 1 :=
  let main_c : IVec S_ 32 := constantI S_ 32 0#32
  let main_v0 : IVec S16384 32 := broadcastInDim S16384 ![] bcast_S_S16384 main_c
  let main_v1 : IVec S16384 1 := cmpi .sge main_arg0 main_v0
  let main_c_0 : IVec S_ 1 := constantI S_ 1 1#1
  let main_v2 : IVec S_ 1 := (fun x v => Host.reduce IntOp.andi x v reducesTo_S16384_S_d0 h_S_) main_v1 main_c_0
  let main_c_1 : IVec S_ 32 := constantI S_ 32 1000000#32
  let main_v3 : IVec S16384 32 := broadcastInDim S16384 ![] bcast_S_S16384 main_c_1
  let main_v4 : IVec S16384 1 := cmpi .slt main_arg0 main_v3
  let main_c_2 : IVec S_ 1 := constantI S_ 1 1#1
  let main_v5 : IVec S_ 1 := (fun x v => Host.reduce IntOp.andi x v reducesTo_S16384_S_d0 h_S_) main_v4 main_c_2
  let main_v6 : IVec S_ 1 := andi main_v2 main_v5
  let main_c_3 : IVec S_ 32 := constantI S_ 32 0#32
  let main_v7 : IVec S16384 32 := broadcastInDim S16384 ![] bcast_S_S16384 main_c_3
  let main_v8 : IVec S16384 1 := cmpi .sge main_arg1 main_v7
  let main_c_4 : IVec S_ 1 := constantI S_ 1 1#1
  let main_v9 : IVec S_ 1 := (fun x v => Host.reduce IntOp.andi x v reducesTo_S16384_S_d0 h_S_) main_v8 main_c_4
  let main_v10 : IVec S_ 1 := andi main_v6 main_v9
  let main_c_5 : IVec S_ 32 := constantI S_ 32 100000#32
  let main_v11 : IVec S16384 32 := broadcastInDim S16384 ![] bcast_S_S16384 main_c_5
  let main_v12 : IVec S16384 1 := cmpi .slt main_arg1 main_v11
  let main_c_6 : IVec S_ 1 := constantI S_ 1 1#1
  let main_v13 : IVec S_ 1 := (fun x v => Host.reduce IntOp.andi x v reducesTo_S16384_S_d0 h_S_) main_v12 main_c_6
  let main_v14 : IVec S_ 1 := andi main_v10 main_v13
  main_v14
-- ==== Kernel.lean ====
abbrev S16384 : Shape := ⟨1, ![16384]⟩
abbrev S1000000x32 : Shape := ⟨2, ![1000000, 32]⟩
abbrev S100000x32 : Shape := ⟨2, ![100000, 32]⟩
abbrev S1000000x1 : Shape := ⟨2, ![1000000, 1]⟩
abbrev S100000x1 : Shape := ⟨2, ![100000, 1]⟩
abbrev S32x1000000 : Shape := ⟨2, ![32, 1000000]⟩
abbrev S262144x128 : Shape := ⟨2, ![262144, 128]⟩
abbrev S32x65536 : Shape := ⟨2, ![32, 65536]⟩
abbrev S16384x128 : Shape := ⟨2, ![16384, 128]⟩
abbrev S32x4x16384 : Shape := ⟨3, ![32, 4, 16384]⟩
abbrev S4x32x16384 : Shape := ⟨3, ![4, 32, 16384]⟩
abbrev S128x16384 : Shape := ⟨2, ![128, 16384]⟩
abbrev S32x100000 : Shape := ⟨2, ![32, 100000]⟩
abbrev S25600x128 : Shape := ⟨2, ![25600, 128]⟩
abbrev S32x4096 : Shape := ⟨2, ![32, 4096]⟩
abbrev S1024x128 : Shape := ⟨2, ![1024, 128]⟩
abbrev S32x4x1024 : Shape := ⟨3, ![32, 4, 1024]⟩
abbrev S4x32x1024 : Shape := ⟨3, ![4, 32, 1024]⟩
abbrev S128x1024 : Shape := ⟨2, ![128, 1024]⟩
abbrev S1x1000000 : Shape := ⟨2, ![1, 1000000]⟩
abbrev S_ : Shape := ⟨0, ![]⟩
abbrev S1x1000064 : Shape := ⟨2, ![1, 1000064]⟩
abbrev S7813x128 : Shape := ⟨2, ![7813, 128]⟩
abbrev S1x100000 : Shape := ⟨2, ![1, 100000]⟩
abbrev S1x100096 : Shape := ⟨2, ![1, 100096]⟩
abbrev S782x128 : Shape := ⟨2, ![782, 128]⟩
abbrev S512 : Shape := ⟨1, ![512]⟩
abbrev S2x4x64 : Shape := ⟨3, ![2, 4, 64]⟩
abbrev S2x64x128 : Shape := ⟨3, ![2, 64, 128]⟩
abbrev S16 : Shape := ⟨1, ![16]⟩
abbrev S1x1x16 : Shape := ⟨3, ![1, 1, 16]⟩
abbrev S1x64x128 : Shape := ⟨3, ![1, 64, 128]⟩
abbrev S64x128 : Shape := ⟨2, ![64, 128]⟩
abbrev S1x1x64 : Shape := ⟨3, ![1, 1, 64]⟩
abbrev S64 : Shape := ⟨1, ![64]⟩

abbrev nBuf : Table → Nat
  | .hbm => 21
  | .local .tc .vmem => 8
  | .local .scVector .vmem => 8
  | _ => 0

abbrev bufTy : (tb : Table) → Fin (nBuf tb) → BufTy
  | .hbm, ⟨0, _⟩ => ⟨S16384, .i32⟩
  | .hbm, ⟨1, _⟩ => ⟨S16384, .i32⟩
  | .hbm, ⟨2, _⟩ => ⟨S1000000x32, .f32⟩
  | .hbm, ⟨3, _⟩ => ⟨S100000x32, .f32⟩
  | .hbm, ⟨4, _⟩ => ⟨S1000000x1, .f32⟩
  | .hbm, ⟨5, _⟩ => ⟨S100000x1, .f32⟩
  | .hbm, ⟨6, _⟩ => ⟨S32x1000000, .f32⟩
  | .hbm, ⟨7, _⟩ => ⟨S262144x128, .f32⟩
  | .hbm, ⟨8, _⟩ => ⟨S32x100000, .f32⟩
  | .hbm, ⟨9, _⟩ => ⟨S25600x128, .f32⟩
  | .hbm, ⟨10, _⟩ => ⟨S1x1000000, .f32⟩
  | .hbm, ⟨11, _⟩ => ⟨S_, .i32⟩
  | .hbm, ⟨12, _⟩ => ⟨S_, .f32⟩
  | .hbm, ⟨13, _⟩ => ⟨S1x1000064, .f32⟩
  | .hbm, ⟨14, _⟩ => ⟨S7813x128, .f32⟩
  | .hbm, ⟨15, _⟩ => ⟨S1x100000, .f32⟩
  | .hbm, ⟨16, _⟩ => ⟨S_, .i32⟩
  | .hbm, ⟨17, _⟩ => ⟨S_, .f32⟩
  | .hbm, ⟨18, _⟩ => ⟨S1x100096, .f32⟩
  | .hbm, ⟨19, _⟩ => ⟨S782x128, .f32⟩
  | .hbm, ⟨20, _⟩ => ⟨S16384, .f32⟩
  | .local .tc .vmem, ⟨0, _⟩ => ⟨S32x65536, .f32⟩
  | .local .tc .vmem, ⟨1, _⟩ => ⟨S32x65536, .f32⟩
  | .local .tc .vmem, ⟨2, _⟩ => ⟨S16384x128, .f32⟩
  | .local .tc .vmem, ⟨3, _⟩ => ⟨S16384x128, .f32⟩
  | .local .tc .vmem, ⟨4, _⟩ => ⟨S32x4096, .f32⟩
  | .local .tc .vmem, ⟨5, _⟩ => ⟨S32x4096, .f32⟩
  | .local .tc .vmem, ⟨6, _⟩ => ⟨S1024x128, .f32⟩
  | .local .tc .vmem, ⟨7, _⟩ => ⟨S1024x128, .f32⟩
  | .local .scVector .vmem, ⟨0, _⟩ => ⟨S512, .i32⟩
  | .local .scVector .vmem, ⟨1, _⟩ => ⟨S512, .i32⟩
  | .local .scVector .vmem, ⟨2, _⟩ => ⟨S2x4x64, .i32⟩
  | .local .scVector .vmem, ⟨3, _⟩ => ⟨S2x64x128, .f32⟩
  | .local .scVector .vmem, ⟨4, _⟩ => ⟨S2x64x128, .f32⟩
  | .local .scVector .vmem, ⟨5, _⟩ => ⟨S2x64x128, .f32⟩
  | .local .scVector .vmem, ⟨6, _⟩ => ⟨S2x64x128, .f32⟩
  | .local .scVector .vmem, ⟨7, _⟩ => ⟨S512, .f32⟩
  | _, _ => ⟨S16384, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => false
  | ⟨9, _⟩ => false
  | ⟨10, _⟩ => false
  | ⟨11, _⟩ => false
  | ⟨12, _⟩ => false
  | _ => false

abbrev sig : RefSig :=
  ofTables nBuf rfl bufTy 4 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c : Ref sig .tc := ⟨.hbm, 11, rfl⟩
abbrev main_call0_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c_0 : Ref sig .tc := ⟨.hbm, 16, rfl⟩
abbrev main_call1_v0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_arg0_scv : Ref sig .scVector := ⟨.hbm, 0, rfl⟩
abbrev main_arg1_scv : Ref sig .scVector := ⟨.hbm, 1, rfl⟩
abbrev main_v1_scv : Ref sig .scVector := ⟨.hbm, 7, rfl⟩
abbrev main_v3_scv : Ref sig .scVector := ⟨.hbm, 9, rfl⟩
abbrev main_v6_scv : Ref sig .scVector := ⟨.hbm, 14, rfl⟩
abbrev main_v9_scv : Ref sig .scVector := ⟨.hbm, 19, rfl⟩
abbrev main_v10_scv : Ref sig .scVector := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc2_scratch0 : Ref sig .scVector := ⟨.vmem, 0, rfl⟩
abbrev cc2_scratch1 : Ref sig .scVector := ⟨.vmem, 1, rfl⟩
abbrev cc2_scratch2 : Ref sig .scVector := ⟨.vmem, 2, rfl⟩
abbrev cc2_scratch3 : Ref sig .scVector := ⟨.vmem, 3, rfl⟩
abbrev cc2_scratch4 : Ref sig .scVector := ⟨.vmem, 4, rfl⟩
abbrev cc2_scratch5 : Ref sig .scVector := ⟨.vmem, 5, rfl⟩
abbrev cc2_scratch6 : Ref sig .scVector := ⟨.vmem, 6, rfl⟩
abbrev cc2_scratch7 : Ref sig .scVector := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x65536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16384x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S32x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1024x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev grid2 : Pipeline.Grid := ⟨2, ![2, 16], ![false, false]⟩

def k2_off1 (i : grid2.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![v2.toNat]
@[reducible] def k2_t1_loop : Scf.Loop 32 :=
  let c0_i32_255 : BitVec 32 := 0#32
  let c4_i32 : BitVec 32 := 4#32
  let v320 : BitVec 32 := Scalar.addi c0_i32_255 c4_i32
  let c1_i32_256 : BitVec 32 := 1#32
  ⟨c0_i32_255, v320, c1_i32_256⟩
def k2_off2 (k2_t1 : Fin k2_t1_loop.trips) : Fin 1 → Nat :=
  let c0_i32_1215 : BitVec 32 := 0#32
  let c0_i32_255 : BitVec 32 := 0#32
  let c1_i32_256 : BitVec 32 := 1#32
  let arg19 : BitVec 32 := Scf.iv c0_i32_255 c1_i32_256 k2_t1
  let c16_i32_1214 : BitVec 32 := 16#32
  let v1359 : BitVec 32 := Scalar.muli arg19 c16_i32_1214
  let v1360 : BitVec 32 := Scalar.addi c0_i32_1215 v1359
  let v1361 : Index := Scalar.indexCast v1360
  ![v1361.toNat]

def k2_chk1 (v1358 : IVec S16 32) (v1367 : IVec S16 32) (v1369 : IVec S16 32) : Prop :=
  (∀ a x, ((![v1367, v1358, v1369] : Fin 3 → IVec S16 32) a x).toNat < S2x64x128.size a)
theorem k2_idx1_inb : ∀ (v1358 : IVec S16 32) (v1367 : IVec S16 32) (v1369 : IVec S16 32) (k2_hw1 : k2_chk1 v1358 v1367 v1369), ∀ a x, ((![v1367, v1358, v1369] : Fin 3 → IVec S16 32) a x).toNat < S2x64x128.size a := fun v1358 v1367 v1369 k2_hw1 => k2_hw1

def k2_chk2 (v1358 : IVec S16 32) (v1373 : IVec S16 32) (v1375 : IVec S16 32) : Prop :=
  (∀ a x, ((![v1373, v1358, v1375] : Fin 3 → IVec S16 32) a x).toNat < S2x64x128.size a)
theorem k2_idx2_inb : ∀ (v1358 : IVec S16 32) (v1373 : IVec S16 32) (v1375 : IVec S16 32) (k2_hw2 : k2_chk2 v1358 v1373 v1375), ∀ a x, ((![v1373, v1358, v1375] : Fin 3 → IVec S16 32) a x).toNat < S2x64x128.size a := fun v1358 v1373 v1375 k2_hw2 => k2_hw2

def k2_chk3 (v1358 : IVec S16 32) (v1390 : IVec S16 32) (v1392 : IVec S16 32) : Prop :=
  (∀ a x, ((![v1390, v1358, v1392] : Fin 3 → IVec S16 32) a x).toNat < S2x64x128.size a)
theorem k2_idx3_inb : ∀ (v1358 : IVec S16 32) (v1390 : IVec S16 32) (v1392 : IVec S16 32) (k2_hw3 : k2_chk3 v1358 v1390 v1392), ∀ a x, ((![v1390, v1358, v1392] : Fin 3 → IVec S16 32) a x).toNat < S2x64x128.size a := fun v1358 v1390 v1392 k2_hw3 => k2_hw3

def k2_chk4 (v1358 : IVec S16 32) (v1390 : IVec S16 32) (v1395 : IVec S16 32) : Prop :=
  (∀ a x, ((![v1390, v1358, v1395] : Fin 3 → IVec S16 32) a x).toNat < S2x64x128.size a)
theorem k2_idx4_inb : ∀ (v1358 : IVec S16 32) (v1390 : IVec S16 32) (v1395 : IVec S16 32) (k2_hw4 : k2_chk4 v1358 v1390 v1395), ∀ a x, ((![v1390, v1358, v1395] : Fin 3 → IVec S16 32) a x).toNat < S2x64x128.size a := fun v1358 v1390 v1395 k2_hw4 => k2_hw4

def k2_chk5 (v1358 : IVec S16 32) (v1390 : IVec S16 32) (v1400 : IVec S16 32) : Prop :=
  (∀ a x, ((![v1390, v1358, v1400] : Fin 3 → IVec S16 32) a x).toNat < S2x64x128.size a)
theorem k2_idx5_inb : ∀ (v1358 : IVec S16 32) (v1390 : IVec S16 32) (v1400 : IVec S16 32) (k2_hw5 : k2_chk5 v1358 v1390 v1400), ∀ a x, ((![v1390, v1358, v1400] : Fin 3 → IVec S16 32) a x).toNat < S2x64x128.size a := fun v1358 v1390 v1400 k2_hw5 => k2_hw5

def k2_chk6 (v1358 : IVec S16 32) (v1390 : IVec S16 32) (v1403 : IVec S16 32) : Prop :=
  (∀ a x, ((![v1390, v1358, v1403] : Fin 3 → IVec S16 32) a x).toNat < S2x64x128.size a)
theorem k2_idx6_inb : ∀ (v1358 : IVec S16 32) (v1390 : IVec S16 32) (v1403 : IVec S16 32) (k2_hw6 : k2_chk6 v1358 v1390 v1403), ∀ a x, ((![v1390, v1358, v1403] : Fin 3 → IVec S16 32) a x).toNat < S2x64x128.size a := fun v1358 v1390 v1403 k2_hw6 => k2_hw6

def k2_chk7 (v1358 : IVec S16 32) (v1390 : IVec S16 32) (v1408 : IVec S16 32) : Prop :=
  (∀ a x, ((![v1390, v1358, v1408] : Fin 3 → IVec S16 32) a x).toNat < S2x64x128.size a)
theorem k2_idx7_inb : ∀ (v1358 : IVec S16 32) (v1390 : IVec S16 32) (v1408 : IVec S16 32) (k2_hw7 : k2_chk7 v1358 v1390 v1408), ∀ a x, ((![v1390, v1358, v1408] : Fin 3 → IVec S16 32) a x).toNat < S2x64x128.size a := fun v1358 v1390 v1408 k2_hw7 => k2_hw7

def k2_chk8 (v1358 : IVec S16 32) (v1390 : IVec S16 32) (v1411 : IVec S16 32) : Prop :=
  (∀ a x, ((![v1390, v1358, v1411] : Fin 3 → IVec S16 32) a x).toNat < S2x64x128.size a)
theorem k2_idx8_inb : ∀ (v1358 : IVec S16 32) (v1390 : IVec S16 32) (v1411 : IVec S16 32) (k2_hw8 : k2_chk8 v1358 v1390 v1411), ∀ a x, ((![v1390, v1358, v1411] : Fin 3 → IVec S16 32) a x).toNat < S2x64x128.size a := fun v1358 v1390 v1411 k2_hw8 => k2_hw8

def k2_chk9 (v1358 : IVec S16 32) (v1390 : IVec S16 32) (v1416 : IVec S16 32) : Prop :=
  (∀ a x, ((![v1390, v1358, v1416] : Fin 3 → IVec S16 32) a x).toNat < S2x64x128.size a)
theorem k2_idx9_inb : ∀ (v1358 : IVec S16 32) (v1390 : IVec S16 32) (v1416 : IVec S16 32) (k2_hw9 : k2_chk9 v1358 v1390 v1416), ∀ a x, ((![v1390, v1358, v1416] : Fin 3 → IVec S16 32) a x).toNat < S2x64x128.size a := fun v1358 v1390 v1416 k2_hw9 => k2_hw9

def k2_chk10 (v1358 : IVec S16 32) (v1390 : IVec S16 32) (v1419 : IVec S16 32) : Prop :=
  (∀ a x, ((![v1390, v1358, v1419] : Fin 3 → IVec S16 32) a x).toNat < S2x64x128.size a)
theorem k2_idx10_inb : ∀ (v1358 : IVec S16 32) (v1390 : IVec S16 32) (v1419 : IVec S16 32) (k2_hw10 : k2_chk10 v1358 v1390 v1419), ∀ a x, ((![v1390, v1358, v1419] : Fin 3 → IVec S16 32) a x).toNat < S2x64x128.size a := fun v1358 v1390 v1419 k2_hw10 => k2_hw10

def k2_chk11 (v1358 : IVec S16 32) (v1390 : IVec S16 32) (v1424 : IVec S16 32) : Prop :=
  (∀ a x, ((![v1390, v1358, v1424] : Fin 3 → IVec S16 32) a x).toNat < S2x64x128.size a)
theorem k2_idx11_inb : ∀ (v1358 : IVec S16 32) (v1390 : IVec S16 32) (v1424 : IVec S16 32) (k2_hw11 : k2_chk11 v1358 v1390 v1424), ∀ a x, ((![v1390, v1358, v1424] : Fin 3 → IVec S16 32) a x).toNat < S2x64x128.size a := fun v1358 v1390 v1424 k2_hw11 => k2_hw11

def k2_chk12 (v1358 : IVec S16 32) (v1390 : IVec S16 32) (v1427 : IVec S16 32) : Prop :=
  (∀ a x, ((![v1390, v1358, v1427] : Fin 3 → IVec S16 32) a x).toNat < S2x64x128.size a)
theorem k2_idx12_inb : ∀ (v1358 : IVec S16 32) (v1390 : IVec S16 32) (v1427 : IVec S16 32) (k2_hw12 : k2_chk12 v1358 v1390 v1427), ∀ a x, ((![v1390, v1358, v1427] : Fin 3 → IVec S16 32) a x).toNat < S2x64x128.size a := fun v1358 v1390 v1427 k2_hw12 => k2_hw12

def k2_chk13 (v1358 : IVec S16 32) (v1390 : IVec S16 32) (v1432 : IVec S16 32) : Prop :=
  (∀ a x, ((![v1390, v1358, v1432] : Fin 3 → IVec S16 32) a x).toNat < S2x64x128.size a)
theorem k2_idx13_inb : ∀ (v1358 : IVec S16 32) (v1390 : IVec S16 32) (v1432 : IVec S16 32) (k2_hw13 : k2_chk13 v1358 v1390 v1432), ∀ a x, ((![v1390, v1358, v1432] : Fin 3 → IVec S16 32) a x).toNat < S2x64x128.size a := fun v1358 v1390 v1432 k2_hw13 => k2_hw13

def k2_chk14 (v1358 : IVec S16 32) (v1390 : IVec S16 32) (v1435 : IVec S16 32) : Prop :=
  (∀ a x, ((![v1390, v1358, v1435] : Fin 3 → IVec S16 32) a x).toNat < S2x64x128.size a)
theorem k2_idx14_inb : ∀ (v1358 : IVec S16 32) (v1390 : IVec S16 32) (v1435 : IVec S16 32) (k2_hw14 : k2_chk14 v1358 v1390 v1435), ∀ a x, ((![v1390, v1358, v1435] : Fin 3 → IVec S16 32) a x).toNat < S2x64x128.size a := fun v1358 v1390 v1435 k2_hw14 => k2_hw14

def k2_chk15 (v1358 : IVec S16 32) (v1390 : IVec S16 32) (v1440 : IVec S16 32) : Prop :=
  (∀ a x, ((![v1390, v1358, v1440] : Fin 3 → IVec S16 32) a x).toNat < S2x64x128.size a)
theorem k2_idx15_inb : ∀ (v1358 : IVec S16 32) (v1390 : IVec S16 32) (v1440 : IVec S16 32) (k2_hw15 : k2_chk15 v1358 v1390 v1440), ∀ a x, ((![v1390, v1358, v1440] : Fin 3 → IVec S16 32) a x).toNat < S2x64x128.size a := fun v1358 v1390 v1440 k2_hw15 => k2_hw15

def k2_chk16 (v1358 : IVec S16 32) (v1390 : IVec S16 32) (v1443 : IVec S16 32) : Prop :=
  (∀ a x, ((![v1390, v1358, v1443] : Fin 3 → IVec S16 32) a x).toNat < S2x64x128.size a)
theorem k2_idx16_inb : ∀ (v1358 : IVec S16 32) (v1390 : IVec S16 32) (v1443 : IVec S16 32) (k2_hw16 : k2_chk16 v1358 v1390 v1443), ∀ a x, ((![v1390, v1358, v1443] : Fin 3 → IVec S16 32) a x).toNat < S2x64x128.size a := fun v1358 v1390 v1443 k2_hw16 => k2_hw16

def k2_chk17 (v1358 : IVec S16 32) (v1390 : IVec S16 32) (v1448 : IVec S16 32) : Prop :=
  (∀ a x, ((![v1390, v1358, v1448] : Fin 3 → IVec S16 32) a x).toNat < S2x64x128.size a)
theorem k2_idx17_inb : ∀ (v1358 : IVec S16 32) (v1390 : IVec S16 32) (v1448 : IVec S16 32) (k2_hw17 : k2_chk17 v1358 v1390 v1448), ∀ a x, ((![v1390, v1358, v1448] : Fin 3 → IVec S16 32) a x).toNat < S2x64x128.size a := fun v1358 v1390 v1448 k2_hw17 => k2_hw17

def k2_chk18 (v1358 : IVec S16 32) (v1390 : IVec S16 32) (v1451 : IVec S16 32) : Prop :=
  (∀ a x, ((![v1390, v1358, v1451] : Fin 3 → IVec S16 32) a x).toNat < S2x64x128.size a)
theorem k2_idx18_inb : ∀ (v1358 : IVec S16 32) (v1390 : IVec S16 32) (v1451 : IVec S16 32) (k2_hw18 : k2_chk18 v1358 v1390 v1451), ∀ a x, ((![v1390, v1358, v1451] : Fin 3 → IVec S16 32) a x).toNat < S2x64x128.size a := fun v1358 v1390 v1451 k2_hw18 => k2_hw18

def k2_chk19 (v1358 : IVec S16 32) (v1390 : IVec S16 32) (v1456 : IVec S16 32) : Prop :=
  (∀ a x, ((![v1390, v1358, v1456] : Fin 3 → IVec S16 32) a x).toNat < S2x64x128.size a)
theorem k2_idx19_inb : ∀ (v1358 : IVec S16 32) (v1390 : IVec S16 32) (v1456 : IVec S16 32) (k2_hw19 : k2_chk19 v1358 v1390 v1456), ∀ a x, ((![v1390, v1358, v1456] : Fin 3 → IVec S16 32) a x).toNat < S2x64x128.size a := fun v1358 v1390 v1456 k2_hw19 => k2_hw19

def k2_chk20 (v1358 : IVec S16 32) (v1390 : IVec S16 32) (v1459 : IVec S16 32) : Prop :=
  (∀ a x, ((![v1390, v1358, v1459] : Fin 3 → IVec S16 32) a x).toNat < S2x64x128.size a)
theorem k2_idx20_inb : ∀ (v1358 : IVec S16 32) (v1390 : IVec S16 32) (v1459 : IVec S16 32) (k2_hw20 : k2_chk20 v1358 v1390 v1459), ∀ a x, ((![v1390, v1358, v1459] : Fin 3 → IVec S16 32) a x).toNat < S2x64x128.size a := fun v1358 v1390 v1459 k2_hw20 => k2_hw20

def k2_chk21 (v1358 : IVec S16 32) (v1390 : IVec S16 32) (v1464 : IVec S16 32) : Prop :=
  (∀ a x, ((![v1390, v1358, v1464] : Fin 3 → IVec S16 32) a x).toNat < S2x64x128.size a)
theorem k2_idx21_inb : ∀ (v1358 : IVec S16 32) (v1390 : IVec S16 32) (v1464 : IVec S16 32) (k2_hw21 : k2_chk21 v1358 v1390 v1464), ∀ a x, ((![v1390, v1358, v1464] : Fin 3 → IVec S16 32) a x).toNat < S2x64x128.size a := fun v1358 v1390 v1464 k2_hw21 => k2_hw21

def k2_chk22 (v1358 : IVec S16 32) (v1390 : IVec S16 32) (v1467 : IVec S16 32) : Prop :=
  (∀ a x, ((![v1390, v1358, v1467] : Fin 3 → IVec S16 32) a x).toNat < S2x64x128.size a)
theorem k2_idx22_inb : ∀ (v1358 : IVec S16 32) (v1390 : IVec S16 32) (v1467 : IVec S16 32) (k2_hw22 : k2_chk22 v1358 v1390 v1467), ∀ a x, ((![v1390, v1358, v1467] : Fin 3 → IVec S16 32) a x).toNat < S2x64x128.size a := fun v1358 v1390 v1467 k2_hw22 => k2_hw22

def k2_chk23 (v1358 : IVec S16 32) (v1390 : IVec S16 32) (v1472 : IVec S16 32) : Prop :=
  (∀ a x, ((![v1390, v1358, v1472] : Fin 3 → IVec S16 32) a x).toNat < S2x64x128.size a)
theorem k2_idx23_inb : ∀ (v1358 : IVec S16 32) (v1390 : IVec S16 32) (v1472 : IVec S16 32) (k2_hw23 : k2_chk23 v1358 v1390 v1472), ∀ a x, ((![v1390, v1358, v1472] : Fin 3 → IVec S16 32) a x).toNat < S2x64x128.size a := fun v1358 v1390 v1472 k2_hw23 => k2_hw23

def k2_chk24 (v1358 : IVec S16 32) (v1390 : IVec S16 32) (v1475 : IVec S16 32) : Prop :=
  (∀ a x, ((![v1390, v1358, v1475] : Fin 3 → IVec S16 32) a x).toNat < S2x64x128.size a)
theorem k2_idx24_inb : ∀ (v1358 : IVec S16 32) (v1390 : IVec S16 32) (v1475 : IVec S16 32) (k2_hw24 : k2_chk24 v1358 v1390 v1475), ∀ a x, ((![v1390, v1358, v1475] : Fin 3 → IVec S16 32) a x).toNat < S2x64x128.size a := fun v1358 v1390 v1475 k2_hw24 => k2_hw24

def k2_chk25 (v1358 : IVec S16 32) (v1390 : IVec S16 32) (v1480 : IVec S16 32) : Prop :=
  (∀ a x, ((![v1390, v1358, v1480] : Fin 3 → IVec S16 32) a x).toNat < S2x64x128.size a)
theorem k2_idx25_inb : ∀ (v1358 : IVec S16 32) (v1390 : IVec S16 32) (v1480 : IVec S16 32) (k2_hw25 : k2_chk25 v1358 v1390 v1480), ∀ a x, ((![v1390, v1358, v1480] : Fin 3 → IVec S16 32) a x).toNat < S2x64x128.size a := fun v1358 v1390 v1480 k2_hw25 => k2_hw25

def k2_chk26 (v1358 : IVec S16 32) (v1390 : IVec S16 32) (v1483 : IVec S16 32) : Prop :=
  (∀ a x, ((![v1390, v1358, v1483] : Fin 3 → IVec S16 32) a x).toNat < S2x64x128.size a)
theorem k2_idx26_inb : ∀ (v1358 : IVec S16 32) (v1390 : IVec S16 32) (v1483 : IVec S16 32) (k2_hw26 : k2_chk26 v1358 v1390 v1483), ∀ a x, ((![v1390, v1358, v1483] : Fin 3 → IVec S16 32) a x).toNat < S2x64x128.size a := fun v1358 v1390 v1483 k2_hw26 => k2_hw26

def k2_chk27 (v1358 : IVec S16 32) (v1390 : IVec S16 32) (v1488 : IVec S16 32) : Prop :=
  (∀ a x, ((![v1390, v1358, v1488] : Fin 3 → IVec S16 32) a x).toNat < S2x64x128.size a)
theorem k2_idx27_inb : ∀ (v1358 : IVec S16 32) (v1390 : IVec S16 32) (v1488 : IVec S16 32) (k2_hw27 : k2_chk27 v1358 v1390 v1488), ∀ a x, ((![v1390, v1358, v1488] : Fin 3 → IVec S16 32) a x).toNat < S2x64x128.size a := fun v1358 v1390 v1488 k2_hw27 => k2_hw27

def k2_chk28 (v1358 : IVec S16 32) (v1390 : IVec S16 32) (v1491 : IVec S16 32) : Prop :=
  (∀ a x, ((![v1390, v1358, v1491] : Fin 3 → IVec S16 32) a x).toNat < S2x64x128.size a)
theorem k2_idx28_inb : ∀ (v1358 : IVec S16 32) (v1390 : IVec S16 32) (v1491 : IVec S16 32) (k2_hw28 : k2_chk28 v1358 v1390 v1491), ∀ a x, ((![v1390, v1358, v1491] : Fin 3 → IVec S16 32) a x).toNat < S2x64x128.size a := fun v1358 v1390 v1491 k2_hw28 => k2_hw28

def k2_chk29 (v1358 : IVec S16 32) (v1390 : IVec S16 32) (v1496 : IVec S16 32) : Prop :=
  (∀ a x, ((![v1390, v1358, v1496] : Fin 3 → IVec S16 32) a x).toNat < S2x64x128.size a)
theorem k2_idx29_inb : ∀ (v1358 : IVec S16 32) (v1390 : IVec S16 32) (v1496 : IVec S16 32) (k2_hw29 : k2_chk29 v1358 v1390 v1496), ∀ a x, ((![v1390, v1358, v1496] : Fin 3 → IVec S16 32) a x).toNat < S2x64x128.size a := fun v1358 v1390 v1496 k2_hw29 => k2_hw29

def k2_chk30 (v1358 : IVec S16 32) (v1390 : IVec S16 32) (v1499 : IVec S16 32) : Prop :=
  (∀ a x, ((![v1390, v1358, v1499] : Fin 3 → IVec S16 32) a x).toNat < S2x64x128.size a)
theorem k2_idx30_inb : ∀ (v1358 : IVec S16 32) (v1390 : IVec S16 32) (v1499 : IVec S16 32) (k2_hw30 : k2_chk30 v1358 v1390 v1499), ∀ a x, ((![v1390, v1358, v1499] : Fin 3 → IVec S16 32) a x).toNat < S2x64x128.size a := fun v1358 v1390 v1499 k2_hw30 => k2_hw30

def k2_chk31 (v1358 : IVec S16 32) (v1390 : IVec S16 32) (v1504 : IVec S16 32) : Prop :=
  (∀ a x, ((![v1390, v1358, v1504] : Fin 3 → IVec S16 32) a x).toNat < S2x64x128.size a)
theorem k2_idx31_inb : ∀ (v1358 : IVec S16 32) (v1390 : IVec S16 32) (v1504 : IVec S16 32) (k2_hw31 : k2_chk31 v1358 v1390 v1504), ∀ a x, ((![v1390, v1358, v1504] : Fin 3 → IVec S16 32) a x).toNat < S2x64x128.size a := fun v1358 v1390 v1504 k2_hw31 => k2_hw31

def k2_chk32 (v1358 : IVec S16 32) (v1390 : IVec S16 32) (v1507 : IVec S16 32) : Prop :=
  (∀ a x, ((![v1390, v1358, v1507] : Fin 3 → IVec S16 32) a x).toNat < S2x64x128.size a)
theorem k2_idx32_inb : ∀ (v1358 : IVec S16 32) (v1390 : IVec S16 32) (v1507 : IVec S16 32) (k2_hw32 : k2_chk32 v1358 v1390 v1507), ∀ a x, ((![v1390, v1358, v1507] : Fin 3 → IVec S16 32) a x).toNat < S2x64x128.size a := fun v1358 v1390 v1507 k2_hw32 => k2_hw32

def k2_chk33 (v1358 : IVec S16 32) (v1390 : IVec S16 32) (v1512 : IVec S16 32) : Prop :=
  (∀ a x, ((![v1390, v1358, v1512] : Fin 3 → IVec S16 32) a x).toNat < S2x64x128.size a)
theorem k2_idx33_inb : ∀ (v1358 : IVec S16 32) (v1390 : IVec S16 32) (v1512 : IVec S16 32) (k2_hw33 : k2_chk33 v1358 v1390 v1512), ∀ a x, ((![v1390, v1358, v1512] : Fin 3 → IVec S16 32) a x).toNat < S2x64x128.size a := fun v1358 v1390 v1512 k2_hw33 => k2_hw33

def k2_chk34 (v1358 : IVec S16 32) (v1390 : IVec S16 32) (v1515 : IVec S16 32) : Prop :=
  (∀ a x, ((![v1390, v1358, v1515] : Fin 3 → IVec S16 32) a x).toNat < S2x64x128.size a)
theorem k2_idx34_inb : ∀ (v1358 : IVec S16 32) (v1390 : IVec S16 32) (v1515 : IVec S16 32) (k2_hw34 : k2_chk34 v1358 v1390 v1515), ∀ a x, ((![v1390, v1358, v1515] : Fin 3 → IVec S16 32) a x).toNat < S2x64x128.size a := fun v1358 v1390 v1515 k2_hw34 => k2_hw34

def k2_chk35 (v1358 : IVec S16 32) (v1390 : IVec S16 32) (v1520 : IVec S16 32) : Prop :=
  (∀ a x, ((![v1390, v1358, v1520] : Fin 3 → IVec S16 32) a x).toNat < S2x64x128.size a)
theorem k2_idx35_inb : ∀ (v1358 : IVec S16 32) (v1390 : IVec S16 32) (v1520 : IVec S16 32) (k2_hw35 : k2_chk35 v1358 v1390 v1520), ∀ a x, ((![v1390, v1358, v1520] : Fin 3 → IVec S16 32) a x).toNat < S2x64x128.size a := fun v1358 v1390 v1520 k2_hw35 => k2_hw35

def k2_chk36 (v1358 : IVec S16 32) (v1390 : IVec S16 32) (v1523 : IVec S16 32) : Prop :=
  (∀ a x, ((![v1390, v1358, v1523] : Fin 3 → IVec S16 32) a x).toNat < S2x64x128.size a)
theorem k2_idx36_inb : ∀ (v1358 : IVec S16 32) (v1390 : IVec S16 32) (v1523 : IVec S16 32) (k2_hw36 : k2_chk36 v1358 v1390 v1523), ∀ a x, ((![v1390, v1358, v1523] : Fin 3 → IVec S16 32) a x).toNat < S2x64x128.size a := fun v1358 v1390 v1523 k2_hw36 => k2_hw36

def k2_chk37 (v1358 : IVec S16 32) (v1390 : IVec S16 32) (v1528 : IVec S16 32) : Prop :=
  (∀ a x, ((![v1390, v1358, v1528] : Fin 3 → IVec S16 32) a x).toNat < S2x64x128.size a)
theorem k2_idx37_inb : ∀ (v1358 : IVec S16 32) (v1390 : IVec S16 32) (v1528 : IVec S16 32) (k2_hw37 : k2_chk37 v1358 v1390 v1528), ∀ a x, ((![v1390, v1358, v1528] : Fin 3 → IVec S16 32) a x).toNat < S2x64x128.size a := fun v1358 v1390 v1528 k2_hw37 => k2_hw37

def k2_chk38 (v1358 : IVec S16 32) (v1390 : IVec S16 32) (v1531 : IVec S16 32) : Prop :=
  (∀ a x, ((![v1390, v1358, v1531] : Fin 3 → IVec S16 32) a x).toNat < S2x64x128.size a)
theorem k2_idx38_inb : ∀ (v1358 : IVec S16 32) (v1390 : IVec S16 32) (v1531 : IVec S16 32) (k2_hw38 : k2_chk38 v1358 v1390 v1531), ∀ a x, ((![v1390, v1358, v1531] : Fin 3 → IVec S16 32) a x).toNat < S2x64x128.size a := fun v1358 v1390 v1531 k2_hw38 => k2_hw38

def k2_chk39 (v1358 : IVec S16 32) (v1390 : IVec S16 32) (v1536 : IVec S16 32) : Prop :=
  (∀ a x, ((![v1390, v1358, v1536] : Fin 3 → IVec S16 32) a x).toNat < S2x64x128.size a)
theorem k2_idx39_inb : ∀ (v1358 : IVec S16 32) (v1390 : IVec S16 32) (v1536 : IVec S16 32) (k2_hw39 : k2_chk39 v1358 v1390 v1536), ∀ a x, ((![v1390, v1358, v1536] : Fin 3 → IVec S16 32) a x).toNat < S2x64x128.size a := fun v1358 v1390 v1536 k2_hw39 => k2_hw39

def k2_chk40 (v1358 : IVec S16 32) (v1390 : IVec S16 32) (v1539 : IVec S16 32) : Prop :=
  (∀ a x, ((![v1390, v1358, v1539] : Fin 3 → IVec S16 32) a x).toNat < S2x64x128.size a)
theorem k2_idx40_inb : ∀ (v1358 : IVec S16 32) (v1390 : IVec S16 32) (v1539 : IVec S16 32) (k2_hw40 : k2_chk40 v1358 v1390 v1539), ∀ a x, ((![v1390, v1358, v1539] : Fin 3 → IVec S16 32) a x).toNat < S2x64x128.size a := fun v1358 v1390 v1539 k2_hw40 => k2_hw40

def k2_chk41 (v1358 : IVec S16 32) (v1390 : IVec S16 32) (v1544 : IVec S16 32) : Prop :=
  (∀ a x, ((![v1390, v1358, v1544] : Fin 3 → IVec S16 32) a x).toNat < S2x64x128.size a)
theorem k2_idx41_inb : ∀ (v1358 : IVec S16 32) (v1390 : IVec S16 32) (v1544 : IVec S16 32) (k2_hw41 : k2_chk41 v1358 v1390 v1544), ∀ a x, ((![v1390, v1358, v1544] : Fin 3 → IVec S16 32) a x).toNat < S2x64x128.size a := fun v1358 v1390 v1544 k2_hw41 => k2_hw41

def k2_chk42 (v1358 : IVec S16 32) (v1390 : IVec S16 32) (v1547 : IVec S16 32) : Prop :=
  (∀ a x, ((![v1390, v1358, v1547] : Fin 3 → IVec S16 32) a x).toNat < S2x64x128.size a)
theorem k2_idx42_inb : ∀ (v1358 : IVec S16 32) (v1390 : IVec S16 32) (v1547 : IVec S16 32) (k2_hw42 : k2_chk42 v1358 v1390 v1547), ∀ a x, ((![v1390, v1358, v1547] : Fin 3 → IVec S16 32) a x).toNat < S2x64x128.size a := fun v1358 v1390 v1547 k2_hw42 => k2_hw42

def k2_chk43 (v1358 : IVec S16 32) (v1390 : IVec S16 32) (v1552 : IVec S16 32) : Prop :=
  (∀ a x, ((![v1390, v1358, v1552] : Fin 3 → IVec S16 32) a x).toNat < S2x64x128.size a)
theorem k2_idx43_inb : ∀ (v1358 : IVec S16 32) (v1390 : IVec S16 32) (v1552 : IVec S16 32) (k2_hw43 : k2_chk43 v1358 v1390 v1552), ∀ a x, ((![v1390, v1358, v1552] : Fin 3 → IVec S16 32) a x).toNat < S2x64x128.size a := fun v1358 v1390 v1552 k2_hw43 => k2_hw43

def k2_chk44 (v1358 : IVec S16 32) (v1390 : IVec S16 32) (v1555 : IVec S16 32) : Prop :=
  (∀ a x, ((![v1390, v1358, v1555] : Fin 3 → IVec S16 32) a x).toNat < S2x64x128.size a)
theorem k2_idx44_inb : ∀ (v1358 : IVec S16 32) (v1390 : IVec S16 32) (v1555 : IVec S16 32) (k2_hw44 : k2_chk44 v1358 v1390 v1555), ∀ a x, ((![v1390, v1358, v1555] : Fin 3 → IVec S16 32) a x).toNat < S2x64x128.size a := fun v1358 v1390 v1555 k2_hw44 => k2_hw44

def k2_chk45 (v1358 : IVec S16 32) (v1390 : IVec S16 32) (v1560 : IVec S16 32) : Prop :=
  (∀ a x, ((![v1390, v1358, v1560] : Fin 3 → IVec S16 32) a x).toNat < S2x64x128.size a)
theorem k2_idx45_inb : ∀ (v1358 : IVec S16 32) (v1390 : IVec S16 32) (v1560 : IVec S16 32) (k2_hw45 : k2_chk45 v1358 v1390 v1560), ∀ a x, ((![v1390, v1358, v1560] : Fin 3 → IVec S16 32) a x).toNat < S2x64x128.size a := fun v1358 v1390 v1560 k2_hw45 => k2_hw45

def k2_chk46 (v1358 : IVec S16 32) (v1390 : IVec S16 32) (v1563 : IVec S16 32) : Prop :=
  (∀ a x, ((![v1390, v1358, v1563] : Fin 3 → IVec S16 32) a x).toNat < S2x64x128.size a)
theorem k2_idx46_inb : ∀ (v1358 : IVec S16 32) (v1390 : IVec S16 32) (v1563 : IVec S16 32) (k2_hw46 : k2_chk46 v1358 v1390 v1563), ∀ a x, ((![v1390, v1358, v1563] : Fin 3 → IVec S16 32) a x).toNat < S2x64x128.size a := fun v1358 v1390 v1563 k2_hw46 => k2_hw46

def k2_chk47 (v1358 : IVec S16 32) (v1390 : IVec S16 32) (v1568 : IVec S16 32) : Prop :=
  (∀ a x, ((![v1390, v1358, v1568] : Fin 3 → IVec S16 32) a x).toNat < S2x64x128.size a)
theorem k2_idx47_inb : ∀ (v1358 : IVec S16 32) (v1390 : IVec S16 32) (v1568 : IVec S16 32) (k2_hw47 : k2_chk47 v1358 v1390 v1568), ∀ a x, ((![v1390, v1358, v1568] : Fin 3 → IVec S16 32) a x).toNat < S2x64x128.size a := fun v1358 v1390 v1568 k2_hw47 => k2_hw47

def k2_chk48 (v1358 : IVec S16 32) (v1390 : IVec S16 32) (v1571 : IVec S16 32) : Prop :=
  (∀ a x, ((![v1390, v1358, v1571] : Fin 3 → IVec S16 32) a x).toNat < S2x64x128.size a)
theorem k2_idx48_inb : ∀ (v1358 : IVec S16 32) (v1390 : IVec S16 32) (v1571 : IVec S16 32) (k2_hw48 : k2_chk48 v1358 v1390 v1571), ∀ a x, ((![v1390, v1358, v1571] : Fin 3 → IVec S16 32) a x).toNat < S2x64x128.size a := fun v1358 v1390 v1571 k2_hw48 => k2_hw48

def k2_chk49 (v1358 : IVec S16 32) (v1390 : IVec S16 32) (v1576 : IVec S16 32) : Prop :=
  (∀ a x, ((![v1390, v1358, v1576] : Fin 3 → IVec S16 32) a x).toNat < S2x64x128.size a)
theorem k2_idx49_inb : ∀ (v1358 : IVec S16 32) (v1390 : IVec S16 32) (v1576 : IVec S16 32) (k2_hw49 : k2_chk49 v1358 v1390 v1576), ∀ a x, ((![v1390, v1358, v1576] : Fin 3 → IVec S16 32) a x).toNat < S2x64x128.size a := fun v1358 v1390 v1576 k2_hw49 => k2_hw49

def k2_chk50 (v1358 : IVec S16 32) (v1390 : IVec S16 32) (v1579 : IVec S16 32) : Prop :=
  (∀ a x, ((![v1390, v1358, v1579] : Fin 3 → IVec S16 32) a x).toNat < S2x64x128.size a)
theorem k2_idx50_inb : ∀ (v1358 : IVec S16 32) (v1390 : IVec S16 32) (v1579 : IVec S16 32) (k2_hw50 : k2_chk50 v1358 v1390 v1579), ∀ a x, ((![v1390, v1358, v1579] : Fin 3 → IVec S16 32) a x).toNat < S2x64x128.size a := fun v1358 v1390 v1579 k2_hw50 => k2_hw50

def k2_chk51 (v1358 : IVec S16 32) (v1390 : IVec S16 32) (v1584 : IVec S16 32) : Prop :=
  (∀ a x, ((![v1390, v1358, v1584] : Fin 3 → IVec S16 32) a x).toNat < S2x64x128.size a)
theorem k2_idx51_inb : ∀ (v1358 : IVec S16 32) (v1390 : IVec S16 32) (v1584 : IVec S16 32) (k2_hw51 : k2_chk51 v1358 v1390 v1584), ∀ a x, ((![v1390, v1358, v1584] : Fin 3 → IVec S16 32) a x).toNat < S2x64x128.size a := fun v1358 v1390 v1584 k2_hw51 => k2_hw51

def k2_chk52 (v1358 : IVec S16 32) (v1390 : IVec S16 32) (v1587 : IVec S16 32) : Prop :=
  (∀ a x, ((![v1390, v1358, v1587] : Fin 3 → IVec S16 32) a x).toNat < S2x64x128.size a)
theorem k2_idx52_inb : ∀ (v1358 : IVec S16 32) (v1390 : IVec S16 32) (v1587 : IVec S16 32) (k2_hw52 : k2_chk52 v1358 v1390 v1587), ∀ a x, ((![v1390, v1358, v1587] : Fin 3 → IVec S16 32) a x).toNat < S2x64x128.size a := fun v1358 v1390 v1587 k2_hw52 => k2_hw52

def k2_chk53 (v1358 : IVec S16 32) (v1390 : IVec S16 32) (v1592 : IVec S16 32) : Prop :=
  (∀ a x, ((![v1390, v1358, v1592] : Fin 3 → IVec S16 32) a x).toNat < S2x64x128.size a)
theorem k2_idx53_inb : ∀ (v1358 : IVec S16 32) (v1390 : IVec S16 32) (v1592 : IVec S16 32) (k2_hw53 : k2_chk53 v1358 v1390 v1592), ∀ a x, ((![v1390, v1358, v1592] : Fin 3 → IVec S16 32) a x).toNat < S2x64x128.size a := fun v1358 v1390 v1592 k2_hw53 => k2_hw53

def k2_chk54 (v1358 : IVec S16 32) (v1390 : IVec S16 32) (v1595 : IVec S16 32) : Prop :=
  (∀ a x, ((![v1390, v1358, v1595] : Fin 3 → IVec S16 32) a x).toNat < S2x64x128.size a)
theorem k2_idx54_inb : ∀ (v1358 : IVec S16 32) (v1390 : IVec S16 32) (v1595 : IVec S16 32) (k2_hw54 : k2_chk54 v1358 v1390 v1595), ∀ a x, ((![v1390, v1358, v1595] : Fin 3 → IVec S16 32) a x).toNat < S2x64x128.size a := fun v1358 v1390 v1595 k2_hw54 => k2_hw54

def k2_chk55 (v1358 : IVec S16 32) (v1390 : IVec S16 32) (v1600 : IVec S16 32) : Prop :=
  (∀ a x, ((![v1390, v1358, v1600] : Fin 3 → IVec S16 32) a x).toNat < S2x64x128.size a)
theorem k2_idx55_inb : ∀ (v1358 : IVec S16 32) (v1390 : IVec S16 32) (v1600 : IVec S16 32) (k2_hw55 : k2_chk55 v1358 v1390 v1600), ∀ a x, ((![v1390, v1358, v1600] : Fin 3 → IVec S16 32) a x).toNat < S2x64x128.size a := fun v1358 v1390 v1600 k2_hw55 => k2_hw55

def k2_chk56 (v1358 : IVec S16 32) (v1390 : IVec S16 32) (v1603 : IVec S16 32) : Prop :=
  (∀ a x, ((![v1390, v1358, v1603] : Fin 3 → IVec S16 32) a x).toNat < S2x64x128.size a)
theorem k2_idx56_inb : ∀ (v1358 : IVec S16 32) (v1390 : IVec S16 32) (v1603 : IVec S16 32) (k2_hw56 : k2_chk56 v1358 v1390 v1603), ∀ a x, ((![v1390, v1358, v1603] : Fin 3 → IVec S16 32) a x).toNat < S2x64x128.size a := fun v1358 v1390 v1603 k2_hw56 => k2_hw56

def k2_chk57 (v1358 : IVec S16 32) (v1390 : IVec S16 32) (v1608 : IVec S16 32) : Prop :=
  (∀ a x, ((![v1390, v1358, v1608] : Fin 3 → IVec S16 32) a x).toNat < S2x64x128.size a)
theorem k2_idx57_inb : ∀ (v1358 : IVec S16 32) (v1390 : IVec S16 32) (v1608 : IVec S16 32) (k2_hw57 : k2_chk57 v1358 v1390 v1608), ∀ a x, ((![v1390, v1358, v1608] : Fin 3 → IVec S16 32) a x).toNat < S2x64x128.size a := fun v1358 v1390 v1608 k2_hw57 => k2_hw57

def k2_chk58 (v1358 : IVec S16 32) (v1390 : IVec S16 32) (v1611 : IVec S16 32) : Prop :=
  (∀ a x, ((![v1390, v1358, v1611] : Fin 3 → IVec S16 32) a x).toNat < S2x64x128.size a)
theorem k2_idx58_inb : ∀ (v1358 : IVec S16 32) (v1390 : IVec S16 32) (v1611 : IVec S16 32) (k2_hw58 : k2_chk58 v1358 v1390 v1611), ∀ a x, ((![v1390, v1358, v1611] : Fin 3 → IVec S16 32) a x).toNat < S2x64x128.size a := fun v1358 v1390 v1611 k2_hw58 => k2_hw58

def k2_chk59 (v1358 : IVec S16 32) (v1390 : IVec S16 32) (v1616 : IVec S16 32) : Prop :=
  (∀ a x, ((![v1390, v1358, v1616] : Fin 3 → IVec S16 32) a x).toNat < S2x64x128.size a)
theorem k2_idx59_inb : ∀ (v1358 : IVec S16 32) (v1390 : IVec S16 32) (v1616 : IVec S16 32) (k2_hw59 : k2_chk59 v1358 v1390 v1616), ∀ a x, ((![v1390, v1358, v1616] : Fin 3 → IVec S16 32) a x).toNat < S2x64x128.size a := fun v1358 v1390 v1616 k2_hw59 => k2_hw59

def k2_chk60 (v1358 : IVec S16 32) (v1390 : IVec S16 32) (v1619 : IVec S16 32) : Prop :=
  (∀ a x, ((![v1390, v1358, v1619] : Fin 3 → IVec S16 32) a x).toNat < S2x64x128.size a)
theorem k2_idx60_inb : ∀ (v1358 : IVec S16 32) (v1390 : IVec S16 32) (v1619 : IVec S16 32) (k2_hw60 : k2_chk60 v1358 v1390 v1619), ∀ a x, ((![v1390, v1358, v1619] : Fin 3 → IVec S16 32) a x).toNat < S2x64x128.size a := fun v1358 v1390 v1619 k2_hw60 => k2_hw60

def k2_chk61 (v1358 : IVec S16 32) (v1390 : IVec S16 32) (v1624 : IVec S16 32) : Prop :=
  (∀ a x, ((![v1390, v1358, v1624] : Fin 3 → IVec S16 32) a x).toNat < S2x64x128.size a)
theorem k2_idx61_inb : ∀ (v1358 : IVec S16 32) (v1390 : IVec S16 32) (v1624 : IVec S16 32) (k2_hw61 : k2_chk61 v1358 v1390 v1624), ∀ a x, ((![v1390, v1358, v1624] : Fin 3 → IVec S16 32) a x).toNat < S2x64x128.size a := fun v1358 v1390 v1624 k2_hw61 => k2_hw61

def k2_chk62 (v1358 : IVec S16 32) (v1390 : IVec S16 32) (v1627 : IVec S16 32) : Prop :=
  (∀ a x, ((![v1390, v1358, v1627] : Fin 3 → IVec S16 32) a x).toNat < S2x64x128.size a)
theorem k2_idx62_inb : ∀ (v1358 : IVec S16 32) (v1390 : IVec S16 32) (v1627 : IVec S16 32) (k2_hw62 : k2_chk62 v1358 v1390 v1627), ∀ a x, ((![v1390, v1358, v1627] : Fin 3 → IVec S16 32) a x).toNat < S2x64x128.size a := fun v1358 v1390 v1627 k2_hw62 => k2_hw62

def k2_chk63 (v1358 : IVec S16 32) (v1390 : IVec S16 32) (v1632 : IVec S16 32) : Prop :=
  (∀ a x, ((![v1390, v1358, v1632] : Fin 3 → IVec S16 32) a x).toNat < S2x64x128.size a)
theorem k2_idx63_inb : ∀ (v1358 : IVec S16 32) (v1390 : IVec S16 32) (v1632 : IVec S16 32) (k2_hw63 : k2_chk63 v1358 v1390 v1632), ∀ a x, ((![v1390, v1358, v1632] : Fin 3 → IVec S16 32) a x).toNat < S2x64x128.size a := fun v1358 v1390 v1632 k2_hw63 => k2_hw63

def k2_chk64 (v1358 : IVec S16 32) (v1390 : IVec S16 32) (v1635 : IVec S16 32) : Prop :=
  (∀ a x, ((![v1390, v1358, v1635] : Fin 3 → IVec S16 32) a x).toNat < S2x64x128.size a)
theorem k2_idx64_inb : ∀ (v1358 : IVec S16 32) (v1390 : IVec S16 32) (v1635 : IVec S16 32) (k2_hw64 : k2_chk64 v1358 v1390 v1635), ∀ a x, ((![v1390, v1358, v1635] : Fin 3 → IVec S16 32) a x).toNat < S2x64x128.size a := fun v1358 v1390 v1635 k2_hw64 => k2_hw64

def k2_chk65 (v1358 : IVec S16 32) (v1390 : IVec S16 32) (v1640 : IVec S16 32) : Prop :=
  (∀ a x, ((![v1390, v1358, v1640] : Fin 3 → IVec S16 32) a x).toNat < S2x64x128.size a)
theorem k2_idx65_inb : ∀ (v1358 : IVec S16 32) (v1390 : IVec S16 32) (v1640 : IVec S16 32) (k2_hw65 : k2_chk65 v1358 v1390 v1640), ∀ a x, ((![v1390, v1358, v1640] : Fin 3 → IVec S16 32) a x).toNat < S2x64x128.size a := fun v1358 v1390 v1640 k2_hw65 => k2_hw65

def k2_chk66 (v1358 : IVec S16 32) (v1390 : IVec S16 32) (v1643 : IVec S16 32) : Prop :=
  (∀ a x, ((![v1390, v1358, v1643] : Fin 3 → IVec S16 32) a x).toNat < S2x64x128.size a)
theorem k2_idx66_inb : ∀ (v1358 : IVec S16 32) (v1390 : IVec S16 32) (v1643 : IVec S16 32) (k2_hw66 : k2_chk66 v1358 v1390 v1643), ∀ a x, ((![v1390, v1358, v1643] : Fin 3 → IVec S16 32) a x).toNat < S2x64x128.size a := fun v1358 v1390 v1643 k2_hw66 => k2_hw66
def k2_off3 (k2_t1 : Fin k2_t1_loop.trips) : Fin 1 → Nat :=
  let c0_i32_1270 : BitVec 32 := 0#32
  let c0_i32_255 : BitVec 32 := 0#32
  let c1_i32_256 : BitVec 32 := 1#32
  let arg19 : BitVec 32 := Scf.iv c0_i32_255 c1_i32_256 k2_t1
  let c16_i32_1269 : BitVec 32 := 16#32
  let v1647 : BitVec 32 := Scalar.muli arg19 c16_i32_1269
  let v1648 : BitVec 32 := Scalar.addi c0_i32_1270 v1647
  let v1649 : Index := Scalar.indexCast v1648
  ![v1649.toNat]
@[reducible] def k2_t2_loop : Scf.Loop 32 :=
  let c0_i32_407 : BitVec 32 := 0#32
  let c4_i32_408 : BitVec 32 := 4#32
  let v489 : BitVec 32 := Scalar.addi c0_i32_407 c4_i32_408
  let c1_i32_409 : BitVec 32 := 1#32
  ⟨c0_i32_407, v489, c1_i32_409⟩
def k2_off4 (k2_t2 : Fin k2_t2_loop.trips) : Fin 1 → Nat :=
  let c64_i32 : BitVec 32 := 64#32
  let c0_i32_407 : BitVec 32 := 0#32
  let c1_i32_409 : BitVec 32 := 1#32
  let arg19 : BitVec 32 := Scf.iv c0_i32_407 c1_i32_409 k2_t2
  let c16_i32_1214 : BitVec 32 := 16#32
  let v1359 : BitVec 32 := Scalar.muli arg19 c16_i32_1214
  let v1360 : BitVec 32 := Scalar.addi c64_i32 v1359
  let v1361 : Index := Scalar.indexCast v1360
  ![v1361.toNat]

def k2_chk67 (v1358 : IVec S16 32) (v1367 : IVec S16 32) (v1369 : IVec S16 32) : Prop :=
  (∀ a x, ((![v1367, v1358, v1369] : Fin 3 → IVec S16 32) a x).toNat < S2x64x128.size a)
theorem k2_idx67_inb : ∀ (v1358 : IVec S16 32) (v1367 : IVec S16 32) (v1369 : IVec S16 32) (k2_hw67 : k2_chk67 v1358 v1367 v1369), ∀ a x, ((![v1367, v1358, v1369] : Fin 3 → IVec S16 32) a x).toNat < S2x64x128.size a := fun v1358 v1367 v1369 k2_hw67 => k2_hw67

def k2_chk68 (v1358 : IVec S16 32) (v1373 : IVec S16 32) (v1375 : IVec S16 32) : Prop :=
  (∀ a x, ((![v1373, v1358, v1375] : Fin 3 → IVec S16 32) a x).toNat < S2x64x128.size a)
theorem k2_idx68_inb : ∀ (v1358 : IVec S16 32) (v1373 : IVec S16 32) (v1375 : IVec S16 32) (k2_hw68 : k2_chk68 v1358 v1373 v1375), ∀ a x, ((![v1373, v1358, v1375] : Fin 3 → IVec S16 32) a x).toNat < S2x64x128.size a := fun v1358 v1373 v1375 k2_hw68 => k2_hw68

def k2_chk69 (v1358 : IVec S16 32) (v1390 : IVec S16 32) (v1392 : IVec S16 32) : Prop :=
  (∀ a x, ((![v1390, v1358, v1392] : Fin 3 → IVec S16 32) a x).toNat < S2x64x128.size a)
theorem k2_idx69_inb : ∀ (v1358 : IVec S16 32) (v1390 : IVec S16 32) (v1392 : IVec S16 32) (k2_hw69 : k2_chk69 v1358 v1390 v1392), ∀ a x, ((![v1390, v1358, v1392] : Fin 3 → IVec S16 32) a x).toNat < S2x64x128.size a := fun v1358 v1390 v1392 k2_hw69 => k2_hw69

def k2_chk70 (v1358 : IVec S16 32) (v1390 : IVec S16 32) (v1395 : IVec S16 32) : Prop :=
  (∀ a x, ((![v1390, v1358, v1395] : Fin 3 → IVec S16 32) a x).toNat < S2x64x128.size a)
theorem k2_idx70_inb : ∀ (v1358 : IVec S16 32) (v1390 : IVec S16 32) (v1395 : IVec S16 32) (k2_hw70 : k2_chk70 v1358 v1390 v1395), ∀ a x, ((![v1390, v1358, v1395] : Fin 3 → IVec S16 32) a x).toNat < S2x64x128.size a := fun v1358 v1390 v1395 k2_hw70 => k2_hw70

def k2_chk71 (v1358 : IVec S16 32) (v1390 : IVec S16 32) (v1400 : IVec S16 32) : Prop :=
  (∀ a x, ((![v1390, v1358, v1400] : Fin 3 → IVec S16 32) a x).toNat < S2x64x128.size a)
theorem k2_idx71_inb : ∀ (v1358 : IVec S16 32) (v1390 : IVec S16 32) (v1400 : IVec S16 32) (k2_hw71 : k2_chk71 v1358 v1390 v1400), ∀ a x, ((![v1390, v1358, v1400] : Fin 3 → IVec S16 32) a x).toNat < S2x64x128.size a := fun v1358 v1390 v1400 k2_hw71 => k2_hw71

def k2_chk72 (v1358 : IVec S16 32) (v1390 : IVec S16 32) (v1403 : IVec S16 32) : Prop :=
  (∀ a x, ((![v1390, v1358, v1403] : Fin 3 → IVec S16 32) a x).toNat < S2x64x128.size a)
theorem k2_idx72_inb : ∀ (v1358 : IVec S16 32) (v1390 : IVec S16 32) (v1403 : IVec S16 32) (k2_hw72 : k2_chk72 v1358 v1390 v1403), ∀ a x, ((![v1390, v1358, v1403] : Fin 3 → IVec S16 32) a x).toNat < S2x64x128.size a := fun v1358 v1390 v1403 k2_hw72 => k2_hw72

def k2_chk73 (v1358 : IVec S16 32) (v1390 : IVec S16 32) (v1408 : IVec S16 32) : Prop :=
  (∀ a x, ((![v1390, v1358, v1408] : Fin 3 → IVec S16 32) a x).toNat < S2x64x128.size a)
theorem k2_idx73_inb : ∀ (v1358 : IVec S16 32) (v1390 : IVec S16 32) (v1408 : IVec S16 32) (k2_hw73 : k2_chk73 v1358 v1390 v1408), ∀ a x, ((![v1390, v1358, v1408] : Fin 3 → IVec S16 32) a x).toNat < S2x64x128.size a := fun v1358 v1390 v1408 k2_hw73 => k2_hw73

def k2_chk74 (v1358 : IVec S16 32) (v1390 : IVec S16 32) (v1411 : IVec S16 32) : Prop :=
  (∀ a x, ((![v1390, v1358, v1411] : Fin 3 → IVec S16 32) a x).toNat < S2x64x128.size a)
theorem k2_idx74_inb : ∀ (v1358 : IVec S16 32) (v1390 : IVec S16 32) (v1411 : IVec S16 32) (k2_hw74 : k2_chk74 v1358 v1390 v1411), ∀ a x, ((![v1390, v1358, v1411] : Fin 3 → IVec S16 32) a x).toNat < S2x64x128.size a := fun v1358 v1390 v1411 k2_hw74 => k2_hw74

def k2_chk75 (v1358 : IVec S16 32) (v1390 : IVec S16 32) (v1416 : IVec S16 32) : Prop :=
  (∀ a x, ((![v1390, v1358, v1416] : Fin 3 → IVec S16 32) a x).toNat < S2x64x128.size a)
theorem k2_idx75_inb : ∀ (v1358 : IVec S16 32) (v1390 : IVec S16 32) (v1416 : IVec S16 32) (k2_hw75 : k2_chk75 v1358 v1390 v1416), ∀ a x, ((![v1390, v1358, v1416] : Fin 3 → IVec S16 32) a x).toNat < S2x64x128.size a := fun v1358 v1390 v1416 k2_hw75 => k2_hw75

def k2_chk76 (v1358 : IVec S16 32) (v1390 : IVec S16 32) (v1419 : IVec S16 32) : Prop :=
  (∀ a x, ((![v1390, v1358, v1419] : Fin 3 → IVec S16 32) a x).toNat < S2x64x128.size a)
theorem k2_idx76_inb : ∀ (v1358 : IVec S16 32) (v1390 : IVec S16 32) (v1419 : IVec S16 32) (k2_hw76 : k2_chk76 v1358 v1390 v1419), ∀ a x, ((![v1390, v1358, v1419] : Fin 3 → IVec S16 32) a x).toNat < S2x64x128.size a := fun v1358 v1390 v1419 k2_hw76 => k2_hw76

def k2_chk77 (v1358 : IVec S16 32) (v1390 : IVec S16 32) (v1424 : IVec S16 32) : Prop :=
  (∀ a x, ((![v1390, v1358, v1424] : Fin 3 → IVec S16 32) a x).toNat < S2x64x128.size a)
theorem k2_idx77_inb : ∀ (v1358 : IVec S16 32) (v1390 : IVec S16 32) (v1424 : IVec S16 32) (k2_hw77 : k2_chk77 v1358 v1390 v1424), ∀ a x, ((![v1390, v1358, v1424] : Fin 3 → IVec S16 32) a x).toNat < S2x64x128.size a := fun v1358 v1390 v1424 k2_hw77 => k2_hw77

def k2_chk78 (v1358 : IVec S16 32) (v1390 : IVec S16 32) (v1427 : IVec S16 32) : Prop :=
  (∀ a x, ((![v1390, v1358, v1427] : Fin 3 → IVec S16 32) a x).toNat < S2x64x128.size a)
theorem k2_idx78_inb : ∀ (v1358 : IVec S16 32) (v1390 : IVec S16 32) (v1427 : IVec S16 32) (k2_hw78 : k2_chk78 v1358 v1390 v1427), ∀ a x, ((![v1390, v1358, v1427] : Fin 3 → IVec S16 32) a x).toNat < S2x64x128.size a := fun v1358 v1390 v1427 k2_hw78 => k2_hw78

def k2_chk79 (v1358 : IVec S16 32) (v1390 : IVec S16 32) (v1432 : IVec S16 32) : Prop :=
  (∀ a x, ((![v1390, v1358, v1432] : Fin 3 → IVec S16 32) a x).toNat < S2x64x128.size a)
theorem k2_idx79_inb : ∀ (v1358 : IVec S16 32) (v1390 : IVec S16 32) (v1432 : IVec S16 32) (k2_hw79 : k2_chk79 v1358 v1390 v1432), ∀ a x, ((![v1390, v1358, v1432] : Fin 3 → IVec S16 32) a x).toNat < S2x64x128.size a := fun v1358 v1390 v1432 k2_hw79 => k2_hw79

def k2_chk80 (v1358 : IVec S16 32) (v1390 : IVec S16 32) (v1435 : IVec S16 32) : Prop :=
  (∀ a x, ((![v1390, v1358, v1435] : Fin 3 → IVec S16 32) a x).toNat < S2x64x128.size a)
theorem k2_idx80_inb : ∀ (v1358 : IVec S16 32) (v1390 : IVec S16 32) (v1435 : IVec S16 32) (k2_hw80 : k2_chk80 v1358 v1390 v1435), ∀ a x, ((![v1390, v1358, v1435] : Fin 3 → IVec S16 32) a x).toNat < S2x64x128.size a := fun v1358 v1390 v1435 k2_hw80 => k2_hw80

def k2_chk81 (v1358 : IVec S16 32) (v1390 : IVec S16 32) (v1440 : IVec S16 32) : Prop :=
  (∀ a x, ((![v1390, v1358, v1440] : Fin 3 → IVec S16 32) a x).toNat < S2x64x128.size a)
theorem k2_idx81_inb : ∀ (v1358 : IVec S16 32) (v1390 : IVec S16 32) (v1440 : IVec S16 32) (k2_hw81 : k2_chk81 v1358 v1390 v1440), ∀ a x, ((![v1390, v1358, v1440] : Fin 3 → IVec S16 32) a x).toNat < S2x64x128.size a := fun v1358 v1390 v1440 k2_hw81 => k2_hw81

def k2_chk82 (v1358 : IVec S16 32) (v1390 : IVec S16 32) (v1443 : IVec S16 32) : Prop :=
  (∀ a x, ((![v1390, v1358, v1443] : Fin 3 → IVec S16 32) a x).toNat < S2x64x128.size a)
theorem k2_idx82_inb : ∀ (v1358 : IVec S16 32) (v1390 : IVec S16 32) (v1443 : IVec S16 32) (k2_hw82 : k2_chk82 v1358 v1390 v1443), ∀ a x, ((![v1390, v1358, v1443] : Fin 3 → IVec S16 32) a x).toNat < S2x64x128.size a := fun v1358 v1390 v1443 k2_hw82 => k2_hw82

def k2_chk83 (v1358 : IVec S16 32) (v1390 : IVec S16 32) (v1448 : IVec S16 32) : Prop :=
  (∀ a x, ((![v1390, v1358, v1448] : Fin 3 → IVec S16 32) a x).toNat < S2x64x128.size a)
theorem k2_idx83_inb : ∀ (v1358 : IVec S16 32) (v1390 : IVec S16 32) (v1448 : IVec S16 32) (k2_hw83 : k2_chk83 v1358 v1390 v1448), ∀ a x, ((![v1390, v1358, v1448] : Fin 3 → IVec S16 32) a x).toNat < S2x64x128.size a := fun v1358 v1390 v1448 k2_hw83 => k2_hw83

def k2_chk84 (v1358 : IVec S16 32) (v1390 : IVec S16 32) (v1451 : IVec S16 32) : Prop :=
  (∀ a x, ((![v1390, v1358, v1451] : Fin 3 → IVec S16 32) a x).toNat < S2x64x128.size a)
theorem k2_idx84_inb : ∀ (v1358 : IVec S16 32) (v1390 : IVec S16 32) (v1451 : IVec S16 32) (k2_hw84 : k2_chk84 v1358 v1390 v1451), ∀ a x, ((![v1390, v1358, v1451] : Fin 3 → IVec S16 32) a x).toNat < S2x64x128.size a := fun v1358 v1390 v1451 k2_hw84 => k2_hw84

def k2_chk85 (v1358 : IVec S16 32) (v1390 : IVec S16 32) (v1456 : IVec S16 32) : Prop :=
  (∀ a x, ((![v1390, v1358, v1456] : Fin 3 → IVec S16 32) a x).toNat < S2x64x128.size a)
theorem k2_idx85_inb : ∀ (v1358 : IVec S16 32) (v1390 : IVec S16 32) (v1456 : IVec S16 32) (k2_hw85 : k2_chk85 v1358 v1390 v1456), ∀ a x, ((![v1390, v1358, v1456] : Fin 3 → IVec S16 32) a x).toNat < S2x64x128.size a := fun v1358 v1390 v1456 k2_hw85 => k2_hw85

def k2_chk86 (v1358 : IVec S16 32) (v1390 : IVec S16 32) (v1459 : IVec S16 32) : Prop :=
  (∀ a x, ((![v1390, v1358, v1459] : Fin 3 → IVec S16 32) a x).toNat < S2x64x128.size a)
theorem k2_idx86_inb : ∀ (v1358 : IVec S16 32) (v1390 : IVec S16 32) (v1459 : IVec S16 32) (k2_hw86 : k2_chk86 v1358 v1390 v1459), ∀ a x, ((![v1390, v1358, v1459] : Fin 3 → IVec S16 32) a x).toNat < S2x64x128.size a := fun v1358 v1390 v1459 k2_hw86 => k2_hw86

def k2_chk87 (v1358 : IVec S16 32) (v1390 : IVec S16 32) (v1464 : IVec S16 32) : Prop :=
  (∀ a x, ((![v1390, v1358, v1464] : Fin 3 → IVec S16 32) a x).toNat < S2x64x128.size a)
theorem k2_idx87_inb : ∀ (v1358 : IVec S16 32) (v1390 : IVec S16 32) (v1464 : IVec S16 32) (k2_hw87 : k2_chk87 v1358 v1390 v1464), ∀ a x, ((![v1390, v1358, v1464] : Fin 3 → IVec S16 32) a x).toNat < S2x64x128.size a := fun v1358 v1390 v1464 k2_hw87 => k2_hw87

def k2_chk88 (v1358 : IVec S16 32) (v1390 : IVec S16 32) (v1467 : IVec S16 32) : Prop :=
  (∀ a x, ((![v1390, v1358, v1467] : Fin 3 → IVec S16 32) a x).toNat < S2x64x128.size a)
theorem k2_idx88_inb : ∀ (v1358 : IVec S16 32) (v1390 : IVec S16 32) (v1467 : IVec S16 32) (k2_hw88 : k2_chk88 v1358 v1390 v1467), ∀ a x, ((![v1390, v1358, v1467] : Fin 3 → IVec S16 32) a x).toNat < S2x64x128.size a := fun v1358 v1390 v1467 k2_hw88 => k2_hw88

def k2_chk89 (v1358 : IVec S16 32) (v1390 : IVec S16 32) (v1472 : IVec S16 32) : Prop :=
  (∀ a x, ((![v1390, v1358, v1472] : Fin 3 → IVec S16 32) a x).toNat < S2x64x128.size a)
theorem k2_idx89_inb : ∀ (v1358 : IVec S16 32) (v1390 : IVec S16 32) (v1472 : IVec S16 32) (k2_hw89 : k2_chk89 v1358 v1390 v1472), ∀ a x, ((![v1390, v1358, v1472] : Fin 3 → IVec S16 32) a x).toNat < S2x64x128.size a := fun v1358 v1390 v1472 k2_hw89 => k2_hw89

def k2_chk90 (v1358 : IVec S16 32) (v1390 : IVec S16 32) (v1475 : IVec S16 32) : Prop :=
  (∀ a x, ((![v1390, v1358, v1475] : Fin 3 → IVec S16 32) a x).toNat < S2x64x128.size a)
theorem k2_idx90_inb : ∀ (v1358 : IVec S16 32) (v1390 : IVec S16 32) (v1475 : IVec S16 32) (k2_hw90 : k2_chk90 v1358 v1390 v1475), ∀ a x, ((![v1390, v1358, v1475] : Fin 3 → IVec S16 32) a x).toNat < S2x64x128.size a := fun v1358 v1390 v1475 k2_hw90 => k2_hw90

def k2_chk91 (v1358 : IVec S16 32) (v1390 : IVec S16 32) (v1480 : IVec S16 32) : Prop :=
  (∀ a x, ((![v1390, v1358, v1480] : Fin 3 → IVec S16 32) a x).toNat < S2x64x128.size a)
theorem k2_idx91_inb : ∀ (v1358 : IVec S16 32) (v1390 : IVec S16 32) (v1480 : IVec S16 32) (k2_hw91 : k2_chk91 v1358 v1390 v1480), ∀ a x, ((![v1390, v1358, v1480] : Fin 3 → IVec S16 32) a x).toNat < S2x64x128.size a := fun v1358 v1390 v1480 k2_hw91 => k2_hw91

def k2_chk92 (v1358 : IVec S16 32) (v1390 : IVec S16 32) (v1483 : IVec S16 32) : Prop :=
  (∀ a x, ((![v1390, v1358, v1483] : Fin 3 → IVec S16 32) a x).toNat < S2x64x128.size a)
theorem k2_idx92_inb : ∀ (v1358 : IVec S16 32) (v1390 : IVec S16 32) (v1483 : IVec S16 32) (k2_hw92 : k2_chk92 v1358 v1390 v1483), ∀ a x, ((![v1390, v1358, v1483] : Fin 3 → IVec S16 32) a x).toNat < S2x64x128.size a := fun v1358 v1390 v1483 k2_hw92 => k2_hw92

def k2_chk93 (v1358 : IVec S16 32) (v1390 : IVec S16 32) (v1488 : IVec S16 32) : Prop :=
  (∀ a x, ((![v1390, v1358, v1488] : Fin 3 → IVec S16 32) a x).toNat < S2x64x128.size a)
theorem k2_idx93_inb : ∀ (v1358 : IVec S16 32) (v1390 : IVec S16 32) (v1488 : IVec S16 32) (k2_hw93 : k2_chk93 v1358 v1390 v1488), ∀ a x, ((![v1390, v1358, v1488] : Fin 3 → IVec S16 32) a x).toNat < S2x64x128.size a := fun v1358 v1390 v1488 k2_hw93 => k2_hw93

def k2_chk94 (v1358 : IVec S16 32) (v1390 : IVec S16 32) (v1491 : IVec S16 32) : Prop :=
  (∀ a x, ((![v1390, v1358, v1491] : Fin 3 → IVec S16 32) a x).toNat < S2x64x128.size a)
theorem k2_idx94_inb : ∀ (v1358 : IVec S16 32) (v1390 : IVec S16 32) (v1491 : IVec S16 32) (k2_hw94 : k2_chk94 v1358 v1390 v1491), ∀ a x, ((![v1390, v1358, v1491] : Fin 3 → IVec S16 32) a x).toNat < S2x64x128.size a := fun v1358 v1390 v1491 k2_hw94 => k2_hw94

def k2_chk95 (v1358 : IVec S16 32) (v1390 : IVec S16 32) (v1496 : IVec S16 32) : Prop :=
  (∀ a x, ((![v1390, v1358, v1496] : Fin 3 → IVec S16 32) a x).toNat < S2x64x128.size a)
theorem k2_idx95_inb : ∀ (v1358 : IVec S16 32) (v1390 : IVec S16 32) (v1496 : IVec S16 32) (k2_hw95 : k2_chk95 v1358 v1390 v1496), ∀ a x, ((![v1390, v1358, v1496] : Fin 3 → IVec S16 32) a x).toNat < S2x64x128.size a := fun v1358 v1390 v1496 k2_hw95 => k2_hw95

def k2_chk96 (v1358 : IVec S16 32) (v1390 : IVec S16 32) (v1499 : IVec S16 32) : Prop :=
  (∀ a x, ((![v1390, v1358, v1499] : Fin 3 → IVec S16 32) a x).toNat < S2x64x128.size a)
theorem k2_idx96_inb : ∀ (v1358 : IVec S16 32) (v1390 : IVec S16 32) (v1499 : IVec S16 32) (k2_hw96 : k2_chk96 v1358 v1390 v1499), ∀ a x, ((![v1390, v1358, v1499] : Fin 3 → IVec S16 32) a x).toNat < S2x64x128.size a := fun v1358 v1390 v1499 k2_hw96 => k2_hw96

def k2_chk97 (v1358 : IVec S16 32) (v1390 : IVec S16 32) (v1504 : IVec S16 32) : Prop :=
  (∀ a x, ((![v1390, v1358, v1504] : Fin 3 → IVec S16 32) a x).toNat < S2x64x128.size a)
theorem k2_idx97_inb : ∀ (v1358 : IVec S16 32) (v1390 : IVec S16 32) (v1504 : IVec S16 32) (k2_hw97 : k2_chk97 v1358 v1390 v1504), ∀ a x, ((![v1390, v1358, v1504] : Fin 3 → IVec S16 32) a x).toNat < S2x64x128.size a := fun v1358 v1390 v1504 k2_hw97 => k2_hw97

def k2_chk98 (v1358 : IVec S16 32) (v1390 : IVec S16 32) (v1507 : IVec S16 32) : Prop :=
  (∀ a x, ((![v1390, v1358, v1507] : Fin 3 → IVec S16 32) a x).toNat < S2x64x128.size a)
theorem k2_idx98_inb : ∀ (v1358 : IVec S16 32) (v1390 : IVec S16 32) (v1507 : IVec S16 32) (k2_hw98 : k2_chk98 v1358 v1390 v1507), ∀ a x, ((![v1390, v1358, v1507] : Fin 3 → IVec S16 32) a x).toNat < S2x64x128.size a := fun v1358 v1390 v1507 k2_hw98 => k2_hw98

def k2_chk99 (v1358 : IVec S16 32) (v1390 : IVec S16 32) (v1512 : IVec S16 32) : Prop :=
  (∀ a x, ((![v1390, v1358, v1512] : Fin 3 → IVec S16 32) a x).toNat < S2x64x128.size a)
theorem k2_idx99_inb : ∀ (v1358 : IVec S16 32) (v1390 : IVec S16 32) (v1512 : IVec S16 32) (k2_hw99 : k2_chk99 v1358 v1390 v1512), ∀ a x, ((![v1390, v1358, v1512] : Fin 3 → IVec S16 32) a x).toNat < S2x64x128.size a := fun v1358 v1390 v1512 k2_hw99 => k2_hw99

def k2_chk100 (v1358 : IVec S16 32) (v1390 : IVec S16 32) (v1515 : IVec S16 32) : Prop :=
  (∀ a x, ((![v1390, v1358, v1515] : Fin 3 → IVec S16 32) a x).toNat < S2x64x128.size a)
theorem k2_idx100_inb : ∀ (v1358 : IVec S16 32) (v1390 : IVec S16 32) (v1515 : IVec S16 32) (k2_hw100 : k2_chk100 v1358 v1390 v1515), ∀ a x, ((![v1390, v1358, v1515] : Fin 3 → IVec S16 32) a x).toNat < S2x64x128.size a := fun v1358 v1390 v1515 k2_hw100 => k2_hw100

def k2_chk101 (v1358 : IVec S16 32) (v1390 : IVec S16 32) (v1520 : IVec S16 32) : Prop :=
  (∀ a x, ((![v1390, v1358, v1520] : Fin 3 → IVec S16 32) a x).toNat < S2x64x128.size a)
theorem k2_idx101_inb : ∀ (v1358 : IVec S16 32) (v1390 : IVec S16 32) (v1520 : IVec S16 32) (k2_hw101 : k2_chk101 v1358 v1390 v1520), ∀ a x, ((![v1390, v1358, v1520] : Fin 3 → IVec S16 32) a x).toNat < S2x64x128.size a := fun v1358 v1390 v1520 k2_hw101 => k2_hw101

def k2_chk102 (v1358 : IVec S16 32) (v1390 : IVec S16 32) (v1523 : IVec S16 32) : Prop :=
  (∀ a x, ((![v1390, v1358, v1523] : Fin 3 → IVec S16 32) a x).toNat < S2x64x128.size a)
theorem k2_idx102_inb : ∀ (v1358 : IVec S16 32) (v1390 : IVec S16 32) (v1523 : IVec S16 32) (k2_hw102 : k2_chk102 v1358 v1390 v1523), ∀ a x, ((![v1390, v1358, v1523] : Fin 3 → IVec S16 32) a x).toNat < S2x64x128.size a := fun v1358 v1390 v1523 k2_hw102 => k2_hw102

def k2_chk103 (v1358 : IVec S16 32) (v1390 : IVec S16 32) (v1528 : IVec S16 32) : Prop :=
  (∀ a x, ((![v1390, v1358, v1528] : Fin 3 → IVec S16 32) a x).toNat < S2x64x128.size a)
theorem k2_idx103_inb : ∀ (v1358 : IVec S16 32) (v1390 : IVec S16 32) (v1528 : IVec S16 32) (k2_hw103 : k2_chk103 v1358 v1390 v1528), ∀ a x, ((![v1390, v1358, v1528] : Fin 3 → IVec S16 32) a x).toNat < S2x64x128.size a := fun v1358 v1390 v1528 k2_hw103 => k2_hw103

def k2_chk104 (v1358 : IVec S16 32) (v1390 : IVec S16 32) (v1531 : IVec S16 32) : Prop :=
  (∀ a x, ((![v1390, v1358, v1531] : Fin 3 → IVec S16 32) a x).toNat < S2x64x128.size a)
theorem k2_idx104_inb : ∀ (v1358 : IVec S16 32) (v1390 : IVec S16 32) (v1531 : IVec S16 32) (k2_hw104 : k2_chk104 v1358 v1390 v1531), ∀ a x, ((![v1390, v1358, v1531] : Fin 3 → IVec S16 32) a x).toNat < S2x64x128.size a := fun v1358 v1390 v1531 k2_hw104 => k2_hw104

def k2_chk105 (v1358 : IVec S16 32) (v1390 : IVec S16 32) (v1536 : IVec S16 32) : Prop :=
  (∀ a x, ((![v1390, v1358, v1536] : Fin 3 → IVec S16 32) a x).toNat < S2x64x128.size a)
theorem k2_idx105_inb : ∀ (v1358 : IVec S16 32) (v1390 : IVec S16 32) (v1536 : IVec S16 32) (k2_hw105 : k2_chk105 v1358 v1390 v1536), ∀ a x, ((![v1390, v1358, v1536] : Fin 3 → IVec S16 32) a x).toNat < S2x64x128.size a := fun v1358 v1390 v1536 k2_hw105 => k2_hw105

def k2_chk106 (v1358 : IVec S16 32) (v1390 : IVec S16 32) (v1539 : IVec S16 32) : Prop :=
  (∀ a x, ((![v1390, v1358, v1539] : Fin 3 → IVec S16 32) a x).toNat < S2x64x128.size a)
theorem k2_idx106_inb : ∀ (v1358 : IVec S16 32) (v1390 : IVec S16 32) (v1539 : IVec S16 32) (k2_hw106 : k2_chk106 v1358 v1390 v1539), ∀ a x, ((![v1390, v1358, v1539] : Fin 3 → IVec S16 32) a x).toNat < S2x64x128.size a := fun v1358 v1390 v1539 k2_hw106 => k2_hw106

def k2_chk107 (v1358 : IVec S16 32) (v1390 : IVec S16 32) (v1544 : IVec S16 32) : Prop :=
  (∀ a x, ((![v1390, v1358, v1544] : Fin 3 → IVec S16 32) a x).toNat < S2x64x128.size a)
theorem k2_idx107_inb : ∀ (v1358 : IVec S16 32) (v1390 : IVec S16 32) (v1544 : IVec S16 32) (k2_hw107 : k2_chk107 v1358 v1390 v1544), ∀ a x, ((![v1390, v1358, v1544] : Fin 3 → IVec S16 32) a x).toNat < S2x64x128.size a := fun v1358 v1390 v1544 k2_hw107 => k2_hw107

def k2_chk108 (v1358 : IVec S16 32) (v1390 : IVec S16 32) (v1547 : IVec S16 32) : Prop :=
  (∀ a x, ((![v1390, v1358, v1547] : Fin 3 → IVec S16 32) a x).toNat < S2x64x128.size a)
theorem k2_idx108_inb : ∀ (v1358 : IVec S16 32) (v1390 : IVec S16 32) (v1547 : IVec S16 32) (k2_hw108 : k2_chk108 v1358 v1390 v1547), ∀ a x, ((![v1390, v1358, v1547] : Fin 3 → IVec S16 32) a x).toNat < S2x64x128.size a := fun v1358 v1390 v1547 k2_hw108 => k2_hw108

def k2_chk109 (v1358 : IVec S16 32) (v1390 : IVec S16 32) (v1552 : IVec S16 32) : Prop :=
  (∀ a x, ((![v1390, v1358, v1552] : Fin 3 → IVec S16 32) a x).toNat < S2x64x128.size a)
theorem k2_idx109_inb : ∀ (v1358 : IVec S16 32) (v1390 : IVec S16 32) (v1552 : IVec S16 32) (k2_hw109 : k2_chk109 v1358 v1390 v1552), ∀ a x, ((![v1390, v1358, v1552] : Fin 3 → IVec S16 32) a x).toNat < S2x64x128.size a := fun v1358 v1390 v1552 k2_hw109 => k2_hw109

def k2_chk110 (v1358 : IVec S16 32) (v1390 : IVec S16 32) (v1555 : IVec S16 32) : Prop :=
  (∀ a x, ((![v1390, v1358, v1555] : Fin 3 → IVec S16 32) a x).toNat < S2x64x128.size a)
theorem k2_idx110_inb : ∀ (v1358 : IVec S16 32) (v1390 : IVec S16 32) (v1555 : IVec S16 32) (k2_hw110 : k2_chk110 v1358 v1390 v1555), ∀ a x, ((![v1390, v1358, v1555] : Fin 3 → IVec S16 32) a x).toNat < S2x64x128.size a := fun v1358 v1390 v1555 k2_hw110 => k2_hw110

def k2_chk111 (v1358 : IVec S16 32) (v1390 : IVec S16 32) (v1560 : IVec S16 32) : Prop :=
  (∀ a x, ((![v1390, v1358, v1560] : Fin 3 → IVec S16 32) a x).toNat < S2x64x128.size a)
theorem k2_idx111_inb : ∀ (v1358 : IVec S16 32) (v1390 : IVec S16 32) (v1560 : IVec S16 32) (k2_hw111 : k2_chk111 v1358 v1390 v1560), ∀ a x, ((![v1390, v1358, v1560] : Fin 3 → IVec S16 32) a x).toNat < S2x64x128.size a := fun v1358 v1390 v1560 k2_hw111 => k2_hw111

def k2_chk112 (v1358 : IVec S16 32) (v1390 : IVec S16 32) (v1563 : IVec S16 32) : Prop :=
  (∀ a x, ((![v1390, v1358, v1563] : Fin 3 → IVec S16 32) a x).toNat < S2x64x128.size a)
theorem k2_idx112_inb : ∀ (v1358 : IVec S16 32) (v1390 : IVec S16 32) (v1563 : IVec S16 32) (k2_hw112 : k2_chk112 v1358 v1390 v1563), ∀ a x, ((![v1390, v1358, v1563] : Fin 3 → IVec S16 32) a x).toNat < S2x64x128.size a := fun v1358 v1390 v1563 k2_hw112 => k2_hw112

def k2_chk113 (v1358 : IVec S16 32) (v1390 : IVec S16 32) (v1568 : IVec S16 32) : Prop :=
  (∀ a x, ((![v1390, v1358, v1568] : Fin 3 → IVec S16 32) a x).toNat < S2x64x128.size a)
theorem k2_idx113_inb : ∀ (v1358 : IVec S16 32) (v1390 : IVec S16 32) (v1568 : IVec S16 32) (k2_hw113 : k2_chk113 v1358 v1390 v1568), ∀ a x, ((![v1390, v1358, v1568] : Fin 3 → IVec S16 32) a x).toNat < S2x64x128.size a := fun v1358 v1390 v1568 k2_hw113 => k2_hw113

def k2_chk114 (v1358 : IVec S16 32) (v1390 : IVec S16 32) (v1571 : IVec S16 32) : Prop :=
  (∀ a x, ((![v1390, v1358, v1571] : Fin 3 → IVec S16 32) a x).toNat < S2x64x128.size a)
theorem k2_idx114_inb : ∀ (v1358 : IVec S16 32) (v1390 : IVec S16 32) (v1571 : IVec S16 32) (k2_hw114 : k2_chk114 v1358 v1390 v1571), ∀ a x, ((![v1390, v1358, v1571] : Fin 3 → IVec S16 32) a x).toNat < S2x64x128.size a := fun v1358 v1390 v1571 k2_hw114 => k2_hw114

def k2_chk115 (v1358 : IVec S16 32) (v1390 : IVec S16 32) (v1576 : IVec S16 32) : Prop :=
  (∀ a x, ((![v1390, v1358, v1576] : Fin 3 → IVec S16 32) a x).toNat < S2x64x128.size a)
theorem k2_idx115_inb : ∀ (v1358 : IVec S16 32) (v1390 : IVec S16 32) (v1576 : IVec S16 32) (k2_hw115 : k2_chk115 v1358 v1390 v1576), ∀ a x, ((![v1390, v1358, v1576] : Fin 3 → IVec S16 32) a x).toNat < S2x64x128.size a := fun v1358 v1390 v1576 k2_hw115 => k2_hw115

def k2_chk116 (v1358 : IVec S16 32) (v1390 : IVec S16 32) (v1579 : IVec S16 32) : Prop :=
  (∀ a x, ((![v1390, v1358, v1579] : Fin 3 → IVec S16 32) a x).toNat < S2x64x128.size a)
theorem k2_idx116_inb : ∀ (v1358 : IVec S16 32) (v1390 : IVec S16 32) (v1579 : IVec S16 32) (k2_hw116 : k2_chk116 v1358 v1390 v1579), ∀ a x, ((![v1390, v1358, v1579] : Fin 3 → IVec S16 32) a x).toNat < S2x64x128.size a := fun v1358 v1390 v1579 k2_hw116 => k2_hw116

def k2_chk117 (v1358 : IVec S16 32) (v1390 : IVec S16 32) (v1584 : IVec S16 32) : Prop :=
  (∀ a x, ((![v1390, v1358, v1584] : Fin 3 → IVec S16 32) a x).toNat < S2x64x128.size a)
theorem k2_idx117_inb : ∀ (v1358 : IVec S16 32) (v1390 : IVec S16 32) (v1584 : IVec S16 32) (k2_hw117 : k2_chk117 v1358 v1390 v1584), ∀ a x, ((![v1390, v1358, v1584] : Fin 3 → IVec S16 32) a x).toNat < S2x64x128.size a := fun v1358 v1390 v1584 k2_hw117 => k2_hw117

def k2_chk118 (v1358 : IVec S16 32) (v1390 : IVec S16 32) (v1587 : IVec S16 32) : Prop :=
  (∀ a x, ((![v1390, v1358, v1587] : Fin 3 → IVec S16 32) a x).toNat < S2x64x128.size a)
theorem k2_idx118_inb : ∀ (v1358 : IVec S16 32) (v1390 : IVec S16 32) (v1587 : IVec S16 32) (k2_hw118 : k2_chk118 v1358 v1390 v1587), ∀ a x, ((![v1390, v1358, v1587] : Fin 3 → IVec S16 32) a x).toNat < S2x64x128.size a := fun v1358 v1390 v1587 k2_hw118 => k2_hw118

def k2_chk119 (v1358 : IVec S16 32) (v1390 : IVec S16 32) (v1592 : IVec S16 32) : Prop :=
  (∀ a x, ((![v1390, v1358, v1592] : Fin 3 → IVec S16 32) a x).toNat < S2x64x128.size a)
theorem k2_idx119_inb : ∀ (v1358 : IVec S16 32) (v1390 : IVec S16 32) (v1592 : IVec S16 32) (k2_hw119 : k2_chk119 v1358 v1390 v1592), ∀ a x, ((![v1390, v1358, v1592] : Fin 3 → IVec S16 32) a x).toNat < S2x64x128.size a := fun v1358 v1390 v1592 k2_hw119 => k2_hw119

def k2_chk120 (v1358 : IVec S16 32) (v1390 : IVec S16 32) (v1595 : IVec S16 32) : Prop :=
  (∀ a x, ((![v1390, v1358, v1595] : Fin 3 → IVec S16 32) a x).toNat < S2x64x128.size a)
theorem k2_idx120_inb : ∀ (v1358 : IVec S16 32) (v1390 : IVec S16 32) (v1595 : IVec S16 32) (k2_hw120 : k2_chk120 v1358 v1390 v1595), ∀ a x, ((![v1390, v1358, v1595] : Fin 3 → IVec S16 32) a x).toNat < S2x64x128.size a := fun v1358 v1390 v1595 k2_hw120 => k2_hw120

def k2_chk121 (v1358 : IVec S16 32) (v1390 : IVec S16 32) (v1600 : IVec S16 32) : Prop :=
  (∀ a x, ((![v1390, v1358, v1600] : Fin 3 → IVec S16 32) a x).toNat < S2x64x128.size a)
theorem k2_idx121_inb : ∀ (v1358 : IVec S16 32) (v1390 : IVec S16 32) (v1600 : IVec S16 32) (k2_hw121 : k2_chk121 v1358 v1390 v1600), ∀ a x, ((![v1390, v1358, v1600] : Fin 3 → IVec S16 32) a x).toNat < S2x64x128.size a := fun v1358 v1390 v1600 k2_hw121 => k2_hw121

def k2_chk122 (v1358 : IVec S16 32) (v1390 : IVec S16 32) (v1603 : IVec S16 32) : Prop :=
  (∀ a x, ((![v1390, v1358, v1603] : Fin 3 → IVec S16 32) a x).toNat < S2x64x128.size a)
theorem k2_idx122_inb : ∀ (v1358 : IVec S16 32) (v1390 : IVec S16 32) (v1603 : IVec S16 32) (k2_hw122 : k2_chk122 v1358 v1390 v1603), ∀ a x, ((![v1390, v1358, v1603] : Fin 3 → IVec S16 32) a x).toNat < S2x64x128.size a := fun v1358 v1390 v1603 k2_hw122 => k2_hw122

def k2_chk123 (v1358 : IVec S16 32) (v1390 : IVec S16 32) (v1608 : IVec S16 32) : Prop :=
  (∀ a x, ((![v1390, v1358, v1608] : Fin 3 → IVec S16 32) a x).toNat < S2x64x128.size a)
theorem k2_idx123_inb : ∀ (v1358 : IVec S16 32) (v1390 : IVec S16 32) (v1608 : IVec S16 32) (k2_hw123 : k2_chk123 v1358 v1390 v1608), ∀ a x, ((![v1390, v1358, v1608] : Fin 3 → IVec S16 32) a x).toNat < S2x64x128.size a := fun v1358 v1390 v1608 k2_hw123 => k2_hw123

def k2_chk124 (v1358 : IVec S16 32) (v1390 : IVec S16 32) (v1611 : IVec S16 32) : Prop :=
  (∀ a x, ((![v1390, v1358, v1611] : Fin 3 → IVec S16 32) a x).toNat < S2x64x128.size a)
theorem k2_idx124_inb : ∀ (v1358 : IVec S16 32) (v1390 : IVec S16 32) (v1611 : IVec S16 32) (k2_hw124 : k2_chk124 v1358 v1390 v1611), ∀ a x, ((![v1390, v1358, v1611] : Fin 3 → IVec S16 32) a x).toNat < S2x64x128.size a := fun v1358 v1390 v1611 k2_hw124 => k2_hw124

def k2_chk125 (v1358 : IVec S16 32) (v1390 : IVec S16 32) (v1616 : IVec S16 32) : Prop :=
  (∀ a x, ((![v1390, v1358, v1616] : Fin 3 → IVec S16 32) a x).toNat < S2x64x128.size a)
theorem k2_idx125_inb : ∀ (v1358 : IVec S16 32) (v1390 : IVec S16 32) (v1616 : IVec S16 32) (k2_hw125 : k2_chk125 v1358 v1390 v1616), ∀ a x, ((![v1390, v1358, v1616] : Fin 3 → IVec S16 32) a x).toNat < S2x64x128.size a := fun v1358 v1390 v1616 k2_hw125 => k2_hw125

def k2_chk126 (v1358 : IVec S16 32) (v1390 : IVec S16 32) (v1619 : IVec S16 32) : Prop :=
  (∀ a x, ((![v1390, v1358, v1619] : Fin 3 → IVec S16 32) a x).toNat < S2x64x128.size a)
theorem k2_idx126_inb : ∀ (v1358 : IVec S16 32) (v1390 : IVec S16 32) (v1619 : IVec S16 32) (k2_hw126 : k2_chk126 v1358 v1390 v1619), ∀ a x, ((![v1390, v1358, v1619] : Fin 3 → IVec S16 32) a x).toNat < S2x64x128.size a := fun v1358 v1390 v1619 k2_hw126 => k2_hw126

def k2_chk127 (v1358 : IVec S16 32) (v1390 : IVec S16 32) (v1624 : IVec S16 32) : Prop :=
  (∀ a x, ((![v1390, v1358, v1624] : Fin 3 → IVec S16 32) a x).toNat < S2x64x128.size a)
theorem k2_idx127_inb : ∀ (v1358 : IVec S16 32) (v1390 : IVec S16 32) (v1624 : IVec S16 32) (k2_hw127 : k2_chk127 v1358 v1390 v1624), ∀ a x, ((![v1390, v1358, v1624] : Fin 3 → IVec S16 32) a x).toNat < S2x64x128.size a := fun v1358 v1390 v1624 k2_hw127 => k2_hw127

def k2_chk128 (v1358 : IVec S16 32) (v1390 : IVec S16 32) (v1627 : IVec S16 32) : Prop :=
  (∀ a x, ((![v1390, v1358, v1627] : Fin 3 → IVec S16 32) a x).toNat < S2x64x128.size a)
theorem k2_idx128_inb : ∀ (v1358 : IVec S16 32) (v1390 : IVec S16 32) (v1627 : IVec S16 32) (k2_hw128 : k2_chk128 v1358 v1390 v1627), ∀ a x, ((![v1390, v1358, v1627] : Fin 3 → IVec S16 32) a x).toNat < S2x64x128.size a := fun v1358 v1390 v1627 k2_hw128 => k2_hw128

def k2_chk129 (v1358 : IVec S16 32) (v1390 : IVec S16 32) (v1632 : IVec S16 32) : Prop :=
  (∀ a x, ((![v1390, v1358, v1632] : Fin 3 → IVec S16 32) a x).toNat < S2x64x128.size a)
theorem k2_idx129_inb : ∀ (v1358 : IVec S16 32) (v1390 : IVec S16 32) (v1632 : IVec S16 32) (k2_hw129 : k2_chk129 v1358 v1390 v1632), ∀ a x, ((![v1390, v1358, v1632] : Fin 3 → IVec S16 32) a x).toNat < S2x64x128.size a := fun v1358 v1390 v1632 k2_hw129 => k2_hw129

def k2_chk130 (v1358 : IVec S16 32) (v1390 : IVec S16 32) (v1635 : IVec S16 32) : Prop :=
  (∀ a x, ((![v1390, v1358, v1635] : Fin 3 → IVec S16 32) a x).toNat < S2x64x128.size a)
theorem k2_idx130_inb : ∀ (v1358 : IVec S16 32) (v1390 : IVec S16 32) (v1635 : IVec S16 32) (k2_hw130 : k2_chk130 v1358 v1390 v1635), ∀ a x, ((![v1390, v1358, v1635] : Fin 3 → IVec S16 32) a x).toNat < S2x64x128.size a := fun v1358 v1390 v1635 k2_hw130 => k2_hw130

def k2_chk131 (v1358 : IVec S16 32) (v1390 : IVec S16 32) (v1640 : IVec S16 32) : Prop :=
  (∀ a x, ((![v1390, v1358, v1640] : Fin 3 → IVec S16 32) a x).toNat < S2x64x128.size a)
theorem k2_idx131_inb : ∀ (v1358 : IVec S16 32) (v1390 : IVec S16 32) (v1640 : IVec S16 32) (k2_hw131 : k2_chk131 v1358 v1390 v1640), ∀ a x, ((![v1390, v1358, v1640] : Fin 3 → IVec S16 32) a x).toNat < S2x64x128.size a := fun v1358 v1390 v1640 k2_hw131 => k2_hw131

def k2_chk132 (v1358 : IVec S16 32) (v1390 : IVec S16 32) (v1643 : IVec S16 32) : Prop :=
  (∀ a x, ((![v1390, v1358, v1643] : Fin 3 → IVec S16 32) a x).toNat < S2x64x128.size a)
theorem k2_idx132_inb : ∀ (v1358 : IVec S16 32) (v1390 : IVec S16 32) (v1643 : IVec S16 32) (k2_hw132 : k2_chk132 v1358 v1390 v1643), ∀ a x, ((![v1390, v1358, v1643] : Fin 3 → IVec S16 32) a x).toNat < S2x64x128.size a := fun v1358 v1390 v1643 k2_hw132 => k2_hw132
def k2_off5 (k2_t2 : Fin k2_t2_loop.trips) : Fin 1 → Nat :=
  let c64_i32_1269 : BitVec 32 := 64#32
  let c0_i32_407 : BitVec 32 := 0#32
  let c1_i32_409 : BitVec 32 := 1#32
  let arg19 : BitVec 32 := Scf.iv c0_i32_407 c1_i32_409 k2_t2
  let c16_i32_1268 : BitVec 32 := 16#32
  let v1647 : BitVec 32 := Scalar.muli arg19 c16_i32_1268
  let v1648 : BitVec 32 := Scalar.addi c64_i32_1269 v1647
  let v1649 : Index := Scalar.indexCast v1648
  ![v1649.toNat]
@[reducible] def k2_t3_loop : Scf.Loop 32 :=
  let c0_i32_560 : BitVec 32 := 0#32
  let c4_i32_561 : BitVec 32 := 4#32
  let v658 : BitVec 32 := Scalar.addi c0_i32_560 c4_i32_561
  let c1_i32_562 : BitVec 32 := 1#32
  ⟨c0_i32_560, v658, c1_i32_562⟩
def k2_off6 (k2_t3 : Fin k2_t3_loop.trips) : Fin 1 → Nat :=
  let c128_i32 : BitVec 32 := 128#32
  let c0_i32_560 : BitVec 32 := 0#32
  let c1_i32_562 : BitVec 32 := 1#32
  let arg19 : BitVec 32 := Scf.iv c0_i32_560 c1_i32_562 k2_t3
  let c16_i32_1214 : BitVec 32 := 16#32
  let v1359 : BitVec 32 := Scalar.muli arg19 c16_i32_1214
  let v1360 : BitVec 32 := Scalar.addi c128_i32 v1359
  let v1361 : Index := Scalar.indexCast v1360
  ![v1361.toNat]

def k2_chk133 (v1358 : IVec S16 32) (v1367 : IVec S16 32) (v1369 : IVec S16 32) : Prop :=
  (∀ a x, ((![v1367, v1358, v1369] : Fin 3 → IVec S16 32) a x).toNat < S2x64x128.size a)
theorem k2_idx133_inb : ∀ (v1358 : IVec S16 32) (v1367 : IVec S16 32) (v1369 : IVec S16 32) (k2_hw133 : k2_chk133 v1358 v1367 v1369), ∀ a x, ((![v1367, v1358, v1369] : Fin 3 → IVec S16 32) a x).toNat < S2x64x128.size a := fun v1358 v1367 v1369 k2_hw133 => k2_hw133

def k2_chk134 (v1358 : IVec S16 32) (v1373 : IVec S16 32) (v1375 : IVec S16 32) : Prop :=
  (∀ a x, ((![v1373, v1358, v1375] : Fin 3 → IVec S16 32) a x).toNat < S2x64x128.size a)
theorem k2_idx134_inb : ∀ (v1358 : IVec S16 32) (v1373 : IVec S16 32) (v1375 : IVec S16 32) (k2_hw134 : k2_chk134 v1358 v1373 v1375), ∀ a x, ((![v1373, v1358, v1375] : Fin 3 → IVec S16 32) a x).toNat < S2x64x128.size a := fun v1358 v1373 v1375 k2_hw134 => k2_hw134

def k2_chk135 (v1358 : IVec S16 32) (v1390 : IVec S16 32) (v1392 : IVec S16 32) : Prop :=
  (∀ a x, ((![v1390, v1358, v1392] : Fin 3 → IVec S16 32) a x).toNat < S2x64x128.size a)
theorem k2_idx135_inb : ∀ (v1358 : IVec S16 32) (v1390 : IVec S16 32) (v1392 : IVec S16 32) (k2_hw135 : k2_chk135 v1358 v1390 v1392), ∀ a x, ((![v1390, v1358, v1392] : Fin 3 → IVec S16 32) a x).toNat < S2x64x128.size a := fun v1358 v1390 v1392 k2_hw135 => k2_hw135

def k2_chk136 (v1358 : IVec S16 32) (v1390 : IVec S16 32) (v1395 : IVec S16 32) : Prop :=
  (∀ a x, ((![v1390, v1358, v1395] : Fin 3 → IVec S16 32) a x).toNat < S2x64x128.size a)
theorem k2_idx136_inb : ∀ (v1358 : IVec S16 32) (v1390 : IVec S16 32) (v1395 : IVec S16 32) (k2_hw136 : k2_chk136 v1358 v1390 v1395), ∀ a x, ((![v1390, v1358, v1395] : Fin 3 → IVec S16 32) a x).toNat < S2x64x128.size a := fun v1358 v1390 v1395 k2_hw136 => k2_hw136

def k2_chk137 (v1358 : IVec S16 32) (v1390 : IVec S16 32) (v1400 : IVec S16 32) : Prop :=
  (∀ a x, ((![v1390, v1358, v1400] : Fin 3 → IVec S16 32) a x).toNat < S2x64x128.size a)
theorem k2_idx137_inb : ∀ (v1358 : IVec S16 32) (v1390 : IVec S16 32) (v1400 : IVec S16 32) (k2_hw137 : k2_chk137 v1358 v1390 v1400), ∀ a x, ((![v1390, v1358, v1400] : Fin 3 → IVec S16 32) a x).toNat < S2x64x128.size a := fun v1358 v1390 v1400 k2_hw137 => k2_hw137

def k2_chk138 (v1358 : IVec S16 32) (v1390 : IVec S16 32) (v1403 : IVec S16 32) : Prop :=
  (∀ a x, ((![v1390, v1358, v1403] : Fin 3 → IVec S16 32) a x).toNat < S2x64x128.size a)
theorem k2_idx138_inb : ∀ (v1358 : IVec S16 32) (v1390 : IVec S16 32) (v1403 : IVec S16 32) (k2_hw138 : k2_chk138 v1358 v1390 v1403), ∀ a x, ((![v1390, v1358, v1403] : Fin 3 → IVec S16 32) a x).toNat < S2x64x128.size a := fun v1358 v1390 v1403 k2_hw138 => k2_hw138

def k2_chk139 (v1358 : IVec S16 32) (v1390 : IVec S16 32) (v1408 : IVec S16 32) : Prop :=
  (∀ a x, ((![v1390, v1358, v1408] : Fin 3 → IVec S16 32) a x).toNat < S2x64x128.size a)
theorem k2_idx139_inb : ∀ (v1358 : IVec S16 32) (v1390 : IVec S16 32) (v1408 : IVec S16 32) (k2_hw139 : k2_chk139 v1358 v1390 v1408), ∀ a x, ((![v1390, v1358, v1408] : Fin 3 → IVec S16 32) a x).toNat < S2x64x128.size a := fun v1358 v1390 v1408 k2_hw139 => k2_hw139

def k2_chk140 (v1358 : IVec S16 32) (v1390 : IVec S16 32) (v1411 : IVec S16 32) : Prop :=
  (∀ a x, ((![v1390, v1358, v1411] : Fin 3 → IVec S16 32) a x).toNat < S2x64x128.size a)
theorem k2_idx140_inb : ∀ (v1358 : IVec S16 32) (v1390 : IVec S16 32) (v1411 : IVec S16 32) (k2_hw140 : k2_chk140 v1358 v1390 v1411), ∀ a x, ((![v1390, v1358, v1411] : Fin 3 → IVec S16 32) a x).toNat < S2x64x128.size a := fun v1358 v1390 v1411 k2_hw140 => k2_hw140

def k2_chk141 (v1358 : IVec S16 32) (v1390 : IVec S16 32) (v1416 : IVec S16 32) : Prop :=
  (∀ a x, ((![v1390, v1358, v1416] : Fin 3 → IVec S16 32) a x).toNat < S2x64x128.size a)
theorem k2_idx141_inb : ∀ (v1358 : IVec S16 32) (v1390 : IVec S16 32) (v1416 : IVec S16 32) (k2_hw141 : k2_chk141 v1358 v1390 v1416), ∀ a x, ((![v1390, v1358, v1416] : Fin 3 → IVec S16 32) a x).toNat < S2x64x128.size a := fun v1358 v1390 v1416 k2_hw141 => k2_hw141

def k2_chk142 (v1358 : IVec S16 32) (v1390 : IVec S16 32) (v1419 : IVec S16 32) : Prop :=
  (∀ a x, ((![v1390, v1358, v1419] : Fin 3 → IVec S16 32) a x).toNat < S2x64x128.size a)
theorem k2_idx142_inb : ∀ (v1358 : IVec S16 32) (v1390 : IVec S16 32) (v1419 : IVec S16 32) (k2_hw142 : k2_chk142 v1358 v1390 v1419), ∀ a x, ((![v1390, v1358, v1419] : Fin 3 → IVec S16 32) a x).toNat < S2x64x128.size a := fun v1358 v1390 v1419 k2_hw142 => k2_hw142

def k2_chk143 (v1358 : IVec S16 32) (v1390 : IVec S16 32) (v1424 : IVec S16 32) : Prop :=
  (∀ a x, ((![v1390, v1358, v1424] : Fin 3 → IVec S16 32) a x).toNat < S2x64x128.size a)
theorem k2_idx143_inb : ∀ (v1358 : IVec S16 32) (v1390 : IVec S16 32) (v1424 : IVec S16 32) (k2_hw143 : k2_chk143 v1358 v1390 v1424), ∀ a x, ((![v1390, v1358, v1424] : Fin 3 → IVec S16 32) a x).toNat < S2x64x128.size a := fun v1358 v1390 v1424 k2_hw143 => k2_hw143

def k2_chk144 (v1358 : IVec S16 32) (v1390 : IVec S16 32) (v1427 : IVec S16 32) : Prop :=
  (∀ a x, ((![v1390, v1358, v1427] : Fin 3 → IVec S16 32) a x).toNat < S2x64x128.size a)
theorem k2_idx144_inb : ∀ (v1358 : IVec S16 32) (v1390 : IVec S16 32) (v1427 : IVec S16 32) (k2_hw144 : k2_chk144 v1358 v1390 v1427), ∀ a x, ((![v1390, v1358, v1427] : Fin 3 → IVec S16 32) a x).toNat < S2x64x128.size a := fun v1358 v1390 v1427 k2_hw144 => k2_hw144

def k2_chk145 (v1358 : IVec S16 32) (v1390 : IVec S16 32) (v1432 : IVec S16 32) : Prop :=
  (∀ a x, ((![v1390, v1358, v1432] : Fin 3 → IVec S16 32) a x).toNat < S2x64x128.size a)
theorem k2_idx145_inb : ∀ (v1358 : IVec S16 32) (v1390 : IVec S16 32) (v1432 : IVec S16 32) (k2_hw145 : k2_chk145 v1358 v1390 v1432), ∀ a x, ((![v1390, v1358, v1432] : Fin 3 → IVec S16 32) a x).toNat < S2x64x128.size a := fun v1358 v1390 v1432 k2_hw145 => k2_hw145

def k2_chk146 (v1358 : IVec S16 32) (v1390 : IVec S16 32) (v1435 : IVec S16 32) : Prop :=
  (∀ a x, ((![v1390, v1358, v1435] : Fin 3 → IVec S16 32) a x).toNat < S2x64x128.size a)
theorem k2_idx146_inb : ∀ (v1358 : IVec S16 32) (v1390 : IVec S16 32) (v1435 : IVec S16 32) (k2_hw146 : k2_chk146 v1358 v1390 v1435), ∀ a x, ((![v1390, v1358, v1435] : Fin 3 → IVec S16 32) a x).toNat < S2x64x128.size a := fun v1358 v1390 v1435 k2_hw146 => k2_hw146

def k2_chk147 (v1358 : IVec S16 32) (v1390 : IVec S16 32) (v1440 : IVec S16 32) : Prop :=
  (∀ a x, ((![v1390, v1358, v1440] : Fin 3 → IVec S16 32) a x).toNat < S2x64x128.size a)
theorem k2_idx147_inb : ∀ (v1358 : IVec S16 32) (v1390 : IVec S16 32) (v1440 : IVec S16 32) (k2_hw147 : k2_chk147 v1358 v1390 v1440), ∀ a x, ((![v1390, v1358, v1440] : Fin 3 → IVec S16 32) a x).toNat < S2x64x128.size a := fun v1358 v1390 v1440 k2_hw147 => k2_hw147

def k2_chk148 (v1358 : IVec S16 32) (v1390 : IVec S16 32) (v1443 : IVec S16 32) : Prop :=
  (∀ a x, ((![v1390, v1358, v1443] : Fin 3 → IVec S16 32) a x).toNat < S2x64x128.size a)
theorem k2_idx148_inb : ∀ (v1358 : IVec S16 32) (v1390 : IVec S16 32) (v1443 : IVec S16 32) (k2_hw148 : k2_chk148 v1358 v1390 v1443), ∀ a x, ((![v1390, v1358, v1443] : Fin 3 → IVec S16 32) a x).toNat < S2x64x128.size a := fun v1358 v1390 v1443 k2_hw148 => k2_hw148

def k2_chk149 (v1358 : IVec S16 32) (v1390 : IVec S16 32) (v1448 : IVec S16 32) : Prop :=
  (∀ a x, ((![v1390, v1358, v1448] : Fin 3 → IVec S16 32) a x).toNat < S2x64x128.size a)
theorem k2_idx149_inb : ∀ (v1358 : IVec S16 32) (v1390 : IVec S16 32) (v1448 : IVec S16 32) (k2_hw149 : k2_chk149 v1358 v1390 v1448), ∀ a x, ((![v1390, v1358, v1448] : Fin 3 → IVec S16 32) a x).toNat < S2x64x128.size a := fun v1358 v1390 v1448 k2_hw149 => k2_hw149

def k2_chk150 (v1358 : IVec S16 32) (v1390 : IVec S16 32) (v1451 : IVec S16 32) : Prop :=
  (∀ a x, ((![v1390, v1358, v1451] : Fin 3 → IVec S16 32) a x).toNat < S2x64x128.size a)
theorem k2_idx150_inb : ∀ (v1358 : IVec S16 32) (v1390 : IVec S16 32) (v1451 : IVec S16 32) (k2_hw150 : k2_chk150 v1358 v1390 v1451), ∀ a x, ((![v1390, v1358, v1451] : Fin 3 → IVec S16 32) a x).toNat < S2x64x128.size a := fun v1358 v1390 v1451 k2_hw150 => k2_hw150

def k2_chk151 (v1358 : IVec S16 32) (v1390 : IVec S16 32) (v1456 : IVec S16 32) : Prop :=
  (∀ a x, ((![v1390, v1358, v1456] : Fin 3 → IVec S16 32) a x).toNat < S2x64x128.size a)
theorem k2_idx151_inb : ∀ (v1358 : IVec S16 32) (v1390 : IVec S16 32) (v1456 : IVec S16 32) (k2_hw151 : k2_chk151 v1358 v1390 v1456), ∀ a x, ((![v1390, v1358, v1456] : Fin 3 → IVec S16 32) a x).toNat < S2x64x128.size a := fun v1358 v1390 v1456 k2_hw151 => k2_hw151

def k2_chk152 (v1358 : IVec S16 32) (v1390 : IVec S16 32) (v1459 : IVec S16 32) : Prop :=
  (∀ a x, ((![v1390, v1358, v1459] : Fin 3 → IVec S16 32) a x).toNat < S2x64x128.size a)
theorem k2_idx152_inb : ∀ (v1358 : IVec S16 32) (v1390 : IVec S16 32) (v1459 : IVec S16 32) (k2_hw152 : k2_chk152 v1358 v1390 v1459), ∀ a x, ((![v1390, v1358, v1459] : Fin 3 → IVec S16 32) a x).toNat < S2x64x128.size a := fun v1358 v1390 v1459 k2_hw152 => k2_hw152

def k2_chk153 (v1358 : IVec S16 32) (v1390 : IVec S16 32) (v1464 : IVec S16 32) : Prop :=
  (∀ a x, ((![v1390, v1358, v1464] : Fin 3 → IVec S16 32) a x).toNat < S2x64x128.size a)
theorem k2_idx153_inb : ∀ (v1358 : IVec S16 32) (v1390 : IVec S16 32) (v1464 : IVec S16 32) (k2_hw153 : k2_chk153 v1358 v1390 v1464), ∀ a x, ((![v1390, v1358, v1464] : Fin 3 → IVec S16 32) a x).toNat < S2x64x128.size a := fun v1358 v1390 v1464 k2_hw153 => k2_hw153

def k2_chk154 (v1358 : IVec S16 32) (v1390 : IVec S16 32) (v1467 : IVec S16 32) : Prop :=
  (∀ a x, ((![v1390, v1358, v1467] : Fin 3 → IVec S16 32) a x).toNat < S2x64x128.size a)
theorem k2_idx154_inb : ∀ (v1358 : IVec S16 32) (v1390 : IVec S16 32) (v1467 : IVec S16 32) (k2_hw154 : k2_chk154 v1358 v1390 v1467), ∀ a x, ((![v1390, v1358, v1467] : Fin 3 → IVec S16 32) a x).toNat < S2x64x128.size a := fun v1358 v1390 v1467 k2_hw154 => k2_hw154

def k2_chk155 (v1358 : IVec S16 32) (v1390 : IVec S16 32) (v1472 : IVec S16 32) : Prop :=
  (∀ a x, ((![v1390, v1358, v1472] : Fin 3 → IVec S16 32) a x).toNat < S2x64x128.size a)
theorem k2_idx155_inb : ∀ (v1358 : IVec S16 32) (v1390 : IVec S16 32) (v1472 : IVec S16 32) (k2_hw155 : k2_chk155 v1358 v1390 v1472), ∀ a x, ((![v1390, v1358, v1472] : Fin 3 → IVec S16 32) a x).toNat < S2x64x128.size a := fun v1358 v1390 v1472 k2_hw155 => k2_hw155

def k2_chk156 (v1358 : IVec S16 32) (v1390 : IVec S16 32) (v1475 : IVec S16 32) : Prop :=
  (∀ a x, ((![v1390, v1358, v1475] : Fin 3 → IVec S16 32) a x).toNat < S2x64x128.size a)
theorem k2_idx156_inb : ∀ (v1358 : IVec S16 32) (v1390 : IVec S16 32) (v1475 : IVec S16 32) (k2_hw156 : k2_chk156 v1358 v1390 v1475), ∀ a x, ((![v1390, v1358, v1475] : Fin 3 → IVec S16 32) a x).toNat < S2x64x128.size a := fun v1358 v1390 v1475 k2_hw156 => k2_hw156

def k2_chk157 (v1358 : IVec S16 32) (v1390 : IVec S16 32) (v1480 : IVec S16 32) : Prop :=
  (∀ a x, ((![v1390, v1358, v1480] : Fin 3 → IVec S16 32) a x).toNat < S2x64x128.size a)
theorem k2_idx157_inb : ∀ (v1358 : IVec S16 32) (v1390 : IVec S16 32) (v1480 : IVec S16 32) (k2_hw157 : k2_chk157 v1358 v1390 v1480), ∀ a x, ((![v1390, v1358, v1480] : Fin 3 → IVec S16 32) a x).toNat < S2x64x128.size a := fun v1358 v1390 v1480 k2_hw157 => k2_hw157

def k2_chk158 (v1358 : IVec S16 32) (v1390 : IVec S16 32) (v1483 : IVec S16 32) : Prop :=
  (∀ a x, ((![v1390, v1358, v1483] : Fin 3 → IVec S16 32) a x).toNat < S2x64x128.size a)
theorem k2_idx158_inb : ∀ (v1358 : IVec S16 32) (v1390 : IVec S16 32) (v1483 : IVec S16 32) (k2_hw158 : k2_chk158 v1358 v1390 v1483), ∀ a x, ((![v1390, v1358, v1483] : Fin 3 → IVec S16 32) a x).toNat < S2x64x128.size a := fun v1358 v1390 v1483 k2_hw158 => k2_hw158

def k2_chk159 (v1358 : IVec S16 32) (v1390 : IVec S16 32) (v1488 : IVec S16 32) : Prop :=
  (∀ a x, ((![v1390, v1358, v1488] : Fin 3 → IVec S16 32) a x).toNat < S2x64x128.size a)
theorem k2_idx159_inb : ∀ (v1358 : IVec S16 32) (v1390 : IVec S16 32) (v1488 : IVec S16 32) (k2_hw159 : k2_chk159 v1358 v1390 v1488), ∀ a x, ((![v1390, v1358, v1488] : Fin 3 → IVec S16 32) a x).toNat < S2x64x128.size a := fun v1358 v1390 v1488 k2_hw159 => k2_hw159

def k2_chk160 (v1358 : IVec S16 32) (v1390 : IVec S16 32) (v1491 : IVec S16 32) : Prop :=
  (∀ a x, ((![v1390, v1358, v1491] : Fin 3 → IVec S16 32) a x).toNat < S2x64x128.size a)
theorem k2_idx160_inb : ∀ (v1358 : IVec S16 32) (v1390 : IVec S16 32) (v1491 : IVec S16 32) (k2_hw160 : k2_chk160 v1358 v1390 v1491), ∀ a x, ((![v1390, v1358, v1491] : Fin 3 → IVec S16 32) a x).toNat < S2x64x128.size a := fun v1358 v1390 v1491 k2_hw160 => k2_hw160

def k2_chk161 (v1358 : IVec S16 32) (v1390 : IVec S16 32) (v1496 : IVec S16 32) : Prop :=
  (∀ a x, ((![v1390, v1358, v1496] : Fin 3 → IVec S16 32) a x).toNat < S2x64x128.size a)
theorem k2_idx161_inb : ∀ (v1358 : IVec S16 32) (v1390 : IVec S16 32) (v1496 : IVec S16 32) (k2_hw161 : k2_chk161 v1358 v1390 v1496), ∀ a x, ((![v1390, v1358, v1496] : Fin 3 → IVec S16 32) a x).toNat < S2x64x128.size a := fun v1358 v1390 v1496 k2_hw161 => k2_hw161

def k2_chk162 (v1358 : IVec S16 32) (v1390 : IVec S16 32) (v1499 : IVec S16 32) : Prop :=
  (∀ a x, ((![v1390, v1358, v1499] : Fin 3 → IVec S16 32) a x).toNat < S2x64x128.size a)
theorem k2_idx162_inb : ∀ (v1358 : IVec S16 32) (v1390 : IVec S16 32) (v1499 : IVec S16 32) (k2_hw162 : k2_chk162 v1358 v1390 v1499), ∀ a x, ((![v1390, v1358, v1499] : Fin 3 → IVec S16 32) a x).toNat < S2x64x128.size a := fun v1358 v1390 v1499 k2_hw162 => k2_hw162

def k2_chk163 (v1358 : IVec S16 32) (v1390 : IVec S16 32) (v1504 : IVec S16 32) : Prop :=
  (∀ a x, ((![v1390, v1358, v1504] : Fin 3 → IVec S16 32) a x).toNat < S2x64x128.size a)
theorem k2_idx163_inb : ∀ (v1358 : IVec S16 32) (v1390 : IVec S16 32) (v1504 : IVec S16 32) (k2_hw163 : k2_chk163 v1358 v1390 v1504), ∀ a x, ((![v1390, v1358, v1504] : Fin 3 → IVec S16 32) a x).toNat < S2x64x128.size a := fun v1358 v1390 v1504 k2_hw163 => k2_hw163

def k2_chk164 (v1358 : IVec S16 32) (v1390 : IVec S16 32) (v1507 : IVec S16 32) : Prop :=
  (∀ a x, ((![v1390, v1358, v1507] : Fin 3 → IVec S16 32) a x).toNat < S2x64x128.size a)
theorem k2_idx164_inb : ∀ (v1358 : IVec S16 32) (v1390 : IVec S16 32) (v1507 : IVec S16 32) (k2_hw164 : k2_chk164 v1358 v1390 v1507), ∀ a x, ((![v1390, v1358, v1507] : Fin 3 → IVec S16 32) a x).toNat < S2x64x128.size a := fun v1358 v1390 v1507 k2_hw164 => k2_hw164

def k2_chk165 (v1358 : IVec S16 32) (v1390 : IVec S16 32) (v1512 : IVec S16 32) : Prop :=
  (∀ a x, ((![v1390, v1358, v1512] : Fin 3 → IVec S16 32) a x).toNat < S2x64x128.size a)
theorem k2_idx165_inb : ∀ (v1358 : IVec S16 32) (v1390 : IVec S16 32) (v1512 : IVec S16 32) (k2_hw165 : k2_chk165 v1358 v1390 v1512), ∀ a x, ((![v1390, v1358, v1512] : Fin 3 → IVec S16 32) a x).toNat < S2x64x128.size a := fun v1358 v1390 v1512 k2_hw165 => k2_hw165

def k2_chk166 (v1358 : IVec S16 32) (v1390 : IVec S16 32) (v1515 : IVec S16 32) : Prop :=
  (∀ a x, ((![v1390, v1358, v1515] : Fin 3 → IVec S16 32) a x).toNat < S2x64x128.size a)
theorem k2_idx166_inb : ∀ (v1358 : IVec S16 32) (v1390 : IVec S16 32) (v1515 : IVec S16 32) (k2_hw166 : k2_chk166 v1358 v1390 v1515), ∀ a x, ((![v1390, v1358, v1515] : Fin 3 → IVec S16 32) a x).toNat < S2x64x128.size a := fun v1358 v1390 v1515 k2_hw166 => k2_hw166

def k2_chk167 (v1358 : IVec S16 32) (v1390 : IVec S16 32) (v1520 : IVec S16 32) : Prop :=
  (∀ a x, ((![v1390, v1358, v1520] : Fin 3 → IVec S16 32) a x).toNat < S2x64x128.size a)
theorem k2_idx167_inb : ∀ (v1358 : IVec S16 32) (v1390 : IVec S16 32) (v1520 : IVec S16 32) (k2_hw167 : k2_chk167 v1358 v1390 v1520), ∀ a x, ((![v1390, v1358, v1520] : Fin 3 → IVec S16 32) a x).toNat < S2x64x128.size a := fun v1358 v1390 v1520 k2_hw167 => k2_hw167

def k2_chk168 (v1358 : IVec S16 32) (v1390 : IVec S16 32) (v1523 : IVec S16 32) : Prop :=
  (∀ a x, ((![v1390, v1358, v1523] : Fin 3 → IVec S16 32) a x).toNat < S2x64x128.size a)
theorem k2_idx168_inb : ∀ (v1358 : IVec S16 32) (v1390 : IVec S16 32) (v1523 : IVec S16 32) (k2_hw168 : k2_chk168 v1358 v1390 v1523), ∀ a x, ((![v1390, v1358, v1523] : Fin 3 → IVec S16 32) a x).toNat < S2x64x128.size a := fun v1358 v1390 v1523 k2_hw168 => k2_hw168

def k2_chk169 (v1358 : IVec S16 32) (v1390 : IVec S16 32) (v1528 : IVec S16 32) : Prop :=
  (∀ a x, ((![v1390, v1358, v1528] : Fin 3 → IVec S16 32) a x).toNat < S2x64x128.size a)
theorem k2_idx169_inb : ∀ (v1358 : IVec S16 32) (v1390 : IVec S16 32) (v1528 : IVec S16 32) (k2_hw169 : k2_chk169 v1358 v1390 v1528), ∀ a x, ((![v1390, v1358, v1528] : Fin 3 → IVec S16 32) a x).toNat < S2x64x128.size a := fun v1358 v1390 v1528 k2_hw169 => k2_hw169

def k2_chk170 (v1358 : IVec S16 32) (v1390 : IVec S16 32) (v1531 : IVec S16 32) : Prop :=
  (∀ a x, ((![v1390, v1358, v1531] : Fin 3 → IVec S16 32) a x).toNat < S2x64x128.size a)
theorem k2_idx170_inb : ∀ (v1358 : IVec S16 32) (v1390 : IVec S16 32) (v1531 : IVec S16 32) (k2_hw170 : k2_chk170 v1358 v1390 v1531), ∀ a x, ((![v1390, v1358, v1531] : Fin 3 → IVec S16 32) a x).toNat < S2x64x128.size a := fun v1358 v1390 v1531 k2_hw170 => k2_hw170

def k2_chk171 (v1358 : IVec S16 32) (v1390 : IVec S16 32) (v1536 : IVec S16 32) : Prop :=
  (∀ a x, ((![v1390, v1358, v1536] : Fin 3 → IVec S16 32) a x).toNat < S2x64x128.size a)
theorem k2_idx171_inb : ∀ (v1358 : IVec S16 32) (v1390 : IVec S16 32) (v1536 : IVec S16 32) (k2_hw171 : k2_chk171 v1358 v1390 v1536), ∀ a x, ((![v1390, v1358, v1536] : Fin 3 → IVec S16 32) a x).toNat < S2x64x128.size a := fun v1358 v1390 v1536 k2_hw171 => k2_hw171

def k2_chk172 (v1358 : IVec S16 32) (v1390 : IVec S16 32) (v1539 : IVec S16 32) : Prop :=
  (∀ a x, ((![v1390, v1358, v1539] : Fin 3 → IVec S16 32) a x).toNat < S2x64x128.size a)
theorem k2_idx172_inb : ∀ (v1358 : IVec S16 32) (v1390 : IVec S16 32) (v1539 : IVec S16 32) (k2_hw172 : k2_chk172 v1358 v1390 v1539), ∀ a x, ((![v1390, v1358, v1539] : Fin 3 → IVec S16 32) a x).toNat < S2x64x128.size a := fun v1358 v1390 v1539 k2_hw172 => k2_hw172

def k2_chk173 (v1358 : IVec S16 32) (v1390 : IVec S16 32) (v1544 : IVec S16 32) : Prop :=
  (∀ a x, ((![v1390, v1358, v1544] : Fin 3 → IVec S16 32) a x).toNat < S2x64x128.size a)
theorem k2_idx173_inb : ∀ (v1358 : IVec S16 32) (v1390 : IVec S16 32) (v1544 : IVec S16 32) (k2_hw173 : k2_chk173 v1358 v1390 v1544), ∀ a x, ((![v1390, v1358, v1544] : Fin 3 → IVec S16 32) a x).toNat < S2x64x128.size a := fun v1358 v1390 v1544 k2_hw173 => k2_hw173

def k2_chk174 (v1358 : IVec S16 32) (v1390 : IVec S16 32) (v1547 : IVec S16 32) : Prop :=
  (∀ a x, ((![v1390, v1358, v1547] : Fin 3 → IVec S16 32) a x).toNat < S2x64x128.size a)
theorem k2_idx174_inb : ∀ (v1358 : IVec S16 32) (v1390 : IVec S16 32) (v1547 : IVec S16 32) (k2_hw174 : k2_chk174 v1358 v1390 v1547), ∀ a x, ((![v1390, v1358, v1547] : Fin 3 → IVec S16 32) a x).toNat < S2x64x128.size a := fun v1358 v1390 v1547 k2_hw174 => k2_hw174

def k2_chk175 (v1358 : IVec S16 32) (v1390 : IVec S16 32) (v1552 : IVec S16 32) : Prop :=
  (∀ a x, ((![v1390, v1358, v1552] : Fin 3 → IVec S16 32) a x).toNat < S2x64x128.size a)
theorem k2_idx175_inb : ∀ (v1358 : IVec S16 32) (v1390 : IVec S16 32) (v1552 : IVec S16 32) (k2_hw175 : k2_chk175 v1358 v1390 v1552), ∀ a x, ((![v1390, v1358, v1552] : Fin 3 → IVec S16 32) a x).toNat < S2x64x128.size a := fun v1358 v1390 v1552 k2_hw175 => k2_hw175

def k2_chk176 (v1358 : IVec S16 32) (v1390 : IVec S16 32) (v1555 : IVec S16 32) : Prop :=
  (∀ a x, ((![v1390, v1358, v1555] : Fin 3 → IVec S16 32) a x).toNat < S2x64x128.size a)
theorem k2_idx176_inb : ∀ (v1358 : IVec S16 32) (v1390 : IVec S16 32) (v1555 : IVec S16 32) (k2_hw176 : k2_chk176 v1358 v1390 v1555), ∀ a x, ((![v1390, v1358, v1555] : Fin 3 → IVec S16 32) a x).toNat < S2x64x128.size a := fun v1358 v1390 v1555 k2_hw176 => k2_hw176

def k2_chk177 (v1358 : IVec S16 32) (v1390 : IVec S16 32) (v1560 : IVec S16 32) : Prop :=
  (∀ a x, ((![v1390, v1358, v1560] : Fin 3 → IVec S16 32) a x).toNat < S2x64x128.size a)
theorem k2_idx177_inb : ∀ (v1358 : IVec S16 32) (v1390 : IVec S16 32) (v1560 : IVec S16 32) (k2_hw177 : k2_chk177 v1358 v1390 v1560), ∀ a x, ((![v1390, v1358, v1560] : Fin 3 → IVec S16 32) a x).toNat < S2x64x128.size a := fun v1358 v1390 v1560 k2_hw177 => k2_hw177

def k2_chk178 (v1358 : IVec S16 32) (v1390 : IVec S16 32) (v1563 : IVec S16 32) : Prop :=
  (∀ a x, ((![v1390, v1358, v1563] : Fin 3 → IVec S16 32) a x).toNat < S2x64x128.size a)
theorem k2_idx178_inb : ∀ (v1358 : IVec S16 32) (v1390 : IVec S16 32) (v1563 : IVec S16 32) (k2_hw178 : k2_chk178 v1358 v1390 v1563), ∀ a x, ((![v1390, v1358, v1563] : Fin 3 → IVec S16 32) a x).toNat < S2x64x128.size a := fun v1358 v1390 v1563 k2_hw178 => k2_hw178

def k2_chk179 (v1358 : IVec S16 32) (v1390 : IVec S16 32) (v1568 : IVec S16 32) : Prop :=
  (∀ a x, ((![v1390, v1358, v1568] : Fin 3 → IVec S16 32) a x).toNat < S2x64x128.size a)
theorem k2_idx179_inb : ∀ (v1358 : IVec S16 32) (v1390 : IVec S16 32) (v1568 : IVec S16 32) (k2_hw179 : k2_chk179 v1358 v1390 v1568), ∀ a x, ((![v1390, v1358, v1568] : Fin 3 → IVec S16 32) a x).toNat < S2x64x128.size a := fun v1358 v1390 v1568 k2_hw179 => k2_hw179

def k2_chk180 (v1358 : IVec S16 32) (v1390 : IVec S16 32) (v1571 : IVec S16 32) : Prop :=
  (∀ a x, ((![v1390, v1358, v1571] : Fin 3 → IVec S16 32) a x).toNat < S2x64x128.size a)
theorem k2_idx180_inb : ∀ (v1358 : IVec S16 32) (v1390 : IVec S16 32) (v1571 : IVec S16 32) (k2_hw180 : k2_chk180 v1358 v1390 v1571), ∀ a x, ((![v1390, v1358, v1571] : Fin 3 → IVec S16 32) a x).toNat < S2x64x128.size a := fun v1358 v1390 v1571 k2_hw180 => k2_hw180

def k2_chk181 (v1358 : IVec S16 32) (v1390 : IVec S16 32) (v1576 : IVec S16 32) : Prop :=
  (∀ a x, ((![v1390, v1358, v1576] : Fin 3 → IVec S16 32) a x).toNat < S2x64x128.size a)
theorem k2_idx181_inb : ∀ (v1358 : IVec S16 32) (v1390 : IVec S16 32) (v1576 : IVec S16 32) (k2_hw181 : k2_chk181 v1358 v1390 v1576), ∀ a x, ((![v1390, v1358, v1576] : Fin 3 → IVec S16 32) a x).toNat < S2x64x128.size a := fun v1358 v1390 v1576 k2_hw181 => k2_hw181

def k2_chk182 (v1358 : IVec S16 32) (v1390 : IVec S16 32) (v1579 : IVec S16 32) : Prop :=
  (∀ a x, ((![v1390, v1358, v1579] : Fin 3 → IVec S16 32) a x).toNat < S2x64x128.size a)
theorem k2_idx182_inb : ∀ (v1358 : IVec S16 32) (v1390 : IVec S16 32) (v1579 : IVec S16 32) (k2_hw182 : k2_chk182 v1358 v1390 v1579), ∀ a x, ((![v1390, v1358, v1579] : Fin 3 → IVec S16 32) a x).toNat < S2x64x128.size a := fun v1358 v1390 v1579 k2_hw182 => k2_hw182

def k2_chk183 (v1358 : IVec S16 32) (v1390 : IVec S16 32) (v1584 : IVec S16 32) : Prop :=
  (∀ a x, ((![v1390, v1358, v1584] : Fin 3 → IVec S16 32) a x).toNat < S2x64x128.size a)
theorem k2_idx183_inb : ∀ (v1358 : IVec S16 32) (v1390 : IVec S16 32) (v1584 : IVec S16 32) (k2_hw183 : k2_chk183 v1358 v1390 v1584), ∀ a x, ((![v1390, v1358, v1584] : Fin 3 → IVec S16 32) a x).toNat < S2x64x128.size a := fun v1358 v1390 v1584 k2_hw183 => k2_hw183

def k2_chk184 (v1358 : IVec S16 32) (v1390 : IVec S16 32) (v1587 : IVec S16 32) : Prop :=
  (∀ a x, ((![v1390, v1358, v1587] : Fin 3 → IVec S16 32) a x).toNat < S2x64x128.size a)
theorem k2_idx184_inb : ∀ (v1358 : IVec S16 32) (v1390 : IVec S16 32) (v1587 : IVec S16 32) (k2_hw184 : k2_chk184 v1358 v1390 v1587), ∀ a x, ((![v1390, v1358, v1587] : Fin 3 → IVec S16 32) a x).toNat < S2x64x128.size a := fun v1358 v1390 v1587 k2_hw184 => k2_hw184

def k2_chk185 (v1358 : IVec S16 32) (v1390 : IVec S16 32) (v1592 : IVec S16 32) : Prop :=
  (∀ a x, ((![v1390, v1358, v1592] : Fin 3 → IVec S16 32) a x).toNat < S2x64x128.size a)
theorem k2_idx185_inb : ∀ (v1358 : IVec S16 32) (v1390 : IVec S16 32) (v1592 : IVec S16 32) (k2_hw185 : k2_chk185 v1358 v1390 v1592), ∀ a x, ((![v1390, v1358, v1592] : Fin 3 → IVec S16 32) a x).toNat < S2x64x128.size a := fun v1358 v1390 v1592 k2_hw185 => k2_hw185

def k2_chk186 (v1358 : IVec S16 32) (v1390 : IVec S16 32) (v1595 : IVec S16 32) : Prop :=
  (∀ a x, ((![v1390, v1358, v1595] : Fin 3 → IVec S16 32) a x).toNat < S2x64x128.size a)
theorem k2_idx186_inb : ∀ (v1358 : IVec S16 32) (v1390 : IVec S16 32) (v1595 : IVec S16 32) (k2_hw186 : k2_chk186 v1358 v1390 v1595), ∀ a x, ((![v1390, v1358, v1595] : Fin 3 → IVec S16 32) a x).toNat < S2x64x128.size a := fun v1358 v1390 v1595 k2_hw186 => k2_hw186

def k2_chk187 (v1358 : IVec S16 32) (v1390 : IVec S16 32) (v1600 : IVec S16 32) : Prop :=
  (∀ a x, ((![v1390, v1358, v1600] : Fin 3 → IVec S16 32) a x).toNat < S2x64x128.size a)
theorem k2_idx187_inb : ∀ (v1358 : IVec S16 32) (v1390 : IVec S16 32) (v1600 : IVec S16 32) (k2_hw187 : k2_chk187 v1358 v1390 v1600), ∀ a x, ((![v1390, v1358, v1600] : Fin 3 → IVec S16 32) a x).toNat < S2x64x128.size a := fun v1358 v1390 v1600 k2_hw187 => k2_hw187

def k2_chk188 (v1358 : IVec S16 32) (v1390 : IVec S16 32) (v1603 : IVec S16 32) : Prop :=
  (∀ a x, ((![v1390, v1358, v1603] : Fin 3 → IVec S16 32) a x).toNat < S2x64x128.size a)
theorem k2_idx188_inb : ∀ (v1358 : IVec S16 32) (v1390 : IVec S16 32) (v1603 : IVec S16 32) (k2_hw188 : k2_chk188 v1358 v1390 v1603), ∀ a x, ((![v1390, v1358, v1603] : Fin 3 → IVec S16 32) a x).toNat < S2x64x128.size a := fun v1358 v1390 v1603 k2_hw188 => k2_hw188

def k2_chk189 (v1358 : IVec S16 32) (v1390 : IVec S16 32) (v1608 : IVec S16 32) : Prop :=
  (∀ a x, ((![v1390, v1358, v1608] : Fin 3 → IVec S16 32) a x).toNat < S2x64x128.size a)
theorem k2_idx189_inb : ∀ (v1358 : IVec S16 32) (v1390 : IVec S16 32) (v1608 : IVec S16 32) (k2_hw189 : k2_chk189 v1358 v1390 v1608), ∀ a x, ((![v1390, v1358, v1608] : Fin 3 → IVec S16 32) a x).toNat < S2x64x128.size a := fun v1358 v1390 v1608 k2_hw189 => k2_hw189

def k2_chk190 (v1358 : IVec S16 32) (v1390 : IVec S16 32) (v1611 : IVec S16 32) : Prop :=
  (∀ a x, ((![v1390, v1358, v1611] : Fin 3 → IVec S16 32) a x).toNat < S2x64x128.size a)
theorem k2_idx190_inb : ∀ (v1358 : IVec S16 32) (v1390 : IVec S16 32) (v1611 : IVec S16 32) (k2_hw190 : k2_chk190 v1358 v1390 v1611), ∀ a x, ((![v1390, v1358, v1611] : Fin 3 → IVec S16 32) a x).toNat < S2x64x128.size a := fun v1358 v1390 v1611 k2_hw190 => k2_hw190

def k2_chk191 (v1358 : IVec S16 32) (v1390 : IVec S16 32) (v1616 : IVec S16 32) : Prop :=
  (∀ a x, ((![v1390, v1358, v1616] : Fin 3 → IVec S16 32) a x).toNat < S2x64x128.size a)
theorem k2_idx191_inb : ∀ (v1358 : IVec S16 32) (v1390 : IVec S16 32) (v1616 : IVec S16 32) (k2_hw191 : k2_chk191 v1358 v1390 v1616), ∀ a x, ((![v1390, v1358, v1616] : Fin 3 → IVec S16 32) a x).toNat < S2x64x128.size a := fun v1358 v1390 v1616 k2_hw191 => k2_hw191

def k2_chk192 (v1358 : IVec S16 32) (v1390 : IVec S16 32) (v1619 : IVec S16 32) : Prop :=
  (∀ a x, ((![v1390, v1358, v1619] : Fin 3 → IVec S16 32) a x).toNat < S2x64x128.size a)
theorem k2_idx192_inb : ∀ (v1358 : IVec S16 32) (v1390 : IVec S16 32) (v1619 : IVec S16 32) (k2_hw192 : k2_chk192 v1358 v1390 v1619), ∀ a x, ((![v1390, v1358, v1619] : Fin 3 → IVec S16 32) a x).toNat < S2x64x128.size a := fun v1358 v1390 v1619 k2_hw192 => k2_hw192

def k2_chk193 (v1358 : IVec S16 32) (v1390 : IVec S16 32) (v1624 : IVec S16 32) : Prop :=
  (∀ a x, ((![v1390, v1358, v1624] : Fin 3 → IVec S16 32) a x).toNat < S2x64x128.size a)
theorem k2_idx193_inb : ∀ (v1358 : IVec S16 32) (v1390 : IVec S16 32) (v1624 : IVec S16 32) (k2_hw193 : k2_chk193 v1358 v1390 v1624), ∀ a x, ((![v1390, v1358, v1624] : Fin 3 → IVec S16 32) a x).toNat < S2x64x128.size a := fun v1358 v1390 v1624 k2_hw193 => k2_hw193

def k2_chk194 (v1358 : IVec S16 32) (v1390 : IVec S16 32) (v1627 : IVec S16 32) : Prop :=
  (∀ a x, ((![v1390, v1358, v1627] : Fin 3 → IVec S16 32) a x).toNat < S2x64x128.size a)
theorem k2_idx194_inb : ∀ (v1358 : IVec S16 32) (v1390 : IVec S16 32) (v1627 : IVec S16 32) (k2_hw194 : k2_chk194 v1358 v1390 v1627), ∀ a x, ((![v1390, v1358, v1627] : Fin 3 → IVec S16 32) a x).toNat < S2x64x128.size a := fun v1358 v1390 v1627 k2_hw194 => k2_hw194

def k2_chk195 (v1358 : IVec S16 32) (v1390 : IVec S16 32) (v1632 : IVec S16 32) : Prop :=
  (∀ a x, ((![v1390, v1358, v1632] : Fin 3 → IVec S16 32) a x).toNat < S2x64x128.size a)
theorem k2_idx195_inb : ∀ (v1358 : IVec S16 32) (v1390 : IVec S16 32) (v1632 : IVec S16 32) (k2_hw195 : k2_chk195 v1358 v1390 v1632), ∀ a x, ((![v1390, v1358, v1632] : Fin 3 → IVec S16 32) a x).toNat < S2x64x128.size a := fun v1358 v1390 v1632 k2_hw195 => k2_hw195

def k2_chk196 (v1358 : IVec S16 32) (v1390 : IVec S16 32) (v1635 : IVec S16 32) : Prop :=
  (∀ a x, ((![v1390, v1358, v1635] : Fin 3 → IVec S16 32) a x).toNat < S2x64x128.size a)
theorem k2_idx196_inb : ∀ (v1358 : IVec S16 32) (v1390 : IVec S16 32) (v1635 : IVec S16 32) (k2_hw196 : k2_chk196 v1358 v1390 v1635), ∀ a x, ((![v1390, v1358, v1635] : Fin 3 → IVec S16 32) a x).toNat < S2x64x128.size a := fun v1358 v1390 v1635 k2_hw196 => k2_hw196

def k2_chk197 (v1358 : IVec S16 32) (v1390 : IVec S16 32) (v1640 : IVec S16 32) : Prop :=
  (∀ a x, ((![v1390, v1358, v1640] : Fin 3 → IVec S16 32) a x).toNat < S2x64x128.size a)
theorem k2_idx197_inb : ∀ (v1358 : IVec S16 32) (v1390 : IVec S16 32) (v1640 : IVec S16 32) (k2_hw197 : k2_chk197 v1358 v1390 v1640), ∀ a x, ((![v1390, v1358, v1640] : Fin 3 → IVec S16 32) a x).toNat < S2x64x128.size a := fun v1358 v1390 v1640 k2_hw197 => k2_hw197

def k2_chk198 (v1358 : IVec S16 32) (v1390 : IVec S16 32) (v1643 : IVec S16 32) : Prop :=
  (∀ a x, ((![v1390, v1358, v1643] : Fin 3 → IVec S16 32) a x).toNat < S2x64x128.size a)
theorem k2_idx198_inb : ∀ (v1358 : IVec S16 32) (v1390 : IVec S16 32) (v1643 : IVec S16 32) (k2_hw198 : k2_chk198 v1358 v1390 v1643), ∀ a x, ((![v1390, v1358, v1643] : Fin 3 → IVec S16 32) a x).toNat < S2x64x128.size a := fun v1358 v1390 v1643 k2_hw198 => k2_hw198
def k2_off7 (k2_t3 : Fin k2_t3_loop.trips) : Fin 1 → Nat :=
  let c128_i32_1269 : BitVec 32 := 128#32
  let c0_i32_560 : BitVec 32 := 0#32
  let c1_i32_562 : BitVec 32 := 1#32
  let arg19 : BitVec 32 := Scf.iv c0_i32_560 c1_i32_562 k2_t3
  let c16_i32_1268 : BitVec 32 := 16#32
  let v1647 : BitVec 32 := Scalar.muli arg19 c16_i32_1268
  let v1648 : BitVec 32 := Scalar.addi c128_i32_1269 v1647
  let v1649 : Index := Scalar.indexCast v1648
  ![v1649.toNat]
@[reducible] def k2_t4_loop : Scf.Loop 32 :=
  let c0_i32_713 : BitVec 32 := 0#32
  let c4_i32_714 : BitVec 32 := 4#32
  let v827 : BitVec 32 := Scalar.addi c0_i32_713 c4_i32_714
  let c1_i32_715 : BitVec 32 := 1#32
  ⟨c0_i32_713, v827, c1_i32_715⟩
def k2_off8 (k2_t4 : Fin k2_t4_loop.trips) : Fin 1 → Nat :=
  let c192_i32 : BitVec 32 := 192#32
  let c0_i32_713 : BitVec 32 := 0#32
  let c1_i32_715 : BitVec 32 := 1#32
  let arg19 : BitVec 32 := Scf.iv c0_i32_713 c1_i32_715 k2_t4
  let c16_i32_1214 : BitVec 32 := 16#32
  let v1359 : BitVec 32 := Scalar.muli arg19 c16_i32_1214
  let v1360 : BitVec 32 := Scalar.addi c192_i32 v1359
  let v1361 : Index := Scalar.indexCast v1360
  ![v1361.toNat]

def k2_chk199 (v1358 : IVec S16 32) (v1367 : IVec S16 32) (v1369 : IVec S16 32) : Prop :=
  (∀ a x, ((![v1367, v1358, v1369] : Fin 3 → IVec S16 32) a x).toNat < S2x64x128.size a)
theorem k2_idx199_inb : ∀ (v1358 : IVec S16 32) (v1367 : IVec S16 32) (v1369 : IVec S16 32) (k2_hw199 : k2_chk199 v1358 v1367 v1369), ∀ a x, ((![v1367, v1358, v1369] : Fin 3 → IVec S16 32) a x).toNat < S2x64x128.size a := fun v1358 v1367 v1369 k2_hw199 => k2_hw199

def k2_chk200 (v1358 : IVec S16 32) (v1373 : IVec S16 32) (v1375 : IVec S16 32) : Prop :=
  (∀ a x, ((![v1373, v1358, v1375] : Fin 3 → IVec S16 32) a x).toNat < S2x64x128.size a)
theorem k2_idx200_inb : ∀ (v1358 : IVec S16 32) (v1373 : IVec S16 32) (v1375 : IVec S16 32) (k2_hw200 : k2_chk200 v1358 v1373 v1375), ∀ a x, ((![v1373, v1358, v1375] : Fin 3 → IVec S16 32) a x).toNat < S2x64x128.size a := fun v1358 v1373 v1375 k2_hw200 => k2_hw200

def k2_chk201 (v1358 : IVec S16 32) (v1390 : IVec S16 32) (v1392 : IVec S16 32) : Prop :=
  (∀ a x, ((![v1390, v1358, v1392] : Fin 3 → IVec S16 32) a x).toNat < S2x64x128.size a)
theorem k2_idx201_inb : ∀ (v1358 : IVec S16 32) (v1390 : IVec S16 32) (v1392 : IVec S16 32) (k2_hw201 : k2_chk201 v1358 v1390 v1392), ∀ a x, ((![v1390, v1358, v1392] : Fin 3 → IVec S16 32) a x).toNat < S2x64x128.size a := fun v1358 v1390 v1392 k2_hw201 => k2_hw201

def k2_chk202 (v1358 : IVec S16 32) (v1390 : IVec S16 32) (v1395 : IVec S16 32) : Prop :=
  (∀ a x, ((![v1390, v1358, v1395] : Fin 3 → IVec S16 32) a x).toNat < S2x64x128.size a)
theorem k2_idx202_inb : ∀ (v1358 : IVec S16 32) (v1390 : IVec S16 32) (v1395 : IVec S16 32) (k2_hw202 : k2_chk202 v1358 v1390 v1395), ∀ a x, ((![v1390, v1358, v1395] : Fin 3 → IVec S16 32) a x).toNat < S2x64x128.size a := fun v1358 v1390 v1395 k2_hw202 => k2_hw202

def k2_chk203 (v1358 : IVec S16 32) (v1390 : IVec S16 32) (v1400 : IVec S16 32) : Prop :=
  (∀ a x, ((![v1390, v1358, v1400] : Fin 3 → IVec S16 32) a x).toNat < S2x64x128.size a)
theorem k2_idx203_inb : ∀ (v1358 : IVec S16 32) (v1390 : IVec S16 32) (v1400 : IVec S16 32) (k2_hw203 : k2_chk203 v1358 v1390 v1400), ∀ a x, ((![v1390, v1358, v1400] : Fin 3 → IVec S16 32) a x).toNat < S2x64x128.size a := fun v1358 v1390 v1400 k2_hw203 => k2_hw203

def k2_chk204 (v1358 : IVec S16 32) (v1390 : IVec S16 32) (v1403 : IVec S16 32) : Prop :=
  (∀ a x, ((![v1390, v1358, v1403] : Fin 3 → IVec S16 32) a x).toNat < S2x64x128.size a)
theorem k2_idx204_inb : ∀ (v1358 : IVec S16 32) (v1390 : IVec S16 32) (v1403 : IVec S16 32) (k2_hw204 : k2_chk204 v1358 v1390 v1403), ∀ a x, ((![v1390, v1358, v1403] : Fin 3 → IVec S16 32) a x).toNat < S2x64x128.size a := fun v1358 v1390 v1403 k2_hw204 => k2_hw204

def k2_chk205 (v1358 : IVec S16 32) (v1390 : IVec S16 32) (v1408 : IVec S16 32) : Prop :=
  (∀ a x, ((![v1390, v1358, v1408] : Fin 3 → IVec S16 32) a x).toNat < S2x64x128.size a)
theorem k2_idx205_inb : ∀ (v1358 : IVec S16 32) (v1390 : IVec S16 32) (v1408 : IVec S16 32) (k2_hw205 : k2_chk205 v1358 v1390 v1408), ∀ a x, ((![v1390, v1358, v1408] : Fin 3 → IVec S16 32) a x).toNat < S2x64x128.size a := fun v1358 v1390 v1408 k2_hw205 => k2_hw205

def k2_chk206 (v1358 : IVec S16 32) (v1390 : IVec S16 32) (v1411 : IVec S16 32) : Prop :=
  (∀ a x, ((![v1390, v1358, v1411] : Fin 3 → IVec S16 32) a x).toNat < S2x64x128.size a)
theorem k2_idx206_inb : ∀ (v1358 : IVec S16 32) (v1390 : IVec S16 32) (v1411 : IVec S16 32) (k2_hw206 : k2_chk206 v1358 v1390 v1411), ∀ a x, ((![v1390, v1358, v1411] : Fin 3 → IVec S16 32) a x).toNat < S2x64x128.size a := fun v1358 v1390 v1411 k2_hw206 => k2_hw206

def k2_chk207 (v1358 : IVec S16 32) (v1390 : IVec S16 32) (v1416 : IVec S16 32) : Prop :=
  (∀ a x, ((![v1390, v1358, v1416] : Fin 3 → IVec S16 32) a x).toNat < S2x64x128.size a)
theorem k2_idx207_inb : ∀ (v1358 : IVec S16 32) (v1390 : IVec S16 32) (v1416 : IVec S16 32) (k2_hw207 : k2_chk207 v1358 v1390 v1416), ∀ a x, ((![v1390, v1358, v1416] : Fin 3 → IVec S16 32) a x).toNat < S2x64x128.size a := fun v1358 v1390 v1416 k2_hw207 => k2_hw207

def k2_chk208 (v1358 : IVec S16 32) (v1390 : IVec S16 32) (v1419 : IVec S16 32) : Prop :=
  (∀ a x, ((![v1390, v1358, v1419] : Fin 3 → IVec S16 32) a x).toNat < S2x64x128.size a)
theorem k2_idx208_inb : ∀ (v1358 : IVec S16 32) (v1390 : IVec S16 32) (v1419 : IVec S16 32) (k2_hw208 : k2_chk208 v1358 v1390 v1419), ∀ a x, ((![v1390, v1358, v1419] : Fin 3 → IVec S16 32) a x).toNat < S2x64x128.size a := fun v1358 v1390 v1419 k2_hw208 => k2_hw208

def k2_chk209 (v1358 : IVec S16 32) (v1390 : IVec S16 32) (v1424 : IVec S16 32) : Prop :=
  (∀ a x, ((![v1390, v1358, v1424] : Fin 3 → IVec S16 32) a x).toNat < S2x64x128.size a)
theorem k2_idx209_inb : ∀ (v1358 : IVec S16 32) (v1390 : IVec S16 32) (v1424 : IVec S16 32) (k2_hw209 : k2_chk209 v1358 v1390 v1424), ∀ a x, ((![v1390, v1358, v1424] : Fin 3 → IVec S16 32) a x).toNat < S2x64x128.size a := fun v1358 v1390 v1424 k2_hw209 => k2_hw209

def k2_chk210 (v1358 : IVec S16 32) (v1390 : IVec S16 32) (v1427 : IVec S16 32) : Prop :=
  (∀ a x, ((![v1390, v1358, v1427] : Fin 3 → IVec S16 32) a x).toNat < S2x64x128.size a)
theorem k2_idx210_inb : ∀ (v1358 : IVec S16 32) (v1390 : IVec S16 32) (v1427 : IVec S16 32) (k2_hw210 : k2_chk210 v1358 v1390 v1427), ∀ a x, ((![v1390, v1358, v1427] : Fin 3 → IVec S16 32) a x).toNat < S2x64x128.size a := fun v1358 v1390 v1427 k2_hw210 => k2_hw210

def k2_chk211 (v1358 : IVec S16 32) (v1390 : IVec S16 32) (v1432 : IVec S16 32) : Prop :=
  (∀ a x, ((![v1390, v1358, v1432] : Fin 3 → IVec S16 32) a x).toNat < S2x64x128.size a)
theorem k2_idx211_inb : ∀ (v1358 : IVec S16 32) (v1390 : IVec S16 32) (v1432 : IVec S16 32) (k2_hw211 : k2_chk211 v1358 v1390 v1432), ∀ a x, ((![v1390, v1358, v1432] : Fin 3 → IVec S16 32) a x).toNat < S2x64x128.size a := fun v1358 v1390 v1432 k2_hw211 => k2_hw211

def k2_chk212 (v1358 : IVec S16 32) (v1390 : IVec S16 32) (v1435 : IVec S16 32) : Prop :=
  (∀ a x, ((![v1390, v1358, v1435] : Fin 3 → IVec S16 32) a x).toNat < S2x64x128.size a)
theorem k2_idx212_inb : ∀ (v1358 : IVec S16 32) (v1390 : IVec S16 32) (v1435 : IVec S16 32) (k2_hw212 : k2_chk212 v1358 v1390 v1435), ∀ a x, ((![v1390, v1358, v1435] : Fin 3 → IVec S16 32) a x).toNat < S2x64x128.size a := fun v1358 v1390 v1435 k2_hw212 => k2_hw212

def k2_chk213 (v1358 : IVec S16 32) (v1390 : IVec S16 32) (v1440 : IVec S16 32) : Prop :=
  (∀ a x, ((![v1390, v1358, v1440] : Fin 3 → IVec S16 32) a x).toNat < S2x64x128.size a)
theorem k2_idx213_inb : ∀ (v1358 : IVec S16 32) (v1390 : IVec S16 32) (v1440 : IVec S16 32) (k2_hw213 : k2_chk213 v1358 v1390 v1440), ∀ a x, ((![v1390, v1358, v1440] : Fin 3 → IVec S16 32) a x).toNat < S2x64x128.size a := fun v1358 v1390 v1440 k2_hw213 => k2_hw213

def k2_chk214 (v1358 : IVec S16 32) (v1390 : IVec S16 32) (v1443 : IVec S16 32) : Prop :=
  (∀ a x, ((![v1390, v1358, v1443] : Fin 3 → IVec S16 32) a x).toNat < S2x64x128.size a)
theorem k2_idx214_inb : ∀ (v1358 : IVec S16 32) (v1390 : IVec S16 32) (v1443 : IVec S16 32) (k2_hw214 : k2_chk214 v1358 v1390 v1443), ∀ a x, ((![v1390, v1358, v1443] : Fin 3 → IVec S16 32) a x).toNat < S2x64x128.size a := fun v1358 v1390 v1443 k2_hw214 => k2_hw214

def k2_chk215 (v1358 : IVec S16 32) (v1390 : IVec S16 32) (v1448 : IVec S16 32) : Prop :=
  (∀ a x, ((![v1390, v1358, v1448] : Fin 3 → IVec S16 32) a x).toNat < S2x64x128.size a)
theorem k2_idx215_inb : ∀ (v1358 : IVec S16 32) (v1390 : IVec S16 32) (v1448 : IVec S16 32) (k2_hw215 : k2_chk215 v1358 v1390 v1448), ∀ a x, ((![v1390, v1358, v1448] : Fin 3 → IVec S16 32) a x).toNat < S2x64x128.size a := fun v1358 v1390 v1448 k2_hw215 => k2_hw215

def k2_chk216 (v1358 : IVec S16 32) (v1390 : IVec S16 32) (v1451 : IVec S16 32) : Prop :=
  (∀ a x, ((![v1390, v1358, v1451] : Fin 3 → IVec S16 32) a x).toNat < S2x64x128.size a)
theorem k2_idx216_inb : ∀ (v1358 : IVec S16 32) (v1390 : IVec S16 32) (v1451 : IVec S16 32) (k2_hw216 : k2_chk216 v1358 v1390 v1451), ∀ a x, ((![v1390, v1358, v1451] : Fin 3 → IVec S16 32) a x).toNat < S2x64x128.size a := fun v1358 v1390 v1451 k2_hw216 => k2_hw216

def k2_chk217 (v1358 : IVec S16 32) (v1390 : IVec S16 32) (v1456 : IVec S16 32) : Prop :=
  (∀ a x, ((![v1390, v1358, v1456] : Fin 3 → IVec S16 32) a x).toNat < S2x64x128.size a)
theorem k2_idx217_inb : ∀ (v1358 : IVec S16 32) (v1390 : IVec S16 32) (v1456 : IVec S16 32) (k2_hw217 : k2_chk217 v1358 v1390 v1456), ∀ a x, ((![v1390, v1358, v1456] : Fin 3 → IVec S16 32) a x).toNat < S2x64x128.size a := fun v1358 v1390 v1456 k2_hw217 => k2_hw217

def k2_chk218 (v1358 : IVec S16 32) (v1390 : IVec S16 32) (v1459 : IVec S16 32) : Prop :=
  (∀ a x, ((![v1390, v1358, v1459] : Fin 3 → IVec S16 32) a x).toNat < S2x64x128.size a)
theorem k2_idx218_inb : ∀ (v1358 : IVec S16 32) (v1390 : IVec S16 32) (v1459 : IVec S16 32) (k2_hw218 : k2_chk218 v1358 v1390 v1459), ∀ a x, ((![v1390, v1358, v1459] : Fin 3 → IVec S16 32) a x).toNat < S2x64x128.size a := fun v1358 v1390 v1459 k2_hw218 => k2_hw218

def k2_chk219 (v1358 : IVec S16 32) (v1390 : IVec S16 32) (v1464 : IVec S16 32) : Prop :=
  (∀ a x, ((![v1390, v1358, v1464] : Fin 3 → IVec S16 32) a x).toNat < S2x64x128.size a)
theorem k2_idx219_inb : ∀ (v1358 : IVec S16 32) (v1390 : IVec S16 32) (v1464 : IVec S16 32) (k2_hw219 : k2_chk219 v1358 v1390 v1464), ∀ a x, ((![v1390, v1358, v1464] : Fin 3 → IVec S16 32) a x).toNat < S2x64x128.size a := fun v1358 v1390 v1464 k2_hw219 => k2_hw219

def k2_chk220 (v1358 : IVec S16 32) (v1390 : IVec S16 32) (v1467 : IVec S16 32) : Prop :=
  (∀ a x, ((![v1390, v1358, v1467] : Fin 3 → IVec S16 32) a x).toNat < S2x64x128.size a)
theorem k2_idx220_inb : ∀ (v1358 : IVec S16 32) (v1390 : IVec S16 32) (v1467 : IVec S16 32) (k2_hw220 : k2_chk220 v1358 v1390 v1467), ∀ a x, ((![v1390, v1358, v1467] : Fin 3 → IVec S16 32) a x).toNat < S2x64x128.size a := fun v1358 v1390 v1467 k2_hw220 => k2_hw220

def k2_chk221 (v1358 : IVec S16 32) (v1390 : IVec S16 32) (v1472 : IVec S16 32) : Prop :=
  (∀ a x, ((![v1390, v1358, v1472] : Fin 3 → IVec S16 32) a x).toNat < S2x64x128.size a)
theorem k2_idx221_inb : ∀ (v1358 : IVec S16 32) (v1390 : IVec S16 32) (v1472 : IVec S16 32) (k2_hw221 : k2_chk221 v1358 v1390 v1472), ∀ a x, ((![v1390, v1358, v1472] : Fin 3 → IVec S16 32) a x).toNat < S2x64x128.size a := fun v1358 v1390 v1472 k2_hw221 => k2_hw221

def k2_chk222 (v1358 : IVec S16 32) (v1390 : IVec S16 32) (v1475 : IVec S16 32) : Prop :=
  (∀ a x, ((![v1390, v1358, v1475] : Fin 3 → IVec S16 32) a x).toNat < S2x64x128.size a)
theorem k2_idx222_inb : ∀ (v1358 : IVec S16 32) (v1390 : IVec S16 32) (v1475 : IVec S16 32) (k2_hw222 : k2_chk222 v1358 v1390 v1475), ∀ a x, ((![v1390, v1358, v1475] : Fin 3 → IVec S16 32) a x).toNat < S2x64x128.size a := fun v1358 v1390 v1475 k2_hw222 => k2_hw222

def k2_chk223 (v1358 : IVec S16 32) (v1390 : IVec S16 32) (v1480 : IVec S16 32) : Prop :=
  (∀ a x, ((![v1390, v1358, v1480] : Fin 3 → IVec S16 32) a x).toNat < S2x64x128.size a)
theorem k2_idx223_inb : ∀ (v1358 : IVec S16 32) (v1390 : IVec S16 32) (v1480 : IVec S16 32) (k2_hw223 : k2_chk223 v1358 v1390 v1480), ∀ a x, ((![v1390, v1358, v1480] : Fin 3 → IVec S16 32) a x).toNat < S2x64x128.size a := fun v1358 v1390 v1480 k2_hw223 => k2_hw223

def k2_chk224 (v1358 : IVec S16 32) (v1390 : IVec S16 32) (v1483 : IVec S16 32) : Prop :=
  (∀ a x, ((![v1390, v1358, v1483] : Fin 3 → IVec S16 32) a x).toNat < S2x64x128.size a)
theorem k2_idx224_inb : ∀ (v1358 : IVec S16 32) (v1390 : IVec S16 32) (v1483 : IVec S16 32) (k2_hw224 : k2_chk224 v1358 v1390 v1483), ∀ a x, ((![v1390, v1358, v1483] : Fin 3 → IVec S16 32) a x).toNat < S2x64x128.size a := fun v1358 v1390 v1483 k2_hw224 => k2_hw224

def k2_chk225 (v1358 : IVec S16 32) (v1390 : IVec S16 32) (v1488 : IVec S16 32) : Prop :=
  (∀ a x, ((![v1390, v1358, v1488] : Fin 3 → IVec S16 32) a x).toNat < S2x64x128.size a)
theorem k2_idx225_inb : ∀ (v1358 : IVec S16 32) (v1390 : IVec S16 32) (v1488 : IVec S16 32) (k2_hw225 : k2_chk225 v1358 v1390 v1488), ∀ a x, ((![v1390, v1358, v1488] : Fin 3 → IVec S16 32) a x).toNat < S2x64x128.size a := fun v1358 v1390 v1488 k2_hw225 => k2_hw225

def k2_chk226 (v1358 : IVec S16 32) (v1390 : IVec S16 32) (v1491 : IVec S16 32) : Prop :=
  (∀ a x, ((![v1390, v1358, v1491] : Fin 3 → IVec S16 32) a x).toNat < S2x64x128.size a)
theorem k2_idx226_inb : ∀ (v1358 : IVec S16 32) (v1390 : IVec S16 32) (v1491 : IVec S16 32) (k2_hw226 : k2_chk226 v1358 v1390 v1491), ∀ a x, ((![v1390, v1358, v1491] : Fin 3 → IVec S16 32) a x).toNat < S2x64x128.size a := fun v1358 v1390 v1491 k2_hw226 => k2_hw226

def k2_chk227 (v1358 : IVec S16 32) (v1390 : IVec S16 32) (v1496 : IVec S16 32) : Prop :=
  (∀ a x, ((![v1390, v1358, v1496] : Fin 3 → IVec S16 32) a x).toNat < S2x64x128.size a)
theorem k2_idx227_inb : ∀ (v1358 : IVec S16 32) (v1390 : IVec S16 32) (v1496 : IVec S16 32) (k2_hw227 : k2_chk227 v1358 v1390 v1496), ∀ a x, ((![v1390, v1358, v1496] : Fin 3 → IVec S16 32) a x).toNat < S2x64x128.size a := fun v1358 v1390 v1496 k2_hw227 => k2_hw227

def k2_chk228 (v1358 : IVec S16 32) (v1390 : IVec S16 32) (v1499 : IVec S16 32) : Prop :=
  (∀ a x, ((![v1390, v1358, v1499] : Fin 3 → IVec S16 32) a x).toNat < S2x64x128.size a)
theorem k2_idx228_inb : ∀ (v1358 : IVec S16 32) (v1390 : IVec S16 32) (v1499 : IVec S16 32) (k2_hw228 : k2_chk228 v1358 v1390 v1499), ∀ a x, ((![v1390, v1358, v1499] : Fin 3 → IVec S16 32) a x).toNat < S2x64x128.size a := fun v1358 v1390 v1499 k2_hw228 => k2_hw228

def k2_chk229 (v1358 : IVec S16 32) (v1390 : IVec S16 32) (v1504 : IVec S16 32) : Prop :=
  (∀ a x, ((![v1390, v1358, v1504] : Fin 3 → IVec S16 32) a x).toNat < S2x64x128.size a)
theorem k2_idx229_inb : ∀ (v1358 : IVec S16 32) (v1390 : IVec S16 32) (v1504 : IVec S16 32) (k2_hw229 : k2_chk229 v1358 v1390 v1504), ∀ a x, ((![v1390, v1358, v1504] : Fin 3 → IVec S16 32) a x).toNat < S2x64x128.size a := fun v1358 v1390 v1504 k2_hw229 => k2_hw229

def k2_chk230 (v1358 : IVec S16 32) (v1390 : IVec S16 32) (v1507 : IVec S16 32) : Prop :=
  (∀ a x, ((![v1390, v1358, v1507] : Fin 3 → IVec S16 32) a x).toNat < S2x64x128.size a)
theorem k2_idx230_inb : ∀ (v1358 : IVec S16 32) (v1390 : IVec S16 32) (v1507 : IVec S16 32) (k2_hw230 : k2_chk230 v1358 v1390 v1507), ∀ a x, ((![v1390, v1358, v1507] : Fin 3 → IVec S16 32) a x).toNat < S2x64x128.size a := fun v1358 v1390 v1507 k2_hw230 => k2_hw230

def k2_chk231 (v1358 : IVec S16 32) (v1390 : IVec S16 32) (v1512 : IVec S16 32) : Prop :=
  (∀ a x, ((![v1390, v1358, v1512] : Fin 3 → IVec S16 32) a x).toNat < S2x64x128.size a)
theorem k2_idx231_inb : ∀ (v1358 : IVec S16 32) (v1390 : IVec S16 32) (v1512 : IVec S16 32) (k2_hw231 : k2_chk231 v1358 v1390 v1512), ∀ a x, ((![v1390, v1358, v1512] : Fin 3 → IVec S16 32) a x).toNat < S2x64x128.size a := fun v1358 v1390 v1512 k2_hw231 => k2_hw231

def k2_chk232 (v1358 : IVec S16 32) (v1390 : IVec S16 32) (v1515 : IVec S16 32) : Prop :=
  (∀ a x, ((![v1390, v1358, v1515] : Fin 3 → IVec S16 32) a x).toNat < S2x64x128.size a)
theorem k2_idx232_inb : ∀ (v1358 : IVec S16 32) (v1390 : IVec S16 32) (v1515 : IVec S16 32) (k2_hw232 : k2_chk232 v1358 v1390 v1515), ∀ a x, ((![v1390, v1358, v1515] : Fin 3 → IVec S16 32) a x).toNat < S2x64x128.size a := fun v1358 v1390 v1515 k2_hw232 => k2_hw232

def k2_chk233 (v1358 : IVec S16 32) (v1390 : IVec S16 32) (v1520 : IVec S16 32) : Prop :=
  (∀ a x, ((![v1390, v1358, v1520] : Fin 3 → IVec S16 32) a x).toNat < S2x64x128.size a)
theorem k2_idx233_inb : ∀ (v1358 : IVec S16 32) (v1390 : IVec S16 32) (v1520 : IVec S16 32) (k2_hw233 : k2_chk233 v1358 v1390 v1520), ∀ a x, ((![v1390, v1358, v1520] : Fin 3 → IVec S16 32) a x).toNat < S2x64x128.size a := fun v1358 v1390 v1520 k2_hw233 => k2_hw233

def k2_chk234 (v1358 : IVec S16 32) (v1390 : IVec S16 32) (v1523 : IVec S16 32) : Prop :=
  (∀ a x, ((![v1390, v1358, v1523] : Fin 3 → IVec S16 32) a x).toNat < S2x64x128.size a)
theorem k2_idx234_inb : ∀ (v1358 : IVec S16 32) (v1390 : IVec S16 32) (v1523 : IVec S16 32) (k2_hw234 : k2_chk234 v1358 v1390 v1523), ∀ a x, ((![v1390, v1358, v1523] : Fin 3 → IVec S16 32) a x).toNat < S2x64x128.size a := fun v1358 v1390 v1523 k2_hw234 => k2_hw234

def k2_chk235 (v1358 : IVec S16 32) (v1390 : IVec S16 32) (v1528 : IVec S16 32) : Prop :=
  (∀ a x, ((![v1390, v1358, v1528] : Fin 3 → IVec S16 32) a x).toNat < S2x64x128.size a)
theorem k2_idx235_inb : ∀ (v1358 : IVec S16 32) (v1390 : IVec S16 32) (v1528 : IVec S16 32) (k2_hw235 : k2_chk235 v1358 v1390 v1528), ∀ a x, ((![v1390, v1358, v1528] : Fin 3 → IVec S16 32) a x).toNat < S2x64x128.size a := fun v1358 v1390 v1528 k2_hw235 => k2_hw235

def k2_chk236 (v1358 : IVec S16 32) (v1390 : IVec S16 32) (v1531 : IVec S16 32) : Prop :=
  (∀ a x, ((![v1390, v1358, v1531] : Fin 3 → IVec S16 32) a x).toNat < S2x64x128.size a)
theorem k2_idx236_inb : ∀ (v1358 : IVec S16 32) (v1390 : IVec S16 32) (v1531 : IVec S16 32) (k2_hw236 : k2_chk236 v1358 v1390 v1531), ∀ a x, ((![v1390, v1358, v1531] : Fin 3 → IVec S16 32) a x).toNat < S2x64x128.size a := fun v1358 v1390 v1531 k2_hw236 => k2_hw236

def k2_chk237 (v1358 : IVec S16 32) (v1390 : IVec S16 32) (v1536 : IVec S16 32) : Prop :=
  (∀ a x, ((![v1390, v1358, v1536] : Fin 3 → IVec S16 32) a x).toNat < S2x64x128.size a)
theorem k2_idx237_inb : ∀ (v1358 : IVec S16 32) (v1390 : IVec S16 32) (v1536 : IVec S16 32) (k2_hw237 : k2_chk237 v1358 v1390 v1536), ∀ a x, ((![v1390, v1358, v1536] : Fin 3 → IVec S16 32) a x).toNat < S2x64x128.size a := fun v1358 v1390 v1536 k2_hw237 => k2_hw237

def k2_chk238 (v1358 : IVec S16 32) (v1390 : IVec S16 32) (v1539 : IVec S16 32) : Prop :=
  (∀ a x, ((![v1390, v1358, v1539] : Fin 3 → IVec S16 32) a x).toNat < S2x64x128.size a)
theorem k2_idx238_inb : ∀ (v1358 : IVec S16 32) (v1390 : IVec S16 32) (v1539 : IVec S16 32) (k2_hw238 : k2_chk238 v1358 v1390 v1539), ∀ a x, ((![v1390, v1358, v1539] : Fin 3 → IVec S16 32) a x).toNat < S2x64x128.size a := fun v1358 v1390 v1539 k2_hw238 => k2_hw238

def k2_chk239 (v1358 : IVec S16 32) (v1390 : IVec S16 32) (v1544 : IVec S16 32) : Prop :=
  (∀ a x, ((![v1390, v1358, v1544] : Fin 3 → IVec S16 32) a x).toNat < S2x64x128.size a)
theorem k2_idx239_inb : ∀ (v1358 : IVec S16 32) (v1390 : IVec S16 32) (v1544 : IVec S16 32) (k2_hw239 : k2_chk239 v1358 v1390 v1544), ∀ a x, ((![v1390, v1358, v1544] : Fin 3 → IVec S16 32) a x).toNat < S2x64x128.size a := fun v1358 v1390 v1544 k2_hw239 => k2_hw239

def k2_chk240 (v1358 : IVec S16 32) (v1390 : IVec S16 32) (v1547 : IVec S16 32) : Prop :=
  (∀ a x, ((![v1390, v1358, v1547] : Fin 3 → IVec S16 32) a x).toNat < S2x64x128.size a)
theorem k2_idx240_inb : ∀ (v1358 : IVec S16 32) (v1390 : IVec S16 32) (v1547 : IVec S16 32) (k2_hw240 : k2_chk240 v1358 v1390 v1547), ∀ a x, ((![v1390, v1358, v1547] : Fin 3 → IVec S16 32) a x).toNat < S2x64x128.size a := fun v1358 v1390 v1547 k2_hw240 => k2_hw240

def k2_chk241 (v1358 : IVec S16 32) (v1390 : IVec S16 32) (v1552 : IVec S16 32) : Prop :=
  (∀ a x, ((![v1390, v1358, v1552] : Fin 3 → IVec S16 32) a x).toNat < S2x64x128.size a)
theorem k2_idx241_inb : ∀ (v1358 : IVec S16 32) (v1390 : IVec S16 32) (v1552 : IVec S16 32) (k2_hw241 : k2_chk241 v1358 v1390 v1552), ∀ a x, ((![v1390, v1358, v1552] : Fin 3 → IVec S16 32) a x).toNat < S2x64x128.size a := fun v1358 v1390 v1552 k2_hw241 => k2_hw241

def k2_chk242 (v1358 : IVec S16 32) (v1390 : IVec S16 32) (v1555 : IVec S16 32) : Prop :=
  (∀ a x, ((![v1390, v1358, v1555] : Fin 3 → IVec S16 32) a x).toNat < S2x64x128.size a)
theorem k2_idx242_inb : ∀ (v1358 : IVec S16 32) (v1390 : IVec S16 32) (v1555 : IVec S16 32) (k2_hw242 : k2_chk242 v1358 v1390 v1555), ∀ a x, ((![v1390, v1358, v1555] : Fin 3 → IVec S16 32) a x).toNat < S2x64x128.size a := fun v1358 v1390 v1555 k2_hw242 => k2_hw242

def k2_chk243 (v1358 : IVec S16 32) (v1390 : IVec S16 32) (v1560 : IVec S16 32) : Prop :=
  (∀ a x, ((![v1390, v1358, v1560] : Fin 3 → IVec S16 32) a x).toNat < S2x64x128.size a)
theorem k2_idx243_inb : ∀ (v1358 : IVec S16 32) (v1390 : IVec S16 32) (v1560 : IVec S16 32) (k2_hw243 : k2_chk243 v1358 v1390 v1560), ∀ a x, ((![v1390, v1358, v1560] : Fin 3 → IVec S16 32) a x).toNat < S2x64x128.size a := fun v1358 v1390 v1560 k2_hw243 => k2_hw243

def k2_chk244 (v1358 : IVec S16 32) (v1390 : IVec S16 32) (v1563 : IVec S16 32) : Prop :=
  (∀ a x, ((![v1390, v1358, v1563] : Fin 3 → IVec S16 32) a x).toNat < S2x64x128.size a)
theorem k2_idx244_inb : ∀ (v1358 : IVec S16 32) (v1390 : IVec S16 32) (v1563 : IVec S16 32) (k2_hw244 : k2_chk244 v1358 v1390 v1563), ∀ a x, ((![v1390, v1358, v1563] : Fin 3 → IVec S16 32) a x).toNat < S2x64x128.size a := fun v1358 v1390 v1563 k2_hw244 => k2_hw244

def k2_chk245 (v1358 : IVec S16 32) (v1390 : IVec S16 32) (v1568 : IVec S16 32) : Prop :=
  (∀ a x, ((![v1390, v1358, v1568] : Fin 3 → IVec S16 32) a x).toNat < S2x64x128.size a)
theorem k2_idx245_inb : ∀ (v1358 : IVec S16 32) (v1390 : IVec S16 32) (v1568 : IVec S16 32) (k2_hw245 : k2_chk245 v1358 v1390 v1568), ∀ a x, ((![v1390, v1358, v1568] : Fin 3 → IVec S16 32) a x).toNat < S2x64x128.size a := fun v1358 v1390 v1568 k2_hw245 => k2_hw245

def k2_chk246 (v1358 : IVec S16 32) (v1390 : IVec S16 32) (v1571 : IVec S16 32) : Prop :=
  (∀ a x, ((![v1390, v1358, v1571] : Fin 3 → IVec S16 32) a x).toNat < S2x64x128.size a)
theorem k2_idx246_inb : ∀ (v1358 : IVec S16 32) (v1390 : IVec S16 32) (v1571 : IVec S16 32) (k2_hw246 : k2_chk246 v1358 v1390 v1571), ∀ a x, ((![v1390, v1358, v1571] : Fin 3 → IVec S16 32) a x).toNat < S2x64x128.size a := fun v1358 v1390 v1571 k2_hw246 => k2_hw246

def k2_chk247 (v1358 : IVec S16 32) (v1390 : IVec S16 32) (v1576 : IVec S16 32) : Prop :=
  (∀ a x, ((![v1390, v1358, v1576] : Fin 3 → IVec S16 32) a x).toNat < S2x64x128.size a)
theorem k2_idx247_inb : ∀ (v1358 : IVec S16 32) (v1390 : IVec S16 32) (v1576 : IVec S16 32) (k2_hw247 : k2_chk247 v1358 v1390 v1576), ∀ a x, ((![v1390, v1358, v1576] : Fin 3 → IVec S16 32) a x).toNat < S2x64x128.size a := fun v1358 v1390 v1576 k2_hw247 => k2_hw247

def k2_chk248 (v1358 : IVec S16 32) (v1390 : IVec S16 32) (v1579 : IVec S16 32) : Prop :=
  (∀ a x, ((![v1390, v1358, v1579] : Fin 3 → IVec S16 32) a x).toNat < S2x64x128.size a)
theorem k2_idx248_inb : ∀ (v1358 : IVec S16 32) (v1390 : IVec S16 32) (v1579 : IVec S16 32) (k2_hw248 : k2_chk248 v1358 v1390 v1579), ∀ a x, ((![v1390, v1358, v1579] : Fin 3 → IVec S16 32) a x).toNat < S2x64x128.size a := fun v1358 v1390 v1579 k2_hw248 => k2_hw248

def k2_chk249 (v1358 : IVec S16 32) (v1390 : IVec S16 32) (v1584 : IVec S16 32) : Prop :=
  (∀ a x, ((![v1390, v1358, v1584] : Fin 3 → IVec S16 32) a x).toNat < S2x64x128.size a)
theorem k2_idx249_inb : ∀ (v1358 : IVec S16 32) (v1390 : IVec S16 32) (v1584 : IVec S16 32) (k2_hw249 : k2_chk249 v1358 v1390 v1584), ∀ a x, ((![v1390, v1358, v1584] : Fin 3 → IVec S16 32) a x).toNat < S2x64x128.size a := fun v1358 v1390 v1584 k2_hw249 => k2_hw249

def k2_chk250 (v1358 : IVec S16 32) (v1390 : IVec S16 32) (v1587 : IVec S16 32) : Prop :=
  (∀ a x, ((![v1390, v1358, v1587] : Fin 3 → IVec S16 32) a x).toNat < S2x64x128.size a)
theorem k2_idx250_inb : ∀ (v1358 : IVec S16 32) (v1390 : IVec S16 32) (v1587 : IVec S16 32) (k2_hw250 : k2_chk250 v1358 v1390 v1587), ∀ a x, ((![v1390, v1358, v1587] : Fin 3 → IVec S16 32) a x).toNat < S2x64x128.size a := fun v1358 v1390 v1587 k2_hw250 => k2_hw250

def k2_chk251 (v1358 : IVec S16 32) (v1390 : IVec S16 32) (v1592 : IVec S16 32) : Prop :=
  (∀ a x, ((![v1390, v1358, v1592] : Fin 3 → IVec S16 32) a x).toNat < S2x64x128.size a)
theorem k2_idx251_inb : ∀ (v1358 : IVec S16 32) (v1390 : IVec S16 32) (v1592 : IVec S16 32) (k2_hw251 : k2_chk251 v1358 v1390 v1592), ∀ a x, ((![v1390, v1358, v1592] : Fin 3 → IVec S16 32) a x).toNat < S2x64x128.size a := fun v1358 v1390 v1592 k2_hw251 => k2_hw251

def k2_chk252 (v1358 : IVec S16 32) (v1390 : IVec S16 32) (v1595 : IVec S16 32) : Prop :=
  (∀ a x, ((![v1390, v1358, v1595] : Fin 3 → IVec S16 32) a x).toNat < S2x64x128.size a)
theorem k2_idx252_inb : ∀ (v1358 : IVec S16 32) (v1390 : IVec S16 32) (v1595 : IVec S16 32) (k2_hw252 : k2_chk252 v1358 v1390 v1595), ∀ a x, ((![v1390, v1358, v1595] : Fin 3 → IVec S16 32) a x).toNat < S2x64x128.size a := fun v1358 v1390 v1595 k2_hw252 => k2_hw252

def k2_chk253 (v1358 : IVec S16 32) (v1390 : IVec S16 32) (v1600 : IVec S16 32) : Prop :=
  (∀ a x, ((![v1390, v1358, v1600] : Fin 3 → IVec S16 32) a x).toNat < S2x64x128.size a)
theorem k2_idx253_inb : ∀ (v1358 : IVec S16 32) (v1390 : IVec S16 32) (v1600 : IVec S16 32) (k2_hw253 : k2_chk253 v1358 v1390 v1600), ∀ a x, ((![v1390, v1358, v1600] : Fin 3 → IVec S16 32) a x).toNat < S2x64x128.size a := fun v1358 v1390 v1600 k2_hw253 => k2_hw253

def k2_chk254 (v1358 : IVec S16 32) (v1390 : IVec S16 32) (v1603 : IVec S16 32) : Prop :=
  (∀ a x, ((![v1390, v1358, v1603] : Fin 3 → IVec S16 32) a x).toNat < S2x64x128.size a)
theorem k2_idx254_inb : ∀ (v1358 : IVec S16 32) (v1390 : IVec S16 32) (v1603 : IVec S16 32) (k2_hw254 : k2_chk254 v1358 v1390 v1603), ∀ a x, ((![v1390, v1358, v1603] : Fin 3 → IVec S16 32) a x).toNat < S2x64x128.size a := fun v1358 v1390 v1603 k2_hw254 => k2_hw254

def k2_chk255 (v1358 : IVec S16 32) (v1390 : IVec S16 32) (v1608 : IVec S16 32) : Prop :=
  (∀ a x, ((![v1390, v1358, v1608] : Fin 3 → IVec S16 32) a x).toNat < S2x64x128.size a)
theorem k2_idx255_inb : ∀ (v1358 : IVec S16 32) (v1390 : IVec S16 32) (v1608 : IVec S16 32) (k2_hw255 : k2_chk255 v1358 v1390 v1608), ∀ a x, ((![v1390, v1358, v1608] : Fin 3 → IVec S16 32) a x).toNat < S2x64x128.size a := fun v1358 v1390 v1608 k2_hw255 => k2_hw255

def k2_chk256 (v1358 : IVec S16 32) (v1390 : IVec S16 32) (v1611 : IVec S16 32) : Prop :=
  (∀ a x, ((![v1390, v1358, v1611] : Fin 3 → IVec S16 32) a x).toNat < S2x64x128.size a)
theorem k2_idx256_inb : ∀ (v1358 : IVec S16 32) (v1390 : IVec S16 32) (v1611 : IVec S16 32) (k2_hw256 : k2_chk256 v1358 v1390 v1611), ∀ a x, ((![v1390, v1358, v1611] : Fin 3 → IVec S16 32) a x).toNat < S2x64x128.size a := fun v1358 v1390 v1611 k2_hw256 => k2_hw256

def k2_chk257 (v1358 : IVec S16 32) (v1390 : IVec S16 32) (v1616 : IVec S16 32) : Prop :=
  (∀ a x, ((![v1390, v1358, v1616] : Fin 3 → IVec S16 32) a x).toNat < S2x64x128.size a)
theorem k2_idx257_inb : ∀ (v1358 : IVec S16 32) (v1390 : IVec S16 32) (v1616 : IVec S16 32) (k2_hw257 : k2_chk257 v1358 v1390 v1616), ∀ a x, ((![v1390, v1358, v1616] : Fin 3 → IVec S16 32) a x).toNat < S2x64x128.size a := fun v1358 v1390 v1616 k2_hw257 => k2_hw257

def k2_chk258 (v1358 : IVec S16 32) (v1390 : IVec S16 32) (v1619 : IVec S16 32) : Prop :=
  (∀ a x, ((![v1390, v1358, v1619] : Fin 3 → IVec S16 32) a x).toNat < S2x64x128.size a)
theorem k2_idx258_inb : ∀ (v1358 : IVec S16 32) (v1390 : IVec S16 32) (v1619 : IVec S16 32) (k2_hw258 : k2_chk258 v1358 v1390 v1619), ∀ a x, ((![v1390, v1358, v1619] : Fin 3 → IVec S16 32) a x).toNat < S2x64x128.size a := fun v1358 v1390 v1619 k2_hw258 => k2_hw258

def k2_chk259 (v1358 : IVec S16 32) (v1390 : IVec S16 32) (v1624 : IVec S16 32) : Prop :=
  (∀ a x, ((![v1390, v1358, v1624] : Fin 3 → IVec S16 32) a x).toNat < S2x64x128.size a)
theorem k2_idx259_inb : ∀ (v1358 : IVec S16 32) (v1390 : IVec S16 32) (v1624 : IVec S16 32) (k2_hw259 : k2_chk259 v1358 v1390 v1624), ∀ a x, ((![v1390, v1358, v1624] : Fin 3 → IVec S16 32) a x).toNat < S2x64x128.size a := fun v1358 v1390 v1624 k2_hw259 => k2_hw259

def k2_chk260 (v1358 : IVec S16 32) (v1390 : IVec S16 32) (v1627 : IVec S16 32) : Prop :=
  (∀ a x, ((![v1390, v1358, v1627] : Fin 3 → IVec S16 32) a x).toNat < S2x64x128.size a)
theorem k2_idx260_inb : ∀ (v1358 : IVec S16 32) (v1390 : IVec S16 32) (v1627 : IVec S16 32) (k2_hw260 : k2_chk260 v1358 v1390 v1627), ∀ a x, ((![v1390, v1358, v1627] : Fin 3 → IVec S16 32) a x).toNat < S2x64x128.size a := fun v1358 v1390 v1627 k2_hw260 => k2_hw260

def k2_chk261 (v1358 : IVec S16 32) (v1390 : IVec S16 32) (v1632 : IVec S16 32) : Prop :=
  (∀ a x, ((![v1390, v1358, v1632] : Fin 3 → IVec S16 32) a x).toNat < S2x64x128.size a)
theorem k2_idx261_inb : ∀ (v1358 : IVec S16 32) (v1390 : IVec S16 32) (v1632 : IVec S16 32) (k2_hw261 : k2_chk261 v1358 v1390 v1632), ∀ a x, ((![v1390, v1358, v1632] : Fin 3 → IVec S16 32) a x).toNat < S2x64x128.size a := fun v1358 v1390 v1632 k2_hw261 => k2_hw261

def k2_chk262 (v1358 : IVec S16 32) (v1390 : IVec S16 32) (v1635 : IVec S16 32) : Prop :=
  (∀ a x, ((![v1390, v1358, v1635] : Fin 3 → IVec S16 32) a x).toNat < S2x64x128.size a)
theorem k2_idx262_inb : ∀ (v1358 : IVec S16 32) (v1390 : IVec S16 32) (v1635 : IVec S16 32) (k2_hw262 : k2_chk262 v1358 v1390 v1635), ∀ a x, ((![v1390, v1358, v1635] : Fin 3 → IVec S16 32) a x).toNat < S2x64x128.size a := fun v1358 v1390 v1635 k2_hw262 => k2_hw262

def k2_chk263 (v1358 : IVec S16 32) (v1390 : IVec S16 32) (v1640 : IVec S16 32) : Prop :=
  (∀ a x, ((![v1390, v1358, v1640] : Fin 3 → IVec S16 32) a x).toNat < S2x64x128.size a)
theorem k2_idx263_inb : ∀ (v1358 : IVec S16 32) (v1390 : IVec S16 32) (v1640 : IVec S16 32) (k2_hw263 : k2_chk263 v1358 v1390 v1640), ∀ a x, ((![v1390, v1358, v1640] : Fin 3 → IVec S16 32) a x).toNat < S2x64x128.size a := fun v1358 v1390 v1640 k2_hw263 => k2_hw263

def k2_chk264 (v1358 : IVec S16 32) (v1390 : IVec S16 32) (v1643 : IVec S16 32) : Prop :=
  (∀ a x, ((![v1390, v1358, v1643] : Fin 3 → IVec S16 32) a x).toNat < S2x64x128.size a)
theorem k2_idx264_inb : ∀ (v1358 : IVec S16 32) (v1390 : IVec S16 32) (v1643 : IVec S16 32) (k2_hw264 : k2_chk264 v1358 v1390 v1643), ∀ a x, ((![v1390, v1358, v1643] : Fin 3 → IVec S16 32) a x).toNat < S2x64x128.size a := fun v1358 v1390 v1643 k2_hw264 => k2_hw264
def k2_off9 (k2_t4 : Fin k2_t4_loop.trips) : Fin 1 → Nat :=
  let c192_i32_1269 : BitVec 32 := 192#32
  let c0_i32_713 : BitVec 32 := 0#32
  let c1_i32_715 : BitVec 32 := 1#32
  let arg19 : BitVec 32 := Scf.iv c0_i32_713 c1_i32_715 k2_t4
  let c16_i32_1268 : BitVec 32 := 16#32
  let v1647 : BitVec 32 := Scalar.muli arg19 c16_i32_1268
  let v1648 : BitVec 32 := Scalar.addi c192_i32_1269 v1647
  let v1649 : Index := Scalar.indexCast v1648
  ![v1649.toNat]
@[reducible] def k2_t5_loop : Scf.Loop 32 :=
  let c0_i32_866 : BitVec 32 := 0#32
  let c4_i32_867 : BitVec 32 := 4#32
  let v996 : BitVec 32 := Scalar.addi c0_i32_866 c4_i32_867
  let c1_i32_868 : BitVec 32 := 1#32
  ⟨c0_i32_866, v996, c1_i32_868⟩
def k2_off10 (k2_t5 : Fin k2_t5_loop.trips) : Fin 1 → Nat :=
  let c256_i32 : BitVec 32 := 256#32
  let c0_i32_866 : BitVec 32 := 0#32
  let c1_i32_868 : BitVec 32 := 1#32
  let arg19 : BitVec 32 := Scf.iv c0_i32_866 c1_i32_868 k2_t5
  let c16_i32_1214 : BitVec 32 := 16#32
  let v1359 : BitVec 32 := Scalar.muli arg19 c16_i32_1214
  let v1360 : BitVec 32 := Scalar.addi c256_i32 v1359
  let v1361 : Index := Scalar.indexCast v1360
  ![v1361.toNat]

def k2_chk265 (v1358 : IVec S16 32) (v1367 : IVec S16 32) (v1369 : IVec S16 32) : Prop :=
  (∀ a x, ((![v1367, v1358, v1369] : Fin 3 → IVec S16 32) a x).toNat < S2x64x128.size a)
theorem k2_idx265_inb : ∀ (v1358 : IVec S16 32) (v1367 : IVec S16 32) (v1369 : IVec S16 32) (k2_hw265 : k2_chk265 v1358 v1367 v1369), ∀ a x, ((![v1367, v1358, v1369] : Fin 3 → IVec S16 32) a x).toNat < S2x64x128.size a := fun v1358 v1367 v1369 k2_hw265 => k2_hw265

def k2_chk266 (v1358 : IVec S16 32) (v1373 : IVec S16 32) (v1375 : IVec S16 32) : Prop :=
  (∀ a x, ((![v1373, v1358, v1375] : Fin 3 → IVec S16 32) a x).toNat < S2x64x128.size a)
theorem k2_idx266_inb : ∀ (v1358 : IVec S16 32) (v1373 : IVec S16 32) (v1375 : IVec S16 32) (k2_hw266 : k2_chk266 v1358 v1373 v1375), ∀ a x, ((![v1373, v1358, v1375] : Fin 3 → IVec S16 32) a x).toNat < S2x64x128.size a := fun v1358 v1373 v1375 k2_hw266 => k2_hw266

def k2_chk267 (v1358 : IVec S16 32) (v1390 : IVec S16 32) (v1392 : IVec S16 32) : Prop :=
  (∀ a x, ((![v1390, v1358, v1392] : Fin 3 → IVec S16 32) a x).toNat < S2x64x128.size a)
theorem k2_idx267_inb : ∀ (v1358 : IVec S16 32) (v1390 : IVec S16 32) (v1392 : IVec S16 32) (k2_hw267 : k2_chk267 v1358 v1390 v1392), ∀ a x, ((![v1390, v1358, v1392] : Fin 3 → IVec S16 32) a x).toNat < S2x64x128.size a := fun v1358 v1390 v1392 k2_hw267 => k2_hw267

def k2_chk268 (v1358 : IVec S16 32) (v1390 : IVec S16 32) (v1395 : IVec S16 32) : Prop :=
  (∀ a x, ((![v1390, v1358, v1395] : Fin 3 → IVec S16 32) a x).toNat < S2x64x128.size a)
theorem k2_idx268_inb : ∀ (v1358 : IVec S16 32) (v1390 : IVec S16 32) (v1395 : IVec S16 32) (k2_hw268 : k2_chk268 v1358 v1390 v1395), ∀ a x, ((![v1390, v1358, v1395] : Fin 3 → IVec S16 32) a x).toNat < S2x64x128.size a := fun v1358 v1390 v1395 k2_hw268 => k2_hw268

def k2_chk269 (v1358 : IVec S16 32) (v1390 : IVec S16 32) (v1400 : IVec S16 32) : Prop :=
  (∀ a x, ((![v1390, v1358, v1400] : Fin 3 → IVec S16 32) a x).toNat < S2x64x128.size a)
theorem k2_idx269_inb : ∀ (v1358 : IVec S16 32) (v1390 : IVec S16 32) (v1400 : IVec S16 32) (k2_hw269 : k2_chk269 v1358 v1390 v1400), ∀ a x, ((![v1390, v1358, v1400] : Fin 3 → IVec S16 32) a x).toNat < S2x64x128.size a := fun v1358 v1390 v1400 k2_hw269 => k2_hw269

def k2_chk270 (v1358 : IVec S16 32) (v1390 : IVec S16 32) (v1403 : IVec S16 32) : Prop :=
  (∀ a x, ((![v1390, v1358, v1403] : Fin 3 → IVec S16 32) a x).toNat < S2x64x128.size a)
theorem k2_idx270_inb : ∀ (v1358 : IVec S16 32) (v1390 : IVec S16 32) (v1403 : IVec S16 32) (k2_hw270 : k2_chk270 v1358 v1390 v1403), ∀ a x, ((![v1390, v1358, v1403] : Fin 3 → IVec S16 32) a x).toNat < S2x64x128.size a := fun v1358 v1390 v1403 k2_hw270 => k2_hw270

def k2_chk271 (v1358 : IVec S16 32) (v1390 : IVec S16 32) (v1408 : IVec S16 32) : Prop :=
  (∀ a x, ((![v1390, v1358, v1408] : Fin 3 → IVec S16 32) a x).toNat < S2x64x128.size a)
theorem k2_idx271_inb : ∀ (v1358 : IVec S16 32) (v1390 : IVec S16 32) (v1408 : IVec S16 32) (k2_hw271 : k2_chk271 v1358 v1390 v1408), ∀ a x, ((![v1390, v1358, v1408] : Fin 3 → IVec S16 32) a x).toNat < S2x64x128.size a := fun v1358 v1390 v1408 k2_hw271 => k2_hw271

def k2_chk272 (v1358 : IVec S16 32) (v1390 : IVec S16 32) (v1411 : IVec S16 32) : Prop :=
  (∀ a x, ((![v1390, v1358, v1411] : Fin 3 → IVec S16 32) a x).toNat < S2x64x128.size a)
theorem k2_idx272_inb : ∀ (v1358 : IVec S16 32) (v1390 : IVec S16 32) (v1411 : IVec S16 32) (k2_hw272 : k2_chk272 v1358 v1390 v1411), ∀ a x, ((![v1390, v1358, v1411] : Fin 3 → IVec S16 32) a x).toNat < S2x64x128.size a := fun v1358 v1390 v1411 k2_hw272 => k2_hw272

def k2_chk273 (v1358 : IVec S16 32) (v1390 : IVec S16 32) (v1416 : IVec S16 32) : Prop :=
  (∀ a x, ((![v1390, v1358, v1416] : Fin 3 → IVec S16 32) a x).toNat < S2x64x128.size a)
theorem k2_idx273_inb : ∀ (v1358 : IVec S16 32) (v1390 : IVec S16 32) (v1416 : IVec S16 32) (k2_hw273 : k2_chk273 v1358 v1390 v1416), ∀ a x, ((![v1390, v1358, v1416] : Fin 3 → IVec S16 32) a x).toNat < S2x64x128.size a := fun v1358 v1390 v1416 k2_hw273 => k2_hw273

def k2_chk274 (v1358 : IVec S16 32) (v1390 : IVec S16 32) (v1419 : IVec S16 32) : Prop :=
  (∀ a x, ((![v1390, v1358, v1419] : Fin 3 → IVec S16 32) a x).toNat < S2x64x128.size a)
theorem k2_idx274_inb : ∀ (v1358 : IVec S16 32) (v1390 : IVec S16 32) (v1419 : IVec S16 32) (k2_hw274 : k2_chk274 v1358 v1390 v1419), ∀ a x, ((![v1390, v1358, v1419] : Fin 3 → IVec S16 32) a x).toNat < S2x64x128.size a := fun v1358 v1390 v1419 k2_hw274 => k2_hw274

def k2_chk275 (v1358 : IVec S16 32) (v1390 : IVec S16 32) (v1424 : IVec S16 32) : Prop :=
  (∀ a x, ((![v1390, v1358, v1424] : Fin 3 → IVec S16 32) a x).toNat < S2x64x128.size a)
theorem k2_idx275_inb : ∀ (v1358 : IVec S16 32) (v1390 : IVec S16 32) (v1424 : IVec S16 32) (k2_hw275 : k2_chk275 v1358 v1390 v1424), ∀ a x, ((![v1390, v1358, v1424] : Fin 3 → IVec S16 32) a x).toNat < S2x64x128.size a := fun v1358 v1390 v1424 k2_hw275 => k2_hw275

def k2_chk276 (v1358 : IVec S16 32) (v1390 : IVec S16 32) (v1427 : IVec S16 32) : Prop :=
  (∀ a x, ((![v1390, v1358, v1427] : Fin 3 → IVec S16 32) a x).toNat < S2x64x128.size a)
theorem k2_idx276_inb : ∀ (v1358 : IVec S16 32) (v1390 : IVec S16 32) (v1427 : IVec S16 32) (k2_hw276 : k2_chk276 v1358 v1390 v1427), ∀ a x, ((![v1390, v1358, v1427] : Fin 3 → IVec S16 32) a x).toNat < S2x64x128.size a := fun v1358 v1390 v1427 k2_hw276 => k2_hw276

def k2_chk277 (v1358 : IVec S16 32) (v1390 : IVec S16 32) (v1432 : IVec S16 32) : Prop :=
  (∀ a x, ((![v1390, v1358, v1432] : Fin 3 → IVec S16 32) a x).toNat < S2x64x128.size a)
theorem k2_idx277_inb : ∀ (v1358 : IVec S16 32) (v1390 : IVec S16 32) (v1432 : IVec S16 32) (k2_hw277 : k2_chk277 v1358 v1390 v1432), ∀ a x, ((![v1390, v1358, v1432] : Fin 3 → IVec S16 32) a x).toNat < S2x64x128.size a := fun v1358 v1390 v1432 k2_hw277 => k2_hw277

def k2_chk278 (v1358 : IVec S16 32) (v1390 : IVec S16 32) (v1435 : IVec S16 32) : Prop :=
  (∀ a x, ((![v1390, v1358, v1435] : Fin 3 → IVec S16 32) a x).toNat < S2x64x128.size a)
theorem k2_idx278_inb : ∀ (v1358 : IVec S16 32) (v1390 : IVec S16 32) (v1435 : IVec S16 32) (k2_hw278 : k2_chk278 v1358 v1390 v1435), ∀ a x, ((![v1390, v1358, v1435] : Fin 3 → IVec S16 32) a x).toNat < S2x64x128.size a := fun v1358 v1390 v1435 k2_hw278 => k2_hw278

def k2_chk279 (v1358 : IVec S16 32) (v1390 : IVec S16 32) (v1440 : IVec S16 32) : Prop :=
  (∀ a x, ((![v1390, v1358, v1440] : Fin 3 → IVec S16 32) a x).toNat < S2x64x128.size a)
theorem k2_idx279_inb : ∀ (v1358 : IVec S16 32) (v1390 : IVec S16 32) (v1440 : IVec S16 32) (k2_hw279 : k2_chk279 v1358 v1390 v1440), ∀ a x, ((![v1390, v1358, v1440] : Fin 3 → IVec S16 32) a x).toNat < S2x64x128.size a := fun v1358 v1390 v1440 k2_hw279 => k2_hw279

def k2_chk280 (v1358 : IVec S16 32) (v1390 : IVec S16 32) (v1443 : IVec S16 32) : Prop :=
  (∀ a x, ((![v1390, v1358, v1443] : Fin 3 → IVec S16 32) a x).toNat < S2x64x128.size a)
theorem k2_idx280_inb : ∀ (v1358 : IVec S16 32) (v1390 : IVec S16 32) (v1443 : IVec S16 32) (k2_hw280 : k2_chk280 v1358 v1390 v1443), ∀ a x, ((![v1390, v1358, v1443] : Fin 3 → IVec S16 32) a x).toNat < S2x64x128.size a := fun v1358 v1390 v1443 k2_hw280 => k2_hw280

def k2_chk281 (v1358 : IVec S16 32) (v1390 : IVec S16 32) (v1448 : IVec S16 32) : Prop :=
  (∀ a x, ((![v1390, v1358, v1448] : Fin 3 → IVec S16 32) a x).toNat < S2x64x128.size a)
theorem k2_idx281_inb : ∀ (v1358 : IVec S16 32) (v1390 : IVec S16 32) (v1448 : IVec S16 32) (k2_hw281 : k2_chk281 v1358 v1390 v1448), ∀ a x, ((![v1390, v1358, v1448] : Fin 3 → IVec S16 32) a x).toNat < S2x64x128.size a := fun v1358 v1390 v1448 k2_hw281 => k2_hw281

def k2_chk282 (v1358 : IVec S16 32) (v1390 : IVec S16 32) (v1451 : IVec S16 32) : Prop :=
  (∀ a x, ((![v1390, v1358, v1451] : Fin 3 → IVec S16 32) a x).toNat < S2x64x128.size a)
theorem k2_idx282_inb : ∀ (v1358 : IVec S16 32) (v1390 : IVec S16 32) (v1451 : IVec S16 32) (k2_hw282 : k2_chk282 v1358 v1390 v1451), ∀ a x, ((![v1390, v1358, v1451] : Fin 3 → IVec S16 32) a x).toNat < S2x64x128.size a := fun v1358 v1390 v1451 k2_hw282 => k2_hw282

def k2_chk283 (v1358 : IVec S16 32) (v1390 : IVec S16 32) (v1456 : IVec S16 32) : Prop :=
  (∀ a x, ((![v1390, v1358, v1456] : Fin 3 → IVec S16 32) a x).toNat < S2x64x128.size a)
theorem k2_idx283_inb : ∀ (v1358 : IVec S16 32) (v1390 : IVec S16 32) (v1456 : IVec S16 32) (k2_hw283 : k2_chk283 v1358 v1390 v1456), ∀ a x, ((![v1390, v1358, v1456] : Fin 3 → IVec S16 32) a x).toNat < S2x64x128.size a := fun v1358 v1390 v1456 k2_hw283 => k2_hw283

def k2_chk284 (v1358 : IVec S16 32) (v1390 : IVec S16 32) (v1459 : IVec S16 32) : Prop :=
  (∀ a x, ((![v1390, v1358, v1459] : Fin 3 → IVec S16 32) a x).toNat < S2x64x128.size a)
theorem k2_idx284_inb : ∀ (v1358 : IVec S16 32) (v1390 : IVec S16 32) (v1459 : IVec S16 32) (k2_hw284 : k2_chk284 v1358 v1390 v1459), ∀ a x, ((![v1390, v1358, v1459] : Fin 3 → IVec S16 32) a x).toNat < S2x64x128.size a := fun v1358 v1390 v1459 k2_hw284 => k2_hw284

def k2_chk285 (v1358 : IVec S16 32) (v1390 : IVec S16 32) (v1464 : IVec S16 32) : Prop :=
  (∀ a x, ((![v1390, v1358, v1464] : Fin 3 → IVec S16 32) a x).toNat < S2x64x128.size a)
theorem k2_idx285_inb : ∀ (v1358 : IVec S16 32) (v1390 : IVec S16 32) (v1464 : IVec S16 32) (k2_hw285 : k2_chk285 v1358 v1390 v1464), ∀ a x, ((![v1390, v1358, v1464] : Fin 3 → IVec S16 32) a x).toNat < S2x64x128.size a := fun v1358 v1390 v1464 k2_hw285 => k2_hw285

def k2_chk286 (v1358 : IVec S16 32) (v1390 : IVec S16 32) (v1467 : IVec S16 32) : Prop :=
  (∀ a x, ((![v1390, v1358, v1467] : Fin 3 → IVec S16 32) a x).toNat < S2x64x128.size a)
theorem k2_idx286_inb : ∀ (v1358 : IVec S16 32) (v1390 : IVec S16 32) (v1467 : IVec S16 32) (k2_hw286 : k2_chk286 v1358 v1390 v1467), ∀ a x, ((![v1390, v1358, v1467] : Fin 3 → IVec S16 32) a x).toNat < S2x64x128.size a := fun v1358 v1390 v1467 k2_hw286 => k2_hw286

def k2_chk287 (v1358 : IVec S16 32) (v1390 : IVec S16 32) (v1472 : IVec S16 32) : Prop :=
  (∀ a x, ((![v1390, v1358, v1472] : Fin 3 → IVec S16 32) a x).toNat < S2x64x128.size a)
theorem k2_idx287_inb : ∀ (v1358 : IVec S16 32) (v1390 : IVec S16 32) (v1472 : IVec S16 32) (k2_hw287 : k2_chk287 v1358 v1390 v1472), ∀ a x, ((![v1390, v1358, v1472] : Fin 3 → IVec S16 32) a x).toNat < S2x64x128.size a := fun v1358 v1390 v1472 k2_hw287 => k2_hw287

def k2_chk288 (v1358 : IVec S16 32) (v1390 : IVec S16 32) (v1475 : IVec S16 32) : Prop :=
  (∀ a x, ((![v1390, v1358, v1475] : Fin 3 → IVec S16 32) a x).toNat < S2x64x128.size a)
theorem k2_idx288_inb : ∀ (v1358 : IVec S16 32) (v1390 : IVec S16 32) (v1475 : IVec S16 32) (k2_hw288 : k2_chk288 v1358 v1390 v1475), ∀ a x, ((![v1390, v1358, v1475] : Fin 3 → IVec S16 32) a x).toNat < S2x64x128.size a := fun v1358 v1390 v1475 k2_hw288 => k2_hw288

def k2_chk289 (v1358 : IVec S16 32) (v1390 : IVec S16 32) (v1480 : IVec S16 32) : Prop :=
  (∀ a x, ((![v1390, v1358, v1480] : Fin 3 → IVec S16 32) a x).toNat < S2x64x128.size a)
theorem k2_idx289_inb : ∀ (v1358 : IVec S16 32) (v1390 : IVec S16 32) (v1480 : IVec S16 32) (k2_hw289 : k2_chk289 v1358 v1390 v1480), ∀ a x, ((![v1390, v1358, v1480] : Fin 3 → IVec S16 32) a x).toNat < S2x64x128.size a := fun v1358 v1390 v1480 k2_hw289 => k2_hw289

def k2_chk290 (v1358 : IVec S16 32) (v1390 : IVec S16 32) (v1483 : IVec S16 32) : Prop :=
  (∀ a x, ((![v1390, v1358, v1483] : Fin 3 → IVec S16 32) a x).toNat < S2x64x128.size a)
theorem k2_idx290_inb : ∀ (v1358 : IVec S16 32) (v1390 : IVec S16 32) (v1483 : IVec S16 32) (k2_hw290 : k2_chk290 v1358 v1390 v1483), ∀ a x, ((![v1390, v1358, v1483] : Fin 3 → IVec S16 32) a x).toNat < S2x64x128.size a := fun v1358 v1390 v1483 k2_hw290 => k2_hw290

def k2_chk291 (v1358 : IVec S16 32) (v1390 : IVec S16 32) (v1488 : IVec S16 32) : Prop :=
  (∀ a x, ((![v1390, v1358, v1488] : Fin 3 → IVec S16 32) a x).toNat < S2x64x128.size a)
theorem k2_idx291_inb : ∀ (v1358 : IVec S16 32) (v1390 : IVec S16 32) (v1488 : IVec S16 32) (k2_hw291 : k2_chk291 v1358 v1390 v1488), ∀ a x, ((![v1390, v1358, v1488] : Fin 3 → IVec S16 32) a x).toNat < S2x64x128.size a := fun v1358 v1390 v1488 k2_hw291 => k2_hw291

def k2_chk292 (v1358 : IVec S16 32) (v1390 : IVec S16 32) (v1491 : IVec S16 32) : Prop :=
  (∀ a x, ((![v1390, v1358, v1491] : Fin 3 → IVec S16 32) a x).toNat < S2x64x128.size a)
theorem k2_idx292_inb : ∀ (v1358 : IVec S16 32) (v1390 : IVec S16 32) (v1491 : IVec S16 32) (k2_hw292 : k2_chk292 v1358 v1390 v1491), ∀ a x, ((![v1390, v1358, v1491] : Fin 3 → IVec S16 32) a x).toNat < S2x64x128.size a := fun v1358 v1390 v1491 k2_hw292 => k2_hw292

def k2_chk293 (v1358 : IVec S16 32) (v1390 : IVec S16 32) (v1496 : IVec S16 32) : Prop :=
  (∀ a x, ((![v1390, v1358, v1496] : Fin 3 → IVec S16 32) a x).toNat < S2x64x128.size a)
theorem k2_idx293_inb : ∀ (v1358 : IVec S16 32) (v1390 : IVec S16 32) (v1496 : IVec S16 32) (k2_hw293 : k2_chk293 v1358 v1390 v1496), ∀ a x, ((![v1390, v1358, v1496] : Fin 3 → IVec S16 32) a x).toNat < S2x64x128.size a := fun v1358 v1390 v1496 k2_hw293 => k2_hw293

def k2_chk294 (v1358 : IVec S16 32) (v1390 : IVec S16 32) (v1499 : IVec S16 32) : Prop :=
  (∀ a x, ((![v1390, v1358, v1499] : Fin 3 → IVec S16 32) a x).toNat < S2x64x128.size a)
theorem k2_idx294_inb : ∀ (v1358 : IVec S16 32) (v1390 : IVec S16 32) (v1499 : IVec S16 32) (k2_hw294 : k2_chk294 v1358 v1390 v1499), ∀ a x, ((![v1390, v1358, v1499] : Fin 3 → IVec S16 32) a x).toNat < S2x64x128.size a := fun v1358 v1390 v1499 k2_hw294 => k2_hw294

def k2_chk295 (v1358 : IVec S16 32) (v1390 : IVec S16 32) (v1504 : IVec S16 32) : Prop :=
  (∀ a x, ((![v1390, v1358, v1504] : Fin 3 → IVec S16 32) a x).toNat < S2x64x128.size a)
theorem k2_idx295_inb : ∀ (v1358 : IVec S16 32) (v1390 : IVec S16 32) (v1504 : IVec S16 32) (k2_hw295 : k2_chk295 v1358 v1390 v1504), ∀ a x, ((![v1390, v1358, v1504] : Fin 3 → IVec S16 32) a x).toNat < S2x64x128.size a := fun v1358 v1390 v1504 k2_hw295 => k2_hw295

def k2_chk296 (v1358 : IVec S16 32) (v1390 : IVec S16 32) (v1507 : IVec S16 32) : Prop :=
  (∀ a x, ((![v1390, v1358, v1507] : Fin 3 → IVec S16 32) a x).toNat < S2x64x128.size a)
theorem k2_idx296_inb : ∀ (v1358 : IVec S16 32) (v1390 : IVec S16 32) (v1507 : IVec S16 32) (k2_hw296 : k2_chk296 v1358 v1390 v1507), ∀ a x, ((![v1390, v1358, v1507] : Fin 3 → IVec S16 32) a x).toNat < S2x64x128.size a := fun v1358 v1390 v1507 k2_hw296 => k2_hw296

def k2_chk297 (v1358 : IVec S16 32) (v1390 : IVec S16 32) (v1512 : IVec S16 32) : Prop :=
  (∀ a x, ((![v1390, v1358, v1512] : Fin 3 → IVec S16 32) a x).toNat < S2x64x128.size a)
theorem k2_idx297_inb : ∀ (v1358 : IVec S16 32) (v1390 : IVec S16 32) (v1512 : IVec S16 32) (k2_hw297 : k2_chk297 v1358 v1390 v1512), ∀ a x, ((![v1390, v1358, v1512] : Fin 3 → IVec S16 32) a x).toNat < S2x64x128.size a := fun v1358 v1390 v1512 k2_hw297 => k2_hw297

def k2_chk298 (v1358 : IVec S16 32) (v1390 : IVec S16 32) (v1515 : IVec S16 32) : Prop :=
  (∀ a x, ((![v1390, v1358, v1515] : Fin 3 → IVec S16 32) a x).toNat < S2x64x128.size a)
theorem k2_idx298_inb : ∀ (v1358 : IVec S16 32) (v1390 : IVec S16 32) (v1515 : IVec S16 32) (k2_hw298 : k2_chk298 v1358 v1390 v1515), ∀ a x, ((![v1390, v1358, v1515] : Fin 3 → IVec S16 32) a x).toNat < S2x64x128.size a := fun v1358 v1390 v1515 k2_hw298 => k2_hw298

def k2_chk299 (v1358 : IVec S16 32) (v1390 : IVec S16 32) (v1520 : IVec S16 32) : Prop :=
  (∀ a x, ((![v1390, v1358, v1520] : Fin 3 → IVec S16 32) a x).toNat < S2x64x128.size a)
theorem k2_idx299_inb : ∀ (v1358 : IVec S16 32) (v1390 : IVec S16 32) (v1520 : IVec S16 32) (k2_hw299 : k2_chk299 v1358 v1390 v1520), ∀ a x, ((![v1390, v1358, v1520] : Fin 3 → IVec S16 32) a x).toNat < S2x64x128.size a := fun v1358 v1390 v1520 k2_hw299 => k2_hw299

def k2_chk300 (v1358 : IVec S16 32) (v1390 : IVec S16 32) (v1523 : IVec S16 32) : Prop :=
  (∀ a x, ((![v1390, v1358, v1523] : Fin 3 → IVec S16 32) a x).toNat < S2x64x128.size a)
theorem k2_idx300_inb : ∀ (v1358 : IVec S16 32) (v1390 : IVec S16 32) (v1523 : IVec S16 32) (k2_hw300 : k2_chk300 v1358 v1390 v1523), ∀ a x, ((![v1390, v1358, v1523] : Fin 3 → IVec S16 32) a x).toNat < S2x64x128.size a := fun v1358 v1390 v1523 k2_hw300 => k2_hw300

def k2_chk301 (v1358 : IVec S16 32) (v1390 : IVec S16 32) (v1528 : IVec S16 32) : Prop :=
  (∀ a x, ((![v1390, v1358, v1528] : Fin 3 → IVec S16 32) a x).toNat < S2x64x128.size a)
theorem k2_idx301_inb : ∀ (v1358 : IVec S16 32) (v1390 : IVec S16 32) (v1528 : IVec S16 32) (k2_hw301 : k2_chk301 v1358 v1390 v1528), ∀ a x, ((![v1390, v1358, v1528] : Fin 3 → IVec S16 32) a x).toNat < S2x64x128.size a := fun v1358 v1390 v1528 k2_hw301 => k2_hw301

def k2_chk302 (v1358 : IVec S16 32) (v1390 : IVec S16 32) (v1531 : IVec S16 32) : Prop :=
  (∀ a x, ((![v1390, v1358, v1531] : Fin 3 → IVec S16 32) a x).toNat < S2x64x128.size a)
theorem k2_idx302_inb : ∀ (v1358 : IVec S16 32) (v1390 : IVec S16 32) (v1531 : IVec S16 32) (k2_hw302 : k2_chk302 v1358 v1390 v1531), ∀ a x, ((![v1390, v1358, v1531] : Fin 3 → IVec S16 32) a x).toNat < S2x64x128.size a := fun v1358 v1390 v1531 k2_hw302 => k2_hw302

def k2_chk303 (v1358 : IVec S16 32) (v1390 : IVec S16 32) (v1536 : IVec S16 32) : Prop :=
  (∀ a x, ((![v1390, v1358, v1536] : Fin 3 → IVec S16 32) a x).toNat < S2x64x128.size a)
theorem k2_idx303_inb : ∀ (v1358 : IVec S16 32) (v1390 : IVec S16 32) (v1536 : IVec S16 32) (k2_hw303 : k2_chk303 v1358 v1390 v1536), ∀ a x, ((![v1390, v1358, v1536] : Fin 3 → IVec S16 32) a x).toNat < S2x64x128.size a := fun v1358 v1390 v1536 k2_hw303 => k2_hw303

def k2_chk304 (v1358 : IVec S16 32) (v1390 : IVec S16 32) (v1539 : IVec S16 32) : Prop :=
  (∀ a x, ((![v1390, v1358, v1539] : Fin 3 → IVec S16 32) a x).toNat < S2x64x128.size a)
theorem k2_idx304_inb : ∀ (v1358 : IVec S16 32) (v1390 : IVec S16 32) (v1539 : IVec S16 32) (k2_hw304 : k2_chk304 v1358 v1390 v1539), ∀ a x, ((![v1390, v1358, v1539] : Fin 3 → IVec S16 32) a x).toNat < S2x64x128.size a := fun v1358 v1390 v1539 k2_hw304 => k2_hw304

def k2_chk305 (v1358 : IVec S16 32) (v1390 : IVec S16 32) (v1544 : IVec S16 32) : Prop :=
  (∀ a x, ((![v1390, v1358, v1544] : Fin 3 → IVec S16 32) a x).toNat < S2x64x128.size a)
theorem k2_idx305_inb : ∀ (v1358 : IVec S16 32) (v1390 : IVec S16 32) (v1544 : IVec S16 32) (k2_hw305 : k2_chk305 v1358 v1390 v1544), ∀ a x, ((![v1390, v1358, v1544] : Fin 3 → IVec S16 32) a x).toNat < S2x64x128.size a := fun v1358 v1390 v1544 k2_hw305 => k2_hw305

def k2_chk306 (v1358 : IVec S16 32) (v1390 : IVec S16 32) (v1547 : IVec S16 32) : Prop :=
  (∀ a x, ((![v1390, v1358, v1547] : Fin 3 → IVec S16 32) a x).toNat < S2x64x128.size a)
theorem k2_idx306_inb : ∀ (v1358 : IVec S16 32) (v1390 : IVec S16 32) (v1547 : IVec S16 32) (k2_hw306 : k2_chk306 v1358 v1390 v1547), ∀ a x, ((![v1390, v1358, v1547] : Fin 3 → IVec S16 32) a x).toNat < S2x64x128.size a := fun v1358 v1390 v1547 k2_hw306 => k2_hw306

def k2_chk307 (v1358 : IVec S16 32) (v1390 : IVec S16 32) (v1552 : IVec S16 32) : Prop :=
  (∀ a x, ((![v1390, v1358, v1552] : Fin 3 → IVec S16 32) a x).toNat < S2x64x128.size a)
theorem k2_idx307_inb : ∀ (v1358 : IVec S16 32) (v1390 : IVec S16 32) (v1552 : IVec S16 32) (k2_hw307 : k2_chk307 v1358 v1390 v1552), ∀ a x, ((![v1390, v1358, v1552] : Fin 3 → IVec S16 32) a x).toNat < S2x64x128.size a := fun v1358 v1390 v1552 k2_hw307 => k2_hw307

def k2_chk308 (v1358 : IVec S16 32) (v1390 : IVec S16 32) (v1555 : IVec S16 32) : Prop :=
  (∀ a x, ((![v1390, v1358, v1555] : Fin 3 → IVec S16 32) a x).toNat < S2x64x128.size a)
theorem k2_idx308_inb : ∀ (v1358 : IVec S16 32) (v1390 : IVec S16 32) (v1555 : IVec S16 32) (k2_hw308 : k2_chk308 v1358 v1390 v1555), ∀ a x, ((![v1390, v1358, v1555] : Fin 3 → IVec S16 32) a x).toNat < S2x64x128.size a := fun v1358 v1390 v1555 k2_hw308 => k2_hw308

def k2_chk309 (v1358 : IVec S16 32) (v1390 : IVec S16 32) (v1560 : IVec S16 32) : Prop :=
  (∀ a x, ((![v1390, v1358, v1560] : Fin 3 → IVec S16 32) a x).toNat < S2x64x128.size a)
theorem k2_idx309_inb : ∀ (v1358 : IVec S16 32) (v1390 : IVec S16 32) (v1560 : IVec S16 32) (k2_hw309 : k2_chk309 v1358 v1390 v1560), ∀ a x, ((![v1390, v1358, v1560] : Fin 3 → IVec S16 32) a x).toNat < S2x64x128.size a := fun v1358 v1390 v1560 k2_hw309 => k2_hw309

def k2_chk310 (v1358 : IVec S16 32) (v1390 : IVec S16 32) (v1563 : IVec S16 32) : Prop :=
  (∀ a x, ((![v1390, v1358, v1563] : Fin 3 → IVec S16 32) a x).toNat < S2x64x128.size a)
theorem k2_idx310_inb : ∀ (v1358 : IVec S16 32) (v1390 : IVec S16 32) (v1563 : IVec S16 32) (k2_hw310 : k2_chk310 v1358 v1390 v1563), ∀ a x, ((![v1390, v1358, v1563] : Fin 3 → IVec S16 32) a x).toNat < S2x64x128.size a := fun v1358 v1390 v1563 k2_hw310 => k2_hw310

def k2_chk311 (v1358 : IVec S16 32) (v1390 : IVec S16 32) (v1568 : IVec S16 32) : Prop :=
  (∀ a x, ((![v1390, v1358, v1568] : Fin 3 → IVec S16 32) a x).toNat < S2x64x128.size a)
theorem k2_idx311_inb : ∀ (v1358 : IVec S16 32) (v1390 : IVec S16 32) (v1568 : IVec S16 32) (k2_hw311 : k2_chk311 v1358 v1390 v1568), ∀ a x, ((![v1390, v1358, v1568] : Fin 3 → IVec S16 32) a x).toNat < S2x64x128.size a := fun v1358 v1390 v1568 k2_hw311 => k2_hw311

def k2_chk312 (v1358 : IVec S16 32) (v1390 : IVec S16 32) (v1571 : IVec S16 32) : Prop :=
  (∀ a x, ((![v1390, v1358, v1571] : Fin 3 → IVec S16 32) a x).toNat < S2x64x128.size a)
theorem k2_idx312_inb : ∀ (v1358 : IVec S16 32) (v1390 : IVec S16 32) (v1571 : IVec S16 32) (k2_hw312 : k2_chk312 v1358 v1390 v1571), ∀ a x, ((![v1390, v1358, v1571] : Fin 3 → IVec S16 32) a x).toNat < S2x64x128.size a := fun v1358 v1390 v1571 k2_hw312 => k2_hw312

def k2_chk313 (v1358 : IVec S16 32) (v1390 : IVec S16 32) (v1576 : IVec S16 32) : Prop :=
  (∀ a x, ((![v1390, v1358, v1576] : Fin 3 → IVec S16 32) a x).toNat < S2x64x128.size a)
theorem k2_idx313_inb : ∀ (v1358 : IVec S16 32) (v1390 : IVec S16 32) (v1576 : IVec S16 32) (k2_hw313 : k2_chk313 v1358 v1390 v1576), ∀ a x, ((![v1390, v1358, v1576] : Fin 3 → IVec S16 32) a x).toNat < S2x64x128.size a := fun v1358 v1390 v1576 k2_hw313 => k2_hw313

def k2_chk314 (v1358 : IVec S16 32) (v1390 : IVec S16 32) (v1579 : IVec S16 32) : Prop :=
  (∀ a x, ((![v1390, v1358, v1579] : Fin 3 → IVec S16 32) a x).toNat < S2x64x128.size a)
theorem k2_idx314_inb : ∀ (v1358 : IVec S16 32) (v1390 : IVec S16 32) (v1579 : IVec S16 32) (k2_hw314 : k2_chk314 v1358 v1390 v1579), ∀ a x, ((![v1390, v1358, v1579] : Fin 3 → IVec S16 32) a x).toNat < S2x64x128.size a := fun v1358 v1390 v1579 k2_hw314 => k2_hw314

def k2_chk315 (v1358 : IVec S16 32) (v1390 : IVec S16 32) (v1584 : IVec S16 32) : Prop :=
  (∀ a x, ((![v1390, v1358, v1584] : Fin 3 → IVec S16 32) a x).toNat < S2x64x128.size a)
theorem k2_idx315_inb : ∀ (v1358 : IVec S16 32) (v1390 : IVec S16 32) (v1584 : IVec S16 32) (k2_hw315 : k2_chk315 v1358 v1390 v1584), ∀ a x, ((![v1390, v1358, v1584] : Fin 3 → IVec S16 32) a x).toNat < S2x64x128.size a := fun v1358 v1390 v1584 k2_hw315 => k2_hw315

def k2_chk316 (v1358 : IVec S16 32) (v1390 : IVec S16 32) (v1587 : IVec S16 32) : Prop :=
  (∀ a x, ((![v1390, v1358, v1587] : Fin 3 → IVec S16 32) a x).toNat < S2x64x128.size a)
theorem k2_idx316_inb : ∀ (v1358 : IVec S16 32) (v1390 : IVec S16 32) (v1587 : IVec S16 32) (k2_hw316 : k2_chk316 v1358 v1390 v1587), ∀ a x, ((![v1390, v1358, v1587] : Fin 3 → IVec S16 32) a x).toNat < S2x64x128.size a := fun v1358 v1390 v1587 k2_hw316 => k2_hw316

def k2_chk317 (v1358 : IVec S16 32) (v1390 : IVec S16 32) (v1592 : IVec S16 32) : Prop :=
  (∀ a x, ((![v1390, v1358, v1592] : Fin 3 → IVec S16 32) a x).toNat < S2x64x128.size a)
theorem k2_idx317_inb : ∀ (v1358 : IVec S16 32) (v1390 : IVec S16 32) (v1592 : IVec S16 32) (k2_hw317 : k2_chk317 v1358 v1390 v1592), ∀ a x, ((![v1390, v1358, v1592] : Fin 3 → IVec S16 32) a x).toNat < S2x64x128.size a := fun v1358 v1390 v1592 k2_hw317 => k2_hw317

def k2_chk318 (v1358 : IVec S16 32) (v1390 : IVec S16 32) (v1595 : IVec S16 32) : Prop :=
  (∀ a x, ((![v1390, v1358, v1595] : Fin 3 → IVec S16 32) a x).toNat < S2x64x128.size a)
theorem k2_idx318_inb : ∀ (v1358 : IVec S16 32) (v1390 : IVec S16 32) (v1595 : IVec S16 32) (k2_hw318 : k2_chk318 v1358 v1390 v1595), ∀ a x, ((![v1390, v1358, v1595] : Fin 3 → IVec S16 32) a x).toNat < S2x64x128.size a := fun v1358 v1390 v1595 k2_hw318 => k2_hw318

def k2_chk319 (v1358 : IVec S16 32) (v1390 : IVec S16 32) (v1600 : IVec S16 32) : Prop :=
  (∀ a x, ((![v1390, v1358, v1600] : Fin 3 → IVec S16 32) a x).toNat < S2x64x128.size a)
theorem k2_idx319_inb : ∀ (v1358 : IVec S16 32) (v1390 : IVec S16 32) (v1600 : IVec S16 32) (k2_hw319 : k2_chk319 v1358 v1390 v1600), ∀ a x, ((![v1390, v1358, v1600] : Fin 3 → IVec S16 32) a x).toNat < S2x64x128.size a := fun v1358 v1390 v1600 k2_hw319 => k2_hw319

def k2_chk320 (v1358 : IVec S16 32) (v1390 : IVec S16 32) (v1603 : IVec S16 32) : Prop :=
  (∀ a x, ((![v1390, v1358, v1603] : Fin 3 → IVec S16 32) a x).toNat < S2x64x128.size a)
theorem k2_idx320_inb : ∀ (v1358 : IVec S16 32) (v1390 : IVec S16 32) (v1603 : IVec S16 32) (k2_hw320 : k2_chk320 v1358 v1390 v1603), ∀ a x, ((![v1390, v1358, v1603] : Fin 3 → IVec S16 32) a x).toNat < S2x64x128.size a := fun v1358 v1390 v1603 k2_hw320 => k2_hw320

def k2_chk321 (v1358 : IVec S16 32) (v1390 : IVec S16 32) (v1608 : IVec S16 32) : Prop :=
  (∀ a x, ((![v1390, v1358, v1608] : Fin 3 → IVec S16 32) a x).toNat < S2x64x128.size a)
theorem k2_idx321_inb : ∀ (v1358 : IVec S16 32) (v1390 : IVec S16 32) (v1608 : IVec S16 32) (k2_hw321 : k2_chk321 v1358 v1390 v1608), ∀ a x, ((![v1390, v1358, v1608] : Fin 3 → IVec S16 32) a x).toNat < S2x64x128.size a := fun v1358 v1390 v1608 k2_hw321 => k2_hw321

def k2_chk322 (v1358 : IVec S16 32) (v1390 : IVec S16 32) (v1611 : IVec S16 32) : Prop :=
  (∀ a x, ((![v1390, v1358, v1611] : Fin 3 → IVec S16 32) a x).toNat < S2x64x128.size a)
theorem k2_idx322_inb : ∀ (v1358 : IVec S16 32) (v1390 : IVec S16 32) (v1611 : IVec S16 32) (k2_hw322 : k2_chk322 v1358 v1390 v1611), ∀ a x, ((![v1390, v1358, v1611] : Fin 3 → IVec S16 32) a x).toNat < S2x64x128.size a := fun v1358 v1390 v1611 k2_hw322 => k2_hw322

def k2_chk323 (v1358 : IVec S16 32) (v1390 : IVec S16 32) (v1616 : IVec S16 32) : Prop :=
  (∀ a x, ((![v1390, v1358, v1616] : Fin 3 → IVec S16 32) a x).toNat < S2x64x128.size a)
theorem k2_idx323_inb : ∀ (v1358 : IVec S16 32) (v1390 : IVec S16 32) (v1616 : IVec S16 32) (k2_hw323 : k2_chk323 v1358 v1390 v1616), ∀ a x, ((![v1390, v1358, v1616] : Fin 3 → IVec S16 32) a x).toNat < S2x64x128.size a := fun v1358 v1390 v1616 k2_hw323 => k2_hw323

def k2_chk324 (v1358 : IVec S16 32) (v1390 : IVec S16 32) (v1619 : IVec S16 32) : Prop :=
  (∀ a x, ((![v1390, v1358, v1619] : Fin 3 → IVec S16 32) a x).toNat < S2x64x128.size a)
theorem k2_idx324_inb : ∀ (v1358 : IVec S16 32) (v1390 : IVec S16 32) (v1619 : IVec S16 32) (k2_hw324 : k2_chk324 v1358 v1390 v1619), ∀ a x, ((![v1390, v1358, v1619] : Fin 3 → IVec S16 32) a x).toNat < S2x64x128.size a := fun v1358 v1390 v1619 k2_hw324 => k2_hw324

def k2_chk325 (v1358 : IVec S16 32) (v1390 : IVec S16 32) (v1624 : IVec S16 32) : Prop :=
  (∀ a x, ((![v1390, v1358, v1624] : Fin 3 → IVec S16 32) a x).toNat < S2x64x128.size a)
theorem k2_idx325_inb : ∀ (v1358 : IVec S16 32) (v1390 : IVec S16 32) (v1624 : IVec S16 32) (k2_hw325 : k2_chk325 v1358 v1390 v1624), ∀ a x, ((![v1390, v1358, v1624] : Fin 3 → IVec S16 32) a x).toNat < S2x64x128.size a := fun v1358 v1390 v1624 k2_hw325 => k2_hw325

def k2_chk326 (v1358 : IVec S16 32) (v1390 : IVec S16 32) (v1627 : IVec S16 32) : Prop :=
  (∀ a x, ((![v1390, v1358, v1627] : Fin 3 → IVec S16 32) a x).toNat < S2x64x128.size a)
theorem k2_idx326_inb : ∀ (v1358 : IVec S16 32) (v1390 : IVec S16 32) (v1627 : IVec S16 32) (k2_hw326 : k2_chk326 v1358 v1390 v1627), ∀ a x, ((![v1390, v1358, v1627] : Fin 3 → IVec S16 32) a x).toNat < S2x64x128.size a := fun v1358 v1390 v1627 k2_hw326 => k2_hw326

def k2_chk327 (v1358 : IVec S16 32) (v1390 : IVec S16 32) (v1632 : IVec S16 32) : Prop :=
  (∀ a x, ((![v1390, v1358, v1632] : Fin 3 → IVec S16 32) a x).toNat < S2x64x128.size a)
theorem k2_idx327_inb : ∀ (v1358 : IVec S16 32) (v1390 : IVec S16 32) (v1632 : IVec S16 32) (k2_hw327 : k2_chk327 v1358 v1390 v1632), ∀ a x, ((![v1390, v1358, v1632] : Fin 3 → IVec S16 32) a x).toNat < S2x64x128.size a := fun v1358 v1390 v1632 k2_hw327 => k2_hw327

def k2_chk328 (v1358 : IVec S16 32) (v1390 : IVec S16 32) (v1635 : IVec S16 32) : Prop :=
  (∀ a x, ((![v1390, v1358, v1635] : Fin 3 → IVec S16 32) a x).toNat < S2x64x128.size a)
theorem k2_idx328_inb : ∀ (v1358 : IVec S16 32) (v1390 : IVec S16 32) (v1635 : IVec S16 32) (k2_hw328 : k2_chk328 v1358 v1390 v1635), ∀ a x, ((![v1390, v1358, v1635] : Fin 3 → IVec S16 32) a x).toNat < S2x64x128.size a := fun v1358 v1390 v1635 k2_hw328 => k2_hw328

def k2_chk329 (v1358 : IVec S16 32) (v1390 : IVec S16 32) (v1640 : IVec S16 32) : Prop :=
  (∀ a x, ((![v1390, v1358, v1640] : Fin 3 → IVec S16 32) a x).toNat < S2x64x128.size a)
theorem k2_idx329_inb : ∀ (v1358 : IVec S16 32) (v1390 : IVec S16 32) (v1640 : IVec S16 32) (k2_hw329 : k2_chk329 v1358 v1390 v1640), ∀ a x, ((![v1390, v1358, v1640] : Fin 3 → IVec S16 32) a x).toNat < S2x64x128.size a := fun v1358 v1390 v1640 k2_hw329 => k2_hw329

def k2_chk330 (v1358 : IVec S16 32) (v1390 : IVec S16 32) (v1643 : IVec S16 32) : Prop :=
  (∀ a x, ((![v1390, v1358, v1643] : Fin 3 → IVec S16 32) a x).toNat < S2x64x128.size a)
theorem k2_idx330_inb : ∀ (v1358 : IVec S16 32) (v1390 : IVec S16 32) (v1643 : IVec S16 32) (k2_hw330 : k2_chk330 v1358 v1390 v1643), ∀ a x, ((![v1390, v1358, v1643] : Fin 3 → IVec S16 32) a x).toNat < S2x64x128.size a := fun v1358 v1390 v1643 k2_hw330 => k2_hw330
def k2_off11 (k2_t5 : Fin k2_t5_loop.trips) : Fin 1 → Nat :=
  let c256_i32_1269 : BitVec 32 := 256#32
  let c0_i32_866 : BitVec 32 := 0#32
  let c1_i32_868 : BitVec 32 := 1#32
  let arg19 : BitVec 32 := Scf.iv c0_i32_866 c1_i32_868 k2_t5
  let c16_i32_1268 : BitVec 32 := 16#32
  let v1647 : BitVec 32 := Scalar.muli arg19 c16_i32_1268
  let v1648 : BitVec 32 := Scalar.addi c256_i32_1269 v1647
  let v1649 : Index := Scalar.indexCast v1648
  ![v1649.toNat]
@[reducible] def k2_t6_loop : Scf.Loop 32 :=
  let c0_i32_1019 : BitVec 32 := 0#32
  let c4_i32_1020 : BitVec 32 := 4#32
  let v1165 : BitVec 32 := Scalar.addi c0_i32_1019 c4_i32_1020
  let c1_i32_1021 : BitVec 32 := 1#32
  ⟨c0_i32_1019, v1165, c1_i32_1021⟩
def k2_off12 (k2_t6 : Fin k2_t6_loop.trips) : Fin 1 → Nat :=
  let c320_i32 : BitVec 32 := 320#32
  let c0_i32_1019 : BitVec 32 := 0#32
  let c1_i32_1021 : BitVec 32 := 1#32
  let arg19 : BitVec 32 := Scf.iv c0_i32_1019 c1_i32_1021 k2_t6
  let c16_i32_1214 : BitVec 32 := 16#32
  let v1359 : BitVec 32 := Scalar.muli arg19 c16_i32_1214
  let v1360 : BitVec 32 := Scalar.addi c320_i32 v1359
  let v1361 : Index := Scalar.indexCast v1360
  ![v1361.toNat]

def k2_chk331 (v1358 : IVec S16 32) (v1367 : IVec S16 32) (v1369 : IVec S16 32) : Prop :=
  (∀ a x, ((![v1367, v1358, v1369] : Fin 3 → IVec S16 32) a x).toNat < S2x64x128.size a)
theorem k2_idx331_inb : ∀ (v1358 : IVec S16 32) (v1367 : IVec S16 32) (v1369 : IVec S16 32) (k2_hw331 : k2_chk331 v1358 v1367 v1369), ∀ a x, ((![v1367, v1358, v1369] : Fin 3 → IVec S16 32) a x).toNat < S2x64x128.size a := fun v1358 v1367 v1369 k2_hw331 => k2_hw331

def k2_chk332 (v1358 : IVec S16 32) (v1373 : IVec S16 32) (v1375 : IVec S16 32) : Prop :=
  (∀ a x, ((![v1373, v1358, v1375] : Fin 3 → IVec S16 32) a x).toNat < S2x64x128.size a)
theorem k2_idx332_inb : ∀ (v1358 : IVec S16 32) (v1373 : IVec S16 32) (v1375 : IVec S16 32) (k2_hw332 : k2_chk332 v1358 v1373 v1375), ∀ a x, ((![v1373, v1358, v1375] : Fin 3 → IVec S16 32) a x).toNat < S2x64x128.size a := fun v1358 v1373 v1375 k2_hw332 => k2_hw332

def k2_chk333 (v1358 : IVec S16 32) (v1390 : IVec S16 32) (v1392 : IVec S16 32) : Prop :=
  (∀ a x, ((![v1390, v1358, v1392] : Fin 3 → IVec S16 32) a x).toNat < S2x64x128.size a)
theorem k2_idx333_inb : ∀ (v1358 : IVec S16 32) (v1390 : IVec S16 32) (v1392 : IVec S16 32) (k2_hw333 : k2_chk333 v1358 v1390 v1392), ∀ a x, ((![v1390, v1358, v1392] : Fin 3 → IVec S16 32) a x).toNat < S2x64x128.size a := fun v1358 v1390 v1392 k2_hw333 => k2_hw333

def k2_chk334 (v1358 : IVec S16 32) (v1390 : IVec S16 32) (v1395 : IVec S16 32) : Prop :=
  (∀ a x, ((![v1390, v1358, v1395] : Fin 3 → IVec S16 32) a x).toNat < S2x64x128.size a)
theorem k2_idx334_inb : ∀ (v1358 : IVec S16 32) (v1390 : IVec S16 32) (v1395 : IVec S16 32) (k2_hw334 : k2_chk334 v1358 v1390 v1395), ∀ a x, ((![v1390, v1358, v1395] : Fin 3 → IVec S16 32) a x).toNat < S2x64x128.size a := fun v1358 v1390 v1395 k2_hw334 => k2_hw334

def k2_chk335 (v1358 : IVec S16 32) (v1390 : IVec S16 32) (v1400 : IVec S16 32) : Prop :=
  (∀ a x, ((![v1390, v1358, v1400] : Fin 3 → IVec S16 32) a x).toNat < S2x64x128.size a)
theorem k2_idx335_inb : ∀ (v1358 : IVec S16 32) (v1390 : IVec S16 32) (v1400 : IVec S16 32) (k2_hw335 : k2_chk335 v1358 v1390 v1400), ∀ a x, ((![v1390, v1358, v1400] : Fin 3 → IVec S16 32) a x).toNat < S2x64x128.size a := fun v1358 v1390 v1400 k2_hw335 => k2_hw335

def k2_chk336 (v1358 : IVec S16 32) (v1390 : IVec S16 32) (v1403 : IVec S16 32) : Prop :=
  (∀ a x, ((![v1390, v1358, v1403] : Fin 3 → IVec S16 32) a x).toNat < S2x64x128.size a)
theorem k2_idx336_inb : ∀ (v1358 : IVec S16 32) (v1390 : IVec S16 32) (v1403 : IVec S16 32) (k2_hw336 : k2_chk336 v1358 v1390 v1403), ∀ a x, ((![v1390, v1358, v1403] : Fin 3 → IVec S16 32) a x).toNat < S2x64x128.size a := fun v1358 v1390 v1403 k2_hw336 => k2_hw336

def k2_chk337 (v1358 : IVec S16 32) (v1390 : IVec S16 32) (v1408 : IVec S16 32) : Prop :=
  (∀ a x, ((![v1390, v1358, v1408] : Fin 3 → IVec S16 32) a x).toNat < S2x64x128.size a)
theorem k2_idx337_inb : ∀ (v1358 : IVec S16 32) (v1390 : IVec S16 32) (v1408 : IVec S16 32) (k2_hw337 : k2_chk337 v1358 v1390 v1408), ∀ a x, ((![v1390, v1358, v1408] : Fin 3 → IVec S16 32) a x).toNat < S2x64x128.size a := fun v1358 v1390 v1408 k2_hw337 => k2_hw337

def k2_chk338 (v1358 : IVec S16 32) (v1390 : IVec S16 32) (v1411 : IVec S16 32) : Prop :=
  (∀ a x, ((![v1390, v1358, v1411] : Fin 3 → IVec S16 32) a x).toNat < S2x64x128.size a)
theorem k2_idx338_inb : ∀ (v1358 : IVec S16 32) (v1390 : IVec S16 32) (v1411 : IVec S16 32) (k2_hw338 : k2_chk338 v1358 v1390 v1411), ∀ a x, ((![v1390, v1358, v1411] : Fin 3 → IVec S16 32) a x).toNat < S2x64x128.size a := fun v1358 v1390 v1411 k2_hw338 => k2_hw338

def k2_chk339 (v1358 : IVec S16 32) (v1390 : IVec S16 32) (v1416 : IVec S16 32) : Prop :=
  (∀ a x, ((![v1390, v1358, v1416] : Fin 3 → IVec S16 32) a x).toNat < S2x64x128.size a)
theorem k2_idx339_inb : ∀ (v1358 : IVec S16 32) (v1390 : IVec S16 32) (v1416 : IVec S16 32) (k2_hw339 : k2_chk339 v1358 v1390 v1416), ∀ a x, ((![v1390, v1358, v1416] : Fin 3 → IVec S16 32) a x).toNat < S2x64x128.size a := fun v1358 v1390 v1416 k2_hw339 => k2_hw339

def k2_chk340 (v1358 : IVec S16 32) (v1390 : IVec S16 32) (v1419 : IVec S16 32) : Prop :=
  (∀ a x, ((![v1390, v1358, v1419] : Fin 3 → IVec S16 32) a x).toNat < S2x64x128.size a)
theorem k2_idx340_inb : ∀ (v1358 : IVec S16 32) (v1390 : IVec S16 32) (v1419 : IVec S16 32) (k2_hw340 : k2_chk340 v1358 v1390 v1419), ∀ a x, ((![v1390, v1358, v1419] : Fin 3 → IVec S16 32) a x).toNat < S2x64x128.size a := fun v1358 v1390 v1419 k2_hw340 => k2_hw340

def k2_chk341 (v1358 : IVec S16 32) (v1390 : IVec S16 32) (v1424 : IVec S16 32) : Prop :=
  (∀ a x, ((![v1390, v1358, v1424] : Fin 3 → IVec S16 32) a x).toNat < S2x64x128.size a)
theorem k2_idx341_inb : ∀ (v1358 : IVec S16 32) (v1390 : IVec S16 32) (v1424 : IVec S16 32) (k2_hw341 : k2_chk341 v1358 v1390 v1424), ∀ a x, ((![v1390, v1358, v1424] : Fin 3 → IVec S16 32) a x).toNat < S2x64x128.size a := fun v1358 v1390 v1424 k2_hw341 => k2_hw341

def k2_chk342 (v1358 : IVec S16 32) (v1390 : IVec S16 32) (v1427 : IVec S16 32) : Prop :=
  (∀ a x, ((![v1390, v1358, v1427] : Fin 3 → IVec S16 32) a x).toNat < S2x64x128.size a)
theorem k2_idx342_inb : ∀ (v1358 : IVec S16 32) (v1390 : IVec S16 32) (v1427 : IVec S16 32) (k2_hw342 : k2_chk342 v1358 v1390 v1427), ∀ a x, ((![v1390, v1358, v1427] : Fin 3 → IVec S16 32) a x).toNat < S2x64x128.size a := fun v1358 v1390 v1427 k2_hw342 => k2_hw342

def k2_chk343 (v1358 : IVec S16 32) (v1390 : IVec S16 32) (v1432 : IVec S16 32) : Prop :=
  (∀ a x, ((![v1390, v1358, v1432] : Fin 3 → IVec S16 32) a x).toNat < S2x64x128.size a)
theorem k2_idx343_inb : ∀ (v1358 : IVec S16 32) (v1390 : IVec S16 32) (v1432 : IVec S16 32) (k2_hw343 : k2_chk343 v1358 v1390 v1432), ∀ a x, ((![v1390, v1358, v1432] : Fin 3 → IVec S16 32) a x).toNat < S2x64x128.size a := fun v1358 v1390 v1432 k2_hw343 => k2_hw343

def k2_chk344 (v1358 : IVec S16 32) (v1390 : IVec S16 32) (v1435 : IVec S16 32) : Prop :=
  (∀ a x, ((![v1390, v1358, v1435] : Fin 3 → IVec S16 32) a x).toNat < S2x64x128.size a)
theorem k2_idx344_inb : ∀ (v1358 : IVec S16 32) (v1390 : IVec S16 32) (v1435 : IVec S16 32) (k2_hw344 : k2_chk344 v1358 v1390 v1435), ∀ a x, ((![v1390, v1358, v1435] : Fin 3 → IVec S16 32) a x).toNat < S2x64x128.size a := fun v1358 v1390 v1435 k2_hw344 => k2_hw344

def k2_chk345 (v1358 : IVec S16 32) (v1390 : IVec S16 32) (v1440 : IVec S16 32) : Prop :=
  (∀ a x, ((![v1390, v1358, v1440] : Fin 3 → IVec S16 32) a x).toNat < S2x64x128.size a)
theorem k2_idx345_inb : ∀ (v1358 : IVec S16 32) (v1390 : IVec S16 32) (v1440 : IVec S16 32) (k2_hw345 : k2_chk345 v1358 v1390 v1440), ∀ a x, ((![v1390, v1358, v1440] : Fin 3 → IVec S16 32) a x).toNat < S2x64x128.size a := fun v1358 v1390 v1440 k2_hw345 => k2_hw345

def k2_chk346 (v1358 : IVec S16 32) (v1390 : IVec S16 32) (v1443 : IVec S16 32) : Prop :=
  (∀ a x, ((![v1390, v1358, v1443] : Fin 3 → IVec S16 32) a x).toNat < S2x64x128.size a)
theorem k2_idx346_inb : ∀ (v1358 : IVec S16 32) (v1390 : IVec S16 32) (v1443 : IVec S16 32) (k2_hw346 : k2_chk346 v1358 v1390 v1443), ∀ a x, ((![v1390, v1358, v1443] : Fin 3 → IVec S16 32) a x).toNat < S2x64x128.size a := fun v1358 v1390 v1443 k2_hw346 => k2_hw346

def k2_chk347 (v1358 : IVec S16 32) (v1390 : IVec S16 32) (v1448 : IVec S16 32) : Prop :=
  (∀ a x, ((![v1390, v1358, v1448] : Fin 3 → IVec S16 32) a x).toNat < S2x64x128.size a)
theorem k2_idx347_inb : ∀ (v1358 : IVec S16 32) (v1390 : IVec S16 32) (v1448 : IVec S16 32) (k2_hw347 : k2_chk347 v1358 v1390 v1448), ∀ a x, ((![v1390, v1358, v1448] : Fin 3 → IVec S16 32) a x).toNat < S2x64x128.size a := fun v1358 v1390 v1448 k2_hw347 => k2_hw347

def k2_chk348 (v1358 : IVec S16 32) (v1390 : IVec S16 32) (v1451 : IVec S16 32) : Prop :=
  (∀ a x, ((![v1390, v1358, v1451] : Fin 3 → IVec S16 32) a x).toNat < S2x64x128.size a)
theorem k2_idx348_inb : ∀ (v1358 : IVec S16 32) (v1390 : IVec S16 32) (v1451 : IVec S16 32) (k2_hw348 : k2_chk348 v1358 v1390 v1451), ∀ a x, ((![v1390, v1358, v1451] : Fin 3 → IVec S16 32) a x).toNat < S2x64x128.size a := fun v1358 v1390 v1451 k2_hw348 => k2_hw348

def k2_chk349 (v1358 : IVec S16 32) (v1390 : IVec S16 32) (v1456 : IVec S16 32) : Prop :=
  (∀ a x, ((![v1390, v1358, v1456] : Fin 3 → IVec S16 32) a x).toNat < S2x64x128.size a)
theorem k2_idx349_inb : ∀ (v1358 : IVec S16 32) (v1390 : IVec S16 32) (v1456 : IVec S16 32) (k2_hw349 : k2_chk349 v1358 v1390 v1456), ∀ a x, ((![v1390, v1358, v1456] : Fin 3 → IVec S16 32) a x).toNat < S2x64x128.size a := fun v1358 v1390 v1456 k2_hw349 => k2_hw349

def k2_chk350 (v1358 : IVec S16 32) (v1390 : IVec S16 32) (v1459 : IVec S16 32) : Prop :=
  (∀ a x, ((![v1390, v1358, v1459] : Fin 3 → IVec S16 32) a x).toNat < S2x64x128.size a)
theorem k2_idx350_inb : ∀ (v1358 : IVec S16 32) (v1390 : IVec S16 32) (v1459 : IVec S16 32) (k2_hw350 : k2_chk350 v1358 v1390 v1459), ∀ a x, ((![v1390, v1358, v1459] : Fin 3 → IVec S16 32) a x).toNat < S2x64x128.size a := fun v1358 v1390 v1459 k2_hw350 => k2_hw350

def k2_chk351 (v1358 : IVec S16 32) (v1390 : IVec S16 32) (v1464 : IVec S16 32) : Prop :=
  (∀ a x, ((![v1390, v1358, v1464] : Fin 3 → IVec S16 32) a x).toNat < S2x64x128.size a)
theorem k2_idx351_inb : ∀ (v1358 : IVec S16 32) (v1390 : IVec S16 32) (v1464 : IVec S16 32) (k2_hw351 : k2_chk351 v1358 v1390 v1464), ∀ a x, ((![v1390, v1358, v1464] : Fin 3 → IVec S16 32) a x).toNat < S2x64x128.size a := fun v1358 v1390 v1464 k2_hw351 => k2_hw351

def k2_chk352 (v1358 : IVec S16 32) (v1390 : IVec S16 32) (v1467 : IVec S16 32) : Prop :=
  (∀ a x, ((![v1390, v1358, v1467] : Fin 3 → IVec S16 32) a x).toNat < S2x64x128.size a)
theorem k2_idx352_inb : ∀ (v1358 : IVec S16 32) (v1390 : IVec S16 32) (v1467 : IVec S16 32) (k2_hw352 : k2_chk352 v1358 v1390 v1467), ∀ a x, ((![v1390, v1358, v1467] : Fin 3 → IVec S16 32) a x).toNat < S2x64x128.size a := fun v1358 v1390 v1467 k2_hw352 => k2_hw352

def k2_chk353 (v1358 : IVec S16 32) (v1390 : IVec S16 32) (v1472 : IVec S16 32) : Prop :=
  (∀ a x, ((![v1390, v1358, v1472] : Fin 3 → IVec S16 32) a x).toNat < S2x64x128.size a)
theorem k2_idx353_inb : ∀ (v1358 : IVec S16 32) (v1390 : IVec S16 32) (v1472 : IVec S16 32) (k2_hw353 : k2_chk353 v1358 v1390 v1472), ∀ a x, ((![v1390, v1358, v1472] : Fin 3 → IVec S16 32) a x).toNat < S2x64x128.size a := fun v1358 v1390 v1472 k2_hw353 => k2_hw353

def k2_chk354 (v1358 : IVec S16 32) (v1390 : IVec S16 32) (v1475 : IVec S16 32) : Prop :=
  (∀ a x, ((![v1390, v1358, v1475] : Fin 3 → IVec S16 32) a x).toNat < S2x64x128.size a)
theorem k2_idx354_inb : ∀ (v1358 : IVec S16 32) (v1390 : IVec S16 32) (v1475 : IVec S16 32) (k2_hw354 : k2_chk354 v1358 v1390 v1475), ∀ a x, ((![v1390, v1358, v1475] : Fin 3 → IVec S16 32) a x).toNat < S2x64x128.size a := fun v1358 v1390 v1475 k2_hw354 => k2_hw354

def k2_chk355 (v1358 : IVec S16 32) (v1390 : IVec S16 32) (v1480 : IVec S16 32) : Prop :=
  (∀ a x, ((![v1390, v1358, v1480] : Fin 3 → IVec S16 32) a x).toNat < S2x64x128.size a)
theorem k2_idx355_inb : ∀ (v1358 : IVec S16 32) (v1390 : IVec S16 32) (v1480 : IVec S16 32) (k2_hw355 : k2_chk355 v1358 v1390 v1480), ∀ a x, ((![v1390, v1358, v1480] : Fin 3 → IVec S16 32) a x).toNat < S2x64x128.size a := fun v1358 v1390 v1480 k2_hw355 => k2_hw355

def k2_chk356 (v1358 : IVec S16 32) (v1390 : IVec S16 32) (v1483 : IVec S16 32) : Prop :=
  (∀ a x, ((![v1390, v1358, v1483] : Fin 3 → IVec S16 32) a x).toNat < S2x64x128.size a)
theorem k2_idx356_inb : ∀ (v1358 : IVec S16 32) (v1390 : IVec S16 32) (v1483 : IVec S16 32) (k2_hw356 : k2_chk356 v1358 v1390 v1483), ∀ a x, ((![v1390, v1358, v1483] : Fin 3 → IVec S16 32) a x).toNat < S2x64x128.size a := fun v1358 v1390 v1483 k2_hw356 => k2_hw356

def k2_chk357 (v1358 : IVec S16 32) (v1390 : IVec S16 32) (v1488 : IVec S16 32) : Prop :=
  (∀ a x, ((![v1390, v1358, v1488] : Fin 3 → IVec S16 32) a x).toNat < S2x64x128.size a)
theorem k2_idx357_inb : ∀ (v1358 : IVec S16 32) (v1390 : IVec S16 32) (v1488 : IVec S16 32) (k2_hw357 : k2_chk357 v1358 v1390 v1488), ∀ a x, ((![v1390, v1358, v1488] : Fin 3 → IVec S16 32) a x).toNat < S2x64x128.size a := fun v1358 v1390 v1488 k2_hw357 => k2_hw357

def k2_chk358 (v1358 : IVec S16 32) (v1390 : IVec S16 32) (v1491 : IVec S16 32) : Prop :=
  (∀ a x, ((![v1390, v1358, v1491] : Fin 3 → IVec S16 32) a x).toNat < S2x64x128.size a)
theorem k2_idx358_inb : ∀ (v1358 : IVec S16 32) (v1390 : IVec S16 32) (v1491 : IVec S16 32) (k2_hw358 : k2_chk358 v1358 v1390 v1491), ∀ a x, ((![v1390, v1358, v1491] : Fin 3 → IVec S16 32) a x).toNat < S2x64x128.size a := fun v1358 v1390 v1491 k2_hw358 => k2_hw358

def k2_chk359 (v1358 : IVec S16 32) (v1390 : IVec S16 32) (v1496 : IVec S16 32) : Prop :=
  (∀ a x, ((![v1390, v1358, v1496] : Fin 3 → IVec S16 32) a x).toNat < S2x64x128.size a)
theorem k2_idx359_inb : ∀ (v1358 : IVec S16 32) (v1390 : IVec S16 32) (v1496 : IVec S16 32) (k2_hw359 : k2_chk359 v1358 v1390 v1496), ∀ a x, ((![v1390, v1358, v1496] : Fin 3 → IVec S16 32) a x).toNat < S2x64x128.size a := fun v1358 v1390 v1496 k2_hw359 => k2_hw359

def k2_chk360 (v1358 : IVec S16 32) (v1390 : IVec S16 32) (v1499 : IVec S16 32) : Prop :=
  (∀ a x, ((![v1390, v1358, v1499] : Fin 3 → IVec S16 32) a x).toNat < S2x64x128.size a)
theorem k2_idx360_inb : ∀ (v1358 : IVec S16 32) (v1390 : IVec S16 32) (v1499 : IVec S16 32) (k2_hw360 : k2_chk360 v1358 v1390 v1499), ∀ a x, ((![v1390, v1358, v1499] : Fin 3 → IVec S16 32) a x).toNat < S2x64x128.size a := fun v1358 v1390 v1499 k2_hw360 => k2_hw360

def k2_chk361 (v1358 : IVec S16 32) (v1390 : IVec S16 32) (v1504 : IVec S16 32) : Prop :=
  (∀ a x, ((![v1390, v1358, v1504] : Fin 3 → IVec S16 32) a x).toNat < S2x64x128.size a)
theorem k2_idx361_inb : ∀ (v1358 : IVec S16 32) (v1390 : IVec S16 32) (v1504 : IVec S16 32) (k2_hw361 : k2_chk361 v1358 v1390 v1504), ∀ a x, ((![v1390, v1358, v1504] : Fin 3 → IVec S16 32) a x).toNat < S2x64x128.size a := fun v1358 v1390 v1504 k2_hw361 => k2_hw361

def k2_chk362 (v1358 : IVec S16 32) (v1390 : IVec S16 32) (v1507 : IVec S16 32) : Prop :=
  (∀ a x, ((![v1390, v1358, v1507] : Fin 3 → IVec S16 32) a x).toNat < S2x64x128.size a)
theorem k2_idx362_inb : ∀ (v1358 : IVec S16 32) (v1390 : IVec S16 32) (v1507 : IVec S16 32) (k2_hw362 : k2_chk362 v1358 v1390 v1507), ∀ a x, ((![v1390, v1358, v1507] : Fin 3 → IVec S16 32) a x).toNat < S2x64x128.size a := fun v1358 v1390 v1507 k2_hw362 => k2_hw362

def k2_chk363 (v1358 : IVec S16 32) (v1390 : IVec S16 32) (v1512 : IVec S16 32) : Prop :=
  (∀ a x, ((![v1390, v1358, v1512] : Fin 3 → IVec S16 32) a x).toNat < S2x64x128.size a)
theorem k2_idx363_inb : ∀ (v1358 : IVec S16 32) (v1390 : IVec S16 32) (v1512 : IVec S16 32) (k2_hw363 : k2_chk363 v1358 v1390 v1512), ∀ a x, ((![v1390, v1358, v1512] : Fin 3 → IVec S16 32) a x).toNat < S2x64x128.size a := fun v1358 v1390 v1512 k2_hw363 => k2_hw363

def k2_chk364 (v1358 : IVec S16 32) (v1390 : IVec S16 32) (v1515 : IVec S16 32) : Prop :=
  (∀ a x, ((![v1390, v1358, v1515] : Fin 3 → IVec S16 32) a x).toNat < S2x64x128.size a)
theorem k2_idx364_inb : ∀ (v1358 : IVec S16 32) (v1390 : IVec S16 32) (v1515 : IVec S16 32) (k2_hw364 : k2_chk364 v1358 v1390 v1515), ∀ a x, ((![v1390, v1358, v1515] : Fin 3 → IVec S16 32) a x).toNat < S2x64x128.size a := fun v1358 v1390 v1515 k2_hw364 => k2_hw364

def k2_chk365 (v1358 : IVec S16 32) (v1390 : IVec S16 32) (v1520 : IVec S16 32) : Prop :=
  (∀ a x, ((![v1390, v1358, v1520] : Fin 3 → IVec S16 32) a x).toNat < S2x64x128.size a)
theorem k2_idx365_inb : ∀ (v1358 : IVec S16 32) (v1390 : IVec S16 32) (v1520 : IVec S16 32) (k2_hw365 : k2_chk365 v1358 v1390 v1520), ∀ a x, ((![v1390, v1358, v1520] : Fin 3 → IVec S16 32) a x).toNat < S2x64x128.size a := fun v1358 v1390 v1520 k2_hw365 => k2_hw365

def k2_chk366 (v1358 : IVec S16 32) (v1390 : IVec S16 32) (v1523 : IVec S16 32) : Prop :=
  (∀ a x, ((![v1390, v1358, v1523] : Fin 3 → IVec S16 32) a x).toNat < S2x64x128.size a)
theorem k2_idx366_inb : ∀ (v1358 : IVec S16 32) (v1390 : IVec S16 32) (v1523 : IVec S16 32) (k2_hw366 : k2_chk366 v1358 v1390 v1523), ∀ a x, ((![v1390, v1358, v1523] : Fin 3 → IVec S16 32) a x).toNat < S2x64x128.size a := fun v1358 v1390 v1523 k2_hw366 => k2_hw366

def k2_chk367 (v1358 : IVec S16 32) (v1390 : IVec S16 32) (v1528 : IVec S16 32) : Prop :=
  (∀ a x, ((![v1390, v1358, v1528] : Fin 3 → IVec S16 32) a x).toNat < S2x64x128.size a)
theorem k2_idx367_inb : ∀ (v1358 : IVec S16 32) (v1390 : IVec S16 32) (v1528 : IVec S16 32) (k2_hw367 : k2_chk367 v1358 v1390 v1528), ∀ a x, ((![v1390, v1358, v1528] : Fin 3 → IVec S16 32) a x).toNat < S2x64x128.size a := fun v1358 v1390 v1528 k2_hw367 => k2_hw367

def k2_chk368 (v1358 : IVec S16 32) (v1390 : IVec S16 32) (v1531 : IVec S16 32) : Prop :=
  (∀ a x, ((![v1390, v1358, v1531] : Fin 3 → IVec S16 32) a x).toNat < S2x64x128.size a)
theorem k2_idx368_inb : ∀ (v1358 : IVec S16 32) (v1390 : IVec S16 32) (v1531 : IVec S16 32) (k2_hw368 : k2_chk368 v1358 v1390 v1531), ∀ a x, ((![v1390, v1358, v1531] : Fin 3 → IVec S16 32) a x).toNat < S2x64x128.size a := fun v1358 v1390 v1531 k2_hw368 => k2_hw368

def k2_chk369 (v1358 : IVec S16 32) (v1390 : IVec S16 32) (v1536 : IVec S16 32) : Prop :=
  (∀ a x, ((![v1390, v1358, v1536] : Fin 3 → IVec S16 32) a x).toNat < S2x64x128.size a)
theorem k2_idx369_inb : ∀ (v1358 : IVec S16 32) (v1390 : IVec S16 32) (v1536 : IVec S16 32) (k2_hw369 : k2_chk369 v1358 v1390 v1536), ∀ a x, ((![v1390, v1358, v1536] : Fin 3 → IVec S16 32) a x).toNat < S2x64x128.size a := fun v1358 v1390 v1536 k2_hw369 => k2_hw369

def k2_chk370 (v1358 : IVec S16 32) (v1390 : IVec S16 32) (v1539 : IVec S16 32) : Prop :=
  (∀ a x, ((![v1390, v1358, v1539] : Fin 3 → IVec S16 32) a x).toNat < S2x64x128.size a)
theorem k2_idx370_inb : ∀ (v1358 : IVec S16 32) (v1390 : IVec S16 32) (v1539 : IVec S16 32) (k2_hw370 : k2_chk370 v1358 v1390 v1539), ∀ a x, ((![v1390, v1358, v1539] : Fin 3 → IVec S16 32) a x).toNat < S2x64x128.size a := fun v1358 v1390 v1539 k2_hw370 => k2_hw370

def k2_chk371 (v1358 : IVec S16 32) (v1390 : IVec S16 32) (v1544 : IVec S16 32) : Prop :=
  (∀ a x, ((![v1390, v1358, v1544] : Fin 3 → IVec S16 32) a x).toNat < S2x64x128.size a)
theorem k2_idx371_inb : ∀ (v1358 : IVec S16 32) (v1390 : IVec S16 32) (v1544 : IVec S16 32) (k2_hw371 : k2_chk371 v1358 v1390 v1544), ∀ a x, ((![v1390, v1358, v1544] : Fin 3 → IVec S16 32) a x).toNat < S2x64x128.size a := fun v1358 v1390 v1544 k2_hw371 => k2_hw371

def k2_chk372 (v1358 : IVec S16 32) (v1390 : IVec S16 32) (v1547 : IVec S16 32) : Prop :=
  (∀ a x, ((![v1390, v1358, v1547] : Fin 3 → IVec S16 32) a x).toNat < S2x64x128.size a)
theorem k2_idx372_inb : ∀ (v1358 : IVec S16 32) (v1390 : IVec S16 32) (v1547 : IVec S16 32) (k2_hw372 : k2_chk372 v1358 v1390 v1547), ∀ a x, ((![v1390, v1358, v1547] : Fin 3 → IVec S16 32) a x).toNat < S2x64x128.size a := fun v1358 v1390 v1547 k2_hw372 => k2_hw372

def k2_chk373 (v1358 : IVec S16 32) (v1390 : IVec S16 32) (v1552 : IVec S16 32) : Prop :=
  (∀ a x, ((![v1390, v1358, v1552] : Fin 3 → IVec S16 32) a x).toNat < S2x64x128.size a)
theorem k2_idx373_inb : ∀ (v1358 : IVec S16 32) (v1390 : IVec S16 32) (v1552 : IVec S16 32) (k2_hw373 : k2_chk373 v1358 v1390 v1552), ∀ a x, ((![v1390, v1358, v1552] : Fin 3 → IVec S16 32) a x).toNat < S2x64x128.size a := fun v1358 v1390 v1552 k2_hw373 => k2_hw373

def k2_chk374 (v1358 : IVec S16 32) (v1390 : IVec S16 32) (v1555 : IVec S16 32) : Prop :=
  (∀ a x, ((![v1390, v1358, v1555] : Fin 3 → IVec S16 32) a x).toNat < S2x64x128.size a)
theorem k2_idx374_inb : ∀ (v1358 : IVec S16 32) (v1390 : IVec S16 32) (v1555 : IVec S16 32) (k2_hw374 : k2_chk374 v1358 v1390 v1555), ∀ a x, ((![v1390, v1358, v1555] : Fin 3 → IVec S16 32) a x).toNat < S2x64x128.size a := fun v1358 v1390 v1555 k2_hw374 => k2_hw374

def k2_chk375 (v1358 : IVec S16 32) (v1390 : IVec S16 32) (v1560 : IVec S16 32) : Prop :=
  (∀ a x, ((![v1390, v1358, v1560] : Fin 3 → IVec S16 32) a x).toNat < S2x64x128.size a)
theorem k2_idx375_inb : ∀ (v1358 : IVec S16 32) (v1390 : IVec S16 32) (v1560 : IVec S16 32) (k2_hw375 : k2_chk375 v1358 v1390 v1560), ∀ a x, ((![v1390, v1358, v1560] : Fin 3 → IVec S16 32) a x).toNat < S2x64x128.size a := fun v1358 v1390 v1560 k2_hw375 => k2_hw375

def k2_chk376 (v1358 : IVec S16 32) (v1390 : IVec S16 32) (v1563 : IVec S16 32) : Prop :=
  (∀ a x, ((![v1390, v1358, v1563] : Fin 3 → IVec S16 32) a x).toNat < S2x64x128.size a)
theorem k2_idx376_inb : ∀ (v1358 : IVec S16 32) (v1390 : IVec S16 32) (v1563 : IVec S16 32) (k2_hw376 : k2_chk376 v1358 v1390 v1563), ∀ a x, ((![v1390, v1358, v1563] : Fin 3 → IVec S16 32) a x).toNat < S2x64x128.size a := fun v1358 v1390 v1563 k2_hw376 => k2_hw376

def k2_chk377 (v1358 : IVec S16 32) (v1390 : IVec S16 32) (v1568 : IVec S16 32) : Prop :=
  (∀ a x, ((![v1390, v1358, v1568] : Fin 3 → IVec S16 32) a x).toNat < S2x64x128.size a)
theorem k2_idx377_inb : ∀ (v1358 : IVec S16 32) (v1390 : IVec S16 32) (v1568 : IVec S16 32) (k2_hw377 : k2_chk377 v1358 v1390 v1568), ∀ a x, ((![v1390, v1358, v1568] : Fin 3 → IVec S16 32) a x).toNat < S2x64x128.size a := fun v1358 v1390 v1568 k2_hw377 => k2_hw377

def k2_chk378 (v1358 : IVec S16 32) (v1390 : IVec S16 32) (v1571 : IVec S16 32) : Prop :=
  (∀ a x, ((![v1390, v1358, v1571] : Fin 3 → IVec S16 32) a x).toNat < S2x64x128.size a)
theorem k2_idx378_inb : ∀ (v1358 : IVec S16 32) (v1390 : IVec S16 32) (v1571 : IVec S16 32) (k2_hw378 : k2_chk378 v1358 v1390 v1571), ∀ a x, ((![v1390, v1358, v1571] : Fin 3 → IVec S16 32) a x).toNat < S2x64x128.size a := fun v1358 v1390 v1571 k2_hw378 => k2_hw378

def k2_chk379 (v1358 : IVec S16 32) (v1390 : IVec S16 32) (v1576 : IVec S16 32) : Prop :=
  (∀ a x, ((![v1390, v1358, v1576] : Fin 3 → IVec S16 32) a x).toNat < S2x64x128.size a)
theorem k2_idx379_inb : ∀ (v1358 : IVec S16 32) (v1390 : IVec S16 32) (v1576 : IVec S16 32) (k2_hw379 : k2_chk379 v1358 v1390 v1576), ∀ a x, ((![v1390, v1358, v1576] : Fin 3 → IVec S16 32) a x).toNat < S2x64x128.size a := fun v1358 v1390 v1576 k2_hw379 => k2_hw379

def k2_chk380 (v1358 : IVec S16 32) (v1390 : IVec S16 32) (v1579 : IVec S16 32) : Prop :=
  (∀ a x, ((![v1390, v1358, v1579] : Fin 3 → IVec S16 32) a x).toNat < S2x64x128.size a)
theorem k2_idx380_inb : ∀ (v1358 : IVec S16 32) (v1390 : IVec S16 32) (v1579 : IVec S16 32) (k2_hw380 : k2_chk380 v1358 v1390 v1579), ∀ a x, ((![v1390, v1358, v1579] : Fin 3 → IVec S16 32) a x).toNat < S2x64x128.size a := fun v1358 v1390 v1579 k2_hw380 => k2_hw380

def k2_chk381 (v1358 : IVec S16 32) (v1390 : IVec S16 32) (v1584 : IVec S16 32) : Prop :=
  (∀ a x, ((![v1390, v1358, v1584] : Fin 3 → IVec S16 32) a x).toNat < S2x64x128.size a)
theorem k2_idx381_inb : ∀ (v1358 : IVec S16 32) (v1390 : IVec S16 32) (v1584 : IVec S16 32) (k2_hw381 : k2_chk381 v1358 v1390 v1584), ∀ a x, ((![v1390, v1358, v1584] : Fin 3 → IVec S16 32) a x).toNat < S2x64x128.size a := fun v1358 v1390 v1584 k2_hw381 => k2_hw381

def k2_chk382 (v1358 : IVec S16 32) (v1390 : IVec S16 32) (v1587 : IVec S16 32) : Prop :=
  (∀ a x, ((![v1390, v1358, v1587] : Fin 3 → IVec S16 32) a x).toNat < S2x64x128.size a)
theorem k2_idx382_inb : ∀ (v1358 : IVec S16 32) (v1390 : IVec S16 32) (v1587 : IVec S16 32) (k2_hw382 : k2_chk382 v1358 v1390 v1587), ∀ a x, ((![v1390, v1358, v1587] : Fin 3 → IVec S16 32) a x).toNat < S2x64x128.size a := fun v1358 v1390 v1587 k2_hw382 => k2_hw382

def k2_chk383 (v1358 : IVec S16 32) (v1390 : IVec S16 32) (v1592 : IVec S16 32) : Prop :=
  (∀ a x, ((![v1390, v1358, v1592] : Fin 3 → IVec S16 32) a x).toNat < S2x64x128.size a)
theorem k2_idx383_inb : ∀ (v1358 : IVec S16 32) (v1390 : IVec S16 32) (v1592 : IVec S16 32) (k2_hw383 : k2_chk383 v1358 v1390 v1592), ∀ a x, ((![v1390, v1358, v1592] : Fin 3 → IVec S16 32) a x).toNat < S2x64x128.size a := fun v1358 v1390 v1592 k2_hw383 => k2_hw383

def k2_chk384 (v1358 : IVec S16 32) (v1390 : IVec S16 32) (v1595 : IVec S16 32) : Prop :=
  (∀ a x, ((![v1390, v1358, v1595] : Fin 3 → IVec S16 32) a x).toNat < S2x64x128.size a)
theorem k2_idx384_inb : ∀ (v1358 : IVec S16 32) (v1390 : IVec S16 32) (v1595 : IVec S16 32) (k2_hw384 : k2_chk384 v1358 v1390 v1595), ∀ a x, ((![v1390, v1358, v1595] : Fin 3 → IVec S16 32) a x).toNat < S2x64x128.size a := fun v1358 v1390 v1595 k2_hw384 => k2_hw384

def k2_chk385 (v1358 : IVec S16 32) (v1390 : IVec S16 32) (v1600 : IVec S16 32) : Prop :=
  (∀ a x, ((![v1390, v1358, v1600] : Fin 3 → IVec S16 32) a x).toNat < S2x64x128.size a)
theorem k2_idx385_inb : ∀ (v1358 : IVec S16 32) (v1390 : IVec S16 32) (v1600 : IVec S16 32) (k2_hw385 : k2_chk385 v1358 v1390 v1600), ∀ a x, ((![v1390, v1358, v1600] : Fin 3 → IVec S16 32) a x).toNat < S2x64x128.size a := fun v1358 v1390 v1600 k2_hw385 => k2_hw385

def k2_chk386 (v1358 : IVec S16 32) (v1390 : IVec S16 32) (v1603 : IVec S16 32) : Prop :=
  (∀ a x, ((![v1390, v1358, v1603] : Fin 3 → IVec S16 32) a x).toNat < S2x64x128.size a)
theorem k2_idx386_inb : ∀ (v1358 : IVec S16 32) (v1390 : IVec S16 32) (v1603 : IVec S16 32) (k2_hw386 : k2_chk386 v1358 v1390 v1603), ∀ a x, ((![v1390, v1358, v1603] : Fin 3 → IVec S16 32) a x).toNat < S2x64x128.size a := fun v1358 v1390 v1603 k2_hw386 => k2_hw386

def k2_chk387 (v1358 : IVec S16 32) (v1390 : IVec S16 32) (v1608 : IVec S16 32) : Prop :=
  (∀ a x, ((![v1390, v1358, v1608] : Fin 3 → IVec S16 32) a x).toNat < S2x64x128.size a)
theorem k2_idx387_inb : ∀ (v1358 : IVec S16 32) (v1390 : IVec S16 32) (v1608 : IVec S16 32) (k2_hw387 : k2_chk387 v1358 v1390 v1608), ∀ a x, ((![v1390, v1358, v1608] : Fin 3 → IVec S16 32) a x).toNat < S2x64x128.size a := fun v1358 v1390 v1608 k2_hw387 => k2_hw387

def k2_chk388 (v1358 : IVec S16 32) (v1390 : IVec S16 32) (v1611 : IVec S16 32) : Prop :=
  (∀ a x, ((![v1390, v1358, v1611] : Fin 3 → IVec S16 32) a x).toNat < S2x64x128.size a)
theorem k2_idx388_inb : ∀ (v1358 : IVec S16 32) (v1390 : IVec S16 32) (v1611 : IVec S16 32) (k2_hw388 : k2_chk388 v1358 v1390 v1611), ∀ a x, ((![v1390, v1358, v1611] : Fin 3 → IVec S16 32) a x).toNat < S2x64x128.size a := fun v1358 v1390 v1611 k2_hw388 => k2_hw388

def k2_chk389 (v1358 : IVec S16 32) (v1390 : IVec S16 32) (v1616 : IVec S16 32) : Prop :=
  (∀ a x, ((![v1390, v1358, v1616] : Fin 3 → IVec S16 32) a x).toNat < S2x64x128.size a)
theorem k2_idx389_inb : ∀ (v1358 : IVec S16 32) (v1390 : IVec S16 32) (v1616 : IVec S16 32) (k2_hw389 : k2_chk389 v1358 v1390 v1616), ∀ a x, ((![v1390, v1358, v1616] : Fin 3 → IVec S16 32) a x).toNat < S2x64x128.size a := fun v1358 v1390 v1616 k2_hw389 => k2_hw389

def k2_chk390 (v1358 : IVec S16 32) (v1390 : IVec S16 32) (v1619 : IVec S16 32) : Prop :=
  (∀ a x, ((![v1390, v1358, v1619] : Fin 3 → IVec S16 32) a x).toNat < S2x64x128.size a)
theorem k2_idx390_inb : ∀ (v1358 : IVec S16 32) (v1390 : IVec S16 32) (v1619 : IVec S16 32) (k2_hw390 : k2_chk390 v1358 v1390 v1619), ∀ a x, ((![v1390, v1358, v1619] : Fin 3 → IVec S16 32) a x).toNat < S2x64x128.size a := fun v1358 v1390 v1619 k2_hw390 => k2_hw390

def k2_chk391 (v1358 : IVec S16 32) (v1390 : IVec S16 32) (v1624 : IVec S16 32) : Prop :=
  (∀ a x, ((![v1390, v1358, v1624] : Fin 3 → IVec S16 32) a x).toNat < S2x64x128.size a)
theorem k2_idx391_inb : ∀ (v1358 : IVec S16 32) (v1390 : IVec S16 32) (v1624 : IVec S16 32) (k2_hw391 : k2_chk391 v1358 v1390 v1624), ∀ a x, ((![v1390, v1358, v1624] : Fin 3 → IVec S16 32) a x).toNat < S2x64x128.size a := fun v1358 v1390 v1624 k2_hw391 => k2_hw391

def k2_chk392 (v1358 : IVec S16 32) (v1390 : IVec S16 32) (v1627 : IVec S16 32) : Prop :=
  (∀ a x, ((![v1390, v1358, v1627] : Fin 3 → IVec S16 32) a x).toNat < S2x64x128.size a)
theorem k2_idx392_inb : ∀ (v1358 : IVec S16 32) (v1390 : IVec S16 32) (v1627 : IVec S16 32) (k2_hw392 : k2_chk392 v1358 v1390 v1627), ∀ a x, ((![v1390, v1358, v1627] : Fin 3 → IVec S16 32) a x).toNat < S2x64x128.size a := fun v1358 v1390 v1627 k2_hw392 => k2_hw392

def k2_chk393 (v1358 : IVec S16 32) (v1390 : IVec S16 32) (v1632 : IVec S16 32) : Prop :=
  (∀ a x, ((![v1390, v1358, v1632] : Fin 3 → IVec S16 32) a x).toNat < S2x64x128.size a)
theorem k2_idx393_inb : ∀ (v1358 : IVec S16 32) (v1390 : IVec S16 32) (v1632 : IVec S16 32) (k2_hw393 : k2_chk393 v1358 v1390 v1632), ∀ a x, ((![v1390, v1358, v1632] : Fin 3 → IVec S16 32) a x).toNat < S2x64x128.size a := fun v1358 v1390 v1632 k2_hw393 => k2_hw393

def k2_chk394 (v1358 : IVec S16 32) (v1390 : IVec S16 32) (v1635 : IVec S16 32) : Prop :=
  (∀ a x, ((![v1390, v1358, v1635] : Fin 3 → IVec S16 32) a x).toNat < S2x64x128.size a)
theorem k2_idx394_inb : ∀ (v1358 : IVec S16 32) (v1390 : IVec S16 32) (v1635 : IVec S16 32) (k2_hw394 : k2_chk394 v1358 v1390 v1635), ∀ a x, ((![v1390, v1358, v1635] : Fin 3 → IVec S16 32) a x).toNat < S2x64x128.size a := fun v1358 v1390 v1635 k2_hw394 => k2_hw394

def k2_chk395 (v1358 : IVec S16 32) (v1390 : IVec S16 32) (v1640 : IVec S16 32) : Prop :=
  (∀ a x, ((![v1390, v1358, v1640] : Fin 3 → IVec S16 32) a x).toNat < S2x64x128.size a)
theorem k2_idx395_inb : ∀ (v1358 : IVec S16 32) (v1390 : IVec S16 32) (v1640 : IVec S16 32) (k2_hw395 : k2_chk395 v1358 v1390 v1640), ∀ a x, ((![v1390, v1358, v1640] : Fin 3 → IVec S16 32) a x).toNat < S2x64x128.size a := fun v1358 v1390 v1640 k2_hw395 => k2_hw395

def k2_chk396 (v1358 : IVec S16 32) (v1390 : IVec S16 32) (v1643 : IVec S16 32) : Prop :=
  (∀ a x, ((![v1390, v1358, v1643] : Fin 3 → IVec S16 32) a x).toNat < S2x64x128.size a)
theorem k2_idx396_inb : ∀ (v1358 : IVec S16 32) (v1390 : IVec S16 32) (v1643 : IVec S16 32) (k2_hw396 : k2_chk396 v1358 v1390 v1643), ∀ a x, ((![v1390, v1358, v1643] : Fin 3 → IVec S16 32) a x).toNat < S2x64x128.size a := fun v1358 v1390 v1643 k2_hw396 => k2_hw396
def k2_off13 (k2_t6 : Fin k2_t6_loop.trips) : Fin 1 → Nat :=
  let c320_i32_1269 : BitVec 32 := 320#32
  let c0_i32_1019 : BitVec 32 := 0#32
  let c1_i32_1021 : BitVec 32 := 1#32
  let arg19 : BitVec 32 := Scf.iv c0_i32_1019 c1_i32_1021 k2_t6
  let c16_i32_1268 : BitVec 32 := 16#32
  let v1647 : BitVec 32 := Scalar.muli arg19 c16_i32_1268
  let v1648 : BitVec 32 := Scalar.addi c320_i32_1269 v1647
  let v1649 : Index := Scalar.indexCast v1648
  ![v1649.toNat]
@[reducible] def k2_t7_loop : Scf.Loop 32 :=
  let c0_i32_1172 : BitVec 32 := 0#32
  let c4_i32_1173 : BitVec 32 := 4#32
  let v1334 : BitVec 32 := Scalar.addi c0_i32_1172 c4_i32_1173
  let c1_i32_1174 : BitVec 32 := 1#32
  ⟨c0_i32_1172, v1334, c1_i32_1174⟩
def k2_off14 (k2_t7 : Fin k2_t7_loop.trips) : Fin 1 → Nat :=
  let c384_i32 : BitVec 32 := 384#32
  let c0_i32_1172 : BitVec 32 := 0#32
  let c1_i32_1174 : BitVec 32 := 1#32
  let arg19 : BitVec 32 := Scf.iv c0_i32_1172 c1_i32_1174 k2_t7
  let c16_i32_1214 : BitVec 32 := 16#32
  let v1359 : BitVec 32 := Scalar.muli arg19 c16_i32_1214
  let v1360 : BitVec 32 := Scalar.addi c384_i32 v1359
  let v1361 : Index := Scalar.indexCast v1360
  ![v1361.toNat]

def k2_chk397 (v1358 : IVec S16 32) (v1367 : IVec S16 32) (v1369 : IVec S16 32) : Prop :=
  (∀ a x, ((![v1367, v1358, v1369] : Fin 3 → IVec S16 32) a x).toNat < S2x64x128.size a)
theorem k2_idx397_inb : ∀ (v1358 : IVec S16 32) (v1367 : IVec S16 32) (v1369 : IVec S16 32) (k2_hw397 : k2_chk397 v1358 v1367 v1369), ∀ a x, ((![v1367, v1358, v1369] : Fin 3 → IVec S16 32) a x).toNat < S2x64x128.size a := fun v1358 v1367 v1369 k2_hw397 => k2_hw397

def k2_chk398 (v1358 : IVec S16 32) (v1373 : IVec S16 32) (v1375 : IVec S16 32) : Prop :=
  (∀ a x, ((![v1373, v1358, v1375] : Fin 3 → IVec S16 32) a x).toNat < S2x64x128.size a)
theorem k2_idx398_inb : ∀ (v1358 : IVec S16 32) (v1373 : IVec S16 32) (v1375 : IVec S16 32) (k2_hw398 : k2_chk398 v1358 v1373 v1375), ∀ a x, ((![v1373, v1358, v1375] : Fin 3 → IVec S16 32) a x).toNat < S2x64x128.size a := fun v1358 v1373 v1375 k2_hw398 => k2_hw398

def k2_chk399 (v1358 : IVec S16 32) (v1390 : IVec S16 32) (v1392 : IVec S16 32) : Prop :=
  (∀ a x, ((![v1390, v1358, v1392] : Fin 3 → IVec S16 32) a x).toNat < S2x64x128.size a)
theorem k2_idx399_inb : ∀ (v1358 : IVec S16 32) (v1390 : IVec S16 32) (v1392 : IVec S16 32) (k2_hw399 : k2_chk399 v1358 v1390 v1392), ∀ a x, ((![v1390, v1358, v1392] : Fin 3 → IVec S16 32) a x).toNat < S2x64x128.size a := fun v1358 v1390 v1392 k2_hw399 => k2_hw399

def k2_chk400 (v1358 : IVec S16 32) (v1390 : IVec S16 32) (v1395 : IVec S16 32) : Prop :=
  (∀ a x, ((![v1390, v1358, v1395] : Fin 3 → IVec S16 32) a x).toNat < S2x64x128.size a)
theorem k2_idx400_inb : ∀ (v1358 : IVec S16 32) (v1390 : IVec S16 32) (v1395 : IVec S16 32) (k2_hw400 : k2_chk400 v1358 v1390 v1395), ∀ a x, ((![v1390, v1358, v1395] : Fin 3 → IVec S16 32) a x).toNat < S2x64x128.size a := fun v1358 v1390 v1395 k2_hw400 => k2_hw400

def k2_chk401 (v1358 : IVec S16 32) (v1390 : IVec S16 32) (v1400 : IVec S16 32) : Prop :=
  (∀ a x, ((![v1390, v1358, v1400] : Fin 3 → IVec S16 32) a x).toNat < S2x64x128.size a)
theorem k2_idx401_inb : ∀ (v1358 : IVec S16 32) (v1390 : IVec S16 32) (v1400 : IVec S16 32) (k2_hw401 : k2_chk401 v1358 v1390 v1400), ∀ a x, ((![v1390, v1358, v1400] : Fin 3 → IVec S16 32) a x).toNat < S2x64x128.size a := fun v1358 v1390 v1400 k2_hw401 => k2_hw401

def k2_chk402 (v1358 : IVec S16 32) (v1390 : IVec S16 32) (v1403 : IVec S16 32) : Prop :=
  (∀ a x, ((![v1390, v1358, v1403] : Fin 3 → IVec S16 32) a x).toNat < S2x64x128.size a)
theorem k2_idx402_inb : ∀ (v1358 : IVec S16 32) (v1390 : IVec S16 32) (v1403 : IVec S16 32) (k2_hw402 : k2_chk402 v1358 v1390 v1403), ∀ a x, ((![v1390, v1358, v1403] : Fin 3 → IVec S16 32) a x).toNat < S2x64x128.size a := fun v1358 v1390 v1403 k2_hw402 => k2_hw402

def k2_chk403 (v1358 : IVec S16 32) (v1390 : IVec S16 32) (v1408 : IVec S16 32) : Prop :=
  (∀ a x, ((![v1390, v1358, v1408] : Fin 3 → IVec S16 32) a x).toNat < S2x64x128.size a)
theorem k2_idx403_inb : ∀ (v1358 : IVec S16 32) (v1390 : IVec S16 32) (v1408 : IVec S16 32) (k2_hw403 : k2_chk403 v1358 v1390 v1408), ∀ a x, ((![v1390, v1358, v1408] : Fin 3 → IVec S16 32) a x).toNat < S2x64x128.size a := fun v1358 v1390 v1408 k2_hw403 => k2_hw403

def k2_chk404 (v1358 : IVec S16 32) (v1390 : IVec S16 32) (v1411 : IVec S16 32) : Prop :=
  (∀ a x, ((![v1390, v1358, v1411] : Fin 3 → IVec S16 32) a x).toNat < S2x64x128.size a)
theorem k2_idx404_inb : ∀ (v1358 : IVec S16 32) (v1390 : IVec S16 32) (v1411 : IVec S16 32) (k2_hw404 : k2_chk404 v1358 v1390 v1411), ∀ a x, ((![v1390, v1358, v1411] : Fin 3 → IVec S16 32) a x).toNat < S2x64x128.size a := fun v1358 v1390 v1411 k2_hw404 => k2_hw404

def k2_chk405 (v1358 : IVec S16 32) (v1390 : IVec S16 32) (v1416 : IVec S16 32) : Prop :=
  (∀ a x, ((![v1390, v1358, v1416] : Fin 3 → IVec S16 32) a x).toNat < S2x64x128.size a)
theorem k2_idx405_inb : ∀ (v1358 : IVec S16 32) (v1390 : IVec S16 32) (v1416 : IVec S16 32) (k2_hw405 : k2_chk405 v1358 v1390 v1416), ∀ a x, ((![v1390, v1358, v1416] : Fin 3 → IVec S16 32) a x).toNat < S2x64x128.size a := fun v1358 v1390 v1416 k2_hw405 => k2_hw405

def k2_chk406 (v1358 : IVec S16 32) (v1390 : IVec S16 32) (v1419 : IVec S16 32) : Prop :=
  (∀ a x, ((![v1390, v1358, v1419] : Fin 3 → IVec S16 32) a x).toNat < S2x64x128.size a)
theorem k2_idx406_inb : ∀ (v1358 : IVec S16 32) (v1390 : IVec S16 32) (v1419 : IVec S16 32) (k2_hw406 : k2_chk406 v1358 v1390 v1419), ∀ a x, ((![v1390, v1358, v1419] : Fin 3 → IVec S16 32) a x).toNat < S2x64x128.size a := fun v1358 v1390 v1419 k2_hw406 => k2_hw406

def k2_chk407 (v1358 : IVec S16 32) (v1390 : IVec S16 32) (v1424 : IVec S16 32) : Prop :=
  (∀ a x, ((![v1390, v1358, v1424] : Fin 3 → IVec S16 32) a x).toNat < S2x64x128.size a)
theorem k2_idx407_inb : ∀ (v1358 : IVec S16 32) (v1390 : IVec S16 32) (v1424 : IVec S16 32) (k2_hw407 : k2_chk407 v1358 v1390 v1424), ∀ a x, ((![v1390, v1358, v1424] : Fin 3 → IVec S16 32) a x).toNat < S2x64x128.size a := fun v1358 v1390 v1424 k2_hw407 => k2_hw407

def k2_chk408 (v1358 : IVec S16 32) (v1390 : IVec S16 32) (v1427 : IVec S16 32) : Prop :=
  (∀ a x, ((![v1390, v1358, v1427] : Fin 3 → IVec S16 32) a x).toNat < S2x64x128.size a)
theorem k2_idx408_inb : ∀ (v1358 : IVec S16 32) (v1390 : IVec S16 32) (v1427 : IVec S16 32) (k2_hw408 : k2_chk408 v1358 v1390 v1427), ∀ a x, ((![v1390, v1358, v1427] : Fin 3 → IVec S16 32) a x).toNat < S2x64x128.size a := fun v1358 v1390 v1427 k2_hw408 => k2_hw408

def k2_chk409 (v1358 : IVec S16 32) (v1390 : IVec S16 32) (v1432 : IVec S16 32) : Prop :=
  (∀ a x, ((![v1390, v1358, v1432] : Fin 3 → IVec S16 32) a x).toNat < S2x64x128.size a)
theorem k2_idx409_inb : ∀ (v1358 : IVec S16 32) (v1390 : IVec S16 32) (v1432 : IVec S16 32) (k2_hw409 : k2_chk409 v1358 v1390 v1432), ∀ a x, ((![v1390, v1358, v1432] : Fin 3 → IVec S16 32) a x).toNat < S2x64x128.size a := fun v1358 v1390 v1432 k2_hw409 => k2_hw409

def k2_chk410 (v1358 : IVec S16 32) (v1390 : IVec S16 32) (v1435 : IVec S16 32) : Prop :=
  (∀ a x, ((![v1390, v1358, v1435] : Fin 3 → IVec S16 32) a x).toNat < S2x64x128.size a)
theorem k2_idx410_inb : ∀ (v1358 : IVec S16 32) (v1390 : IVec S16 32) (v1435 : IVec S16 32) (k2_hw410 : k2_chk410 v1358 v1390 v1435), ∀ a x, ((![v1390, v1358, v1435] : Fin 3 → IVec S16 32) a x).toNat < S2x64x128.size a := fun v1358 v1390 v1435 k2_hw410 => k2_hw410

def k2_chk411 (v1358 : IVec S16 32) (v1390 : IVec S16 32) (v1440 : IVec S16 32) : Prop :=
  (∀ a x, ((![v1390, v1358, v1440] : Fin 3 → IVec S16 32) a x).toNat < S2x64x128.size a)
theorem k2_idx411_inb : ∀ (v1358 : IVec S16 32) (v1390 : IVec S16 32) (v1440 : IVec S16 32) (k2_hw411 : k2_chk411 v1358 v1390 v1440), ∀ a x, ((![v1390, v1358, v1440] : Fin 3 → IVec S16 32) a x).toNat < S2x64x128.size a := fun v1358 v1390 v1440 k2_hw411 => k2_hw411

def k2_chk412 (v1358 : IVec S16 32) (v1390 : IVec S16 32) (v1443 : IVec S16 32) : Prop :=
  (∀ a x, ((![v1390, v1358, v1443] : Fin 3 → IVec S16 32) a x).toNat < S2x64x128.size a)
theorem k2_idx412_inb : ∀ (v1358 : IVec S16 32) (v1390 : IVec S16 32) (v1443 : IVec S16 32) (k2_hw412 : k2_chk412 v1358 v1390 v1443), ∀ a x, ((![v1390, v1358, v1443] : Fin 3 → IVec S16 32) a x).toNat < S2x64x128.size a := fun v1358 v1390 v1443 k2_hw412 => k2_hw412

def k2_chk413 (v1358 : IVec S16 32) (v1390 : IVec S16 32) (v1448 : IVec S16 32) : Prop :=
  (∀ a x, ((![v1390, v1358, v1448] : Fin 3 → IVec S16 32) a x).toNat < S2x64x128.size a)
theorem k2_idx413_inb : ∀ (v1358 : IVec S16 32) (v1390 : IVec S16 32) (v1448 : IVec S16 32) (k2_hw413 : k2_chk413 v1358 v1390 v1448), ∀ a x, ((![v1390, v1358, v1448] : Fin 3 → IVec S16 32) a x).toNat < S2x64x128.size a := fun v1358 v1390 v1448 k2_hw413 => k2_hw413

def k2_chk414 (v1358 : IVec S16 32) (v1390 : IVec S16 32) (v1451 : IVec S16 32) : Prop :=
  (∀ a x, ((![v1390, v1358, v1451] : Fin 3 → IVec S16 32) a x).toNat < S2x64x128.size a)
theorem k2_idx414_inb : ∀ (v1358 : IVec S16 32) (v1390 : IVec S16 32) (v1451 : IVec S16 32) (k2_hw414 : k2_chk414 v1358 v1390 v1451), ∀ a x, ((![v1390, v1358, v1451] : Fin 3 → IVec S16 32) a x).toNat < S2x64x128.size a := fun v1358 v1390 v1451 k2_hw414 => k2_hw414

def k2_chk415 (v1358 : IVec S16 32) (v1390 : IVec S16 32) (v1456 : IVec S16 32) : Prop :=
  (∀ a x, ((![v1390, v1358, v1456] : Fin 3 → IVec S16 32) a x).toNat < S2x64x128.size a)
theorem k2_idx415_inb : ∀ (v1358 : IVec S16 32) (v1390 : IVec S16 32) (v1456 : IVec S16 32) (k2_hw415 : k2_chk415 v1358 v1390 v1456), ∀ a x, ((![v1390, v1358, v1456] : Fin 3 → IVec S16 32) a x).toNat < S2x64x128.size a := fun v1358 v1390 v1456 k2_hw415 => k2_hw415

def k2_chk416 (v1358 : IVec S16 32) (v1390 : IVec S16 32) (v1459 : IVec S16 32) : Prop :=
  (∀ a x, ((![v1390, v1358, v1459] : Fin 3 → IVec S16 32) a x).toNat < S2x64x128.size a)
theorem k2_idx416_inb : ∀ (v1358 : IVec S16 32) (v1390 : IVec S16 32) (v1459 : IVec S16 32) (k2_hw416 : k2_chk416 v1358 v1390 v1459), ∀ a x, ((![v1390, v1358, v1459] : Fin 3 → IVec S16 32) a x).toNat < S2x64x128.size a := fun v1358 v1390 v1459 k2_hw416 => k2_hw416

def k2_chk417 (v1358 : IVec S16 32) (v1390 : IVec S16 32) (v1464 : IVec S16 32) : Prop :=
  (∀ a x, ((![v1390, v1358, v1464] : Fin 3 → IVec S16 32) a x).toNat < S2x64x128.size a)
theorem k2_idx417_inb : ∀ (v1358 : IVec S16 32) (v1390 : IVec S16 32) (v1464 : IVec S16 32) (k2_hw417 : k2_chk417 v1358 v1390 v1464), ∀ a x, ((![v1390, v1358, v1464] : Fin 3 → IVec S16 32) a x).toNat < S2x64x128.size a := fun v1358 v1390 v1464 k2_hw417 => k2_hw417

def k2_chk418 (v1358 : IVec S16 32) (v1390 : IVec S16 32) (v1467 : IVec S16 32) : Prop :=
  (∀ a x, ((![v1390, v1358, v1467] : Fin 3 → IVec S16 32) a x).toNat < S2x64x128.size a)
theorem k2_idx418_inb : ∀ (v1358 : IVec S16 32) (v1390 : IVec S16 32) (v1467 : IVec S16 32) (k2_hw418 : k2_chk418 v1358 v1390 v1467), ∀ a x, ((![v1390, v1358, v1467] : Fin 3 → IVec S16 32) a x).toNat < S2x64x128.size a := fun v1358 v1390 v1467 k2_hw418 => k2_hw418

def k2_chk419 (v1358 : IVec S16 32) (v1390 : IVec S16 32) (v1472 : IVec S16 32) : Prop :=
  (∀ a x, ((![v1390, v1358, v1472] : Fin 3 → IVec S16 32) a x).toNat < S2x64x128.size a)
theorem k2_idx419_inb : ∀ (v1358 : IVec S16 32) (v1390 : IVec S16 32) (v1472 : IVec S16 32) (k2_hw419 : k2_chk419 v1358 v1390 v1472), ∀ a x, ((![v1390, v1358, v1472] : Fin 3 → IVec S16 32) a x).toNat < S2x64x128.size a := fun v1358 v1390 v1472 k2_hw419 => k2_hw419

def k2_chk420 (v1358 : IVec S16 32) (v1390 : IVec S16 32) (v1475 : IVec S16 32) : Prop :=
  (∀ a x, ((![v1390, v1358, v1475] : Fin 3 → IVec S16 32) a x).toNat < S2x64x128.size a)
theorem k2_idx420_inb : ∀ (v1358 : IVec S16 32) (v1390 : IVec S16 32) (v1475 : IVec S16 32) (k2_hw420 : k2_chk420 v1358 v1390 v1475), ∀ a x, ((![v1390, v1358, v1475] : Fin 3 → IVec S16 32) a x).toNat < S2x64x128.size a := fun v1358 v1390 v1475 k2_hw420 => k2_hw420

def k2_chk421 (v1358 : IVec S16 32) (v1390 : IVec S16 32) (v1480 : IVec S16 32) : Prop :=
  (∀ a x, ((![v1390, v1358, v1480] : Fin 3 → IVec S16 32) a x).toNat < S2x64x128.size a)
theorem k2_idx421_inb : ∀ (v1358 : IVec S16 32) (v1390 : IVec S16 32) (v1480 : IVec S16 32) (k2_hw421 : k2_chk421 v1358 v1390 v1480), ∀ a x, ((![v1390, v1358, v1480] : Fin 3 → IVec S16 32) a x).toNat < S2x64x128.size a := fun v1358 v1390 v1480 k2_hw421 => k2_hw421

def k2_chk422 (v1358 : IVec S16 32) (v1390 : IVec S16 32) (v1483 : IVec S16 32) : Prop :=
  (∀ a x, ((![v1390, v1358, v1483] : Fin 3 → IVec S16 32) a x).toNat < S2x64x128.size a)
theorem k2_idx422_inb : ∀ (v1358 : IVec S16 32) (v1390 : IVec S16 32) (v1483 : IVec S16 32) (k2_hw422 : k2_chk422 v1358 v1390 v1483), ∀ a x, ((![v1390, v1358, v1483] : Fin 3 → IVec S16 32) a x).toNat < S2x64x128.size a := fun v1358 v1390 v1483 k2_hw422 => k2_hw422

def k2_chk423 (v1358 : IVec S16 32) (v1390 : IVec S16 32) (v1488 : IVec S16 32) : Prop :=
  (∀ a x, ((![v1390, v1358, v1488] : Fin 3 → IVec S16 32) a x).toNat < S2x64x128.size a)
theorem k2_idx423_inb : ∀ (v1358 : IVec S16 32) (v1390 : IVec S16 32) (v1488 : IVec S16 32) (k2_hw423 : k2_chk423 v1358 v1390 v1488), ∀ a x, ((![v1390, v1358, v1488] : Fin 3 → IVec S16 32) a x).toNat < S2x64x128.size a := fun v1358 v1390 v1488 k2_hw423 => k2_hw423

def k2_chk424 (v1358 : IVec S16 32) (v1390 : IVec S16 32) (v1491 : IVec S16 32) : Prop :=
  (∀ a x, ((![v1390, v1358, v1491] : Fin 3 → IVec S16 32) a x).toNat < S2x64x128.size a)
theorem k2_idx424_inb : ∀ (v1358 : IVec S16 32) (v1390 : IVec S16 32) (v1491 : IVec S16 32) (k2_hw424 : k2_chk424 v1358 v1390 v1491), ∀ a x, ((![v1390, v1358, v1491] : Fin 3 → IVec S16 32) a x).toNat < S2x64x128.size a := fun v1358 v1390 v1491 k2_hw424 => k2_hw424

def k2_chk425 (v1358 : IVec S16 32) (v1390 : IVec S16 32) (v1496 : IVec S16 32) : Prop :=
  (∀ a x, ((![v1390, v1358, v1496] : Fin 3 → IVec S16 32) a x).toNat < S2x64x128.size a)
theorem k2_idx425_inb : ∀ (v1358 : IVec S16 32) (v1390 : IVec S16 32) (v1496 : IVec S16 32) (k2_hw425 : k2_chk425 v1358 v1390 v1496), ∀ a x, ((![v1390, v1358, v1496] : Fin 3 → IVec S16 32) a x).toNat < S2x64x128.size a := fun v1358 v1390 v1496 k2_hw425 => k2_hw425

def k2_chk426 (v1358 : IVec S16 32) (v1390 : IVec S16 32) (v1499 : IVec S16 32) : Prop :=
  (∀ a x, ((![v1390, v1358, v1499] : Fin 3 → IVec S16 32) a x).toNat < S2x64x128.size a)
theorem k2_idx426_inb : ∀ (v1358 : IVec S16 32) (v1390 : IVec S16 32) (v1499 : IVec S16 32) (k2_hw426 : k2_chk426 v1358 v1390 v1499), ∀ a x, ((![v1390, v1358, v1499] : Fin 3 → IVec S16 32) a x).toNat < S2x64x128.size a := fun v1358 v1390 v1499 k2_hw426 => k2_hw426

def k2_chk427 (v1358 : IVec S16 32) (v1390 : IVec S16 32) (v1504 : IVec S16 32) : Prop :=
  (∀ a x, ((![v1390, v1358, v1504] : Fin 3 → IVec S16 32) a x).toNat < S2x64x128.size a)
theorem k2_idx427_inb : ∀ (v1358 : IVec S16 32) (v1390 : IVec S16 32) (v1504 : IVec S16 32) (k2_hw427 : k2_chk427 v1358 v1390 v1504), ∀ a x, ((![v1390, v1358, v1504] : Fin 3 → IVec S16 32) a x).toNat < S2x64x128.size a := fun v1358 v1390 v1504 k2_hw427 => k2_hw427

def k2_chk428 (v1358 : IVec S16 32) (v1390 : IVec S16 32) (v1507 : IVec S16 32) : Prop :=
  (∀ a x, ((![v1390, v1358, v1507] : Fin 3 → IVec S16 32) a x).toNat < S2x64x128.size a)
theorem k2_idx428_inb : ∀ (v1358 : IVec S16 32) (v1390 : IVec S16 32) (v1507 : IVec S16 32) (k2_hw428 : k2_chk428 v1358 v1390 v1507), ∀ a x, ((![v1390, v1358, v1507] : Fin 3 → IVec S16 32) a x).toNat < S2x64x128.size a := fun v1358 v1390 v1507 k2_hw428 => k2_hw428

def k2_chk429 (v1358 : IVec S16 32) (v1390 : IVec S16 32) (v1512 : IVec S16 32) : Prop :=
  (∀ a x, ((![v1390, v1358, v1512] : Fin 3 → IVec S16 32) a x).toNat < S2x64x128.size a)
theorem k2_idx429_inb : ∀ (v1358 : IVec S16 32) (v1390 : IVec S16 32) (v1512 : IVec S16 32) (k2_hw429 : k2_chk429 v1358 v1390 v1512), ∀ a x, ((![v1390, v1358, v1512] : Fin 3 → IVec S16 32) a x).toNat < S2x64x128.size a := fun v1358 v1390 v1512 k2_hw429 => k2_hw429

def k2_chk430 (v1358 : IVec S16 32) (v1390 : IVec S16 32) (v1515 : IVec S16 32) : Prop :=
  (∀ a x, ((![v1390, v1358, v1515] : Fin 3 → IVec S16 32) a x).toNat < S2x64x128.size a)
theorem k2_idx430_inb : ∀ (v1358 : IVec S16 32) (v1390 : IVec S16 32) (v1515 : IVec S16 32) (k2_hw430 : k2_chk430 v1358 v1390 v1515), ∀ a x, ((![v1390, v1358, v1515] : Fin 3 → IVec S16 32) a x).toNat < S2x64x128.size a := fun v1358 v1390 v1515 k2_hw430 => k2_hw430

def k2_chk431 (v1358 : IVec S16 32) (v1390 : IVec S16 32) (v1520 : IVec S16 32) : Prop :=
  (∀ a x, ((![v1390, v1358, v1520] : Fin 3 → IVec S16 32) a x).toNat < S2x64x128.size a)
theorem k2_idx431_inb : ∀ (v1358 : IVec S16 32) (v1390 : IVec S16 32) (v1520 : IVec S16 32) (k2_hw431 : k2_chk431 v1358 v1390 v1520), ∀ a x, ((![v1390, v1358, v1520] : Fin 3 → IVec S16 32) a x).toNat < S2x64x128.size a := fun v1358 v1390 v1520 k2_hw431 => k2_hw431

def k2_chk432 (v1358 : IVec S16 32) (v1390 : IVec S16 32) (v1523 : IVec S16 32) : Prop :=
  (∀ a x, ((![v1390, v1358, v1523] : Fin 3 → IVec S16 32) a x).toNat < S2x64x128.size a)
theorem k2_idx432_inb : ∀ (v1358 : IVec S16 32) (v1390 : IVec S16 32) (v1523 : IVec S16 32) (k2_hw432 : k2_chk432 v1358 v1390 v1523), ∀ a x, ((![v1390, v1358, v1523] : Fin 3 → IVec S16 32) a x).toNat < S2x64x128.size a := fun v1358 v1390 v1523 k2_hw432 => k2_hw432

def k2_chk433 (v1358 : IVec S16 32) (v1390 : IVec S16 32) (v1528 : IVec S16 32) : Prop :=
  (∀ a x, ((![v1390, v1358, v1528] : Fin 3 → IVec S16 32) a x).toNat < S2x64x128.size a)
theorem k2_idx433_inb : ∀ (v1358 : IVec S16 32) (v1390 : IVec S16 32) (v1528 : IVec S16 32) (k2_hw433 : k2_chk433 v1358 v1390 v1528), ∀ a x, ((![v1390, v1358, v1528] : Fin 3 → IVec S16 32) a x).toNat < S2x64x128.size a := fun v1358 v1390 v1528 k2_hw433 => k2_hw433

def k2_chk434 (v1358 : IVec S16 32) (v1390 : IVec S16 32) (v1531 : IVec S16 32) : Prop :=
  (∀ a x, ((![v1390, v1358, v1531] : Fin 3 → IVec S16 32) a x).toNat < S2x64x128.size a)
theorem k2_idx434_inb : ∀ (v1358 : IVec S16 32) (v1390 : IVec S16 32) (v1531 : IVec S16 32) (k2_hw434 : k2_chk434 v1358 v1390 v1531), ∀ a x, ((![v1390, v1358, v1531] : Fin 3 → IVec S16 32) a x).toNat < S2x64x128.size a := fun v1358 v1390 v1531 k2_hw434 => k2_hw434

def k2_chk435 (v1358 : IVec S16 32) (v1390 : IVec S16 32) (v1536 : IVec S16 32) : Prop :=
  (∀ a x, ((![v1390, v1358, v1536] : Fin 3 → IVec S16 32) a x).toNat < S2x64x128.size a)
theorem k2_idx435_inb : ∀ (v1358 : IVec S16 32) (v1390 : IVec S16 32) (v1536 : IVec S16 32) (k2_hw435 : k2_chk435 v1358 v1390 v1536), ∀ a x, ((![v1390, v1358, v1536] : Fin 3 → IVec S16 32) a x).toNat < S2x64x128.size a := fun v1358 v1390 v1536 k2_hw435 => k2_hw435

def k2_chk436 (v1358 : IVec S16 32) (v1390 : IVec S16 32) (v1539 : IVec S16 32) : Prop :=
  (∀ a x, ((![v1390, v1358, v1539] : Fin 3 → IVec S16 32) a x).toNat < S2x64x128.size a)
theorem k2_idx436_inb : ∀ (v1358 : IVec S16 32) (v1390 : IVec S16 32) (v1539 : IVec S16 32) (k2_hw436 : k2_chk436 v1358 v1390 v1539), ∀ a x, ((![v1390, v1358, v1539] : Fin 3 → IVec S16 32) a x).toNat < S2x64x128.size a := fun v1358 v1390 v1539 k2_hw436 => k2_hw436

def k2_chk437 (v1358 : IVec S16 32) (v1390 : IVec S16 32) (v1544 : IVec S16 32) : Prop :=
  (∀ a x, ((![v1390, v1358, v1544] : Fin 3 → IVec S16 32) a x).toNat < S2x64x128.size a)
theorem k2_idx437_inb : ∀ (v1358 : IVec S16 32) (v1390 : IVec S16 32) (v1544 : IVec S16 32) (k2_hw437 : k2_chk437 v1358 v1390 v1544), ∀ a x, ((![v1390, v1358, v1544] : Fin 3 → IVec S16 32) a x).toNat < S2x64x128.size a := fun v1358 v1390 v1544 k2_hw437 => k2_hw437

def k2_chk438 (v1358 : IVec S16 32) (v1390 : IVec S16 32) (v1547 : IVec S16 32) : Prop :=
  (∀ a x, ((![v1390, v1358, v1547] : Fin 3 → IVec S16 32) a x).toNat < S2x64x128.size a)
theorem k2_idx438_inb : ∀ (v1358 : IVec S16 32) (v1390 : IVec S16 32) (v1547 : IVec S16 32) (k2_hw438 : k2_chk438 v1358 v1390 v1547), ∀ a x, ((![v1390, v1358, v1547] : Fin 3 → IVec S16 32) a x).toNat < S2x64x128.size a := fun v1358 v1390 v1547 k2_hw438 => k2_hw438

def k2_chk439 (v1358 : IVec S16 32) (v1390 : IVec S16 32) (v1552 : IVec S16 32) : Prop :=
  (∀ a x, ((![v1390, v1358, v1552] : Fin 3 → IVec S16 32) a x).toNat < S2x64x128.size a)
theorem k2_idx439_inb : ∀ (v1358 : IVec S16 32) (v1390 : IVec S16 32) (v1552 : IVec S16 32) (k2_hw439 : k2_chk439 v1358 v1390 v1552), ∀ a x, ((![v1390, v1358, v1552] : Fin 3 → IVec S16 32) a x).toNat < S2x64x128.size a := fun v1358 v1390 v1552 k2_hw439 => k2_hw439

def k2_chk440 (v1358 : IVec S16 32) (v1390 : IVec S16 32) (v1555 : IVec S16 32) : Prop :=
  (∀ a x, ((![v1390, v1358, v1555] : Fin 3 → IVec S16 32) a x).toNat < S2x64x128.size a)
theorem k2_idx440_inb : ∀ (v1358 : IVec S16 32) (v1390 : IVec S16 32) (v1555 : IVec S16 32) (k2_hw440 : k2_chk440 v1358 v1390 v1555), ∀ a x, ((![v1390, v1358, v1555] : Fin 3 → IVec S16 32) a x).toNat < S2x64x128.size a := fun v1358 v1390 v1555 k2_hw440 => k2_hw440

def k2_chk441 (v1358 : IVec S16 32) (v1390 : IVec S16 32) (v1560 : IVec S16 32) : Prop :=
  (∀ a x, ((![v1390, v1358, v1560] : Fin 3 → IVec S16 32) a x).toNat < S2x64x128.size a)
theorem k2_idx441_inb : ∀ (v1358 : IVec S16 32) (v1390 : IVec S16 32) (v1560 : IVec S16 32) (k2_hw441 : k2_chk441 v1358 v1390 v1560), ∀ a x, ((![v1390, v1358, v1560] : Fin 3 → IVec S16 32) a x).toNat < S2x64x128.size a := fun v1358 v1390 v1560 k2_hw441 => k2_hw441

def k2_chk442 (v1358 : IVec S16 32) (v1390 : IVec S16 32) (v1563 : IVec S16 32) : Prop :=
  (∀ a x, ((![v1390, v1358, v1563] : Fin 3 → IVec S16 32) a x).toNat < S2x64x128.size a)
theorem k2_idx442_inb : ∀ (v1358 : IVec S16 32) (v1390 : IVec S16 32) (v1563 : IVec S16 32) (k2_hw442 : k2_chk442 v1358 v1390 v1563), ∀ a x, ((![v1390, v1358, v1563] : Fin 3 → IVec S16 32) a x).toNat < S2x64x128.size a := fun v1358 v1390 v1563 k2_hw442 => k2_hw442

def k2_chk443 (v1358 : IVec S16 32) (v1390 : IVec S16 32) (v1568 : IVec S16 32) : Prop :=
  (∀ a x, ((![v1390, v1358, v1568] : Fin 3 → IVec S16 32) a x).toNat < S2x64x128.size a)
theorem k2_idx443_inb : ∀ (v1358 : IVec S16 32) (v1390 : IVec S16 32) (v1568 : IVec S16 32) (k2_hw443 : k2_chk443 v1358 v1390 v1568), ∀ a x, ((![v1390, v1358, v1568] : Fin 3 → IVec S16 32) a x).toNat < S2x64x128.size a := fun v1358 v1390 v1568 k2_hw443 => k2_hw443

def k2_chk444 (v1358 : IVec S16 32) (v1390 : IVec S16 32) (v1571 : IVec S16 32) : Prop :=
  (∀ a x, ((![v1390, v1358, v1571] : Fin 3 → IVec S16 32) a x).toNat < S2x64x128.size a)
theorem k2_idx444_inb : ∀ (v1358 : IVec S16 32) (v1390 : IVec S16 32) (v1571 : IVec S16 32) (k2_hw444 : k2_chk444 v1358 v1390 v1571), ∀ a x, ((![v1390, v1358, v1571] : Fin 3 → IVec S16 32) a x).toNat < S2x64x128.size a := fun v1358 v1390 v1571 k2_hw444 => k2_hw444

def k2_chk445 (v1358 : IVec S16 32) (v1390 : IVec S16 32) (v1576 : IVec S16 32) : Prop :=
  (∀ a x, ((![v1390, v1358, v1576] : Fin 3 → IVec S16 32) a x).toNat < S2x64x128.size a)
theorem k2_idx445_inb : ∀ (v1358 : IVec S16 32) (v1390 : IVec S16 32) (v1576 : IVec S16 32) (k2_hw445 : k2_chk445 v1358 v1390 v1576), ∀ a x, ((![v1390, v1358, v1576] : Fin 3 → IVec S16 32) a x).toNat < S2x64x128.size a := fun v1358 v1390 v1576 k2_hw445 => k2_hw445

def k2_chk446 (v1358 : IVec S16 32) (v1390 : IVec S16 32) (v1579 : IVec S16 32) : Prop :=
  (∀ a x, ((![v1390, v1358, v1579] : Fin 3 → IVec S16 32) a x).toNat < S2x64x128.size a)
theorem k2_idx446_inb : ∀ (v1358 : IVec S16 32) (v1390 : IVec S16 32) (v1579 : IVec S16 32) (k2_hw446 : k2_chk446 v1358 v1390 v1579), ∀ a x, ((![v1390, v1358, v1579] : Fin 3 → IVec S16 32) a x).toNat < S2x64x128.size a := fun v1358 v1390 v1579 k2_hw446 => k2_hw446

def k2_chk447 (v1358 : IVec S16 32) (v1390 : IVec S16 32) (v1584 : IVec S16 32) : Prop :=
  (∀ a x, ((![v1390, v1358, v1584] : Fin 3 → IVec S16 32) a x).toNat < S2x64x128.size a)
theorem k2_idx447_inb : ∀ (v1358 : IVec S16 32) (v1390 : IVec S16 32) (v1584 : IVec S16 32) (k2_hw447 : k2_chk447 v1358 v1390 v1584), ∀ a x, ((![v1390, v1358, v1584] : Fin 3 → IVec S16 32) a x).toNat < S2x64x128.size a := fun v1358 v1390 v1584 k2_hw447 => k2_hw447

def k2_chk448 (v1358 : IVec S16 32) (v1390 : IVec S16 32) (v1587 : IVec S16 32) : Prop :=
  (∀ a x, ((![v1390, v1358, v1587] : Fin 3 → IVec S16 32) a x).toNat < S2x64x128.size a)
theorem k2_idx448_inb : ∀ (v1358 : IVec S16 32) (v1390 : IVec S16 32) (v1587 : IVec S16 32) (k2_hw448 : k2_chk448 v1358 v1390 v1587), ∀ a x, ((![v1390, v1358, v1587] : Fin 3 → IVec S16 32) a x).toNat < S2x64x128.size a := fun v1358 v1390 v1587 k2_hw448 => k2_hw448

def k2_chk449 (v1358 : IVec S16 32) (v1390 : IVec S16 32) (v1592 : IVec S16 32) : Prop :=
  (∀ a x, ((![v1390, v1358, v1592] : Fin 3 → IVec S16 32) a x).toNat < S2x64x128.size a)
theorem k2_idx449_inb : ∀ (v1358 : IVec S16 32) (v1390 : IVec S16 32) (v1592 : IVec S16 32) (k2_hw449 : k2_chk449 v1358 v1390 v1592), ∀ a x, ((![v1390, v1358, v1592] : Fin 3 → IVec S16 32) a x).toNat < S2x64x128.size a := fun v1358 v1390 v1592 k2_hw449 => k2_hw449

def k2_chk450 (v1358 : IVec S16 32) (v1390 : IVec S16 32) (v1595 : IVec S16 32) : Prop :=
  (∀ a x, ((![v1390, v1358, v1595] : Fin 3 → IVec S16 32) a x).toNat < S2x64x128.size a)
theorem k2_idx450_inb : ∀ (v1358 : IVec S16 32) (v1390 : IVec S16 32) (v1595 : IVec S16 32) (k2_hw450 : k2_chk450 v1358 v1390 v1595), ∀ a x, ((![v1390, v1358, v1595] : Fin 3 → IVec S16 32) a x).toNat < S2x64x128.size a := fun v1358 v1390 v1595 k2_hw450 => k2_hw450

def k2_chk451 (v1358 : IVec S16 32) (v1390 : IVec S16 32) (v1600 : IVec S16 32) : Prop :=
  (∀ a x, ((![v1390, v1358, v1600] : Fin 3 → IVec S16 32) a x).toNat < S2x64x128.size a)
theorem k2_idx451_inb : ∀ (v1358 : IVec S16 32) (v1390 : IVec S16 32) (v1600 : IVec S16 32) (k2_hw451 : k2_chk451 v1358 v1390 v1600), ∀ a x, ((![v1390, v1358, v1600] : Fin 3 → IVec S16 32) a x).toNat < S2x64x128.size a := fun v1358 v1390 v1600 k2_hw451 => k2_hw451

def k2_chk452 (v1358 : IVec S16 32) (v1390 : IVec S16 32) (v1603 : IVec S16 32) : Prop :=
  (∀ a x, ((![v1390, v1358, v1603] : Fin 3 → IVec S16 32) a x).toNat < S2x64x128.size a)
theorem k2_idx452_inb : ∀ (v1358 : IVec S16 32) (v1390 : IVec S16 32) (v1603 : IVec S16 32) (k2_hw452 : k2_chk452 v1358 v1390 v1603), ∀ a x, ((![v1390, v1358, v1603] : Fin 3 → IVec S16 32) a x).toNat < S2x64x128.size a := fun v1358 v1390 v1603 k2_hw452 => k2_hw452

def k2_chk453 (v1358 : IVec S16 32) (v1390 : IVec S16 32) (v1608 : IVec S16 32) : Prop :=
  (∀ a x, ((![v1390, v1358, v1608] : Fin 3 → IVec S16 32) a x).toNat < S2x64x128.size a)
theorem k2_idx453_inb : ∀ (v1358 : IVec S16 32) (v1390 : IVec S16 32) (v1608 : IVec S16 32) (k2_hw453 : k2_chk453 v1358 v1390 v1608), ∀ a x, ((![v1390, v1358, v1608] : Fin 3 → IVec S16 32) a x).toNat < S2x64x128.size a := fun v1358 v1390 v1608 k2_hw453 => k2_hw453

def k2_chk454 (v1358 : IVec S16 32) (v1390 : IVec S16 32) (v1611 : IVec S16 32) : Prop :=
  (∀ a x, ((![v1390, v1358, v1611] : Fin 3 → IVec S16 32) a x).toNat < S2x64x128.size a)
theorem k2_idx454_inb : ∀ (v1358 : IVec S16 32) (v1390 : IVec S16 32) (v1611 : IVec S16 32) (k2_hw454 : k2_chk454 v1358 v1390 v1611), ∀ a x, ((![v1390, v1358, v1611] : Fin 3 → IVec S16 32) a x).toNat < S2x64x128.size a := fun v1358 v1390 v1611 k2_hw454 => k2_hw454

def k2_chk455 (v1358 : IVec S16 32) (v1390 : IVec S16 32) (v1616 : IVec S16 32) : Prop :=
  (∀ a x, ((![v1390, v1358, v1616] : Fin 3 → IVec S16 32) a x).toNat < S2x64x128.size a)
theorem k2_idx455_inb : ∀ (v1358 : IVec S16 32) (v1390 : IVec S16 32) (v1616 : IVec S16 32) (k2_hw455 : k2_chk455 v1358 v1390 v1616), ∀ a x, ((![v1390, v1358, v1616] : Fin 3 → IVec S16 32) a x).toNat < S2x64x128.size a := fun v1358 v1390 v1616 k2_hw455 => k2_hw455

def k2_chk456 (v1358 : IVec S16 32) (v1390 : IVec S16 32) (v1619 : IVec S16 32) : Prop :=
  (∀ a x, ((![v1390, v1358, v1619] : Fin 3 → IVec S16 32) a x).toNat < S2x64x128.size a)
theorem k2_idx456_inb : ∀ (v1358 : IVec S16 32) (v1390 : IVec S16 32) (v1619 : IVec S16 32) (k2_hw456 : k2_chk456 v1358 v1390 v1619), ∀ a x, ((![v1390, v1358, v1619] : Fin 3 → IVec S16 32) a x).toNat < S2x64x128.size a := fun v1358 v1390 v1619 k2_hw456 => k2_hw456

def k2_chk457 (v1358 : IVec S16 32) (v1390 : IVec S16 32) (v1624 : IVec S16 32) : Prop :=
  (∀ a x, ((![v1390, v1358, v1624] : Fin 3 → IVec S16 32) a x).toNat < S2x64x128.size a)
theorem k2_idx457_inb : ∀ (v1358 : IVec S16 32) (v1390 : IVec S16 32) (v1624 : IVec S16 32) (k2_hw457 : k2_chk457 v1358 v1390 v1624), ∀ a x, ((![v1390, v1358, v1624] : Fin 3 → IVec S16 32) a x).toNat < S2x64x128.size a := fun v1358 v1390 v1624 k2_hw457 => k2_hw457

def k2_chk458 (v1358 : IVec S16 32) (v1390 : IVec S16 32) (v1627 : IVec S16 32) : Prop :=
  (∀ a x, ((![v1390, v1358, v1627] : Fin 3 → IVec S16 32) a x).toNat < S2x64x128.size a)
theorem k2_idx458_inb : ∀ (v1358 : IVec S16 32) (v1390 : IVec S16 32) (v1627 : IVec S16 32) (k2_hw458 : k2_chk458 v1358 v1390 v1627), ∀ a x, ((![v1390, v1358, v1627] : Fin 3 → IVec S16 32) a x).toNat < S2x64x128.size a := fun v1358 v1390 v1627 k2_hw458 => k2_hw458

def k2_chk459 (v1358 : IVec S16 32) (v1390 : IVec S16 32) (v1632 : IVec S16 32) : Prop :=
  (∀ a x, ((![v1390, v1358, v1632] : Fin 3 → IVec S16 32) a x).toNat < S2x64x128.size a)
theorem k2_idx459_inb : ∀ (v1358 : IVec S16 32) (v1390 : IVec S16 32) (v1632 : IVec S16 32) (k2_hw459 : k2_chk459 v1358 v1390 v1632), ∀ a x, ((![v1390, v1358, v1632] : Fin 3 → IVec S16 32) a x).toNat < S2x64x128.size a := fun v1358 v1390 v1632 k2_hw459 => k2_hw459

def k2_chk460 (v1358 : IVec S16 32) (v1390 : IVec S16 32) (v1635 : IVec S16 32) : Prop :=
  (∀ a x, ((![v1390, v1358, v1635] : Fin 3 → IVec S16 32) a x).toNat < S2x64x128.size a)
theorem k2_idx460_inb : ∀ (v1358 : IVec S16 32) (v1390 : IVec S16 32) (v1635 : IVec S16 32) (k2_hw460 : k2_chk460 v1358 v1390 v1635), ∀ a x, ((![v1390, v1358, v1635] : Fin 3 → IVec S16 32) a x).toNat < S2x64x128.size a := fun v1358 v1390 v1635 k2_hw460 => k2_hw460

def k2_chk461 (v1358 : IVec S16 32) (v1390 : IVec S16 32) (v1640 : IVec S16 32) : Prop :=
  (∀ a x, ((![v1390, v1358, v1640] : Fin 3 → IVec S16 32) a x).toNat < S2x64x128.size a)
theorem k2_idx461_inb : ∀ (v1358 : IVec S16 32) (v1390 : IVec S16 32) (v1640 : IVec S16 32) (k2_hw461 : k2_chk461 v1358 v1390 v1640), ∀ a x, ((![v1390, v1358, v1640] : Fin 3 → IVec S16 32) a x).toNat < S2x64x128.size a := fun v1358 v1390 v1640 k2_hw461 => k2_hw461

def k2_chk462 (v1358 : IVec S16 32) (v1390 : IVec S16 32) (v1643 : IVec S16 32) : Prop :=
  (∀ a x, ((![v1390, v1358, v1643] : Fin 3 → IVec S16 32) a x).toNat < S2x64x128.size a)
theorem k2_idx462_inb : ∀ (v1358 : IVec S16 32) (v1390 : IVec S16 32) (v1643 : IVec S16 32) (k2_hw462 : k2_chk462 v1358 v1390 v1643), ∀ a x, ((![v1390, v1358, v1643] : Fin 3 → IVec S16 32) a x).toNat < S2x64x128.size a := fun v1358 v1390 v1643 k2_hw462 => k2_hw462
def k2_off15 (k2_t7 : Fin k2_t7_loop.trips) : Fin 1 → Nat :=
  let c384_i32_1269 : BitVec 32 := 384#32
  let c0_i32_1172 : BitVec 32 := 0#32
  let c1_i32_1174 : BitVec 32 := 1#32
  let arg19 : BitVec 32 := Scf.iv c0_i32_1172 c1_i32_1174 k2_t7
  let c16_i32_1268 : BitVec 32 := 16#32
  let v1647 : BitVec 32 := Scalar.muli arg19 c16_i32_1268
  let v1648 : BitVec 32 := Scalar.addi c384_i32_1269 v1647
  let v1649 : Index := Scalar.indexCast v1648
  ![v1649.toNat]
@[reducible] def k2_t8_loop : Scf.Loop 32 :=
  let c0_i32_1209 : BitVec 32 := 0#32
  let c4_i32_1210 : BitVec 32 := 4#32
  let v1355 : BitVec 32 := Scalar.addi c0_i32_1209 c4_i32_1210
  let c1_i32_1211 : BitVec 32 := 1#32
  ⟨c0_i32_1209, v1355, c1_i32_1211⟩
def k2_off16 (k2_t8 : Fin k2_t8_loop.trips) : Fin 1 → Nat :=
  let c448_i32 : BitVec 32 := 448#32
  let c0_i32_1209 : BitVec 32 := 0#32
  let c1_i32_1211 : BitVec 32 := 1#32
  let arg19 : BitVec 32 := Scf.iv c0_i32_1209 c1_i32_1211 k2_t8
  let c16_i32_1214 : BitVec 32 := 16#32
  let v1359 : BitVec 32 := Scalar.muli arg19 c16_i32_1214
  let v1360 : BitVec 32 := Scalar.addi c448_i32 v1359
  let v1361 : Index := Scalar.indexCast v1360
  ![v1361.toNat]

def k2_chk463 (v1358 : IVec S16 32) (v1367 : IVec S16 32) (v1369 : IVec S16 32) : Prop :=
  (∀ a x, ((![v1367, v1358, v1369] : Fin 3 → IVec S16 32) a x).toNat < S2x64x128.size a)
theorem k2_idx463_inb : ∀ (v1358 : IVec S16 32) (v1367 : IVec S16 32) (v1369 : IVec S16 32) (k2_hw463 : k2_chk463 v1358 v1367 v1369), ∀ a x, ((![v1367, v1358, v1369] : Fin 3 → IVec S16 32) a x).toNat < S2x64x128.size a := fun v1358 v1367 v1369 k2_hw463 => k2_hw463

def k2_chk464 (v1358 : IVec S16 32) (v1373 : IVec S16 32) (v1375 : IVec S16 32) : Prop :=
  (∀ a x, ((![v1373, v1358, v1375] : Fin 3 → IVec S16 32) a x).toNat < S2x64x128.size a)
theorem k2_idx464_inb : ∀ (v1358 : IVec S16 32) (v1373 : IVec S16 32) (v1375 : IVec S16 32) (k2_hw464 : k2_chk464 v1358 v1373 v1375), ∀ a x, ((![v1373, v1358, v1375] : Fin 3 → IVec S16 32) a x).toNat < S2x64x128.size a := fun v1358 v1373 v1375 k2_hw464 => k2_hw464

def k2_chk465 (v1358 : IVec S16 32) (v1390 : IVec S16 32) (v1392 : IVec S16 32) : Prop :=
  (∀ a x, ((![v1390, v1358, v1392] : Fin 3 → IVec S16 32) a x).toNat < S2x64x128.size a)
theorem k2_idx465_inb : ∀ (v1358 : IVec S16 32) (v1390 : IVec S16 32) (v1392 : IVec S16 32) (k2_hw465 : k2_chk465 v1358 v1390 v1392), ∀ a x, ((![v1390, v1358, v1392] : Fin 3 → IVec S16 32) a x).toNat < S2x64x128.size a := fun v1358 v1390 v1392 k2_hw465 => k2_hw465

def k2_chk466 (v1358 : IVec S16 32) (v1390 : IVec S16 32) (v1395 : IVec S16 32) : Prop :=
  (∀ a x, ((![v1390, v1358, v1395] : Fin 3 → IVec S16 32) a x).toNat < S2x64x128.size a)
theorem k2_idx466_inb : ∀ (v1358 : IVec S16 32) (v1390 : IVec S16 32) (v1395 : IVec S16 32) (k2_hw466 : k2_chk466 v1358 v1390 v1395), ∀ a x, ((![v1390, v1358, v1395] : Fin 3 → IVec S16 32) a x).toNat < S2x64x128.size a := fun v1358 v1390 v1395 k2_hw466 => k2_hw466

def k2_chk467 (v1358 : IVec S16 32) (v1390 : IVec S16 32) (v1400 : IVec S16 32) : Prop :=
  (∀ a x, ((![v1390, v1358, v1400] : Fin 3 → IVec S16 32) a x).toNat < S2x64x128.size a)
theorem k2_idx467_inb : ∀ (v1358 : IVec S16 32) (v1390 : IVec S16 32) (v1400 : IVec S16 32) (k2_hw467 : k2_chk467 v1358 v1390 v1400), ∀ a x, ((![v1390, v1358, v1400] : Fin 3 → IVec S16 32) a x).toNat < S2x64x128.size a := fun v1358 v1390 v1400 k2_hw467 => k2_hw467

def k2_chk468 (v1358 : IVec S16 32) (v1390 : IVec S16 32) (v1403 : IVec S16 32) : Prop :=
  (∀ a x, ((![v1390, v1358, v1403] : Fin 3 → IVec S16 32) a x).toNat < S2x64x128.size a)
theorem k2_idx468_inb : ∀ (v1358 : IVec S16 32) (v1390 : IVec S16 32) (v1403 : IVec S16 32) (k2_hw468 : k2_chk468 v1358 v1390 v1403), ∀ a x, ((![v1390, v1358, v1403] : Fin 3 → IVec S16 32) a x).toNat < S2x64x128.size a := fun v1358 v1390 v1403 k2_hw468 => k2_hw468

def k2_chk469 (v1358 : IVec S16 32) (v1390 : IVec S16 32) (v1408 : IVec S16 32) : Prop :=
  (∀ a x, ((![v1390, v1358, v1408] : Fin 3 → IVec S16 32) a x).toNat < S2x64x128.size a)
theorem k2_idx469_inb : ∀ (v1358 : IVec S16 32) (v1390 : IVec S16 32) (v1408 : IVec S16 32) (k2_hw469 : k2_chk469 v1358 v1390 v1408), ∀ a x, ((![v1390, v1358, v1408] : Fin 3 → IVec S16 32) a x).toNat < S2x64x128.size a := fun v1358 v1390 v1408 k2_hw469 => k2_hw469

def k2_chk470 (v1358 : IVec S16 32) (v1390 : IVec S16 32) (v1411 : IVec S16 32) : Prop :=
  (∀ a x, ((![v1390, v1358, v1411] : Fin 3 → IVec S16 32) a x).toNat < S2x64x128.size a)
theorem k2_idx470_inb : ∀ (v1358 : IVec S16 32) (v1390 : IVec S16 32) (v1411 : IVec S16 32) (k2_hw470 : k2_chk470 v1358 v1390 v1411), ∀ a x, ((![v1390, v1358, v1411] : Fin 3 → IVec S16 32) a x).toNat < S2x64x128.size a := fun v1358 v1390 v1411 k2_hw470 => k2_hw470

def k2_chk471 (v1358 : IVec S16 32) (v1390 : IVec S16 32) (v1416 : IVec S16 32) : Prop :=
  (∀ a x, ((![v1390, v1358, v1416] : Fin 3 → IVec S16 32) a x).toNat < S2x64x128.size a)
theorem k2_idx471_inb : ∀ (v1358 : IVec S16 32) (v1390 : IVec S16 32) (v1416 : IVec S16 32) (k2_hw471 : k2_chk471 v1358 v1390 v1416), ∀ a x, ((![v1390, v1358, v1416] : Fin 3 → IVec S16 32) a x).toNat < S2x64x128.size a := fun v1358 v1390 v1416 k2_hw471 => k2_hw471

def k2_chk472 (v1358 : IVec S16 32) (v1390 : IVec S16 32) (v1419 : IVec S16 32) : Prop :=
  (∀ a x, ((![v1390, v1358, v1419] : Fin 3 → IVec S16 32) a x).toNat < S2x64x128.size a)
theorem k2_idx472_inb : ∀ (v1358 : IVec S16 32) (v1390 : IVec S16 32) (v1419 : IVec S16 32) (k2_hw472 : k2_chk472 v1358 v1390 v1419), ∀ a x, ((![v1390, v1358, v1419] : Fin 3 → IVec S16 32) a x).toNat < S2x64x128.size a := fun v1358 v1390 v1419 k2_hw472 => k2_hw472

def k2_chk473 (v1358 : IVec S16 32) (v1390 : IVec S16 32) (v1424 : IVec S16 32) : Prop :=
  (∀ a x, ((![v1390, v1358, v1424] : Fin 3 → IVec S16 32) a x).toNat < S2x64x128.size a)
theorem k2_idx473_inb : ∀ (v1358 : IVec S16 32) (v1390 : IVec S16 32) (v1424 : IVec S16 32) (k2_hw473 : k2_chk473 v1358 v1390 v1424), ∀ a x, ((![v1390, v1358, v1424] : Fin 3 → IVec S16 32) a x).toNat < S2x64x128.size a := fun v1358 v1390 v1424 k2_hw473 => k2_hw473

def k2_chk474 (v1358 : IVec S16 32) (v1390 : IVec S16 32) (v1427 : IVec S16 32) : Prop :=
  (∀ a x, ((![v1390, v1358, v1427] : Fin 3 → IVec S16 32) a x).toNat < S2x64x128.size a)
theorem k2_idx474_inb : ∀ (v1358 : IVec S16 32) (v1390 : IVec S16 32) (v1427 : IVec S16 32) (k2_hw474 : k2_chk474 v1358 v1390 v1427), ∀ a x, ((![v1390, v1358, v1427] : Fin 3 → IVec S16 32) a x).toNat < S2x64x128.size a := fun v1358 v1390 v1427 k2_hw474 => k2_hw474

def k2_chk475 (v1358 : IVec S16 32) (v1390 : IVec S16 32) (v1432 : IVec S16 32) : Prop :=
  (∀ a x, ((![v1390, v1358, v1432] : Fin 3 → IVec S16 32) a x).toNat < S2x64x128.size a)
theorem k2_idx475_inb : ∀ (v1358 : IVec S16 32) (v1390 : IVec S16 32) (v1432 : IVec S16 32) (k2_hw475 : k2_chk475 v1358 v1390 v1432), ∀ a x, ((![v1390, v1358, v1432] : Fin 3 → IVec S16 32) a x).toNat < S2x64x128.size a := fun v1358 v1390 v1432 k2_hw475 => k2_hw475

def k2_chk476 (v1358 : IVec S16 32) (v1390 : IVec S16 32) (v1435 : IVec S16 32) : Prop :=
  (∀ a x, ((![v1390, v1358, v1435] : Fin 3 → IVec S16 32) a x).toNat < S2x64x128.size a)
theorem k2_idx476_inb : ∀ (v1358 : IVec S16 32) (v1390 : IVec S16 32) (v1435 : IVec S16 32) (k2_hw476 : k2_chk476 v1358 v1390 v1435), ∀ a x, ((![v1390, v1358, v1435] : Fin 3 → IVec S16 32) a x).toNat < S2x64x128.size a := fun v1358 v1390 v1435 k2_hw476 => k2_hw476

def k2_chk477 (v1358 : IVec S16 32) (v1390 : IVec S16 32) (v1440 : IVec S16 32) : Prop :=
  (∀ a x, ((![v1390, v1358, v1440] : Fin 3 → IVec S16 32) a x).toNat < S2x64x128.size a)
theorem k2_idx477_inb : ∀ (v1358 : IVec S16 32) (v1390 : IVec S16 32) (v1440 : IVec S16 32) (k2_hw477 : k2_chk477 v1358 v1390 v1440), ∀ a x, ((![v1390, v1358, v1440] : Fin 3 → IVec S16 32) a x).toNat < S2x64x128.size a := fun v1358 v1390 v1440 k2_hw477 => k2_hw477

def k2_chk478 (v1358 : IVec S16 32) (v1390 : IVec S16 32) (v1443 : IVec S16 32) : Prop :=
  (∀ a x, ((![v1390, v1358, v1443] : Fin 3 → IVec S16 32) a x).toNat < S2x64x128.size a)
theorem k2_idx478_inb : ∀ (v1358 : IVec S16 32) (v1390 : IVec S16 32) (v1443 : IVec S16 32) (k2_hw478 : k2_chk478 v1358 v1390 v1443), ∀ a x, ((![v1390, v1358, v1443] : Fin 3 → IVec S16 32) a x).toNat < S2x64x128.size a := fun v1358 v1390 v1443 k2_hw478 => k2_hw478

def k2_chk479 (v1358 : IVec S16 32) (v1390 : IVec S16 32) (v1448 : IVec S16 32) : Prop :=
  (∀ a x, ((![v1390, v1358, v1448] : Fin 3 → IVec S16 32) a x).toNat < S2x64x128.size a)
theorem k2_idx479_inb : ∀ (v1358 : IVec S16 32) (v1390 : IVec S16 32) (v1448 : IVec S16 32) (k2_hw479 : k2_chk479 v1358 v1390 v1448), ∀ a x, ((![v1390, v1358, v1448] : Fin 3 → IVec S16 32) a x).toNat < S2x64x128.size a := fun v1358 v1390 v1448 k2_hw479 => k2_hw479

def k2_chk480 (v1358 : IVec S16 32) (v1390 : IVec S16 32) (v1451 : IVec S16 32) : Prop :=
  (∀ a x, ((![v1390, v1358, v1451] : Fin 3 → IVec S16 32) a x).toNat < S2x64x128.size a)
theorem k2_idx480_inb : ∀ (v1358 : IVec S16 32) (v1390 : IVec S16 32) (v1451 : IVec S16 32) (k2_hw480 : k2_chk480 v1358 v1390 v1451), ∀ a x, ((![v1390, v1358, v1451] : Fin 3 → IVec S16 32) a x).toNat < S2x64x128.size a := fun v1358 v1390 v1451 k2_hw480 => k2_hw480

def k2_chk481 (v1358 : IVec S16 32) (v1390 : IVec S16 32) (v1456 : IVec S16 32) : Prop :=
  (∀ a x, ((![v1390, v1358, v1456] : Fin 3 → IVec S16 32) a x).toNat < S2x64x128.size a)
theorem k2_idx481_inb : ∀ (v1358 : IVec S16 32) (v1390 : IVec S16 32) (v1456 : IVec S16 32) (k2_hw481 : k2_chk481 v1358 v1390 v1456), ∀ a x, ((![v1390, v1358, v1456] : Fin 3 → IVec S16 32) a x).toNat < S2x64x128.size a := fun v1358 v1390 v1456 k2_hw481 => k2_hw481

def k2_chk482 (v1358 : IVec S16 32) (v1390 : IVec S16 32) (v1459 : IVec S16 32) : Prop :=
  (∀ a x, ((![v1390, v1358, v1459] : Fin 3 → IVec S16 32) a x).toNat < S2x64x128.size a)
theorem k2_idx482_inb : ∀ (v1358 : IVec S16 32) (v1390 : IVec S16 32) (v1459 : IVec S16 32) (k2_hw482 : k2_chk482 v1358 v1390 v1459), ∀ a x, ((![v1390, v1358, v1459] : Fin 3 → IVec S16 32) a x).toNat < S2x64x128.size a := fun v1358 v1390 v1459 k2_hw482 => k2_hw482

def k2_chk483 (v1358 : IVec S16 32) (v1390 : IVec S16 32) (v1464 : IVec S16 32) : Prop :=
  (∀ a x, ((![v1390, v1358, v1464] : Fin 3 → IVec S16 32) a x).toNat < S2x64x128.size a)
theorem k2_idx483_inb : ∀ (v1358 : IVec S16 32) (v1390 : IVec S16 32) (v1464 : IVec S16 32) (k2_hw483 : k2_chk483 v1358 v1390 v1464), ∀ a x, ((![v1390, v1358, v1464] : Fin 3 → IVec S16 32) a x).toNat < S2x64x128.size a := fun v1358 v1390 v1464 k2_hw483 => k2_hw483

def k2_chk484 (v1358 : IVec S16 32) (v1390 : IVec S16 32) (v1467 : IVec S16 32) : Prop :=
  (∀ a x, ((![v1390, v1358, v1467] : Fin 3 → IVec S16 32) a x).toNat < S2x64x128.size a)
theorem k2_idx484_inb : ∀ (v1358 : IVec S16 32) (v1390 : IVec S16 32) (v1467 : IVec S16 32) (k2_hw484 : k2_chk484 v1358 v1390 v1467), ∀ a x, ((![v1390, v1358, v1467] : Fin 3 → IVec S16 32) a x).toNat < S2x64x128.size a := fun v1358 v1390 v1467 k2_hw484 => k2_hw484

def k2_chk485 (v1358 : IVec S16 32) (v1390 : IVec S16 32) (v1472 : IVec S16 32) : Prop :=
  (∀ a x, ((![v1390, v1358, v1472] : Fin 3 → IVec S16 32) a x).toNat < S2x64x128.size a)
theorem k2_idx485_inb : ∀ (v1358 : IVec S16 32) (v1390 : IVec S16 32) (v1472 : IVec S16 32) (k2_hw485 : k2_chk485 v1358 v1390 v1472), ∀ a x, ((![v1390, v1358, v1472] : Fin 3 → IVec S16 32) a x).toNat < S2x64x128.size a := fun v1358 v1390 v1472 k2_hw485 => k2_hw485

def k2_chk486 (v1358 : IVec S16 32) (v1390 : IVec S16 32) (v1475 : IVec S16 32) : Prop :=
  (∀ a x, ((![v1390, v1358, v1475] : Fin 3 → IVec S16 32) a x).toNat < S2x64x128.size a)
theorem k2_idx486_inb : ∀ (v1358 : IVec S16 32) (v1390 : IVec S16 32) (v1475 : IVec S16 32) (k2_hw486 : k2_chk486 v1358 v1390 v1475), ∀ a x, ((![v1390, v1358, v1475] : Fin 3 → IVec S16 32) a x).toNat < S2x64x128.size a := fun v1358 v1390 v1475 k2_hw486 => k2_hw486

def k2_chk487 (v1358 : IVec S16 32) (v1390 : IVec S16 32) (v1480 : IVec S16 32) : Prop :=
  (∀ a x, ((![v1390, v1358, v1480] : Fin 3 → IVec S16 32) a x).toNat < S2x64x128.size a)
theorem k2_idx487_inb : ∀ (v1358 : IVec S16 32) (v1390 : IVec S16 32) (v1480 : IVec S16 32) (k2_hw487 : k2_chk487 v1358 v1390 v1480), ∀ a x, ((![v1390, v1358, v1480] : Fin 3 → IVec S16 32) a x).toNat < S2x64x128.size a := fun v1358 v1390 v1480 k2_hw487 => k2_hw487

def k2_chk488 (v1358 : IVec S16 32) (v1390 : IVec S16 32) (v1483 : IVec S16 32) : Prop :=
  (∀ a x, ((![v1390, v1358, v1483] : Fin 3 → IVec S16 32) a x).toNat < S2x64x128.size a)
theorem k2_idx488_inb : ∀ (v1358 : IVec S16 32) (v1390 : IVec S16 32) (v1483 : IVec S16 32) (k2_hw488 : k2_chk488 v1358 v1390 v1483), ∀ a x, ((![v1390, v1358, v1483] : Fin 3 → IVec S16 32) a x).toNat < S2x64x128.size a := fun v1358 v1390 v1483 k2_hw488 => k2_hw488

def k2_chk489 (v1358 : IVec S16 32) (v1390 : IVec S16 32) (v1488 : IVec S16 32) : Prop :=
  (∀ a x, ((![v1390, v1358, v1488] : Fin 3 → IVec S16 32) a x).toNat < S2x64x128.size a)
theorem k2_idx489_inb : ∀ (v1358 : IVec S16 32) (v1390 : IVec S16 32) (v1488 : IVec S16 32) (k2_hw489 : k2_chk489 v1358 v1390 v1488), ∀ a x, ((![v1390, v1358, v1488] : Fin 3 → IVec S16 32) a x).toNat < S2x64x128.size a := fun v1358 v1390 v1488 k2_hw489 => k2_hw489

def k2_chk490 (v1358 : IVec S16 32) (v1390 : IVec S16 32) (v1491 : IVec S16 32) : Prop :=
  (∀ a x, ((![v1390, v1358, v1491] : Fin 3 → IVec S16 32) a x).toNat < S2x64x128.size a)
theorem k2_idx490_inb : ∀ (v1358 : IVec S16 32) (v1390 : IVec S16 32) (v1491 : IVec S16 32) (k2_hw490 : k2_chk490 v1358 v1390 v1491), ∀ a x, ((![v1390, v1358, v1491] : Fin 3 → IVec S16 32) a x).toNat < S2x64x128.size a := fun v1358 v1390 v1491 k2_hw490 => k2_hw490

def k2_chk491 (v1358 : IVec S16 32) (v1390 : IVec S16 32) (v1496 : IVec S16 32) : Prop :=
  (∀ a x, ((![v1390, v1358, v1496] : Fin 3 → IVec S16 32) a x).toNat < S2x64x128.size a)
theorem k2_idx491_inb : ∀ (v1358 : IVec S16 32) (v1390 : IVec S16 32) (v1496 : IVec S16 32) (k2_hw491 : k2_chk491 v1358 v1390 v1496), ∀ a x, ((![v1390, v1358, v1496] : Fin 3 → IVec S16 32) a x).toNat < S2x64x128.size a := fun v1358 v1390 v1496 k2_hw491 => k2_hw491

def k2_chk492 (v1358 : IVec S16 32) (v1390 : IVec S16 32) (v1499 : IVec S16 32) : Prop :=
  (∀ a x, ((![v1390, v1358, v1499] : Fin 3 → IVec S16 32) a x).toNat < S2x64x128.size a)
theorem k2_idx492_inb : ∀ (v1358 : IVec S16 32) (v1390 : IVec S16 32) (v1499 : IVec S16 32) (k2_hw492 : k2_chk492 v1358 v1390 v1499), ∀ a x, ((![v1390, v1358, v1499] : Fin 3 → IVec S16 32) a x).toNat < S2x64x128.size a := fun v1358 v1390 v1499 k2_hw492 => k2_hw492

def k2_chk493 (v1358 : IVec S16 32) (v1390 : IVec S16 32) (v1504 : IVec S16 32) : Prop :=
  (∀ a x, ((![v1390, v1358, v1504] : Fin 3 → IVec S16 32) a x).toNat < S2x64x128.size a)
theorem k2_idx493_inb : ∀ (v1358 : IVec S16 32) (v1390 : IVec S16 32) (v1504 : IVec S16 32) (k2_hw493 : k2_chk493 v1358 v1390 v1504), ∀ a x, ((![v1390, v1358, v1504] : Fin 3 → IVec S16 32) a x).toNat < S2x64x128.size a := fun v1358 v1390 v1504 k2_hw493 => k2_hw493

def k2_chk494 (v1358 : IVec S16 32) (v1390 : IVec S16 32) (v1507 : IVec S16 32) : Prop :=
  (∀ a x, ((![v1390, v1358, v1507] : Fin 3 → IVec S16 32) a x).toNat < S2x64x128.size a)
theorem k2_idx494_inb : ∀ (v1358 : IVec S16 32) (v1390 : IVec S16 32) (v1507 : IVec S16 32) (k2_hw494 : k2_chk494 v1358 v1390 v1507), ∀ a x, ((![v1390, v1358, v1507] : Fin 3 → IVec S16 32) a x).toNat < S2x64x128.size a := fun v1358 v1390 v1507 k2_hw494 => k2_hw494

def k2_chk495 (v1358 : IVec S16 32) (v1390 : IVec S16 32) (v1512 : IVec S16 32) : Prop :=
  (∀ a x, ((![v1390, v1358, v1512] : Fin 3 → IVec S16 32) a x).toNat < S2x64x128.size a)
theorem k2_idx495_inb : ∀ (v1358 : IVec S16 32) (v1390 : IVec S16 32) (v1512 : IVec S16 32) (k2_hw495 : k2_chk495 v1358 v1390 v1512), ∀ a x, ((![v1390, v1358, v1512] : Fin 3 → IVec S16 32) a x).toNat < S2x64x128.size a := fun v1358 v1390 v1512 k2_hw495 => k2_hw495

def k2_chk496 (v1358 : IVec S16 32) (v1390 : IVec S16 32) (v1515 : IVec S16 32) : Prop :=
  (∀ a x, ((![v1390, v1358, v1515] : Fin 3 → IVec S16 32) a x).toNat < S2x64x128.size a)
theorem k2_idx496_inb : ∀ (v1358 : IVec S16 32) (v1390 : IVec S16 32) (v1515 : IVec S16 32) (k2_hw496 : k2_chk496 v1358 v1390 v1515), ∀ a x, ((![v1390, v1358, v1515] : Fin 3 → IVec S16 32) a x).toNat < S2x64x128.size a := fun v1358 v1390 v1515 k2_hw496 => k2_hw496

def k2_chk497 (v1358 : IVec S16 32) (v1390 : IVec S16 32) (v1520 : IVec S16 32) : Prop :=
  (∀ a x, ((![v1390, v1358, v1520] : Fin 3 → IVec S16 32) a x).toNat < S2x64x128.size a)
theorem k2_idx497_inb : ∀ (v1358 : IVec S16 32) (v1390 : IVec S16 32) (v1520 : IVec S16 32) (k2_hw497 : k2_chk497 v1358 v1390 v1520), ∀ a x, ((![v1390, v1358, v1520] : Fin 3 → IVec S16 32) a x).toNat < S2x64x128.size a := fun v1358 v1390 v1520 k2_hw497 => k2_hw497

def k2_chk498 (v1358 : IVec S16 32) (v1390 : IVec S16 32) (v1523 : IVec S16 32) : Prop :=
  (∀ a x, ((![v1390, v1358, v1523] : Fin 3 → IVec S16 32) a x).toNat < S2x64x128.size a)
theorem k2_idx498_inb : ∀ (v1358 : IVec S16 32) (v1390 : IVec S16 32) (v1523 : IVec S16 32) (k2_hw498 : k2_chk498 v1358 v1390 v1523), ∀ a x, ((![v1390, v1358, v1523] : Fin 3 → IVec S16 32) a x).toNat < S2x64x128.size a := fun v1358 v1390 v1523 k2_hw498 => k2_hw498

def k2_chk499 (v1358 : IVec S16 32) (v1390 : IVec S16 32) (v1528 : IVec S16 32) : Prop :=
  (∀ a x, ((![v1390, v1358, v1528] : Fin 3 → IVec S16 32) a x).toNat < S2x64x128.size a)
theorem k2_idx499_inb : ∀ (v1358 : IVec S16 32) (v1390 : IVec S16 32) (v1528 : IVec S16 32) (k2_hw499 : k2_chk499 v1358 v1390 v1528), ∀ a x, ((![v1390, v1358, v1528] : Fin 3 → IVec S16 32) a x).toNat < S2x64x128.size a := fun v1358 v1390 v1528 k2_hw499 => k2_hw499

def k2_chk500 (v1358 : IVec S16 32) (v1390 : IVec S16 32) (v1531 : IVec S16 32) : Prop :=
  (∀ a x, ((![v1390, v1358, v1531] : Fin 3 → IVec S16 32) a x).toNat < S2x64x128.size a)
theorem k2_idx500_inb : ∀ (v1358 : IVec S16 32) (v1390 : IVec S16 32) (v1531 : IVec S16 32) (k2_hw500 : k2_chk500 v1358 v1390 v1531), ∀ a x, ((![v1390, v1358, v1531] : Fin 3 → IVec S16 32) a x).toNat < S2x64x128.size a := fun v1358 v1390 v1531 k2_hw500 => k2_hw500

def k2_chk501 (v1358 : IVec S16 32) (v1390 : IVec S16 32) (v1536 : IVec S16 32) : Prop :=
  (∀ a x, ((![v1390, v1358, v1536] : Fin 3 → IVec S16 32) a x).toNat < S2x64x128.size a)
theorem k2_idx501_inb : ∀ (v1358 : IVec S16 32) (v1390 : IVec S16 32) (v1536 : IVec S16 32) (k2_hw501 : k2_chk501 v1358 v1390 v1536), ∀ a x, ((![v1390, v1358, v1536] : Fin 3 → IVec S16 32) a x).toNat < S2x64x128.size a := fun v1358 v1390 v1536 k2_hw501 => k2_hw501

def k2_chk502 (v1358 : IVec S16 32) (v1390 : IVec S16 32) (v1539 : IVec S16 32) : Prop :=
  (∀ a x, ((![v1390, v1358, v1539] : Fin 3 → IVec S16 32) a x).toNat < S2x64x128.size a)
theorem k2_idx502_inb : ∀ (v1358 : IVec S16 32) (v1390 : IVec S16 32) (v1539 : IVec S16 32) (k2_hw502 : k2_chk502 v1358 v1390 v1539), ∀ a x, ((![v1390, v1358, v1539] : Fin 3 → IVec S16 32) a x).toNat < S2x64x128.size a := fun v1358 v1390 v1539 k2_hw502 => k2_hw502

def k2_chk503 (v1358 : IVec S16 32) (v1390 : IVec S16 32) (v1544 : IVec S16 32) : Prop :=
  (∀ a x, ((![v1390, v1358, v1544] : Fin 3 → IVec S16 32) a x).toNat < S2x64x128.size a)
theorem k2_idx503_inb : ∀ (v1358 : IVec S16 32) (v1390 : IVec S16 32) (v1544 : IVec S16 32) (k2_hw503 : k2_chk503 v1358 v1390 v1544), ∀ a x, ((![v1390, v1358, v1544] : Fin 3 → IVec S16 32) a x).toNat < S2x64x128.size a := fun v1358 v1390 v1544 k2_hw503 => k2_hw503

def k2_chk504 (v1358 : IVec S16 32) (v1390 : IVec S16 32) (v1547 : IVec S16 32) : Prop :=
  (∀ a x, ((![v1390, v1358, v1547] : Fin 3 → IVec S16 32) a x).toNat < S2x64x128.size a)
theorem k2_idx504_inb : ∀ (v1358 : IVec S16 32) (v1390 : IVec S16 32) (v1547 : IVec S16 32) (k2_hw504 : k2_chk504 v1358 v1390 v1547), ∀ a x, ((![v1390, v1358, v1547] : Fin 3 → IVec S16 32) a x).toNat < S2x64x128.size a := fun v1358 v1390 v1547 k2_hw504 => k2_hw504

def k2_chk505 (v1358 : IVec S16 32) (v1390 : IVec S16 32) (v1552 : IVec S16 32) : Prop :=
  (∀ a x, ((![v1390, v1358, v1552] : Fin 3 → IVec S16 32) a x).toNat < S2x64x128.size a)
theorem k2_idx505_inb : ∀ (v1358 : IVec S16 32) (v1390 : IVec S16 32) (v1552 : IVec S16 32) (k2_hw505 : k2_chk505 v1358 v1390 v1552), ∀ a x, ((![v1390, v1358, v1552] : Fin 3 → IVec S16 32) a x).toNat < S2x64x128.size a := fun v1358 v1390 v1552 k2_hw505 => k2_hw505

def k2_chk506 (v1358 : IVec S16 32) (v1390 : IVec S16 32) (v1555 : IVec S16 32) : Prop :=
  (∀ a x, ((![v1390, v1358, v1555] : Fin 3 → IVec S16 32) a x).toNat < S2x64x128.size a)
theorem k2_idx506_inb : ∀ (v1358 : IVec S16 32) (v1390 : IVec S16 32) (v1555 : IVec S16 32) (k2_hw506 : k2_chk506 v1358 v1390 v1555), ∀ a x, ((![v1390, v1358, v1555] : Fin 3 → IVec S16 32) a x).toNat < S2x64x128.size a := fun v1358 v1390 v1555 k2_hw506 => k2_hw506

def k2_chk507 (v1358 : IVec S16 32) (v1390 : IVec S16 32) (v1560 : IVec S16 32) : Prop :=
  (∀ a x, ((![v1390, v1358, v1560] : Fin 3 → IVec S16 32) a x).toNat < S2x64x128.size a)
theorem k2_idx507_inb : ∀ (v1358 : IVec S16 32) (v1390 : IVec S16 32) (v1560 : IVec S16 32) (k2_hw507 : k2_chk507 v1358 v1390 v1560), ∀ a x, ((![v1390, v1358, v1560] : Fin 3 → IVec S16 32) a x).toNat < S2x64x128.size a := fun v1358 v1390 v1560 k2_hw507 => k2_hw507

def k2_chk508 (v1358 : IVec S16 32) (v1390 : IVec S16 32) (v1563 : IVec S16 32) : Prop :=
  (∀ a x, ((![v1390, v1358, v1563] : Fin 3 → IVec S16 32) a x).toNat < S2x64x128.size a)
theorem k2_idx508_inb : ∀ (v1358 : IVec S16 32) (v1390 : IVec S16 32) (v1563 : IVec S16 32) (k2_hw508 : k2_chk508 v1358 v1390 v1563), ∀ a x, ((![v1390, v1358, v1563] : Fin 3 → IVec S16 32) a x).toNat < S2x64x128.size a := fun v1358 v1390 v1563 k2_hw508 => k2_hw508

def k2_chk509 (v1358 : IVec S16 32) (v1390 : IVec S16 32) (v1568 : IVec S16 32) : Prop :=
  (∀ a x, ((![v1390, v1358, v1568] : Fin 3 → IVec S16 32) a x).toNat < S2x64x128.size a)
theorem k2_idx509_inb : ∀ (v1358 : IVec S16 32) (v1390 : IVec S16 32) (v1568 : IVec S16 32) (k2_hw509 : k2_chk509 v1358 v1390 v1568), ∀ a x, ((![v1390, v1358, v1568] : Fin 3 → IVec S16 32) a x).toNat < S2x64x128.size a := fun v1358 v1390 v1568 k2_hw509 => k2_hw509

def k2_chk510 (v1358 : IVec S16 32) (v1390 : IVec S16 32) (v1571 : IVec S16 32) : Prop :=
  (∀ a x, ((![v1390, v1358, v1571] : Fin 3 → IVec S16 32) a x).toNat < S2x64x128.size a)
theorem k2_idx510_inb : ∀ (v1358 : IVec S16 32) (v1390 : IVec S16 32) (v1571 : IVec S16 32) (k2_hw510 : k2_chk510 v1358 v1390 v1571), ∀ a x, ((![v1390, v1358, v1571] : Fin 3 → IVec S16 32) a x).toNat < S2x64x128.size a := fun v1358 v1390 v1571 k2_hw510 => k2_hw510

def k2_chk511 (v1358 : IVec S16 32) (v1390 : IVec S16 32) (v1576 : IVec S16 32) : Prop :=
  (∀ a x, ((![v1390, v1358, v1576] : Fin 3 → IVec S16 32) a x).toNat < S2x64x128.size a)
theorem k2_idx511_inb : ∀ (v1358 : IVec S16 32) (v1390 : IVec S16 32) (v1576 : IVec S16 32) (k2_hw511 : k2_chk511 v1358 v1390 v1576), ∀ a x, ((![v1390, v1358, v1576] : Fin 3 → IVec S16 32) a x).toNat < S2x64x128.size a := fun v1358 v1390 v1576 k2_hw511 => k2_hw511

def k2_chk512 (v1358 : IVec S16 32) (v1390 : IVec S16 32) (v1579 : IVec S16 32) : Prop :=
  (∀ a x, ((![v1390, v1358, v1579] : Fin 3 → IVec S16 32) a x).toNat < S2x64x128.size a)
theorem k2_idx512_inb : ∀ (v1358 : IVec S16 32) (v1390 : IVec S16 32) (v1579 : IVec S16 32) (k2_hw512 : k2_chk512 v1358 v1390 v1579), ∀ a x, ((![v1390, v1358, v1579] : Fin 3 → IVec S16 32) a x).toNat < S2x64x128.size a := fun v1358 v1390 v1579 k2_hw512 => k2_hw512

def k2_chk513 (v1358 : IVec S16 32) (v1390 : IVec S16 32) (v1584 : IVec S16 32) : Prop :=
  (∀ a x, ((![v1390, v1358, v1584] : Fin 3 → IVec S16 32) a x).toNat < S2x64x128.size a)
theorem k2_idx513_inb : ∀ (v1358 : IVec S16 32) (v1390 : IVec S16 32) (v1584 : IVec S16 32) (k2_hw513 : k2_chk513 v1358 v1390 v1584), ∀ a x, ((![v1390, v1358, v1584] : Fin 3 → IVec S16 32) a x).toNat < S2x64x128.size a := fun v1358 v1390 v1584 k2_hw513 => k2_hw513

def k2_chk514 (v1358 : IVec S16 32) (v1390 : IVec S16 32) (v1587 : IVec S16 32) : Prop :=
  (∀ a x, ((![v1390, v1358, v1587] : Fin 3 → IVec S16 32) a x).toNat < S2x64x128.size a)
theorem k2_idx514_inb : ∀ (v1358 : IVec S16 32) (v1390 : IVec S16 32) (v1587 : IVec S16 32) (k2_hw514 : k2_chk514 v1358 v1390 v1587), ∀ a x, ((![v1390, v1358, v1587] : Fin 3 → IVec S16 32) a x).toNat < S2x64x128.size a := fun v1358 v1390 v1587 k2_hw514 => k2_hw514

def k2_chk515 (v1358 : IVec S16 32) (v1390 : IVec S16 32) (v1592 : IVec S16 32) : Prop :=
  (∀ a x, ((![v1390, v1358, v1592] : Fin 3 → IVec S16 32) a x).toNat < S2x64x128.size a)
theorem k2_idx515_inb : ∀ (v1358 : IVec S16 32) (v1390 : IVec S16 32) (v1592 : IVec S16 32) (k2_hw515 : k2_chk515 v1358 v1390 v1592), ∀ a x, ((![v1390, v1358, v1592] : Fin 3 → IVec S16 32) a x).toNat < S2x64x128.size a := fun v1358 v1390 v1592 k2_hw515 => k2_hw515

def k2_chk516 (v1358 : IVec S16 32) (v1390 : IVec S16 32) (v1595 : IVec S16 32) : Prop :=
  (∀ a x, ((![v1390, v1358, v1595] : Fin 3 → IVec S16 32) a x).toNat < S2x64x128.size a)
theorem k2_idx516_inb : ∀ (v1358 : IVec S16 32) (v1390 : IVec S16 32) (v1595 : IVec S16 32) (k2_hw516 : k2_chk516 v1358 v1390 v1595), ∀ a x, ((![v1390, v1358, v1595] : Fin 3 → IVec S16 32) a x).toNat < S2x64x128.size a := fun v1358 v1390 v1595 k2_hw516 => k2_hw516

def k2_chk517 (v1358 : IVec S16 32) (v1390 : IVec S16 32) (v1600 : IVec S16 32) : Prop :=
  (∀ a x, ((![v1390, v1358, v1600] : Fin 3 → IVec S16 32) a x).toNat < S2x64x128.size a)
theorem k2_idx517_inb : ∀ (v1358 : IVec S16 32) (v1390 : IVec S16 32) (v1600 : IVec S16 32) (k2_hw517 : k2_chk517 v1358 v1390 v1600), ∀ a x, ((![v1390, v1358, v1600] : Fin 3 → IVec S16 32) a x).toNat < S2x64x128.size a := fun v1358 v1390 v1600 k2_hw517 => k2_hw517

def k2_chk518 (v1358 : IVec S16 32) (v1390 : IVec S16 32) (v1603 : IVec S16 32) : Prop :=
  (∀ a x, ((![v1390, v1358, v1603] : Fin 3 → IVec S16 32) a x).toNat < S2x64x128.size a)
theorem k2_idx518_inb : ∀ (v1358 : IVec S16 32) (v1390 : IVec S16 32) (v1603 : IVec S16 32) (k2_hw518 : k2_chk518 v1358 v1390 v1603), ∀ a x, ((![v1390, v1358, v1603] : Fin 3 → IVec S16 32) a x).toNat < S2x64x128.size a := fun v1358 v1390 v1603 k2_hw518 => k2_hw518

def k2_chk519 (v1358 : IVec S16 32) (v1390 : IVec S16 32) (v1608 : IVec S16 32) : Prop :=
  (∀ a x, ((![v1390, v1358, v1608] : Fin 3 → IVec S16 32) a x).toNat < S2x64x128.size a)
theorem k2_idx519_inb : ∀ (v1358 : IVec S16 32) (v1390 : IVec S16 32) (v1608 : IVec S16 32) (k2_hw519 : k2_chk519 v1358 v1390 v1608), ∀ a x, ((![v1390, v1358, v1608] : Fin 3 → IVec S16 32) a x).toNat < S2x64x128.size a := fun v1358 v1390 v1608 k2_hw519 => k2_hw519

def k2_chk520 (v1358 : IVec S16 32) (v1390 : IVec S16 32) (v1611 : IVec S16 32) : Prop :=
  (∀ a x, ((![v1390, v1358, v1611] : Fin 3 → IVec S16 32) a x).toNat < S2x64x128.size a)
theorem k2_idx520_inb : ∀ (v1358 : IVec S16 32) (v1390 : IVec S16 32) (v1611 : IVec S16 32) (k2_hw520 : k2_chk520 v1358 v1390 v1611), ∀ a x, ((![v1390, v1358, v1611] : Fin 3 → IVec S16 32) a x).toNat < S2x64x128.size a := fun v1358 v1390 v1611 k2_hw520 => k2_hw520

def k2_chk521 (v1358 : IVec S16 32) (v1390 : IVec S16 32) (v1616 : IVec S16 32) : Prop :=
  (∀ a x, ((![v1390, v1358, v1616] : Fin 3 → IVec S16 32) a x).toNat < S2x64x128.size a)
theorem k2_idx521_inb : ∀ (v1358 : IVec S16 32) (v1390 : IVec S16 32) (v1616 : IVec S16 32) (k2_hw521 : k2_chk521 v1358 v1390 v1616), ∀ a x, ((![v1390, v1358, v1616] : Fin 3 → IVec S16 32) a x).toNat < S2x64x128.size a := fun v1358 v1390 v1616 k2_hw521 => k2_hw521

def k2_chk522 (v1358 : IVec S16 32) (v1390 : IVec S16 32) (v1619 : IVec S16 32) : Prop :=
  (∀ a x, ((![v1390, v1358, v1619] : Fin 3 → IVec S16 32) a x).toNat < S2x64x128.size a)
theorem k2_idx522_inb : ∀ (v1358 : IVec S16 32) (v1390 : IVec S16 32) (v1619 : IVec S16 32) (k2_hw522 : k2_chk522 v1358 v1390 v1619), ∀ a x, ((![v1390, v1358, v1619] : Fin 3 → IVec S16 32) a x).toNat < S2x64x128.size a := fun v1358 v1390 v1619 k2_hw522 => k2_hw522

def k2_chk523 (v1358 : IVec S16 32) (v1390 : IVec S16 32) (v1624 : IVec S16 32) : Prop :=
  (∀ a x, ((![v1390, v1358, v1624] : Fin 3 → IVec S16 32) a x).toNat < S2x64x128.size a)
theorem k2_idx523_inb : ∀ (v1358 : IVec S16 32) (v1390 : IVec S16 32) (v1624 : IVec S16 32) (k2_hw523 : k2_chk523 v1358 v1390 v1624), ∀ a x, ((![v1390, v1358, v1624] : Fin 3 → IVec S16 32) a x).toNat < S2x64x128.size a := fun v1358 v1390 v1624 k2_hw523 => k2_hw523

def k2_chk524 (v1358 : IVec S16 32) (v1390 : IVec S16 32) (v1627 : IVec S16 32) : Prop :=
  (∀ a x, ((![v1390, v1358, v1627] : Fin 3 → IVec S16 32) a x).toNat < S2x64x128.size a)
theorem k2_idx524_inb : ∀ (v1358 : IVec S16 32) (v1390 : IVec S16 32) (v1627 : IVec S16 32) (k2_hw524 : k2_chk524 v1358 v1390 v1627), ∀ a x, ((![v1390, v1358, v1627] : Fin 3 → IVec S16 32) a x).toNat < S2x64x128.size a := fun v1358 v1390 v1627 k2_hw524 => k2_hw524

def k2_chk525 (v1358 : IVec S16 32) (v1390 : IVec S16 32) (v1632 : IVec S16 32) : Prop :=
  (∀ a x, ((![v1390, v1358, v1632] : Fin 3 → IVec S16 32) a x).toNat < S2x64x128.size a)
theorem k2_idx525_inb : ∀ (v1358 : IVec S16 32) (v1390 : IVec S16 32) (v1632 : IVec S16 32) (k2_hw525 : k2_chk525 v1358 v1390 v1632), ∀ a x, ((![v1390, v1358, v1632] : Fin 3 → IVec S16 32) a x).toNat < S2x64x128.size a := fun v1358 v1390 v1632 k2_hw525 => k2_hw525

def k2_chk526 (v1358 : IVec S16 32) (v1390 : IVec S16 32) (v1635 : IVec S16 32) : Prop :=
  (∀ a x, ((![v1390, v1358, v1635] : Fin 3 → IVec S16 32) a x).toNat < S2x64x128.size a)
theorem k2_idx526_inb : ∀ (v1358 : IVec S16 32) (v1390 : IVec S16 32) (v1635 : IVec S16 32) (k2_hw526 : k2_chk526 v1358 v1390 v1635), ∀ a x, ((![v1390, v1358, v1635] : Fin 3 → IVec S16 32) a x).toNat < S2x64x128.size a := fun v1358 v1390 v1635 k2_hw526 => k2_hw526

def k2_chk527 (v1358 : IVec S16 32) (v1390 : IVec S16 32) (v1640 : IVec S16 32) : Prop :=
  (∀ a x, ((![v1390, v1358, v1640] : Fin 3 → IVec S16 32) a x).toNat < S2x64x128.size a)
theorem k2_idx527_inb : ∀ (v1358 : IVec S16 32) (v1390 : IVec S16 32) (v1640 : IVec S16 32) (k2_hw527 : k2_chk527 v1358 v1390 v1640), ∀ a x, ((![v1390, v1358, v1640] : Fin 3 → IVec S16 32) a x).toNat < S2x64x128.size a := fun v1358 v1390 v1640 k2_hw527 => k2_hw527

def k2_chk528 (v1358 : IVec S16 32) (v1390 : IVec S16 32) (v1643 : IVec S16 32) : Prop :=
  (∀ a x, ((![v1390, v1358, v1643] : Fin 3 → IVec S16 32) a x).toNat < S2x64x128.size a)
theorem k2_idx528_inb : ∀ (v1358 : IVec S16 32) (v1390 : IVec S16 32) (v1643 : IVec S16 32) (k2_hw528 : k2_chk528 v1358 v1390 v1643), ∀ a x, ((![v1390, v1358, v1643] : Fin 3 → IVec S16 32) a x).toNat < S2x64x128.size a := fun v1358 v1390 v1643 k2_hw528 => k2_hw528
def k2_off17 (k2_t8 : Fin k2_t8_loop.trips) : Fin 1 → Nat :=
  let c448_i32_1269 : BitVec 32 := 448#32
  let c0_i32_1209 : BitVec 32 := 0#32
  let c1_i32_1211 : BitVec 32 := 1#32
  let arg19 : BitVec 32 := Scf.iv c0_i32_1209 c1_i32_1211 k2_t8
  let c16_i32_1268 : BitVec 32 := 16#32
  let v1647 : BitVec 32 := Scalar.muli arg19 c16_i32_1268
  let v1648 : BitVec 32 := Scalar.addi c448_i32_1269 v1647
  let v1649 : Index := Scalar.indexCast v1648
  ![v1649.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16384 : Shape := ⟨1, ![16384]⟩
abbrev S1000000x32 : Shape := ⟨2, ![1000000, 32]⟩
abbrev S100000x32 : Shape := ⟨2, ![100000, 32]⟩
abbrev S1000000x1 : Shape := ⟨2, ![1000000, 1]⟩
abbrev S100000x1 : Shape := ⟨2, ![100000, 1]⟩
abbrev S_ : Shape := ⟨0, ![]⟩
abbrev S16384x1 : Shape := ⟨2, ![16384, 1]⟩
abbrev S1 : Shape := ⟨1, ![1]⟩
abbrev S1x1 : Shape := ⟨2, ![1, 1]⟩
abbrev S16384x32 : Shape := ⟨2, ![16384, 32]⟩

abbrev nBuf : Space → Nat
  | .hbm => 108
  | .vmem => 0
  | .smem => 0
  | _ => 0

abbrev bufTy : (tb : Table) → Fin (tcTables nBuf tb) → BufTy
  | .hbm, ⟨0, _⟩ => ⟨S16384, .i32⟩
  | .hbm, ⟨1, _⟩ => ⟨S16384, .i32⟩
  | .hbm, ⟨2, _⟩ => ⟨S1000000x32, .f32⟩
  | .hbm, ⟨3, _⟩ => ⟨S100000x32, .f32⟩
  | .hbm, ⟨4, _⟩ => ⟨S1000000x1, .f32⟩
  | .hbm, ⟨5, _⟩ => ⟨S100000x1, .f32⟩
  | .hbm, ⟨6, _⟩ => ⟨S_, .i32⟩
  | .hbm, ⟨7, _⟩ => ⟨S16384, .i32⟩
  | .hbm, ⟨8, _⟩ => ⟨S16384, .i1⟩
  | .hbm, ⟨9, _⟩ => ⟨S_, .i32⟩
  | .hbm, ⟨10, _⟩ => ⟨S16384, .i32⟩
  | .hbm, ⟨11, _⟩ => ⟨S16384, .i32⟩
  | .hbm, ⟨12, _⟩ => ⟨S16384, .i32⟩
  | .hbm, ⟨13, _⟩ => ⟨S16384x1, .i32⟩
  | .hbm, ⟨14, _⟩ => ⟨S1, .i32⟩
  | .hbm, ⟨15, _⟩ => ⟨S_, .i32⟩
  | .hbm, ⟨16, _⟩ => ⟨S16384x1, .i32⟩
  | .hbm, ⟨17, _⟩ => ⟨S16384x1, .i1⟩
  | .hbm, ⟨18, _⟩ => ⟨S1x1, .i32⟩
  | .hbm, ⟨19, _⟩ => ⟨S16384x1, .i32⟩
  | .hbm, ⟨20, _⟩ => ⟨S16384x1, .i1⟩
  | .hbm, ⟨21, _⟩ => ⟨S16384x1, .i1⟩
  | .hbm, ⟨22, _⟩ => ⟨S_, .i1⟩
  | .hbm, ⟨23, _⟩ => ⟨S16384, .i1⟩
  | .hbm, ⟨24, _⟩ => ⟨S16384x32, .f32⟩
  | .hbm, ⟨25, _⟩ => ⟨S16384x32, .i1⟩
  | .hbm, ⟨26, _⟩ => ⟨S_, .f32⟩
  | .hbm, ⟨27, _⟩ => ⟨S16384x32, .f32⟩
  | .hbm, ⟨28, _⟩ => ⟨S16384x32, .f32⟩
  | .hbm, ⟨29, _⟩ => ⟨S_, .i32⟩
  | .hbm, ⟨30, _⟩ => ⟨S16384, .i32⟩
  | .hbm, ⟨31, _⟩ => ⟨S16384, .i1⟩
  | .hbm, ⟨32, _⟩ => ⟨S_, .i32⟩
  | .hbm, ⟨33, _⟩ => ⟨S16384, .i32⟩
  | .hbm, ⟨34, _⟩ => ⟨S16384, .i32⟩
  | .hbm, ⟨35, _⟩ => ⟨S16384, .i32⟩
  | .hbm, ⟨36, _⟩ => ⟨S16384x1, .i32⟩
  | .hbm, ⟨37, _⟩ => ⟨S1, .i32⟩
  | .hbm, ⟨38, _⟩ => ⟨S_, .i32⟩
  | .hbm, ⟨39, _⟩ => ⟨S16384x1, .i32⟩
  | .hbm, ⟨40, _⟩ => ⟨S16384x1, .i1⟩
  | .hbm, ⟨41, _⟩ => ⟨S1x1, .i32⟩
  | .hbm, ⟨42, _⟩ => ⟨S16384x1, .i32⟩
  | .hbm, ⟨43, _⟩ => ⟨S16384x1, .i1⟩
  | .hbm, ⟨44, _⟩ => ⟨S16384x1, .i1⟩
  | .hbm, ⟨45, _⟩ => ⟨S_, .i1⟩
  | .hbm, ⟨46, _⟩ => ⟨S16384, .i1⟩
  | .hbm, ⟨47, _⟩ => ⟨S16384x32, .f32⟩
  | .hbm, ⟨48, _⟩ => ⟨S16384x32, .i1⟩
  | .hbm, ⟨49, _⟩ => ⟨S_, .f32⟩
  | .hbm, ⟨50, _⟩ => ⟨S16384x32, .f32⟩
  | .hbm, ⟨51, _⟩ => ⟨S16384x32, .f32⟩
  | .hbm, ⟨52, _⟩ => ⟨S_, .i32⟩
  | .hbm, ⟨53, _⟩ => ⟨S16384, .i32⟩
  | .hbm, ⟨54, _⟩ => ⟨S16384, .i1⟩
  | .hbm, ⟨55, _⟩ => ⟨S_, .i32⟩
  | .hbm, ⟨56, _⟩ => ⟨S16384, .i32⟩
  | .hbm, ⟨57, _⟩ => ⟨S16384, .i32⟩
  | .hbm, ⟨58, _⟩ => ⟨S16384, .i32⟩
  | .hbm, ⟨59, _⟩ => ⟨S16384x1, .i32⟩
  | .hbm, ⟨60, _⟩ => ⟨S1, .i32⟩
  | .hbm, ⟨61, _⟩ => ⟨S_, .i32⟩
  | .hbm, ⟨62, _⟩ => ⟨S16384x1, .i32⟩
  | .hbm, ⟨63, _⟩ => ⟨S16384x1, .i1⟩
  | .hbm, ⟨64, _⟩ => ⟨S1x1, .i32⟩
  | .hbm, ⟨65, _⟩ => ⟨S16384x1, .i32⟩
  | .hbm, ⟨66, _⟩ => ⟨S16384x1, .i1⟩
  | .hbm, ⟨67, _⟩ => ⟨S16384x1, .i1⟩
  | .hbm, ⟨68, _⟩ => ⟨S_, .i1⟩
  | .hbm, ⟨69, _⟩ => ⟨S16384, .i1⟩
  | .hbm, ⟨70, _⟩ => ⟨S16384x1, .f32⟩
  | .hbm, ⟨71, _⟩ => ⟨S16384x1, .i1⟩
  | .hbm, ⟨72, _⟩ => ⟨S_, .f32⟩
  | .hbm, ⟨73, _⟩ => ⟨S16384x1, .f32⟩
  | .hbm, ⟨74, _⟩ => ⟨S16384x1, .f32⟩
  | .hbm, ⟨75, _⟩ => ⟨S16384, .f32⟩
  | .hbm, ⟨76, _⟩ => ⟨S_, .i32⟩
  | .hbm, ⟨77, _⟩ => ⟨S16384, .i32⟩
  | .hbm, ⟨78, _⟩ => ⟨S16384, .i1⟩
  | .hbm, ⟨79, _⟩ => ⟨S_, .i32⟩
  | .hbm, ⟨80, _⟩ => ⟨S16384, .i32⟩
  | .hbm, ⟨81, _⟩ => ⟨S16384, .i32⟩
  | .hbm, ⟨82, _⟩ => ⟨S16384, .i32⟩
  | .hbm, ⟨83, _⟩ => ⟨S16384x1, .i32⟩
  | .hbm, ⟨84, _⟩ => ⟨S1, .i32⟩
  | .hbm, ⟨85, _⟩ => ⟨S_, .i32⟩
  | .hbm, ⟨86, _⟩ => ⟨S16384x1, .i32⟩
  | .hbm, ⟨87, _⟩ => ⟨S16384x1, .i1⟩
  | .hbm, ⟨88, _⟩ => ⟨S1x1, .i32⟩
  | .hbm, ⟨89, _⟩ => ⟨S16384x1, .i32⟩
  | .hbm, ⟨90, _⟩ => ⟨S16384x1, .i1⟩
  | .hbm, ⟨91, _⟩ => ⟨S16384x1, .i1⟩
  | .hbm, ⟨92, _⟩ => ⟨S_, .i1⟩
  | .hbm, ⟨93, _⟩ => ⟨S16384, .i1⟩
  | .hbm, ⟨94, _⟩ => ⟨S16384x1, .f32⟩
  | .hbm, ⟨95, _⟩ => ⟨S16384x1, .i1⟩
  | .hbm, ⟨96, _⟩ => ⟨S_, .f32⟩
  | .hbm, ⟨97, _⟩ => ⟨S16384x1, .f32⟩
  | .hbm, ⟨98, _⟩ => ⟨S16384x1, .f32⟩
  | .hbm, ⟨99, _⟩ => ⟨S16384, .f32⟩
  | .hbm, ⟨100, _⟩ => ⟨S16384x32, .f32⟩
  | .hbm, ⟨101, _⟩ => ⟨S_, .f32⟩
  | .hbm, ⟨102, _⟩ => ⟨S16384, .f32⟩
  | .hbm, ⟨103, _⟩ => ⟨S_, .f32⟩
  | .hbm, ⟨104, _⟩ => ⟨S16384, .f32⟩
  | .hbm, ⟨105, _⟩ => ⟨S16384, .f32⟩
  | .hbm, ⟨106, _⟩ => ⟨S16384, .f32⟩
  | .hbm, ⟨107, _⟩ => ⟨S16384, .f32⟩
  | _, _ => ⟨S16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_c_1 : Ref sig .tc := ⟨.hbm, 14, rfl⟩
abbrev main_call0_c_2 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_3 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_call0_cst : Ref sig .tc := ⟨.hbm, 26, rfl⟩
abbrev main_call0_v15 : Ref sig .tc := ⟨.hbm, 27, rfl⟩
abbrev main_v0 : Ref sig .tc := ⟨.hbm, 28, rfl⟩
abbrev main_call1_c : Ref sig .tc := ⟨.hbm, 29, rfl⟩
abbrev main_call1_v0 : Ref sig .tc := ⟨.hbm, 30, rfl⟩
abbrev main_call1_v1 : Ref sig .tc := ⟨.hbm, 31, rfl⟩
abbrev main_call1_c_0 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_call1_v5 : Ref sig .tc := ⟨.hbm, 36, rfl⟩
abbrev main_call1_c_1 : Ref sig .tc := ⟨.hbm, 37, rfl⟩
abbrev main_call1_c_2 : Ref sig .tc := ⟨.hbm, 38, rfl⟩
abbrev main_call1_v6 : Ref sig .tc := ⟨.hbm, 39, rfl⟩
abbrev main_call1_v7 : Ref sig .tc := ⟨.hbm, 40, rfl⟩
abbrev main_call1_v8 : Ref sig .tc := ⟨.hbm, 41, rfl⟩
abbrev main_call1_v9 : Ref sig .tc := ⟨.hbm, 42, rfl⟩
abbrev main_call1_v10 : Ref sig .tc := ⟨.hbm, 43, rfl⟩
abbrev main_call1_v11 : Ref sig .tc := ⟨.hbm, 44, rfl⟩
abbrev main_call1_c_3 : Ref sig .tc := ⟨.hbm, 45, rfl⟩
abbrev main_call1_v12 : Ref sig .tc := ⟨.hbm, 46, rfl⟩
abbrev main_call1_v13 : Ref sig .tc := ⟨.hbm, 47, rfl⟩
abbrev main_call1_v14 : Ref sig .tc := ⟨.hbm, 48, rfl⟩
abbrev main_call1_cst : Ref sig .tc := ⟨.hbm, 49, rfl⟩
abbrev main_call1_v15 : Ref sig .tc := ⟨.hbm, 50, rfl⟩
abbrev main_v1 : Ref sig .tc := ⟨.hbm, 51, rfl⟩
abbrev main_call2_c : Ref sig .tc := ⟨.hbm, 52, rfl⟩
abbrev main_call2_v0 : Ref sig .tc := ⟨.hbm, 53, rfl⟩
abbrev main_call2_v1 : Ref sig .tc := ⟨.hbm, 54, rfl⟩
abbrev main_call2_c_0 : Ref sig .tc := ⟨.hbm, 55, rfl⟩
abbrev main_call2_v2 : Ref sig .tc := ⟨.hbm, 56, rfl⟩
abbrev main_call2_v3 : Ref sig .tc := ⟨.hbm, 57, rfl⟩
abbrev main_call2_v4 : Ref sig .tc := ⟨.hbm, 58, rfl⟩
abbrev main_call2_v5 : Ref sig .tc := ⟨.hbm, 59, rfl⟩
abbrev main_call2_c_1 : Ref sig .tc := ⟨.hbm, 60, rfl⟩
abbrev main_call2_c_2 : Ref sig .tc := ⟨.hbm, 61, rfl⟩
abbrev main_call2_v6 : Ref sig .tc := ⟨.hbm, 62, rfl⟩
abbrev main_call2_v7 : Ref sig .tc := ⟨.hbm, 63, rfl⟩
abbrev main_call2_v8 : Ref sig .tc := ⟨.hbm, 64, rfl⟩
abbrev main_call2_v9 : Ref sig .tc := ⟨.hbm, 65, rfl⟩
abbrev main_call2_v10 : Ref sig .tc := ⟨.hbm, 66, rfl⟩
abbrev main_call2_v11 : Ref sig .tc := ⟨.hbm, 67, rfl⟩
abbrev main_call2_c_3 : Ref sig .tc := ⟨.hbm, 68, rfl⟩
abbrev main_call2_v12 : Ref sig .tc := ⟨.hbm, 69, rfl⟩
abbrev main_call2_v13 : Ref sig .tc := ⟨.hbm, 70, rfl⟩
abbrev main_call2_v14 : Ref sig .tc := ⟨.hbm, 71, rfl⟩
abbrev main_call2_cst : Ref sig .tc := ⟨.hbm, 72, rfl⟩
abbrev main_call2_v15 : Ref sig .tc := ⟨.hbm, 73, rfl⟩
abbrev main_v2 : Ref sig .tc := ⟨.hbm, 74, rfl⟩
abbrev main_v3 : Ref sig .tc := ⟨.hbm, 75, rfl⟩
abbrev main_call3_c : Ref sig .tc := ⟨.hbm, 76, rfl⟩
abbrev main_call3_v0 : Ref sig .tc := ⟨.hbm, 77, rfl⟩
abbrev main_call3_v1 : Ref sig .tc := ⟨.hbm, 78, rfl⟩
abbrev main_call3_c_0 : Ref sig .tc := ⟨.hbm, 79, rfl⟩
abbrev main_call3_v2 : Ref sig .tc := ⟨.hbm, 80, rfl⟩
abbrev main_call3_v3 : Ref sig .tc := ⟨.hbm, 81, rfl⟩
abbrev main_call3_v4 : Ref sig .tc := ⟨.hbm, 82, rfl⟩
abbrev main_call3_v5 : Ref sig .tc := ⟨.hbm, 83, rfl⟩
abbrev main_call3_c_1 : Ref sig .tc := ⟨.hbm, 84, rfl⟩
abbrev main_call3_c_2 : Ref sig .tc := ⟨.hbm, 85, rfl⟩
abbrev main_call3_v6 : Ref sig .tc := ⟨.hbm, 86, rfl⟩
abbrev main_call3_v7 : Ref sig .tc := ⟨.hbm, 87, rfl⟩
abbrev main_call3_v8 : Ref sig .tc := ⟨.hbm, 88, rfl⟩
abbrev main_call3_v9 : Ref sig .tc := ⟨.hbm, 89, rfl⟩
abbrev main_call3_v10 : Ref sig .tc := ⟨.hbm, 90, rfl⟩
abbrev main_call3_v11 : Ref sig .tc := ⟨.hbm, 91, rfl⟩
abbrev main_call3_c_3 : Ref sig .tc := ⟨.hbm, 92, rfl⟩
abbrev main_call3_v12 : Ref sig .tc := ⟨.hbm, 93, rfl⟩
abbrev main_call3_v13 : Ref sig .tc := ⟨.hbm, 94, rfl⟩
abbrev main_call3_v14 : Ref sig .tc := ⟨.hbm, 95, rfl⟩
abbrev main_call3_cst : Ref sig .tc := ⟨.hbm, 96, rfl⟩
abbrev main_call3_v15 : Ref sig .tc := ⟨.hbm, 97, rfl⟩
abbrev main_v4 : Ref sig .tc := ⟨.hbm, 98, rfl⟩
abbrev main_v5 : Ref sig .tc := ⟨.hbm, 99, rfl⟩
abbrev main_v6 : Ref sig .tc := ⟨.hbm, 100, rfl⟩
abbrev main_cst : Ref sig .tc := ⟨.hbm, 101, rfl⟩
abbrev main_v7 : Ref sig .tc := ⟨.hbm, 102, rfl⟩
abbrev main_cst_0 : Ref sig .tc := ⟨.hbm, 103, rfl⟩
abbrev main_v8 : Ref sig .tc := ⟨.hbm, 104, rfl⟩
abbrev main_v9 : Ref sig .tc := ⟨.hbm, 105, rfl⟩
abbrev main_v10 : Ref sig .tc := ⟨.hbm, 106, rfl⟩
abbrev main_v11 : Ref sig .tc := ⟨.hbm, 107, rfl⟩

abbrev nD : Nat := 1
abbrev τ : Topo := Topo.v7x

variable {F : FTy → Type} [FloatOps F]
-- ==== Proof.NormalForm.lean ====
/- The SparseCore kernel's body, said once per chunk: the body of `cc2__lfm_kernel` spells its eight chunks out one
   after another; here a chunk is a function of its number and of the buffer slot it uses, and the whole body is
   the eight of them composed. -/
module

public import proofs.«01_k».proof.Proof.Gen.KernelIdeal.Launch
public import Idealize.ShloMosaic.Lib.SparseCore.Ops

@[expose] public section

noncomputable section

namespace Cert.KernelIdeal.Lfm

open Idealize.ShloMosaic Idealize.SL.Sem
open Facts₀ Facts

variable {F : FTy → Type} [FloatOps F]

/-! ## The arrays and the scratch of a tile -/

abbrev uM : Memref sig .scVector .hbm S16384 .i32 := Memref.whole main_arg0_scv
abbrev iM : Memref sig .scVector .hbm S16384 .i32 := Memref.whole main_arg1_scv
abbrev tpM : Memref sig .scVector .hbm S262144x128 .f32 := Memref.whole main_v1_scv
abbrev tqM : Memref sig .scVector .hbm S25600x128 .f32 := Memref.whole main_v3_scv
abbrev tbM : Memref sig .scVector .hbm S7813x128 .f32 := Memref.whole main_v6_scv
abbrev tcM : Memref sig .scVector .hbm S782x128 .f32 := Memref.whole main_v9_scv
abbrev outM : Memref sig .scVector .hbm S16384 .f32 := Memref.whole main_v10_scv
abbrev ubM : Memref sig .scVector .vmem S512 .i32 := Memref.whole cc2_scratch0
abbrev ibM : Memref sig .scVector .vmem S512 .i32 := Memref.whole cc2_scratch1
abbrev lsM : Memref sig .scVector .vmem S2x4x64 .i32 := Memref.whole cc2_scratch2
abbrev prM : Memref sig .scVector .vmem S2x64x128 .f32 := Memref.whole cc2_scratch3
abbrev qrM : Memref sig .scVector .vmem S2x64x128 .f32 := Memref.whole cc2_scratch4
abbrev brM : Memref sig .scVector .vmem S2x64x128 .f32 := Memref.whole cc2_scratch5
abbrev crM : Memref sig .scVector .vmem S2x64x128 .f32 := Memref.whole cc2_scratch6
abbrev obM : Memref sig .scVector .vmem S512 .f32 := Memref.whole cc2_scratch7

/-- The semaphore a slot's gathers complete on. -/
abbrev slotSem : Fin 2 → DmaSem sig := fun | 0 => cc2_scratch8.sem | 1 => cc2_scratch9.sem

/-! ## The pure parts -/

/-- The row of the packed user table holding user `u`. -/
abbrev rowP (u : IVec S16 32) : IVec S16 32 :=
  addi (shli (shrsi u (broadcast S16 16#32)) (broadcast S16 14#32)) (andi u (broadcast S16 16383#32))
/-- The row of the packed item table holding item `i`. -/
abbrev rowQ (i : IVec S16 32) : IVec S16 32 :=
  addi (shli (shrsi i (broadcast S16 12#32)) (broadcast S16 10#32)) (andi i (broadcast S16 1023#32))
/-- The row of a bias table. -/
abbrev rowB (u : IVec S16 32) : IVec S16 32 := shrsi u (broadcast S16 7#32)
/-- The lane of a bias table. -/
abbrev laneB (u : IVec S16 32) : IVec S16 32 := andi u (broadcast S16 127#32)
/-- The first lane of user `u` in its packed row. -/
abbrev laneP (u : IVec S16 32) : IVec S16 32 :=
  muli (andi (shrsi u (broadcast S16 14#32)) (broadcast S16 3#32)) (broadcast S16 32#32)
/-- The first lane of item `i` in its packed row. -/
abbrev laneQ (i : IVec S16 32) : IVec S16 32 :=
  muli (andi (shrsi i (broadcast S16 10#32)) (broadcast S16 3#32)) (broadcast S16 32#32)

/-- The list entries of row `r` for sixteen users and sixteen items. -/
abbrev listRow (r : Fin 4) (u i : IVec S16 32) : IVec S16 32 :=
  match r with
  | 0 => rowP u
  | 1 => rowQ i
  | 2 => rowB u
  | 3 => rowB i

theorem inbE : ∀ (c : Fin 8) (g : Fin 4) (a : Fin 1), (![64 * c.val + 16 * g.val] : Fin 1 → Nat) a + S16.size a ≤ S512.size a := by decide
theorem inbL : ∀ (s : Fin 2) (r g : Fin 4) (a : Fin 3), (![s.val, r.val, 16 * g.val] : Fin 3 → Nat) a + S1x1x16.size a ≤ S2x4x64.size a := by decide
theorem inbR : ∀ (s : Fin 2) (r : Fin 4) (a : Fin 3), (![s.val, r.val, 0] : Fin 3 → Nat) a + S1x1x64.size a ≤ S2x4x64.size a := by decide
theorem inbS : ∀ (s : Fin 2) (a : Fin 3), (![s.val, 0, 0] : Fin 3 → Nat) a + S1x64x128.size a ≤ S2x64x128.size a := by decide

/-- The four groups of a chunk. -/
@[reducible] def grpLoop : Scf.Loop 32 := k2_t1_loop

/-- Where group `t` of chunk `c` starts in a tile's 512 entries, as the body computes it. -/
def offG (c : Fin 8) (t : Fin grpLoop.trips) : Fin 1 → Nat :=
  ![(Scalar.indexCast (Scalar.addi (BitVec.ofNat 32 (64 * c.val)) (Scalar.muli (Scf.iv 0#32 1#32 t) 16#32))).toNat]
theorem offG_inb : ∀ (c : Fin 8) (t : Fin grpLoop.trips) (a : Fin 1), offG c t a + S16.size a ≤ S512.size a := by decide

variable (i : grid2.Coords)

/-- A program of the tile at `i`. -/
abbrev TileProg {F : FTy → Type} (i : grid2.Coords) (α : Type) : Type 1 := Prog (TpuEff nD τ sig (Elt F) Λ₀ (.scVector ((i 0).castLE hcore2) ((i 1).castLE hsub2))) α

/-! ## One chunk -/

/-- Write sixteen entries of one of the slot's four row lists (after a read the program makes no use of). -/
def putList (s : Fin 2) (r g : Fin 4) (v : IVec S16 32) : TileProg (F := F) i PUnit := do
  let _ : Vec F S1x1x16 .i32 ← Prog.lift (.load lsM (Rect.unit (s := S2x4x64) ![s.val, r.val, 16 * g.val] S1x1x16.size (inbL s r g)).toLoadRect (View.loadsAt_vmem h_S1x1x16))
  Prog.lift (.store lsM (Rect.unit (s := S2x4x64) ![s.val, r.val, 16 * g.val] S1x1x16.size (inbL s r g)) (shapeCast S1x1x16 v shapeCasts_S16_S1x1x16) Finset.univ (View.stores_vmem_bits_univ h_S1x1x16 rfl) (.inl rfl))

/-- Sixteen entries of chunk `c`: their rows written into the slot's four lists. -/
def listGroup (c : Fin 8) (s : Fin 2) (g : Fin 4) : TileProg (F := F) i PUnit := do
  let u : Vec F S16 .i32 ← Prog.lift (.load ubM (Rect.unit (s := S512) ![64 * c.val + 16 * g.val] S16.size (inbE c g)).toLoadRect (View.loadsAt_vmem h_S16))
  let w : Vec F S16 .i32 ← Prog.lift (.load ibM (Rect.unit (s := S512) ![64 * c.val + 16 * g.val] S16.size (inbE c g)).toLoadRect (View.loadsAt_vmem h_S16))
  putList i s 0 g (listRow 0 u w)
  putList i s 1 g (listRow 1 u w)
  putList i s 2 g (listRow 2 u w)
  putList i s 3 g (listRow 3 u w)

/-- Slot `s` of a row buffer, as a gather writes it. -/
abbrev slotOf (m : Memref sig .scVector .vmem S2x64x128 .f32) (s : Fin 2) : Memref sig .scVector .vmem S64x128 .f32 :=
  (m.slice (Rect.unit (s := S2x64x128) ![s.val, 0, 0] S1x64x128.size (inbS s)) (fun _ => rfl)).squeeze S64x128 squeezes_S1x64x128_S64x128
/-- Row list `r` of slot `s`. -/
abbrev listOf (s : Fin 2) (r : Fin 4) : Memref sig .scVector .vmem S64 .i32 :=
  (lsM.slice (Rect.unit (s := S2x4x64) ![s.val, r.val, 0] S1x1x64.size (inbR s r)) (fun _ => rfl)).squeeze S64 squeezes_S1x1x64_S64
abbrev tpS : Memref sig .scVector .hbm S262144x128 .f32 := tpM.slice (Rect.unit (s := S262144x128) ![0, 0] S262144x128.size inb_S262144x128_S262144x128_0_0) (fun _ => rfl)
abbrev tqS : Memref sig .scVector .hbm S25600x128 .f32 := tqM.slice (Rect.unit (s := S25600x128) ![0, 0] S25600x128.size inb_S25600x128_S25600x128_0_0) (fun _ => rfl)
abbrev tbS : Memref sig .scVector .hbm S7813x128 .f32 := tbM.slice (Rect.unit (s := S7813x128) ![0, 0] S7813x128.size inb_S7813x128_S7813x128_0_0) (fun _ => rfl)
abbrev tcS : Memref sig .scVector .hbm S782x128 .f32 := tcM.slice (Rect.unit (s := S782x128) ![0, 0] S782x128.size inb_S782x128_S782x128_0_0) (fun _ => rfl)

/-- The chunk's four gathers issued. -/
def gathers (s : Fin 2) : TileProg (F := F) i PUnit := do
  SparseCore.enqueueIndirectGather rfl tpS (slotOf prM s) gathers_S262144x128_S64x128 (listOf s 0) rfl (slotSem s) (View.wordExact_bits rfl) rfl (Or.inl rfl)
  SparseCore.enqueueIndirectGather rfl tqS (slotOf qrM s) gathers_S25600x128_S64x128 (listOf s 1) rfl (slotSem s) (View.wordExact_bits rfl) rfl (Or.inl rfl)
  SparseCore.enqueueIndirectGather rfl tbS (slotOf brM s) gathers_S7813x128_S64x128 (listOf s 2) rfl (slotSem s) (View.wordExact_bits rfl) rfl (Or.inl rfl)
  SparseCore.enqueueIndirectGather rfl tcS (slotOf crM s) gathers_S782x128_S64x128 (listOf s 3) rfl (slotSem s) (View.wordExact_bits rfl) rfl (Or.inl rfl)

/-- Chunk `c` started on slot `s`: its row lists written, its gathers issued. -/
def fire (c : Fin 8) (s : Fin 2) : TileProg (F := F) i PUnit := do
  listGroup i c s 0
  listGroup i c s 1
  listGroup i c s 2
  listGroup i c s 3
  gathers i s

/-- The slot's four gathers awaited. -/
def waits (s : Fin 2) : TileProg (F := F) i PUnit := do
  SparseCore.waitIndirectGather (slotSem s) tpS (slotOf prM s) (View.wordExact_bits rfl) ((View.wordExact_bits rfl).reshape _ _)
  SparseCore.waitIndirectGather (slotSem s) tqS (slotOf qrM s) (View.wordExact_bits rfl) ((View.wordExact_bits rfl).reshape _ _)
  SparseCore.waitIndirectGather (slotSem s) tbS (slotOf brM s) (View.wordExact_bits rfl) ((View.wordExact_bits rfl).reshape _ _)
  SparseCore.waitIndirectGather (slotSem s) tcS (slotOf crM s) (View.wordExact_bits rfl) ((View.wordExact_bits rfl).reshape _ _)

/-- One element per lane of a row buffer: the elements at (slot, row, lane). -/
def pick (m : Memref sig .scVector .vmem S2x64x128 .f32) (sl rows lanes : IVec S16 32) : TileProg (F := F) i (Vec F S16 .f32) := do
  have h : k2_chk1 rows sl lanes := (← Prog.lift (TpuEff.assume (k2_chk1 rows sl lanes) (k2_chk1.dec rows sl lanes))).down
  SparseCore.vectorLoadIdx m ![sl, rows, lanes] (k2_idx1_inb rows sl lanes h) (View.loads_vmem h_S2x64x128)

/-- The first `n` products added to `acc`, from factor `k` on. -/
def products (sl rows lp lq : IVec S16 32) : (n k : Nat) → FVec F S16 .f32 → TileProg (F := F) i (FVec F S16 .f32)
  | 0, _, acc => pure acc
  | n + 1, k, acc => do
    let p ← pick i prM sl rows (addi lp (broadcast S16 (BitVec.ofNat 32 k)))
    let q ← pick i qrM sl rows (addi lq (broadcast S16 (BitVec.ofNat 32 k)))
    products sl rows lp lq n (k + 1) (addf acc (mulf p q))

/-- Group `t` of chunk `c`: sixteen results, from the rows in slot `s`. -/
def group (c : Fin 8) (s : Fin 2) (v3 : IVec S16 32) (t : Fin grpLoop.trips) : TileProg (F := F) i PUnit := do
  let rows : IVec S16 32 := addi (broadcast S16 (Scalar.muli (Scf.iv 0#32 1#32 t) 16#32)) v3
  let sl : IVec S16 32 := broadcast S16 (BitVec.ofNat 32 s.val)
  let u : Vec F S16 .i32 ← Prog.lift (.load ubM (Rect.unit (s := S512) (offG c t) S16.size (offG_inb c t)).toLoadRect (View.loadsAt_vmem h_S16))
  let w : Vec F S16 .i32 ← Prog.lift (.load ibM (Rect.unit (s := S512) (offG c t) S16.size (offG_inb c t)).toLoadRect (View.loadsAt_vmem h_S16))
  let bu ← pick i brM sl rows (laneB u)
  let bi ← pick i crM sl rows (laneB w)
  let acc ← products i sl rows (laneP u) (laneQ w) 32 0 (addf (addf (broadcast S16 (Scalar.ofBits .f32 0x40600000#32)) bu) bi)
  let _ : Vec F S16 .f32 ← Prog.lift (.load obM (Rect.unit (s := S512) (offG c t) S16.size (offG_inb c t)).toLoadRect (View.loadsAt_vmem h_S16))
  Prog.lift (.store obM (Rect.unit (s := S512) (offG c t) S16.size (offG_inb c t)) acc Finset.univ (View.stores_vmem_bits_univ h_S16 rfl) (.inl rfl))

/-- Chunk `c` computed from the rows in slot `s`. -/
def compute (c : Fin 8) (s : Fin 2) (v3 : IVec S16 32) : TileProg (F := F) i PUnit :=
  Scf.Loop.for grpLoop k2_t1_ok ⟨⟩ fun t _ => group i c s v3 t

/-! ## The whole tile -/

/-- The tile's 512 entries of an index array. -/
abbrev entriesOf (m : Memref sig .scVector .hbm S16384 .i32) : Memref sig .scVector .hbm S512 .i32 :=
  m.slice (Rect.unit (s := S16384) (k2_off1 i) S512.size (k2_off1_inb i)) (fun _ => rfl)
/-- The tile's 512 results. -/
abbrev resultsOf : Memref sig .scVector .hbm S512 .f32 :=
  outM.slice (Rect.unit (s := S16384) (k2_off1 i) S512.size (k2_off1_inb i)) (fun _ => rfl)

/-- The tile's indices copied in. -/
def copyIn : TileProg (F := F) i PUnit := do
  Prog.lift (.enqueueDma (entriesOf i uM) (.here ubM) (.dma cc2_scoped0.sem) (View.wordExact_bits rfl) (Memref.isWhole_whole _).wordExact ⟨Or.inl rfl, trivial⟩)
  Prog.lift (.waitDma2 cc2_scoped0.sem (entriesOf i uM) ubM (View.wordExact_bits rfl) (Memref.isWhole_whole _).wordExact)
  Prog.lift (.enqueueDma (entriesOf i iM) (.here ibM) (.dma cc2_scoped1.sem) (View.wordExact_bits rfl) (Memref.isWhole_whole _).wordExact ⟨Or.inl rfl, trivial⟩)
  Prog.lift (.waitDma2 cc2_scoped1.sem (entriesOf i iM) ibM (View.wordExact_bits rfl) (Memref.isWhole_whole _).wordExact)

/-- The tile's results copied out. -/
def copyOut : TileProg (F := F) i PUnit := do
  Prog.lift (.enqueueDma obM (.here (resultsOf i)) (.dma cc2_scoped2.sem) (Memref.isWhole_whole _).wordExact (View.wordExact_bits rfl) ⟨Or.inl rfl, trivial⟩)
  Prog.lift (.waitDma2 cc2_scoped2.sem obM (resultsOf i) (Memref.isWhole_whole _).wordExact (View.wordExact_bits rfl))

/-- The sixteen lane numbers. -/
abbrev lanes16 : IVec S16 32 := iota .scVector S16 32 [0] iota_S16_d0_w32_scVector

/-- The tile's program up to its last chunk's rows arriving: two slots in turn, a chunk's gathers in flight while the
    one before is computed. -/
def head : TileProg (F := F) i PUnit := do
  copyIn i
  fire i 0 0
  fire i 1 1
  waits i 0
  compute i 0 0 lanes16
  fire i 2 0
  waits i 1
  compute i 1 1 lanes16
  fire i 3 1
  waits i 0
  compute i 2 0 lanes16
  fire i 4 0
  waits i 1
  compute i 3 1 lanes16
  fire i 5 1
  waits i 0
  compute i 4 0 lanes16
  fire i 6 0
  waits i 1
  compute i 5 1 lanes16
  fire i 7 1
  waits i 0
  compute i 6 0 lanes16
  waits i 1

/-- The tile's program. -/
def tile : TileProg (F := F) i PUnit := do
  head i
  compute i 7 1 lanes16
  copyOut i

end Cert.KernelIdeal.Lfm
-- ==== Proof.BodyEq.lean ====
/- The kernel's body as printed is the tile's program of `NormalForm`: the printed body cut in windows of statements,
   its eight chunks spelt out, and each chunk's loop body printed on its own. -/
module

public import proofs.«01_k».proof.Proof.NormalForm

@[expose] public section

noncomputable section

namespace Cert.KernelIdeal.Lfm

open Idealize.ShloMosaic Idealize.SL.Sem
open Facts₀ Facts

variable {F : FTy → Type} [FloatOps F] (i : grid2.Coords)

set_option maxRecDepth 100000 in
set_option maxHeartbeats 40000000 in
/-- The body up to its last chunk's rows arriving. -/
theorem head_eq : k2_part106 (F := F) i uM (Memref.isWhole_whole _) iM (Memref.isWhole_whole _) tpM (Memref.isWhole_whole _) tqM (Memref.isWhole_whole _)
    tbM (Memref.isWhole_whole _) tcM (Memref.isWhole_whole _) outM (Memref.isWhole_whole _) ubM (Memref.isWhole_whole _) ibM (Memref.isWhole_whole _)
    lsM (Memref.isWhole_whole _) prM (Memref.isWhole_whole _) qrM (Memref.isWhole_whole _) brM (Memref.isWhole_whole _) crM (Memref.isWhole_whole _)
    obM (Memref.isWhole_whole _) cc2_scratch8 cc2_scratch9 cc2_scoped0 cc2_scoped1 cc2_scoped2 = head (F := F) i >>= fun _ => pure ⟨lanes16, 0#32⟩ := by
  simp only [k2_part106, k2_part68, k2_part74, k2_part80, k2_part86, k2_part92, k2_part99, k2_part105, head, bind_assoc, pure_bind]
  rfl

set_option maxRecDepth 100000 in
set_option maxHeartbeats 40000000 in
/-- The kernel's body is the tile's program. -/
theorem kernel_eq : cc2__lfm_kernel (F := F) i uM (Memref.isWhole_whole _) iM (Memref.isWhole_whole _) tpM (Memref.isWhole_whole _) tqM (Memref.isWhole_whole _)
    tbM (Memref.isWhole_whole _) tcM (Memref.isWhole_whole _) outM (Memref.isWhole_whole _) ubM (Memref.isWhole_whole _) ibM (Memref.isWhole_whole _)
    lsM (Memref.isWhole_whole _) prM (Memref.isWhole_whole _) qrM (Memref.isWhole_whole _) brM (Memref.isWhole_whole _) crM (Memref.isWhole_whole _)
    obM (Memref.isWhole_whole _) cc2_scratch8 cc2_scratch9 cc2_scoped0 cc2_scoped1 cc2_scoped2 = tile (F := F) i := by
  unfold cc2__lfm_kernel
  rw [head_eq, tile, bind_assoc]
  rfl

end Cert.KernelIdeal.Lfm
-- ==== Proof.GatherRule.lean ====
/- Several indirect gathers in flight on one semaphore, into buffers the issuer goes on reading: each gather's
   destination is in write mode, half of its share kept by the issuer and half handed to the rows' transfers, and the
   rows of all the gathers are one batch on the semaphore. -/
module

public import Idealize.ShloMosaic.Lib.SparseCore.Stream
public import Idealize.ShloMosaic.Lib.SparseCore.Ops
public import Idealize.ShloMosaic.Lib.Batch
public import Idealize.ShloMosaic.Lib.WriteMode

@[expose] public section

noncomputable section

namespace Cert.GatherRule

open Idealize.ShloMosaic
open Idealize.SL
open Idealize.SL.BI (sProp Storable bigSep bigSep_insert bigSep_empty bigSep_singleton)
open scoped Idealize.SL.BI
open Idealize.SL.BI.BIBase Idealize.SL.BI.Laws Idealize.SL.Sem Idealize.SL.ProofMode
open Idealize.SL.RA
open Idealize.ShloMosaic.Transfers
open Idealize.ShloMosaic.SparseCore

/-! ## Families over the transfers still to issue -/

section Pending

variable {M : Type} [URA M]

/-- The transfers from the `k`-th on are the next `o` and those after. -/
theorem bigSep_pending_block {n : ℕ} (Φ : Fin n → sProp M) (k o : ℕ) (h : k + o ≤ n) :
    bigSep (pending k) Φ = iprop((bigSep Finset.univ fun j : Fin o => Φ ⟨k + j.val, by omega⟩) ∗ bigSep (pending (k + o)) Φ) := by
  have hs : pending (n := n) k = (Finset.univ.image fun j : Fin o => (⟨k + j.val, by omega⟩ : Fin n)) ∪ pending (k + o) := by
    ext t
    simp only [pending, Finset.mem_filter, Finset.mem_univ, true_and, Finset.mem_union, Finset.mem_image, Fin.ext_iff]
    constructor
    · intro ht
      by_cases h2 : k + o ≤ t.val
      · exact .inr h2
      · exact .inl ⟨⟨t.val - k, by omega⟩, by simp only []; omega⟩
    · rintro (⟨j, hj⟩ | h2) <;> omega
  have hd : Disjoint (Finset.univ.image fun j : Fin o => (⟨k + j.val, by omega⟩ : Fin n)) (pending (k + o)) := by
    rw [Finset.disjoint_left]
    intro t ht ht'
    simp only [pending, Finset.mem_filter, Finset.mem_univ, true_and, Finset.mem_image, Fin.ext_iff] at ht ht'
    obtain ⟨j, hj⟩ := ht
    have := j.isLt
    omega
  rw [hs, BI.bigSep_union hd]
  congr 1
  rw [BI.bigSep_image_of_injOn]
  intro a _ b _ hab
  simp only [Fin.ext_iff] at hab ⊢
  omega

end Pending

/-! ## Write mode along elements and shares -/

section Held

variable {nD : Nat} {τ : Topo} {sig : RefSig} {Ix : Type} [DecidableEq Ix] {Val : EltTy → Type} {Name : Type} [DecidableEq Name]
variable {U : Type} [URA U] {Lvl : Type} [Preorder Lvl] (emb : UEmb (WmRA nD τ sig Val) U)
variable {ℓ : Loc nD τ sig} {q : PosShare TreeShare} {f : Buf Val ℓ} {g : Tgt Val ℓ} {W : Finset (Idx ℓ)}

local notation "𝕄" => MT nD τ sig Ix Val Name U Lvl

omit [Preorder Lvl] in
/-- Along a finite family of pairwise disjoint element sets. -/
theorem willBeTo_biUnion {T : Type} (S : Finset T) (K : T → Finset (Idx ℓ)) (hne : S.Nonempty)
    (h : ∀ t ∈ S, ∀ t' ∈ S, t ≠ t' → Disjoint (K t) (K t')) :
    (willBeTo emb ℓ (S.biUnion K) q f g W : sProp 𝕄) = bigSep S fun t => willBeTo emb ℓ (K t) q f g W := by
  classical
  induction S using Finset.cons_induction with
  | empty => exact absurd hne Finset.not_nonempty_empty
  | cons t S ht ih =>
    rw [Finset.cons_eq_insert, Finset.biUnion_insert, bigSep_insert ht]
    rcases S.eq_empty_or_nonempty with rfl | hS
    · rw [Finset.biUnion_empty, Finset.union_empty, bigSep_empty]
      exact BI.Entails.antisymm (sep_emp (P := willBeTo emb ℓ (K t) q f g W)).2 (sep_emp (P := willBeTo emb ℓ (K t) q f g W)).1
    · have hd : Disjoint (K t) (S.biUnion K) :=
        (Finset.disjoint_biUnion_right _ _ _).mpr fun t' ht' =>
          h t (Finset.mem_cons_self _ _) t' (Finset.mem_cons_of_mem ht') (fun e => ht (e ▸ ht'))
      have hu : (willBeTo emb ℓ (K t ∪ S.biUnion K) q f g W : sProp 𝕄) ⊣⊢ iprop(willBeTo emb ℓ (K t) q f g W ∗ willBeTo emb ℓ (S.biUnion K) q f g W) :=
        BI.Region.held_union hd
      rw [BI.equiv_iff.mp ⟨hu.1, hu.2⟩,
        ih hS fun t₁ h₁ t₂ h₂ => h t₁ (Finset.mem_cons_of_mem h₁) t₂ (Finset.mem_cons_of_mem h₂)]
      rfl

omit [Preorder Lvl] in
/-- The halves of a share, each with its own marks, are the share with the marks of both. -/
theorem willBeTo_halves {I W₁ W₂ : Finset (Idx ℓ)} :
    (willBeTo emb ℓ I q f g (W₁ ∪ W₂) : sProp 𝕄) ⊣⊢ iprop(willBeTo emb ℓ I q.left f g W₁ ∗ willBeTo emb ℓ I q.right f g W₂) :=
  BI.Region.held_share (PosShare.mem_left_op_right q) fun i _ => by
    have h := Region.WB.mem_mk_op_mk (f i) (g i) (decide (i ∈ W₁)) (decide (i ∈ W₂))
    rwa [show decide (i ∈ W₁ ∪ W₂) = (decide (i ∈ W₁) || decide (i ∈ W₂)) by simp [Finset.mem_union]]

end Held

/-! ## The gather -/

section Gather

variable {nD : Nat} {τ : Topo} {sig : RefSig} {Ix : Type} [DecidableEq Ix]
variable {F : FTy → Type} {Name : Type} [DecidableEq Name]
variable {U : Type} [URA U] {Lvl : Type} [Preorder Lvl] {Λ : Labels}
variable {defs : Defs nD τ sig (Elt F) Λ} (EC : UEmb Counters (MT nD τ sig Ix (Elt F) Name U Lvl)) (emb : UEmb (WmRA nD τ sig (Elt F)) U)
variable (𝒱 : Variants) (c : Thread nD τ) (bd : Option 𝒱.V)
variable {sp : Space} {s₀ s si : Shape} {e : EltTy} {a : Nat} {α : Type} {Q : α → sProp (MT nD τ sig Ix (Elt F) Name U Lvl)}

local notation "𝕄" => MT nD τ sig Ix (Elt F) Name U Lvl

/-- What a gather into `dst` leaves it holding: row `offs[k]` of the source at row `k`. -/
abbrev landed (src : Memref sig c.2.kind sp s₀ e) (dst : Memref sig c.2.kind .vmem s e) (hg : s₀.Gathers a s)
    (offs : Memref sig c.2.kind .vmem si .i32) (hn : si.numel = s.size hg.axis')
    (fs : Buf (Elt F) (src.view.loc c)) (fd : Buf (Elt F) (dst.view.loc c)) (fo : Buf (Elt F) (offs.view.loc c))
    (hin : ∀ x, (offs.view.read (Elt F) fo x).toNat < s₀.size hg.axis) : Buf (Elt F) (dst.view.loc c) :=
  dst.view.write (Elt F) fd (gatherPayload hg (src.view.read (Elt F) fs) (rows (offs.view.read (Elt F) fo) hn hin)) Finset.univ

/-- What row `j` of a gather delivers: its row of the destination marked written, at half the share, the entry of
    the list it was read from, and its piece of the source's share. -/
def rowDelivered (src : Memref sig c.2.kind sp s₀ e) (dst : Memref sig c.2.kind .vmem s e) (hg : s₀.Gathers a s)
    (offs : Memref sig c.2.kind .vmem si .i32) (hn : si.numel = s.size hg.axis') (ho : 0 < s.size hg.axis')
    (q qo : PosShare TreeShare) (fs : Buf (Elt F) (src.view.loc c)) (fd G : Buf (Elt F) (dst.view.loc c)) (fo : Buf (Elt F) (offs.view.loc c))
    (j : Fin (s.size hg.axis')) : sProp 𝕄 :=
  iprop((willBeTo emb (dst.view.loc c) (dst.view.slice (s.rowRect hg.axis' j)).set fullShare.right fd (fun i => some (G i))
          (∅ ∪ (dst.view.slice (s.rowRect hg.axis' j)).set)
        ∗ (offs.view.loc c ↦[{offs.view.emb (si.rowMajor.symm (j.cast hn.symm))}]{qo} fo))
      ∗ (src.view.loc c ↦[src.view.set]{pieceOf q _ ho j} fs))

instance rowDelivered_storable (src : Memref sig c.2.kind sp s₀ e) (dst : Memref sig c.2.kind .vmem s e) (hg : s₀.Gathers a s)
    (offs : Memref sig c.2.kind .vmem si .i32) (hn : si.numel = s.size hg.axis') (ho : 0 < s.size hg.axis')
    (q qo : PosShare TreeShare) (fs : Buf (Elt F) (src.view.loc c)) (fd G : Buf (Elt F) (dst.view.loc c)) (fo : Buf (Elt F) (offs.view.loc c))
    (j : Fin (s.size hg.axis')) :
    Storable (upEmb : UEmb _ 𝕄) (rowDelivered (Ix := Ix) (Name := Name) (Lvl := Lvl) emb c src dst hg offs hn ho q qo fs fd G fo j) := by
  unfold rowDelivered; infer_instance

omit [Preorder Lvl] in
/-- The deliveries of all the rows: the destination marked written, at half the share, the list and the source back. -/
theorem rows_delivered (src : Memref sig c.2.kind sp s₀ e) (dst : Memref sig c.2.kind .vmem s e) (hg : s₀.Gathers a s)
    (offs : Memref sig c.2.kind .vmem si .i32) (hn : si.numel = s.size hg.axis') (ho : 0 < s.size hg.axis')
    (q qo : PosShare TreeShare) (fs : Buf (Elt F) (src.view.loc c)) (fd G : Buf (Elt F) (dst.view.loc c)) (fo : Buf (Elt F) (offs.view.loc c)) :
    bigSep Finset.univ (rowDelivered (Ix := Ix) (Name := Name) (Lvl := Lvl) emb c src dst hg offs hn ho q qo fs fd G fo)
      ⊢ iprop(willBeTo emb (dst.view.loc c) dst.view.set fullShare.right fd (fun i => some (G i)) dst.view.set
          ∗ (offs.view.loc c ↦[offs.view.set]{qo} fo) ∗ (src.view.loc c ↦[src.view.set]{q} fs) : sProp 𝕄) := by
  have hen : Function.Bijective fun j : Fin (s.size hg.axis') => si.rowMajor.symm (j.cast hn.symm) :=
    si.rowMajor.symm.bijective.comp (finCongr hn.symm).bijective
  unfold rowDelivered
  iintro HD
  ihave H1 := Transfers.bigSep_sep_out _ _ _ $$ HD
  icases H1 with ⟨H2, Hsrc⟩
  ihave H3 := Transfers.bigSep_sep_out _ _ _ $$ H2
  icases H3 with ⟨Hrows, Hoffs⟩
  isplitl [Hrows]
  · have hw : (willBeTo emb (dst.view.loc c) dst.view.set fullShare.right fd (fun i => some (G i)) dst.view.set : sProp 𝕄)
        = bigSep Finset.univ fun j : Fin (s.size hg.axis') => willBeTo emb (dst.view.loc c) (dst.view.slice (s.rowRect hg.axis' j)).set fullShare.right fd
            (fun i => some (G i)) (∅ ∪ (dst.view.slice (s.rowRect hg.axis' j)).set) := by
      conv_lhs => rw [dst.view.set_eq_biUnion_rows hg.axis']
      rw [willBeTo_biUnion emb Finset.univ _ ⟨⟨0, ho⟩, Finset.mem_univ _⟩ fun k _ k' _ h => dst.view.disjoint_rows hg.axis' h]
      congr 1
      funext j
      exact BI.Region.willBe_congr (fun _ _ => rfl) (fun _ _ => rfl) fun i hi =>
        ⟨fun _ => by rw [Finset.empty_union]; exact hi, fun _ => Finset.mem_biUnion.mpr ⟨j, Finset.mem_univ _, hi⟩⟩
    iapply (Entails.of_eq hw.symm) $$ Hrows
  isplitl [Hoffs]
  · iapply (Entails.of_eq (pointsTo_entries c offs.view _ hen qo fo).symm) $$ Hoffs
  · iapply (Entails.of_eq (pointsTo_piecesOf (src.view.set) fs ho q).symm) $$ Hsrc

/-- `enqueueIndirectGather` at the head of a program, its rows the next transfers of a batch on its semaphore: holding
    a share of the source, the destination outright and the row list, every word of it a row (`hin`), the tile puts
    the destination in write mode at what the gather leaves there, keeps half its share of it, and issues the rows. -/
theorem wp_gather [Infinite Name] [EC.LandsIn (upEmb : UEmb _ 𝕄)] {ιwm : Name}
    {src : Memref sig c.2.kind sp s₀ e} {dst : Memref sig c.2.kind .vmem s e} {hg : s₀.Gathers a s}
    {offs : Memref sig c.2.kind .vmem si .i32} {hn : si.numel = s.size hg.axis'} {sem : DmaSem sig}
    {hp : c.2.kind = .scVector} {hsrc : src.view.WordExact} {he : e.bits = 32} {hsp : sp = .hbm ∨ sp = .shared} {hr : s₀.StreamRows a}
    {k : PUnit → Prog (TpuEff nD τ sig (Elt F) Λ c.2) α}
    {q qo : PosShare TreeShare} {fs : Buf (Elt F) (src.view.loc c)} {fd : Buf (Elt F) (dst.view.loc c)} {fo : Buf (Elt F) (offs.view.loc c)}
    (ι : Ix) (N : ℕ) (hN : ∀ j, (dst.slice (s.rowRect hg.axis' j) (s.stride_rowRect hg.axis' j)).view.dmaCredit = N)
    (ho : 0 < s.size hg.axis') (hin : ∀ x, (offs.view.read (Elt F) fo x).toNat < s₀.size hg.axis)
    {n : ℕ} {D : Fin n → sProp 𝕄} (b : ℕ) (hb : b + s.size hg.axis' ≤ n)
    (hD : ∀ j : Fin (s.size hg.axis'), rowDelivered (Ix := Ix) (Name := Name) (Lvl := Lvl) emb c src dst hg offs hn ho q qo fs fd (landed c src dst hg offs hn fs fd fo hin) fo j
      ⊢ D ⟨b + j.val, by omega⟩) :
    iprop(wmInv emb ιwm ∗ Batch EC c (.dma sem) ι N D b 0
        ∗ (src.view.loc c ↦[src.view.set]{q} fs) ∗ (dst.view.loc c ↦[dst.view.set]{fullShare} fd) ∗ (offs.view.loc c ↦[offs.view.set]{qo} fo))
      ⊢ iprop((iprop(Batch EC c (.dma sem) ι N D (b + s.size hg.axis') 0
                ∗ willBeTo emb (dst.view.loc c) dst.view.set fullShare.left fd (fun i => some (landed c src dst hg offs hn fs fd fo hin i)) ∅)
              -∗ wp frame (wpE defs 𝒱 c bd) Set.univ (k ⟨⟩) Q)
          -∗ wp frame (wpE defs 𝒱 c bd) Set.univ (enqueueIndirectGather hp src dst hg offs hn sem hsrc he hsp hr >>= k) Q) := by
  rw [enqueueIndirectGather_bind]
  let S : Stream nD τ sig (Elt F) :=
    Stream.issued c offs.view hn sem (fun j w => (rowOf (s₀.size hg.axis) w).map (gatherRow c src dst hg sem hsrc he hsp hr j)) 0
  let r : Fin (s.size hg.axis') → Fin (s₀.size hg.axis) := rows (offs.view.read (Elt F) fo) hn hin
  let rd : Fin (s.size hg.axis') → RowDma τ sig (Elt F) c.2 sem := fun j => gatherRow c src dst hg sem hsrc he hsp hr j (r j)
  let qk : Fin (s.size hg.axis') → PosShare TreeShare := pieceOf q _ ho
  let w : (j : Fin (s.size hg.axis')) → (s.rowShape hg.axis').Idx → Elt F e := fun j i => src.view.read (Elt F) fs (hg.rowIdx (r j) i)
  let G : Buf (Elt F) (dst.view.loc c) := landed c src dst hg offs hn fs fd fo hin
  have hA : S.RowsAgree := by
    intro j x x' ρ ρ' h h'
    obtain ⟨_, _, rfl⟩ := Option.map_eq_some_iff.mp h
    obtain ⟨_, _, rfl⟩ := Option.map_eq_some_iff.mp h'
    rfl
  have hrd : ∀ j, S.row j (S.word fo j) = some (rd j) := fun j => by
    change (rowOf (s₀.size hg.axis) (offs.view.read (Elt F) fo (S.entry j))).map _ = _
    rw [rowOf_of_lt (hin _)]; rfl
  have hen : Function.Bijective S.entry := si.rowMajor.symm.bijective.comp (finCongr hn.symm).bijective
  have hW : ∀ j i, w j i = gatherPayload hg (src.view.read (Elt F) fs) r ((s.rowRect hg.axis' j).emb i) := fun j i => by
    unfold gatherPayload; rw [Shape.Gathers.idx_rowRect_emb]
  have hadm : ∀ j, (dst.view.slice (s.rowRect hg.axis' j)).Admitted (Elt F) (fun i => some (G i)) (w j) Finset.univ := by
    intro j x _ u hu
    have h2 := View.read_write_of_mem (Val := Elt F) (v := dst.view) fd (gatherPayload hg (src.view.read (Elt F) fs) r) (M := Finset.univ) (Finset.mem_univ ((s.rowRect hg.axis' j).emb x))
    rw [View.read_apply, View.cast_some (dst.view.slice (s.rowRect hg.axis' j)).elt_eq] at hu
    rw [hW j x, ← h2]
    exact Option.some.inj hu
  iintro ⟨#Hwm, HB, Hs, Hd, Ho⟩ Hk
  imod (pointsTo_castIn (emb := emb) (ιwm := ιwm) (fun i => some (G i))) $$ [Hd] with Hd
  · isplitr; · iexact Hwm
    iexact Hd
  ihave Hd' := ((willBeTo_halves (Ix := Ix) (Name := Name) (Lvl := Lvl) emb (ℓ := dst.view.loc c) (q := fullShare) (f := fd) (g := fun i => some (G i)) (I := dst.view.set) (W₁ := ∅) (W₂ := ∅)).1) $$ [Hd]
  · rw [Finset.empty_union]; iexact Hd
  icases Hd' with ⟨Hkeep, Hgive⟩
  have hrows : (willBeTo emb (dst.view.loc c) dst.view.set fullShare.right fd (fun i => some (G i)) ∅ : sProp 𝕄)
      = bigSep Finset.univ fun j : Fin (s.size hg.axis') => willBeTo emb (dst.view.loc c) (dst.view.slice (s.rowRect hg.axis' j)).set fullShare.right fd
          (fun i => some (G i)) ∅ := by
    conv_lhs => rw [dst.view.set_eq_biUnion_rows hg.axis']
    exact willBeTo_biUnion emb Finset.univ _ ⟨⟨0, ho⟩, Finset.mem_univ _⟩ fun k _ k' _ h => dst.view.disjoint_rows hg.axis' h
  ihave Hd' := (Entails.of_eq hrows) $$ Hgive
  ihave Ho' := (Entails.of_eq (pointsTo_entries c offs.view S.entry hen qo fo)) $$ Ho
  ihave Hs' := (Entails.of_eq (pointsTo_piecesOf (src.view.set) fs ho q)) $$ Hs
  unfold Batch
  icases HB with ⟨%γ, %γ₀, %κ, #Hinv, HI, H0, Hcred⟩
  ihave HI' := (Entails.of_eq (bigSep_pending_block (fun t => count EC (γ t) 0) b (s.size hg.axis') hb)) $$ HI
  icases HI' with ⟨Hγ, HI⟩
  iapply (wp_enqueueIndirectDma 𝒱 c bd Set.univ (qo := qo) (fo := fo) (rd := rd) ι (s.size hg.axis' * N) hA hrd
    (by rw [Finset.sum_congr rfl fun j _ => hN j, Finset.sum_const, Finset.card_univ, Fintype.card_fin, smul_eq_mul])) $$ [Hd' Ho' Hs' Hγ]
  · have hcu : ∀ j : Fin (s.size hg.axis'), iprop(inv κ (batchBody EC (c, SemLoc.dma sem) N D γ γ₀) ∗ count EC (γ ⟨b + j.val, by omega⟩) 0)
        ⊢ creditUpdate (c, SemLoc.dma sem) N 0
            (rowDelivered (Ix := Ix) (Name := Name) (Lvl := Lvl) emb c src dst hg offs hn ho q qo fs fd (landed c src dst hg offs hn fs fd fo hin) fo j) :=
      fun j => batch_creditUpdate EC ⟨b + j.val, by omega⟩ (hD j)
    have hrow : ∀ j, iprop((wmInv emb ιwm ∗ inv κ (batchBody EC (c, SemLoc.dma sem) N D γ γ₀))
          ∗ (((willBeTo emb (dst.view.loc c) (dst.view.slice (s.rowRect hg.axis' j)).set fullShare.right fd (fun i => some (G i)) ∅ ∗ S.heldEntry qo fo j)
          ∗ (src.view.loc c ↦[src.view.set]{qk j} fs)) ∗ count EC (γ ⟨b + j.val, by omega⟩) 0))
        ⊢ iprop(S.heldEntry qo fo j ∗ (S.heldEntry qo fo j -∗ rowRes c (rd j))) := fun j => by
      iintro ⟨⟨#Hwm, #Hinv⟩, ⟨⟨Hr, He⟩, Hsq⟩, Hγj⟩
      isplitl [He]; · iexact He
      iintro He
      unfold rowRes
      iexists qk j, fs, iprop(willBeTo emb (dst.view.loc c) (dst.view.slice (s.rowRect hg.axis' j)).set fullShare.right fd (fun i => some (G i))
          (∅ ∪ (dst.view.slice (s.rowRect hg.axis' j)).set) ∗ S.heldEntry qo fo j)
      isplitl [Hsq]; · iexact Hsq
      isplitl [Hr He]
      · iapply writeUpdate_frame
        isplitl [Hr]
        · iapply (willBeTo_writeUpdate (emb := emb) (ιwm := ιwm) c (v := dst.view.slice (s.rowRect hg.axis' j)) subset_rfl (hadm j)) $$ [Hr]
          isplitr; · iexact Hwm
          iexact Hr
        · iexact He
      · have ham : (rd j).dst.view.amount (.dma sem) = N := hN j
        rw [ham]
        iapply (hcu j)
        isplitr; · iexact Hinv
        iexact Hγj
    unfold Stream.res
    ihave H1 := Transfers.bigSep_sep_in _ _ _ $$ [Hd' Ho']; · isplitl [Hd'] <;> iassumption
    ihave H2 := Transfers.bigSep_sep_in _ _ _ $$ [H1 Hs']; · isplitl [H1] <;> iassumption
    ihave H3 := Transfers.bigSep_sep_in _ _ _ $$ [H2 Hγ]; · isplitl [H2] <;> iassumption
    iapply (Transfers.bigSep_mono_pers Finset.univ _ _ _ fun j _ => hrow j)
    isplitr
    · isplitl
      · iexact Hwm
      · iexact Hinv
    iexact H3
  · iintro Hcred'
    iapply Hk
    isplitr [Hkeep]
    · iexists γ, γ₀, κ
      isplitr; · iexact Hinv
      isplitl [HI]; · iexact HI
      isplitl [H0]; · iexact H0
      rw [show (b + s.size hg.axis') * N - 0 = (b * N - 0) + s.size hg.axis' * N by rw [Nat.add_mul]; omega, ← tallyAt_add]
      icombine Hcred Hcred' as H
      iexact H
    · iexact Hkeep

end Gather

/-! ## Reading beside a transfer -/

section Load

variable {nD : Nat} {τ : Topo} {sig : RefSig} {Ix : Type} [DecidableEq Ix] {Val : EltTy → Type} {Name : Type} [DecidableEq Name]
variable {U : Type} [URA U] {Lvl : Type} [Preorder Lvl] {Λ : Labels} {emb : UEmb (WmRA nD τ sig Val) U}
variable {defs : Defs nD τ sig Val Λ} (𝒱 : Variants) (c : Thread nD τ) (bd : Option 𝒱.V)

local notation "𝕄" => MT nD τ sig Ix Val Name U Lvl

/-- `R` gives access to the elements `S` of a buffer: for the length of one step they are there, at some contents,
    and come back unchanged. -/
def Opens (ℓ : Loc nD τ sig) (S : Finset (Idx ℓ)) (R : sProp 𝕄) : Prop :=
  ∃ E : Set Name, R ⊢ |={Set.univ, E}=> (∃ cur : Buf Val ℓ, (ℓ ↦[S]{fullShare} cur) ∗ ((ℓ ↦[S]{fullShare} cur) -∗ |={E, Set.univ}=> R))

/-- Elements held outright. -/
theorem opens_pointsTo (ℓ : Loc nD τ sig) (S : Finset (Idx ℓ)) (f : Buf Val ℓ) :
    Opens ℓ S (ℓ ↦[S]{fullShare} f : sProp 𝕄) := by
  refine ⟨Set.univ, ?_⟩
  iintro H
  imodintro
  iexists f
  isplitl; · iexact H
  iintro H
  imodintro
  iexact H

/-- Elements a share of which is kept in write mode. -/
theorem opens_willBeTo (ιwm : Name) (ℓ : Loc nD τ sig) (S : Finset (Idx ℓ)) (q : PosShare TreeShare) (f : Buf Val ℓ) (g : Tgt Val ℓ) (W : Finset (Idx ℓ)) :
    Opens ℓ S (iprop(wmInv emb ιwm ∗ willBeTo emb ℓ S q f g W) : sProp 𝕄) := by
  refine ⟨Set.univ \ {ιwm}, ?_⟩
  iintro ⟨#Hwm, H⟩
  imod (willBeTo_acc (emb := emb) (ιwm := ιwm) (Set.mem_univ _)) $$ [H] with ⟨%cur, %W', %hW, Hraw, %hcur, Hclose⟩
  · isplitr; · iexact Hwm
    iexact H
  imodintro
  iexists cur
  isplitl [Hraw]; · iexact Hraw
  iintro Hraw
  ispecialize Hclose $$ %cur %∅
    %⟨Finset.empty_subset _, fun i h => absurd h (Finset.notMem_empty i), fun _ _ _ => rfl⟩ Hraw
  imod Hclose with Htok
  imodintro
  rw [Finset.union_empty]
  isplitr; · iexact Hwm
  iexact Htok

/-- A load of elements part of which are held outright and the rest of which `R` gives access to: what is read agrees
    with what is held. -/
theorem wp_load_beside {α : Type} {Q : α → sProp 𝕄}
    {cs : CoreSpace} {s : Shape} {e : EltTy} {m : Memref sig c.2.kind cs s e} {r : LoadRect s} {hl : m.view.LoadsAt r}
    {k : (r.shape.Idx → Val e) → Prog (TpuEff nD τ sig Val Λ c.2) α} {S₁ S₂ : Finset (Idx (m.view.loc c))}
    {f : Buf Val (m.view.loc c)} {R : sProp 𝕄} (hd : Disjoint S₁ S₂) (hS : m.view.setOn r.set ⊆ S₁ ∪ S₂) (hR : Opens (m.view.loc c) S₂ R) :
    iprop((m.view.loc c ↦[S₁]{fullShare} f) ∗ R)
      ⊢ iprop((∀ cur, ⌜∀ i ∈ S₁, cur i = f i⌝ -∗ (m.view.loc c ↦[S₁]{fullShare} f) -∗ R
            -∗ wp frame (wpE defs 𝒱 c bd) Set.univ (k (m.view.readAt Val r cur)) Q)
        -∗ wp frame (wpE defs 𝒱 c bd) Set.univ (.op (.load m r hl) k) Q) := by
  obtain ⟨E, hR⟩ := hR
  iintro ⟨H, HR⟩ Hk
  imod hR $$ HR with ⟨%g, Hg, Hclose⟩
  imodintro
  ihave Hj := (pointsTo_join hd) $$ [H Hg]
  · isplitl [H] <;> iassumption
  iapply (fp_load c hS) $$ Hj
  iintro Hj
  ihave Hj' := ((pointsTo_union hd).1) $$ Hj
  icases Hj' with ⟨H, Hg⟩
  ihave H := (Entails.of_eq (pointsTo_congr (f := S₂.piecewise g f) (g := f)
    (fun i hi => Finset.piecewise_eq_of_notMem _ _ _ fun h => Finset.disjoint_left.mp hd hi h))) $$ H
  ihave Hg := (Entails.of_eq (pointsTo_congr (I := S₂) (f := S₂.piecewise g f) (g := g) (fun i hi => Finset.piecewise_eq_of_mem _ _ _ hi))) $$ Hg
  ihave Hc := Hclose $$ Hg
  imod Hc with HR
  imodintro
  iapply Hk $$ %(S₂.piecewise g f) %(fun i hi => Finset.piecewise_eq_of_notMem _ _ _ fun h => Finset.disjoint_left.mp hd hi h) H HR

/-- A load of part of a buffer held at any share. -/
theorem wp_loadAt {α : Type} {Q : α → sProp 𝕄} {cs : CoreSpace} {s : Shape} {e : EltTy} {m : Memref sig c.2.kind cs s e} {r : Rect s}
    {hl : m.view.LoadsAt r} {k : (r.shape.Idx → Val e) → Prog (TpuEff nD τ sig Val Λ c.2) α} {S : Finset (Idx (m.view.loc c))}
    {q : PosShare TreeShare} {f : Buf Val (m.view.loc c)} (hS : (m.access r).set ⊆ S) :
    (m.view.loc c ↦[S]{q} f)
      ⊢ iprop(((m.view.loc c ↦[S]{q} f) -∗ wp frame (wpE defs 𝒱 c bd) Set.univ (k (m.view.readAt Val r f)) Q)
        -∗ wp frame (wpE defs 𝒱 c bd) Set.univ (.op (.load m r hl) k) Q) :=
  wp_load 𝒱 c bd Set.univ (by rwa [View.set_slice] at hS)
/-- A store of part of a buffer held outright. -/
theorem wp_storeAt {α : Type} {Q : α → sProp 𝕄} {cs : CoreSpace} {s : Shape} {e : EltTy} {m : Memref sig c.2.kind cs s e} {r : Rect s}
    {w : r.shape.Idx → Val e} {hx : (m.access r).Stores Finset.univ} {hm : (Finset.univ : Finset r.shape.Idx) = Finset.univ ∨ ∀ a, r.stride a = 1}
    {k : PUnit → Prog (TpuEff nD τ sig Val Λ c.2) α} {S : Finset (Idx (m.view.loc c))}
    {f : Buf Val (m.view.loc c)} (hS : (m.access r).set ⊆ S) :
    (m.view.loc c ↦[S]{fullShare} f)
      ⊢ iprop(((m.view.loc c ↦[S]{fullShare} ((m.view.slice r).write Val f w Finset.univ)) -∗ wp frame (wpE defs 𝒱 c bd) Set.univ (k ⟨⟩) Q)
        -∗ wp frame (wpE defs 𝒱 c bd) Set.univ (.op (.store m r w Finset.univ hx hm) k) Q) := by
  exact wp_store 𝒱 c bd Set.univ (m := m) (r := r) (S := S) (f := f) hS

/-- A load of part of a buffer held whole. -/
theorem wp_loadAll {α : Type} {Q : α → sProp 𝕄} {cs : CoreSpace} {s : Shape} {e : EltTy} {m : Memref sig c.2.kind cs s e} {r : Rect s}
    {hl : m.view.LoadsAt r} {k : (r.shape.Idx → Val e) → Prog (TpuEff nD τ sig Val Λ c.2) α}
    {q : PosShare TreeShare} {f : Buf Val (m.view.loc c)} :
    (m.view.loc c ↦{q} f)
      ⊢ iprop(((m.view.loc c ↦{q} f) -∗ wp frame (wpE defs 𝒱 c bd) Set.univ (k (m.view.readAt Val r f)) Q)
        -∗ wp frame (wpE defs 𝒱 c bd) Set.univ (.op (.load m r hl) k) Q) :=
  wp_load 𝒱 c bd Set.univ (Finset.subset_univ _)

/-- A store of part of a buffer held whole. -/
theorem wp_storeAll {α : Type} {Q : α → sProp 𝕄} {cs : CoreSpace} {s : Shape} {e : EltTy} {m : Memref sig c.2.kind cs s e} {r : Rect s}
    {w : r.shape.Idx → Val e} {hx : (m.access r).Stores Finset.univ} {hm : (Finset.univ : Finset r.shape.Idx) = Finset.univ ∨ ∀ a, r.stride a = 1}
    {k : PUnit → Prog (TpuEff nD τ sig Val Λ c.2) α} {f : Buf Val (m.view.loc c)} :
    (m.view.loc c ↦{fullShare} f)
      ⊢ iprop(((m.view.loc c ↦{fullShare} ((m.view.slice r).write Val f w Finset.univ)) -∗ wp frame (wpE defs 𝒱 c bd) Set.univ (k ⟨⟩) Q)
        -∗ wp frame (wpE defs 𝒱 c bd) Set.univ (.op (.store m r w Finset.univ hx hm) k) Q) := by
  exact wp_store 𝒱 c bd Set.univ (m := m) (r := r) (f := f) (Finset.subset_univ _)

end Load

end Cert.GatherRule
-- ==== Proof.Geometry.lean ====
/- Where the tile's slots, lists and groups lie: the elements each of the program's slices names, and the words of the
   row lists as numbers. -/
module

public import proofs.«01_k».proof.Proof.NormalForm
public import proofs.«01_k».proof.Proof.GatherRule

@[expose] public section

noncomputable section

namespace Cert.KernelIdeal.Lfm

open Idealize.ShloMosaic Idealize.SL.Sem
open Facts₀ Facts

variable {F : FTy → Type} [FloatOps F]

/-! ## Indices -/

/-- Element (slot, row, lane) of a row buffer. -/
def ixB (s j l : ℕ) : S2x64x128.Idx := fun
  | 0 => ⟨s % 2, Nat.mod_lt _ (by decide)⟩
  | 1 => ⟨j % 64, Nat.mod_lt _ (by decide)⟩
  | 2 => ⟨l % 128, Nat.mod_lt _ (by decide)⟩
/-- Entry (slot, list, place) of the row lists. -/
def ixL (s r j : ℕ) : S2x4x64.Idx := fun
  | 0 => ⟨s % 2, Nat.mod_lt _ (by decide)⟩
  | 1 => ⟨r % 4, Nat.mod_lt _ (by decide)⟩
  | 2 => ⟨j % 64, Nat.mod_lt _ (by decide)⟩
/-- Entry `y` of a tile's 512. -/
def ixE (y : ℕ) : S512.Idx := fun | 0 => ⟨y % 512, Nat.mod_lt _ (by decide)⟩

/-- The rows of the four tables the gathers read: packed users, packed items, user biases, item biases. -/
def tRows : Fin 4 → ℕ := ![262144, 25600, 7813, 782]
theorem tRows_pos : ∀ r, 0 < tRows r := by decide
abbrev tShape (r : Fin 4) : Shape := ⟨2, ![tRows r, 128]⟩
/-- Element (row, lane) of table `r`. -/
def ixT (r : Fin 4) (a l : ℕ) : (tShape r).Idx := fun
  | 0 => ⟨a % tRows r, Nat.mod_lt _ (tRows_pos r)⟩
  | 1 => ⟨l % 128, Nat.mod_lt _ (by decide)⟩

/-- Table `r`, as its gather names it. -/
abbrev tab : (r : Fin 4) → Memref sig .scVector .hbm (tShape r) .f32
  | 0 => tpS | 1 => tqS | 2 => tbS | 3 => tcS
/-- The buffer gather `r` writes its rows in. -/
abbrev buf : (r : Fin 4) → Memref sig .scVector .vmem S2x64x128 .f32
  | 0 => prM | 1 => qrM | 2 => brM | 3 => crM
theorem tGath : (r : Fin 4) → (tShape r).Gathers 0 S64x128
  | 0 => gathers_S262144x128_S64x128 | 1 => gathers_S25600x128_S64x128
  | 2 => gathers_S7813x128_S64x128 | 3 => gathers_S782x128_S64x128

/-! ## Slices -/

theorem slotOf_emb (m : Memref sig .scVector .vmem S2x64x128 .f32) (s : Fin 2) (x : S64x128.Idx) :
    (slotOf m s).view.emb x = m.view.emb (ixB s.val (x 0).val (x 1).val) := by
  have h : Shape.reshapeEquiv squeezes_S1x64x128_S64x128.numel_eq x
      = (fun | 0 => ⟨0, Nat.one_pos⟩ | 1 => x 0 | 2 => x 1 : S1x64x128.Idx) := by
    apply Shape.reshapeEquiv_eq_of_rowMajor
    rw [Shape.rowMajor_val_three, Shape.rowMajor_val_two]
    simp
  show m.view.emb ((Rect.unit (s := S2x64x128) ![s.val, 0, 0] S1x64x128.size (inbS s)).emb (Shape.reshapeEquiv squeezes_S1x64x128_S64x128.numel_eq x)) = _
  rw [h]
  congr 1
  have h0 := s.isLt; have h1 := (x 0).isLt; have h2 := (x 1).isLt
  simp only [Matrix.cons_val_zero, Matrix.cons_val_one] at h1 h2
  funext a
  apply Fin.ext
  match a with
  | 0 => simp [ixB]; omega
  | 1 => simp [ixB]; omega
  | 2 => simp [ixB]; omega

/-- A slot's elements are those of its number. -/
theorem mem_slotOf (m : Memref sig .scVector .vmem S2x64x128 .f32) (s : Fin 2) (i : S2x64x128.Idx) :
    m.view.emb i ∈ (slotOf m s).view.set ↔ (i 0).val = s.val := by
  constructor
  · intro h
    obtain ⟨x, -, hx⟩ := Finset.mem_map.mp h
    rw [slotOf_emb] at hx
    rw [← m.view.emb.injective hx]
    simp only [ixB]; have := s.isLt; omega
  · intro h
    have h1 := (i 1).isLt; have h2 := (i 2).isLt
    refine Finset.mem_map.mpr ⟨(fun | 0 => i 1 | 1 => i 2 : S64x128.Idx), Finset.mem_univ _, ?_⟩
    rw [slotOf_emb]
    congr 1
    funext a
    apply Fin.ext
    have := s.isLt
    simp at h1 h2
    match a with
    | 0 => simp [ixB]; omega
    | 1 => simp [ixB]; omega
    | 2 => simp [ixB]; omega

theorem slotOf_disjoint (m : Memref sig .scVector .vmem S2x64x128 .f32) {s s' : Fin 2} (h : s ≠ s') :
    Disjoint (slotOf m s).view.set (slotOf m s').view.set := by
  rw [Finset.disjoint_left]
  intro e he he'
  obtain ⟨x, -, hx⟩ := Finset.mem_map.mp he
  rw [slotOf_emb] at hx
  rw [← hx] at he he'
  exact h (Fin.ext (((mem_slotOf _ _ _).mp he).symm.trans ((mem_slotOf _ _ _).mp he')))

theorem slotOf_union (m : Memref sig .scVector .vmem S2x64x128 .f32) {s s' : Fin 2} (h : s ≠ s') :
    m.view.set ⊆ (slotOf m s).view.set ∪ (slotOf m s').view.set := by
  intro e he
  obtain ⟨x, -, rfl⟩ := Finset.mem_map.mp he
  rw [Finset.mem_union, mem_slotOf, mem_slotOf]
  have h0 : (x 0).val < 2 := (x 0).isLt
  have := s.isLt; have := s'.isLt
  have : s.val ≠ s'.val := fun e => h (Fin.ext e)
  omega

theorem listOf_emb (s : Fin 2) (r : Fin 4) (x : S64.Idx) : (listOf s r).view.emb x = lsM.view.emb (ixL s.val r.val (x 0).val) := by
  have h : Shape.reshapeEquiv squeezes_S1x1x64_S64.numel_eq x
      = (fun | 0 => ⟨0, Nat.one_pos⟩ | 1 => ⟨0, Nat.one_pos⟩ | 2 => x 0 : S1x1x64.Idx) := by
    apply Shape.reshapeEquiv_eq_of_rowMajor
    rw [Shape.rowMajor_val_three, Shape.rowMajor_val_one]
    simp
  show lsM.view.emb ((Rect.unit (s := S2x4x64) ![s.val, r.val, 0] S1x1x64.size (inbR s r)).emb (Shape.reshapeEquiv squeezes_S1x1x64_S64.numel_eq x)) = _
  rw [h]
  congr 1
  have h0 := s.isLt; have h1 := r.isLt; have h2 := (x 0).isLt
  simp only [Matrix.cons_val_zero] at h2
  funext a
  apply Fin.ext
  match a with
  | 0 => simp [ixL]; omega
  | 1 => simp [ixL]; omega
  | 2 => simp [ixL]; omega

theorem mem_listOf (s : Fin 2) (r : Fin 4) (i : S2x4x64.Idx) :
    lsM.view.emb i ∈ (listOf s r).view.set ↔ (i 0).val = s.val ∧ (i 1).val = r.val := by
  constructor
  · intro h
    obtain ⟨x, -, hx⟩ := Finset.mem_map.mp h
    rw [listOf_emb] at hx
    rw [← lsM.view.emb.injective hx]
    simp only [ixL]; have := s.isLt; have := r.isLt; omega
  · rintro ⟨h, h'⟩
    have h2 := (i 2).isLt
    refine Finset.mem_map.mpr ⟨(fun | 0 => i 2 : S64.Idx), Finset.mem_univ _, ?_⟩
    rw [listOf_emb]
    congr 1
    funext a
    apply Fin.ext
    have := s.isLt; have := r.isLt
    simp at h2
    match a with
    | 0 => simp [ixL]; omega
    | 1 => simp [ixL]; omega
    | 2 => simp [ixL]; omega

theorem listOf_disjoint (s s' : Fin 2) (r r' : Fin 4) (h : ¬(s = s' ∧ r = r')) :
    Disjoint (listOf s r).view.set (listOf s' r').view.set := by
  rw [Finset.disjoint_left]
  intro e he he'
  obtain ⟨x, -, hx⟩ := Finset.mem_map.mp he
  rw [listOf_emb] at hx
  rw [← hx] at he he'
  have h1 := (mem_listOf _ _ _).mp he
  have h2 := (mem_listOf _ _ _).mp he'
  exact h ⟨Fin.ext (h1.1.symm.trans h2.1), Fin.ext (h1.2.symm.trans h2.2)⟩

/-- The four lists of a slot. -/
def slotLists (s : Fin 2) : Finset lsM.view.ty.Idx := Finset.univ.biUnion fun r : Fin 4 => (listOf s r).view.set

theorem slotLists_disjoint : Disjoint (slotLists 0) (slotLists 1) := by
  unfold slotLists
  rw [Finset.disjoint_biUnion_left]
  intro r _
  rw [Finset.disjoint_biUnion_right]
  intro r' _
  exact listOf_disjoint 0 1 r r' (fun h => absurd h.1 (by decide))

theorem slotLists_union : slotLists 0 ∪ slotLists 1 = (Finset.univ : Finset lsM.view.ty.Idx) := by
  ext e
  simp only [Finset.mem_univ, iff_true]
  have he : e ∈ lsM.view.set := by rw [show lsM.view.set = Finset.univ from View.set_whole _]; exact Finset.mem_univ _
  obtain ⟨x, -, rfl⟩ := Finset.mem_map.mp he
  have h0 : (x 0).val < 2 := (x 0).isLt
  by_cases h : (x 0).val = 0
  · exact Finset.mem_union_left _ (Finset.mem_biUnion.mpr ⟨x 1, Finset.mem_univ _, (mem_listOf 0 (x 1) x).mpr ⟨h, rfl⟩⟩)
  · exact Finset.mem_union_right _ (Finset.mem_biUnion.mpr ⟨x 1, Finset.mem_univ _, (mem_listOf 1 (x 1) x).mpr ⟨show (x 0).val = 1 by omega, rfl⟩⟩)

/-- The sixteen places a group's entries go to are in their list. -/
theorem put_subset (s : Fin 2) (r g : Fin 4) :
    (lsM.access (Rect.unit (s := S2x4x64) ![s.val, r.val, 16 * g.val] S1x1x16.size (inbL s r g))).set ⊆ slotLists s := by
  intro e he
  obtain ⟨x, -, rfl⟩ := Finset.mem_map.mp he
  refine Finset.mem_biUnion.mpr ⟨r, Finset.mem_univ _, ?_⟩
  show lsM.view.emb ((Rect.unit (s := S2x4x64) ![s.val, r.val, 16 * g.val] S1x1x16.size (inbL s r g)).emb x) ∈ _
  have h0 : (x 0).val < 1 := (x 0).isLt
  have h1 : (x 1).val < 1 := (x 1).isLt
  rw [mem_listOf]
  simp
  omega

/-! ## The lists' words -/

/-- Lane zero of sixteen. -/
abbrev lane0 : S16.Idx := fun | 0 => ⟨0, by decide⟩
/-- The word list `r` holds for user `u` and item `w`: the row of table `r`. -/
def rowW (r : Fin 4) (u w : BitVec 32) : BitVec 32 := listRow r (broadcast S16 u) (broadcast S16 w) lane0
/-- The first lane read in that row. -/
def laneW (r : Fin 4) (u w : BitVec 32) : BitVec 32 :=
  match r with
  | 0 => laneP (broadcast S16 u) lane0
  | 1 => laneQ (broadcast S16 w) lane0
  | 2 => laneB (broadcast S16 u) lane0
  | 3 => laneB (broadcast S16 w) lane0

theorem listRow_apply (r : Fin 4) (u w : IVec S16 32) (x : S16.Idx) : listRow r u w x = rowW r (u x) (w x) := by
  match r with
  | 0 => rfl
  | 1 => rfl
  | 2 => rfl
  | 3 => rfl

theorem toNat_sar (u : BitVec 32) (n : ℕ) (hn : n < 32) (hu : u.toNat < 2 ^ 31) :
    (IntOp.shrsi .vector u (BitVec.ofNat 32 n)).toNat = u.toNat / 2 ^ n := by
  have hm : u.msb = false := by rw [BitVec.msb_eq_decide]; simp; omega
  have hn' : (BitVec.ofNat 32 n).toNat = n := by rw [BitVec.toNat_ofNat]; exact Nat.mod_eq_of_lt (by omega)
  unfold IntOp.shrsi
  rw [hn', if_pos hn, BitVec.sshiftRight', hn', BitVec.sshiftRight_eq_of_msb_false hm, BitVec.toNat_ushiftRight, Nat.shiftRight_eq_div_pow]

theorem toNat_sal (u : BitVec 32) (n : ℕ) (hn : n < 32) (hu : u.toNat * 2 ^ n < 2 ^ 32) :
    (IntOp.shli .vector u (BitVec.ofNat 32 n)).toNat = u.toNat * 2 ^ n := by
  have hn' : (BitVec.ofNat 32 n).toNat = n := by rw [BitVec.toNat_ofNat]; exact Nat.mod_eq_of_lt (by omega)
  unfold IntOp.shli
  rw [hn', if_pos hn, BitVec.shiftLeft_eq', hn', BitVec.toNat_shiftLeft, Nat.shiftLeft_eq, Nat.mod_eq_of_lt hu]

theorem toNat_mask (u : BitVec 32) (k n : ℕ) (hn : n < 32) (hk : k = 2 ^ n - 1) :
    (IntOp.andi u (BitVec.ofNat 32 k)).toNat = u.toNat % 2 ^ n := by
  subst hk
  have h : 2 ^ n < 2 ^ 32 := Nat.pow_lt_pow_right (by decide) hn
  unfold IntOp.andi
  rw [BitVec.toNat_and, BitVec.toNat_ofNat, Nat.mod_eq_of_lt (by omega), Nat.and_two_pow_sub_one_eq_mod]

/-- The row of table `r` as a number. -/
def rowN (r : Fin 4) (u w : ℕ) : ℕ :=
  match r with
  | 0 => u / 65536 * 16384 + u % 16384
  | 1 => w / 4096 * 1024 + w % 1024
  | 2 => u / 128
  | 3 => w / 128
/-- The first lane as a number. -/
def laneN (r : Fin 4) (u w : ℕ) : ℕ :=
  match r with
  | 0 => u / 16384 % 4 * 32
  | 1 => w / 1024 % 4 * 32
  | 2 => u % 128
  | 3 => w % 128

theorem rowW_toNat (r : Fin 4) (u w : BitVec 32) (hu : u.toNat < 1000000) (hw : w.toNat < 100000) :
    (rowW r u w).toNat = rowN r u.toNat w.toNat := by
  match r with
  | 0 =>
    show (IntOp.addi (IntOp.shli .vector (IntOp.shrsi .vector u (BitVec.ofNat 32 16)) (BitVec.ofNat 32 14)) (IntOp.andi u (BitVec.ofNat 32 16383))).toNat = u.toNat / 65536 * 16384 + u.toNat % 16384
    unfold IntOp.addi
    rw [BitVec.toNat_add, toNat_sal _ 14 (by decide) (by rw [toNat_sar _ 16 (by decide) (by omega)]; omega), toNat_sar _ 16 (by decide) (by omega), toNat_mask _ 16383 14 (by decide) (by decide)]
    omega
  | 1 =>
    show (IntOp.addi (IntOp.shli .vector (IntOp.shrsi .vector w (BitVec.ofNat 32 12)) (BitVec.ofNat 32 10)) (IntOp.andi w (BitVec.ofNat 32 1023))).toNat = w.toNat / 4096 * 1024 + w.toNat % 1024
    unfold IntOp.addi
    rw [BitVec.toNat_add, toNat_sal _ 10 (by decide) (by rw [toNat_sar _ 12 (by decide) (by omega)]; omega), toNat_sar _ 12 (by decide) (by omega), toNat_mask _ 1023 10 (by decide) (by decide)]
    omega
  | 2 => exact toNat_sar u 7 (by decide) (by omega)
  | 3 => exact toNat_sar w 7 (by decide) (by omega)

theorem laneW_toNat (r : Fin 4) (u w : BitVec 32) (hu : u.toNat < 1000000) (hw : w.toNat < 100000) :
    (laneW r u w).toNat = laneN r u.toNat w.toNat := by
  match r with
  | 0 =>
    show (IntOp.muli (IntOp.andi (IntOp.shrsi .vector u (BitVec.ofNat 32 14)) (BitVec.ofNat 32 3)) (BitVec.ofNat 32 32)).toNat = u.toNat / 16384 % 4 * 32
    unfold IntOp.muli
    rw [BitVec.toNat_mul, toNat_mask _ 3 2 (by decide) (by decide), toNat_sar _ 14 (by decide) (by omega), BitVec.toNat_ofNat]
    omega
  | 1 =>
    show (IntOp.muli (IntOp.andi (IntOp.shrsi .vector w (BitVec.ofNat 32 10)) (BitVec.ofNat 32 3)) (BitVec.ofNat 32 32)).toNat = w.toNat / 1024 % 4 * 32
    unfold IntOp.muli
    rw [BitVec.toNat_mul, toNat_mask _ 3 2 (by decide) (by decide), toNat_sar _ 10 (by decide) (by omega), BitVec.toNat_ofNat]
    omega
  | 2 => exact toNat_mask u 127 7 (by decide) (by decide)
  | 3 => exact toNat_mask w 127 7 (by decide) (by decide)

theorem rowN_lt (r : Fin 4) (u w : ℕ) (hu : u < 1000000) (hw : w < 100000) : rowN r u w < tRows r := by
  match r with
  | 0 => show u / 65536 * 16384 + u % 16384 < 262144; omega
  | 1 => show w / 4096 * 1024 + w % 1024 < 25600; omega
  | 2 => show u / 128 < 7813; omega
  | 3 => show w / 128 < 782; omega

theorem laneN_lt (r : Fin 4) (u w : ℕ) : laneN r u w < 128 := by
  match r with
  | 0 => show u / 16384 % 4 * 32 < 128; omega
  | 1 => show w / 1024 % 4 * 32 < 128; omega
  | 2 => show u % 128 < 128; omega
  | 3 => show w % 128 < 128; omega

theorem laneN_le (r : Fin 4) (hr : r = 0 ∨ r = 1) (u w : ℕ) : laneN r u w ≤ 96 := by
  rcases hr with rfl | rfl
  · show u / 16384 % 4 * 32 ≤ 96; omega
  · show w / 1024 % 4 * 32 ≤ 96; omega

end Cert.KernelIdeal.Lfm
-- ==== Proof.Lists.lean ====
/- A chunk's row lists: sixteen users and items at a time, their rows written into the slot's four lists. -/
module

public import proofs.«01_k».proof.Proof.Geometry

@[expose] public section

noncomputable section

namespace Cert.KernelIdeal.Lfm

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Facts₀ Facts

variable {F : FTy → Type} [FloatOps F] {U : Type} [URA U]

local notation "𝕄" => MT nD τ sig (HIx 1) (Elt F) ℕ U ℕ

/-- The tile at `i` of device `d`. -/
abbrev thr (d : Dev nD) (i : grid2.Coords) : Thread nD τ := V d ((i 0).castLE hcore2) ((i 1).castLE hsub2)

/-- The contents of the tile's two index buffers. -/
abbrev Ents : Type := S512.Idx → BitVec 32

variable (d : Dev nD) (i : grid2.Coords)

/-- The tile's index buffers, held whole. -/
abbrev entsPts (ub ib : Ents) : sProp 𝕄 :=
  iprop((ubM.view.loc (thr d i) ↦{fullShare} (ub : Buf (Elt F) (ubM.view.loc (thr d i))))
    ∗ (ibM.view.loc (thr d i) ↦{fullShare} (ib : Buf (Elt F) (ibM.view.loc (thr d i)))))

/-- The contents of the row lists. -/
abbrev Lists : Type := S2x4x64.Idx → BitVec 32
/-- The four lists of slot `s`, held. -/
abbrev listsPts (s : Fin 2) (fo : Lists) : sProp 𝕄 :=
  lsM.view.loc (thr d i) ↦[slotLists s]{fullShare} (fo : Buf (Elt F) (lsM.view.loc (thr d i)))

/-- What the lists hold once a group's sixteen entries of one list are written. -/
def putW (s : Fin 2) (r g : Fin 4) (v : IVec S16 32) (fo : Lists) : Lists :=
  (lsM.access (Rect.unit (s := S2x4x64) ![s.val, r.val, 16 * g.val] S1x1x16.size (inbL s r g))).write (Elt F) fo
    (shapeCast S1x1x16 v shapeCasts_S16_S1x1x16) Finset.univ

omit [FloatOps F] in
theorem putW_apply (s : Fin 2) (r g : Fin 4) (v : IVec S16 32) (fo : Lists) (r' : Fin 4) (j : ℕ) (hj : j < 64) :
    putW (F := F) s r g v fo (ixL s r' j)
      = if r' = r ∧ j / 16 = g.val then v (fun | 0 => ⟨j % 16, Nat.mod_lt _ (by decide)⟩) else fo (ixL s r' j) := by
  have hs := s.isLt; have hr := r.isLt; have hg := g.isLt; have hr' := r'.isLt
  by_cases h : r' = r ∧ j / 16 = g.val
  · rw [if_pos h]
    have hx : ixL s r' j = (Rect.unit (s := S2x4x64) ![s.val, r.val, 16 * g.val] S1x1x16.size (inbL s r g)).emb
        (fun | 0 => ⟨0, Nat.one_pos⟩ | 1 => ⟨0, Nat.one_pos⟩ | 2 => ⟨j % 16, Nat.mod_lt _ (by decide)⟩ : S1x1x16.Idx) := by
      funext a
      apply Fin.ext
      obtain ⟨rfl, h⟩ := h
      match a with
      | 0 => simp [ixL]
      | 1 => simp [ixL]
      | 2 => simp [ixL]; omega
    have := View.read_slice_write_emb (Val := Elt F) (v := lsM.view) (Rect.unit (s := S2x4x64) ![s.val, r.val, 16 * g.val] S1x1x16.size (inbL s r g))
      fo (shapeCast S1x1x16 v shapeCasts_S16_S1x1x16) (Finset.mem_univ
        (fun | 0 => ⟨0, Nat.one_pos⟩ | 1 => ⟨0, Nat.one_pos⟩ | 2 => ⟨j % 16, Nat.mod_lt _ (by decide)⟩ : S1x1x16.Idx))
    rw [hx]
    refine Eq.trans this ?_
    show v (Shape.reshapeEquiv _ _) = _
    congr 1
    apply Shape.reshapeEquiv_eq_of_rowMajor
    rw [Shape.rowMajor_val_three, Shape.rowMajor_val_one]
    simp
  · rw [if_neg h]
    have := View.read_slice_write_of_not_mem (Val := Elt F) (v := lsM.view) (Rect.unit (s := S2x4x64) ![s.val, r.val, 16 * g.val] S1x1x16.size (inbL s r g))
      fo (shapeCast S1x1x16 v shapeCasts_S16_S1x1x16) Finset.univ (y := ixL s r' j) (by
        intro hm
        obtain ⟨x, -, hx⟩ := Finset.mem_map.mp hm
        apply h
        have h1 := congrArg Fin.val (congrFun hx 1)
        have h2 := congrArg Fin.val (congrFun hx 2)
        have hx1 : (x 1).val < 1 := (x 1).isLt
        have hx2 : (x 2).val < 16 := (x 2).isLt
        simp [ixL] at h1 h2
        exact ⟨Fin.ext (by omega), by omega⟩)
    exact this

variable {α : Type} (𝒱 : Variants) (bd : Option 𝒱.V)

/-- Sixteen entries written into one list. -/
theorem wp_putList {Q : α → sProp 𝕄} (s : Fin 2) (r g : Fin 4) (v : IVec S16 32) (fo : Lists) (k : PUnit → TileProg (F := F) i α) :
    listsPts (F := F) (U := U) d i s fo
      ⊢ iprop((listsPts (F := F) (U := U) d i s (putW (F := F) s r g v fo) -∗ wp frame (wpE (defs₀ (F := F)) 𝒱 (thr d i) bd) Set.univ (k ⟨⟩) Q)
          -∗ wp frame (wpE (defs₀ (F := F)) 𝒱 (thr d i) bd) Set.univ (putList i s r g v >>= k) Q) := by
  unfold putList
  simp only [bind_assoc, Prog.bind_lift]
  iintro H Hk
  iapply (Cert.GatherRule.wp_loadAt 𝒱 (thr d i) bd (m := lsM) (put_subset s r g)) $$ H
  iintro H
  iapply (Cert.GatherRule.wp_storeAt 𝒱 (thr d i) bd (m := lsM) (put_subset s r g)) $$ H
  iintro H
  iapply Hk
  iexact H

/-- What the lists hold once group `g` of chunk `c` is written. -/
def groupW (c : Fin 8) (s : Fin 2) (g : Fin 4) (u w : IVec S16 32) (fo : Lists) : Lists :=
  putW (F := F) s 3 g (listRow 3 u w) (putW (F := F) s 2 g (listRow 2 u w) (putW (F := F) s 1 g (listRow 1 u w) (putW (F := F) s 0 g (listRow 0 u w) fo)))

/-- Sixteen consecutive entries, as a load reads them. -/
abbrev sixteen (b : ℕ) (f : Ents) : IVec S16 32 := fun x => f (ixE (b + (x 0).val))

omit [FloatOps F] in
theorem groupW_apply (c : Fin 8) (s : Fin 2) (g : Fin 4) (ub ib : Ents) (fo : Lists) (r : Fin 4) (j : ℕ) (hj : j < 64) :
    groupW (F := F) c s g (sixteen (64 * c.val + 16 * g.val) ub) (sixteen (64 * c.val + 16 * g.val) ib) fo (ixL s r j)
      = if j / 16 = g.val then rowW r (ub (ixE (64 * c.val + j))) (ib (ixE (64 * c.val + j))) else fo (ixL s r j) := by
  unfold groupW
  rw [putW_apply _ _ _ _ _ _ _ hj, putW_apply _ _ _ _ _ _ _ hj, putW_apply _ _ _ _ _ _ _ hj, putW_apply _ _ _ _ _ _ _ hj]
  by_cases h : j / 16 = g.val
  · have hw : ∀ r, listRow r (sixteen (64 * c.val + 16 * g.val) ub) (sixteen (64 * c.val + 16 * g.val) ib) (fun | 0 => ⟨j % 16, Nat.mod_lt _ (by decide)⟩)
        = rowW r (ub (ixE (64 * c.val + j))) (ib (ixE (64 * c.val + j))) := fun r => by
      rw [listRow_apply]
      have : 64 * c.val + 16 * g.val + j % 16 = 64 * c.val + j := by omega
      show rowW r (ub (ixE (64 * c.val + 16 * g.val + j % 16))) (ib (ixE (64 * c.val + 16 * g.val + j % 16))) = _
      rw [this]
    simp only [h, and_true, if_true]
    rw [hw, hw, hw, hw]
    match r with
    | 0 => rfl
    | 1 => rfl
    | 2 => rfl
    | 3 => rfl
  · simp [h]

omit [FloatOps F] in
/-- What a load of sixteen entries reads. -/
theorem load_entries (off : Fin 1 → ℕ) (b : ℕ) (hoff : off 0 = b) (hb : b + 16 ≤ 512) (inb : ∀ a, off a + S16.size a ≤ S512.size a) (f : Ents) :
    ubM.view.readAt (Elt F) (Rect.unit (s := S512) off S16.size inb).toLoadRect f = sixteen b f := by
  funext x
  show f _ = f _
  congr 1
  funext a
  apply Fin.ext
  have hx : (x 0).val < 16 := (x 0).isLt
  match a with
  | 0 =>
    show ((Rect.unit (s := S512) off S16.size inb).emb x 0).val = (b + (x 0).val) % 512
    simp [hoff]
    omega

/-- Group `g` of chunk `c` put in the slot's lists. -/
theorem wp_listGroup {Q : α → sProp 𝕄} (c : Fin 8) (s : Fin 2) (g : Fin 4) (ub ib : Ents) (fo : Lists) (k : PUnit → TileProg (F := F) i α) :
    iprop(entsPts (F := F) (U := U) d i ub ib ∗ listsPts (F := F) (U := U) d i s fo)
      ⊢ iprop((iprop(entsPts (F := F) (U := U) d i ub ib ∗ listsPts (F := F) (U := U) d i s
              (groupW (F := F) c s g (sixteen (64 * c.val + 16 * g.val) ub) (sixteen (64 * c.val + 16 * g.val) ib) fo))
            -∗ wp frame (wpE (defs₀ (F := F)) 𝒱 (thr d i) bd) Set.univ (k ⟨⟩) Q)
          -∗ wp frame (wpE (defs₀ (F := F)) 𝒱 (thr d i) bd) Set.univ (listGroup i c s g >>= k) Q) := by
  have hb : 64 * c.val + 16 * g.val + 16 ≤ 512 := by have := c.isLt; have := g.isLt; omega
  unfold listGroup
  simp only [bind_assoc, Prog.bind_lift]
  iintro ⟨⟨Hu, Hi⟩, Hl⟩ Hk
  iapply (Cert.GatherRule.wp_loadAll 𝒱 (thr d i) bd (m := ubM)) $$ Hu
  iintro Hu
  iapply (Cert.GatherRule.wp_loadAll 𝒱 (thr d i) bd (m := ibM)) $$ Hi
  iintro Hi
  iapply (wp_putList (F := F) (U := U) d i 𝒱 bd s 0 g _ fo) $$ Hl
  iintro Hl
  iapply (wp_putList (F := F) (U := U) d i 𝒱 bd s 1 g _ _) $$ Hl
  iintro Hl
  iapply (wp_putList (F := F) (U := U) d i 𝒱 bd s 2 g _ _) $$ Hl
  iintro Hl
  iapply (wp_putList (F := F) (U := U) d i 𝒱 bd s 3 g _ _) $$ Hl
  iintro Hl
  iapply Hk
  isplitl [Hu Hi]
  · isplitl [Hu]; · iexact Hu
    iexact Hi
  have h1 := load_entries (F := F) ![64 * c.val + 16 * g.val] (64 * c.val + 16 * g.val) rfl hb (inbE c g) ub
  have h2 : ibM.view.readAt (Elt F) (Rect.unit (s := S512) ![64 * c.val + 16 * g.val] S16.size (inbE c g)).toLoadRect ib = sixteen (64 * c.val + 16 * g.val) ib :=
    load_entries (F := F) ![64 * c.val + 16 * g.val] (64 * c.val + 16 * g.val) rfl hb (inbE c g) ib
  rw [← h1, ← h2]
  iexact Hl

end Cert.KernelIdeal.Lfm
-- ==== Proof.Fire.lean ====
/- One chunk on one slot: its gathers in flight as a batch on the slot's semaphore, and what the slot's buffers hold once
   they are awaited. -/
module

public import proofs.«01_k».proof.Proof.Lists

@[expose] public section

noncomputable section

namespace Cert.KernelIdeal.Lfm

open Idealize.ShloMosaic
open Idealize.ShloMosaic.SparseCore (S V T)
open Idealize.ShloMosaic.SparseCore.Cfg (HIx)
open Idealize.ShloMosaic.Transfers hiding landed
open Idealize.SL Idealize.SL.RA Idealize.SL.BI
open scoped Idealize.SL.BI
open Idealize.SL.BI.BIBase Idealize.SL.BI.Laws Idealize.SL.ProofMode Idealize.SL.Sem
open Cert.GatherRule
open Facts₀ Facts

variable {F : FTy → Type} [FloatOps F] {U : Type} [URA U]

local notation "𝕄" => MT nD τ sig (HIx 1) (Elt F) ℕ U ℕ

/-- The contents of the four tables. -/
abbrev Tabs (F : FTy → Type) : Type := (r : Fin 4) → (tab r).view.ty.Contents (Elt F)
/-- The contents of the four row buffers. -/
abbrev Bufs (F : FTy → Type) : Type := (r : Fin 4) → (buf r).view.ty.Contents (Elt F)

variable (d : Dev nD) (i : grid2.Coords)

/-- A share of the four tables. -/
abbrev tabsPts (q : PosShare TreeShare) (T : Tabs F) : sProp 𝕄 :=
  bigSep Finset.univ fun r : Fin 4 => (tab r).view.loc (thr d i) ↦[(tab r).view.set]{q} (T r : Buf (Elt F) ((tab r).view.loc (thr d i)))
/-- The slot `s` of the four row buffers. -/
abbrev rowsPts (s : Fin 2) (B : Bufs F) : sProp 𝕄 :=
  bigSep Finset.univ fun r : Fin 4 => (slotOf (buf r) s).view.loc (thr d i) ↦[(slotOf (buf r) s).view.set]{fullShare} (B r : Buf (Elt F) ((slotOf (buf r) s).view.loc (thr d i)))

/-- The slot's lists are chunk `c`'s. -/
def ListsOK (c : Fin 8) (s : Fin 2) (ub ib : Ents) (fo : Lists) : Prop :=
  ∀ (r : Fin 4) (j : ℕ), j < 64 → fo (ixL s r j) = rowW r (ub (ixE (64 * c.val + j))) (ib (ixE (64 * c.val + j)))
/-- The slot's rows are chunk `c`'s. -/
def RowsOK (c : Fin 8) (s : Fin 2) (ub ib : Ents) (T : Tabs F) (B : Bufs F) : Prop :=
  ∀ (r : Fin 4) (j l : ℕ), j < 64 → l < 128 → (buf r).view.read (Elt F) (B r) (ixB s j l)
    = (tab r).view.read (Elt F) (T r) (ixT r (rowW r (ub (ixE (64 * c.val + j))) (ib (ixE (64 * c.val + j)))).toNat l)

/-! ## What a gather leaves -/

theorem list_read (s : Fin 2) (r : Fin 4) (fo : Lists) (x : S64.Idx) :
    (listOf s r).view.read (Elt F) fo x = fo (ixL s r (x 0).val) := by
  show fo ((listOf s r).view.emb x) = _
  rw [listOf_emb]; rfl

theorem slot_read (m : Memref sig .scVector .vmem S2x64x128 .f32) (s : Fin 2) (f : m.view.ty.Contents (Elt F)) (x : S64x128.Idx) :
    (slotOf m s).view.read (Elt F) f x = m.view.read (Elt F) f (ixB s.val (x 0).val (x 1).val) := by
  rw [View.read_apply, View.read_apply]
  congr 1
  exact congrArg f (slotOf_emb m s x)

/-- The indices in range: users below a million, items below a hundred thousand. -/
def EntsOK (ub ib : Ents) : Prop := ∀ y, (ub y).toNat < 1000000 ∧ (ib y).toNat < 100000

theorem lists_in (c : Fin 8) (s : Fin 2) (r : Fin 4) {ub ib : Ents} {fo : Lists} (hE : EntsOK ub ib) (hL : ListsOK c s ub ib fo) (x : S64.Idx) :
    ((listOf s r).view.read (Elt F) fo x).toNat < (tShape r).size (tGath r).axis := by
  rw [list_read, hL r _ (x 0).isLt, rowW_toNat r _ _ (hE _).1 (hE _).2]
  exact rowN_lt r _ _ (hE _).1 (hE _).2

theorem numel64 (r : Fin 4) : S64.numel = S64x128.size (tGath r).axis' := rfl

theorem landed_read (s : Fin 2) (r : Fin 4) (T : Tabs F) (B : Bufs F) (fo : Lists)
    (hin : ∀ x, ((listOf s r).view.read (Elt F) fo x).toNat < (tShape r).size (tGath r).axis) (x : S64x128.Idx) :
    (slotOf (buf r) s).view.read (Elt F) (landed (thr d i) (tab r) (slotOf (buf r) s) (tGath r) (listOf s r) (numel64 r) (T r) (B r) fo hin) x
      = (tab r).view.read (Elt F) (T r) (ixT r (fo (ixL s r (x 0).val)).toNat (x 1).val) := by
  unfold landed
  rw [View.read_write_of_mem _ _ (Finset.mem_univ x)]
  unfold SparseCore.gatherPayload
  congr 1
  have h0 := hin (fun | 0 => x 0)
  rw [list_read] at h0
  have hk : (S64.rowMajor.symm ((x (tGath r).axis').cast (numel64 r).symm) 0).val = (x 0).val := by
    have := Shape.rowMajor_val_one (S64.rowMajor.symm ((x (tGath r).axis').cast (numel64 r).symm))
    rw [Equiv.apply_symm_apply] at this
    exact this.symm
  funext a
  apply Fin.ext
  match a with
  | 0 =>
    refine (congrArg Fin.val (Shape.Gathers.idx_axis (tGath r) _ x)).trans ?_
    show ((listOf s r).view.read (Elt F) fo _).toNat = (fo (ixL s r (x 0).val)).toNat % tRows r
    rw [list_read, hk]
    exact (Nat.mod_eq_of_lt h0).symm
  | 1 =>
    refine (Shape.Gathers.idx_of_ne (tGath r) _ x 1 (by show (1 : ℕ) ≠ 0; decide)).trans ?_
    exact (Nat.mod_eq_of_lt (x 1).isLt).symm

/-! ## The batch -/

theorem pos64 : 0 < 64 := by decide

/-- Row zero of a stream into a slot: what each row credits the semaphore. -/
abbrev rowCr : ℕ := ((slotOf prM 0).slice (S64x128.rowRect (tGath 0).axis' ⟨0, by decide⟩) (S64x128.stride_rowRect (tGath 0).axis' ⟨0, by decide⟩)).view.dmaCredit
theorem rowCr_pos : 0 < rowCr := View.dmaCredit_pos _ (by decide)
theorem row_credit (s : Fin 2) (r : Fin 4) (j : Fin (S64x128.size (tGath r).axis')) :
    ((slotOf (buf r) s).slice (S64x128.rowRect (tGath r).axis' j) (S64x128.stride_rowRect (tGath r).axis' j)).view.dmaCredit = rowCr := by
  match r with
  | 0 => rfl
  | 1 => rfl
  | 2 => rfl
  | 3 => rfl
theorem slot_credit : ∀ (s : Fin 2) (r : Fin 4), (slotOf (buf r) s).view.dmaCredit = 64 * rowCr := by decide

variable [CountersIn U] (embW : UEmb (WmRA nD τ sig (Elt F)) U)

/-- What row `j` of stream `r` delivers. -/
abbrev streamRow (s : Fin 2) (q : PosShare TreeShare) (T : Tabs F) (B : Bufs F) (fo : Lists)
    (hin : ∀ r x, ((listOf s r).view.read (Elt F) fo x).toNat < (tShape r).size (tGath r).axis) (r : Fin 4) (j : Fin 64) : sProp 𝕄 :=
  rowDelivered (Ix := HIx 1) (Name := ℕ) (Lvl := ℕ) embW (thr d i) (tab r) (slotOf (buf r) s) (tGath r) (listOf s r) (numel64 r) pos64 q fullShare
    (T r) (B r) (landed (thr d i) (tab r) (slotOf (buf r) s) (tGath r) (listOf s r) (numel64 r) (T r) (B r) fo (hin r)) fo j

/-- What the batch's `t`-th transfer delivers: row `t % 64` of stream `t / 64`. -/
def delivers (s : Fin 2) (q : PosShare TreeShare) (T : Tabs F) (B : Bufs F) (fo : Lists)
    (hin : ∀ r x, ((listOf s r).view.read (Elt F) fo x).toNat < (tShape r).size (tGath r).axis) (t : Fin 256) : sProp 𝕄 :=
  streamRow d i embW s q T B fo hin ⟨t.val / 64, by omega⟩ ⟨t.val % 64, Nat.mod_lt _ (by decide)⟩

instance delivers_storable (s : Fin 2) (q : PosShare TreeShare) (T : Tabs F) (B : Bufs F) (fo : Lists)
    (hin : ∀ r x, ((listOf s r).view.read (Elt F) fo x).toNat < (tShape r).size (tGath r).axis) (t : Fin 256) :
    Storable (upEmb : UEmb _ 𝕄) (delivers d i embW s q T B fo hin t) := by
  unfold delivers; exact rowDelivered_storable (Ix := HIx 1) (Name := ℕ) (Lvl := ℕ) embW _ _ _ _ _ _ _ _ _ _ _ _ _ _

theorem delivers_eq (s : Fin 2) (q : PosShare TreeShare) (T : Tabs F) (B : Bufs F) (fo : Lists)
    (hin : ∀ r x, ((listOf s r).view.read (Elt F) fo x).toNat < (tShape r).size (tGath r).axis) (r : Fin 4) (j : Fin 64) (h : 64 * r.val + j.val < 256) :
    delivers d i embW s q T B fo hin ⟨64 * r.val + j.val, h⟩ = streamRow d i embW s q T B fo hin r j := by
  have h1 : (⟨(64 * r.val + j.val) / 64, by omega⟩ : Fin 4) = r := Fin.ext (by show (64 * r.val + j.val) / 64 = r.val; have := j.isLt; omega)
  have h2 : (⟨(64 * r.val + j.val) % 64, Nat.mod_lt _ (by decide)⟩ : Fin 64) = j := Fin.ext (by show (64 * r.val + j.val) % 64 = j.val; have := j.isLt; omega)
  unfold delivers
  show streamRow d i embW s q T B fo hin ⟨(64 * r.val + j.val) / 64, _⟩ ⟨(64 * r.val + j.val) % 64, _⟩ = _
  rw [h1, h2]

/-- The half of a slot of buffer `r` kept while its gather is in flight. -/
abbrev keptHalf (s : Fin 2) (T : Tabs F) (B : Bufs F) (fo : Lists)
    (hin : ∀ r x, ((listOf s r).view.read (Elt F) fo x).toNat < (tShape r).size (tGath r).axis) (r : Fin 4) : sProp 𝕄 :=
  willBeTo embW ((slotOf (buf r) s).view.loc (thr d i)) (slotOf (buf r) s).view.set fullShare.left (B r)
    (fun e => some (landed (thr d i) (tab r) (slotOf (buf r) s) (tGath r) (listOf s r) (numel64 r) (T r) (B r) fo (hin r) e)) ∅

variable {α : Type} (𝒱 : Variants) (bd : Option 𝒱.V)

/-- Stream `r` issued. -/
theorem wp_stream {Q : α → sProp 𝕄} {ιwm : ℕ} (s : Fin 2) (q : PosShare TreeShare) (T : Tabs F) (B : Bufs F) (fo : Lists)
    (hin : ∀ r x, ((listOf s r).view.read (Elt F) fo x).toNat < (tShape r).size (tGath r).axis) (r : Fin 4) (k : PUnit → TileProg (F := F) i α)
    {hsrc : (tab r).view.WordExact} {hr : (tShape r).StreamRows 0} :
    iprop(wmInv embW ιwm ∗ Batch countersEmb (thr d i) (.dma (slotSem s)) (default : HIx 1) rowCr (delivers d i embW s q T B fo hin) (64 * r.val) 0
        ∗ ((tab r).view.loc (thr d i) ↦[(tab r).view.set]{q} (T r : Buf (Elt F) ((tab r).view.loc (thr d i))))
        ∗ ((slotOf (buf r) s).view.loc (thr d i) ↦[(slotOf (buf r) s).view.set]{fullShare} (B r : Buf (Elt F) ((slotOf (buf r) s).view.loc (thr d i))))
        ∗ ((listOf s r).view.loc (thr d i) ↦[(listOf s r).view.set]{fullShare} (fo : Buf (Elt F) ((listOf s r).view.loc (thr d i)))))
      ⊢ iprop((iprop(Batch countersEmb (thr d i) (.dma (slotSem s)) (default : HIx 1) rowCr (delivers d i embW s q T B fo hin) (64 * r.val + 64) 0
              ∗ keptHalf d i embW s T B fo hin r)
            -∗ wp frame (wpE (defs₀ (F := F)) 𝒱 (thr d i) bd) Set.univ (k ⟨⟩) Q)
          -∗ wp frame (wpE (defs₀ (F := F)) 𝒱 (thr d i) bd) Set.univ
            (SparseCore.enqueueIndirectGather rfl (tab r) (slotOf (buf r) s) (tGath r) (listOf s r) (numel64 r) (slotSem s) hsrc rfl (Or.inl rfl) hr >>= k) Q) :=
  wp_gather countersEmb embW 𝒱 (thr d i) bd (default : HIx 1) rowCr (row_credit s r) pos64 (hin r) (64 * r.val) (by have := r.isLt; show _ + 64 ≤ 256; omega)
    (fun j => Entails.of_eq (delivers_eq d i embW s q T B fo hin r j _).symm)

theorem bigSep_four {M : Type} [URA M] (Φ : Fin 4 → sProp M) : bigSep Finset.univ Φ = iprop(Φ 0 ∗ Φ 1 ∗ Φ 2 ∗ Φ 3) := by
  rw [show (Finset.univ : Finset (Fin 4)) = insert 0 (insert 1 (insert 2 {3})) by decide, bigSep_insert (by decide), bigSep_insert (by decide),
    bigSep_insert (by decide), bigSep_singleton]
  rfl

/-- Chunk `c`'s gathers in flight on slot `s`. -/
def flying (c : Fin 8) (s : Fin 2) (q : PosShare TreeShare) (T : Tabs F) (ub ib : Ents) : sProp 𝕄 :=
  iprop(∃ (B : Bufs F) (fo : Lists) (hin : ∀ r x, ((listOf s r).view.read (Elt F) fo x).toNat < (tShape r).size (tGath r).axis),
    ⌜ListsOK c s ub ib fo⌝ ∗ Batch countersEmb (thr d i) (.dma (slotSem s)) (default : HIx 1) rowCr (delivers d i embW s q T B fo hin) 256 0
      ∗ bigSep Finset.univ (keptHalf d i embW s T B fo hin))

/-- The lists of the slot, list by list. -/
theorem lists_split (s : Fin 2) (fo : Lists) :
    (listsPts d i s fo : sProp 𝕄) = bigSep Finset.univ fun r : Fin 4 =>
      (listOf s r).view.loc (thr d i) ↦[(listOf s r).view.set]{fullShare} (fo : Buf (Elt F) ((listOf s r).view.loc (thr d i))) :=
  pointsTo_biUnion (ℓ := lsM.view.loc (thr d i)) Finset.univ (fun r : Fin 4 => (listOf s r).view.set)
    (fun r _ r' _ h => listOf_disjoint s s r r' fun hh => h hh.2)

/-- A chunk started: its lists written, its gathers issued. -/
theorem wp_fire {Q : α → sProp 𝕄} {ιwm : ℕ} (c : Fin 8) (s : Fin 2) (q : PosShare TreeShare) (T : Tabs F) (B : Bufs F) (ub ib : Ents) (fo : Lists)
    (hE : EntsOK ub ib) (k : PUnit → TileProg (F := F) i α) :
    iprop(wmInv embW ιwm ∗ entsPts d i ub ib ∗ listsPts d i s fo ∗ rowsPts d i s B ∗ tabsPts d i q T ∗ semVal (thr d i, SemLoc.dma (slotSem s)) 0)
      ⊢ iprop((iprop(entsPts d i ub ib ∗ flying d i embW c s q T ub ib)
            -∗ wp frame (wpE (defs₀ (F := F)) 𝒱 (thr d i) bd) Set.univ (k ⟨⟩) Q)
          -∗ wp frame (wpE (defs₀ (F := F)) 𝒱 (thr d i) bd) Set.univ (fire i c s >>= k) Q) := by
  unfold fire gathers
  simp only [bind_assoc]
  iintro ⟨#Hwm, He, Hl, Hr, Ht, Hs⟩ Hk
  iapply (wp_listGroup (F := F) (U := U) d i 𝒱 bd c s 0 ub ib _) $$ [He Hl]
  · isplitl [He] <;> iassumption
  iintro ⟨He, Hl⟩
  iapply (wp_listGroup (F := F) (U := U) d i 𝒱 bd c s 1 ub ib _) $$ [He Hl]
  · isplitl [He] <;> iassumption
  iintro ⟨He, Hl⟩
  iapply (wp_listGroup (F := F) (U := U) d i 𝒱 bd c s 2 ub ib _) $$ [He Hl]
  · isplitl [He] <;> iassumption
  iintro ⟨He, Hl⟩
  iapply (wp_listGroup (F := F) (U := U) d i 𝒱 bd c s 3 ub ib _) $$ [He Hl]
  · isplitl [He] <;> iassumption
  iintro ⟨He, Hl⟩
  obtain ⟨fo', hfo'⟩ : ∃ fo', fo' = groupW (F := F) c s 3 (sixteen (64 * c.val + 16 * (3 : Fin 4).val) ub) (sixteen (64 * c.val + 16 * (3 : Fin 4).val) ib)
      (groupW (F := F) c s 2 (sixteen (64 * c.val + 16 * (2 : Fin 4).val) ub) (sixteen (64 * c.val + 16 * (2 : Fin 4).val) ib)
      (groupW (F := F) c s 1 (sixteen (64 * c.val + 16 * (1 : Fin 4).val) ub) (sixteen (64 * c.val + 16 * (1 : Fin 4).val) ib)
      (groupW (F := F) c s 0 (sixteen (64 * c.val + 16 * (0 : Fin 4).val) ub) (sixteen (64 * c.val + 16 * (0 : Fin 4).val) ib) fo))) := ⟨_, rfl⟩
  rw [← hfo']
  have hL : ListsOK c s ub ib fo' := by
    intro r j hj
    rw [hfo', groupW_apply _ _ _ _ _ _ _ _ hj, groupW_apply _ _ _ _ _ _ _ _ hj, groupW_apply _ _ _ _ _ _ _ _ hj, groupW_apply _ _ _ _ _ _ _ _ hj]
    have : j / 16 = 0 ∨ j / 16 = 1 ∨ j / 16 = 2 ∨ j / 16 = 3 := by omega
    rcases this with h | h | h | h <;> simp [h]
  have hin : ∀ r x, ((listOf s r).view.read (Elt F) fo' x).toNat < (tShape r).size (tGath r).axis := fun r x => lists_in c s r hE hL x
  imod (batch_alloc' countersEmb (thr d i) (default : HIx 1) rowCr (delivers d i embW s q T B fo' hin)) $$ Hs with HB
  ihave Hl := (Entails.of_eq ((lists_split d i s fo').trans (bigSep_four _))) $$ Hl
  ihave Hr := (Entails.of_eq (bigSep_four _)) $$ Hr
  ihave Ht := (Entails.of_eq (bigSep_four _)) $$ Ht
  icases Hl with ⟨Hl0, Hl1, Hl2, Hl3⟩
  icases Hr with ⟨Hr0, Hr1, Hr2, Hr3⟩
  icases Ht with ⟨Ht0, Ht1, Ht2, Ht3⟩
  iapply (wp_stream d i embW 𝒱 bd s q T B fo' hin 0) $$ [HB Hl0 Hr0 Ht0]
  · isplitr; · iexact Hwm
    isplitl [HB]; · iexact HB
    isplitl [Ht0]; · iexact Ht0
    isplitl [Hr0]; · iexact Hr0
    iexact Hl0
  iintro ⟨HB, Hk0⟩
  iapply (wp_stream d i embW 𝒱 bd s q T B fo' hin 1) $$ [HB Hl1 Hr1 Ht1]
  · isplitr; · iexact Hwm
    isplitl [HB]; · iexact HB
    isplitl [Ht1]; · iexact Ht1
    isplitl [Hr1]; · iexact Hr1
    iexact Hl1
  iintro ⟨HB, Hk1⟩
  iapply (wp_stream d i embW 𝒱 bd s q T B fo' hin 2) $$ [HB Hl2 Hr2 Ht2]
  · isplitr; · iexact Hwm
    isplitl [HB]; · iexact HB
    isplitl [Ht2]; · iexact Ht2
    isplitl [Hr2]; · iexact Hr2
    iexact Hl2
  iintro ⟨HB, Hk2⟩
  iapply (wp_stream d i embW 𝒱 bd s q T B fo' hin 3) $$ [HB Hl3 Hr3 Ht3]
  · isplitr; · iexact Hwm
    isplitl [HB]; · iexact HB
    isplitl [Ht3]; · iexact Ht3
    isplitl [Hr3]; · iexact Hr3
    iexact Hl3
  iintro ⟨HB, Hk3⟩
  iapply Hk
  isplitl [He]; · iexact He
  unfold flying
  iexists B, fo', hin
  isplitr; · ipureintro; exact hL
  isplitl [HB]; · iexact HB
  iapply (Entails.of_eq (bigSep_four (keptHalf d i embW s T B fo' hin)).symm)
  isplitl [Hk0]; · iexact Hk0
  isplitl [Hk1]; · iexact Hk1
  isplitl [Hk2]; · iexact Hk2
  iexact Hk3

/-! ## Awaited -/

/-- The waits recorded so far: those of before and waits of this thread's own semaphores. -/
abbrev owesUpTo (c : Thread nD τ) (O : CellTallies nD τ sig (HIx 1)) (W : Waits sig (HIx 1)) : sProp 𝕄 :=
  iprop(∃ W', ⌜∀ p ∈ W', p ∈ W ∨ p.2 = none⌝ ∗ owes c O W')

/-- All the deliveries, stream by stream. -/
theorem delivers_streams (s : Fin 2) (q : PosShare TreeShare) (T : Tabs F) (B : Bufs F) (fo : Lists)
    (hin : ∀ r x, ((listOf s r).view.read (Elt F) fo x).toNat < (tShape r).size (tGath r).axis) :
    bigSep Finset.univ (delivers d i embW s q T B fo hin)
      = bigSep Finset.univ fun r : Fin 4 => bigSep Finset.univ fun j : Fin 64 => streamRow d i embW s q T B fo hin r j := by
  rw [bigSep_univ_equiv (finProdFinEquiv : Fin 4 × Fin 64 ≃ Fin 256), bigSep_univ_prod]
  congr 1; funext r
  congr 1; funext j
  rw [← delivers_eq d i embW s q T B fo hin r j (by omega)]
  congr 1
  apply Fin.ext
  show j.val + 64 * r.val = 64 * r.val + j.val
  omega

/-- What the slot's buffer `r` holds once its gather is in. -/
def arrived (s : Fin 2) (T : Tabs F) (B : Bufs F) (fo : Lists)
    (hin : ∀ r x, ((listOf s r).view.read (Elt F) fo x).toNat < (tShape r).size (tGath r).axis) : Bufs F := fun r =>
  ((∅ ∪ (slotOf (buf r) s).view.set).piecewise (landed (thr d i) (tab r) (slotOf (buf r) s) (tGath r) (listOf s r) (numel64 r) (T r) (B r) fo (hin r)) (B r) : Buf (Elt F) ((slotOf (buf r) s).view.loc (thr d i)))

theorem arrived_ok (c : Fin 8) (s : Fin 2) (T : Tabs F) (B : Bufs F) (fo : Lists) (ub ib : Ents)
    (hin : ∀ r x, ((listOf s r).view.read (Elt F) fo x).toNat < (tShape r).size (tGath r).axis) (hL : ListsOK c s ub ib fo) :
    RowsOK c s ub ib T (arrived d i s T B fo hin) := by
  intro r j l hj hl
  rw [← hL r j hj]
  have h1 := landed_read d i s r T B fo (hin r) (fun | 0 => ⟨j, hj⟩ | 1 => ⟨l, hl⟩ : S64x128.Idx)
  refine Eq.trans ?_ h1
  refine (slot_read (F := F) (buf r) s (arrived d i s T B fo hin r) (fun | 0 => ⟨j, hj⟩ | 1 => ⟨l, hl⟩ : S64x128.Idx)).symm.trans ?_
  rw [View.read_apply, View.read_apply]
  congr 1
  exact Finset.piecewise_eq_of_mem _ _ _ (Finset.mem_union_right _ (Finset.mem_map_of_mem _ (Finset.mem_univ _)))

theorem stream_rows (s : Fin 2) (q : PosShare TreeShare) (T : Tabs F) (B : Bufs F) (fo : Lists)
    (hin : ∀ r x, ((listOf s r).view.read (Elt F) fo x).toNat < (tShape r).size (tGath r).axis) (r : Fin 4) :
    (bigSep Finset.univ fun j : Fin 64 => streamRow d i embW s q T B fo hin r j)
      ⊢ iprop(willBeTo embW ((slotOf (buf r) s).view.loc (thr d i)) (slotOf (buf r) s).view.set fullShare.right (B r)
            (fun e => some (landed (thr d i) (tab r) (slotOf (buf r) s) (tGath r) (listOf s r) (numel64 r) (T r) (B r) fo (hin r) e)) (slotOf (buf r) s).view.set
        ∗ ((listOf s r).view.loc (thr d i) ↦[(listOf s r).view.set]{fullShare} (fo : Buf (Elt F) ((listOf s r).view.loc (thr d i))))
        ∗ ((tab r).view.loc (thr d i) ↦[(tab r).view.set]{q} (T r : Buf (Elt F) ((tab r).view.loc (thr d i))))) :=
  rows_delivered (Ix := HIx 1) (Name := ℕ) (Lvl := ℕ) embW (thr d i) (tab r) (slotOf (buf r) s) (tGath r) (listOf s r) (numel64 r) pos64 q fullShare
    (T r) (B r) (landed (thr d i) (tab r) (slotOf (buf r) s) (tGath r) (listOf s r) (numel64 r) (T r) (B r) fo (hin r)) fo

/-- Half a slot kept and the rows delivered: the slot outright, with what arrived. -/
theorem stream_back {ιwm : ℕ} (s : Fin 2) (q : PosShare TreeShare) (T : Tabs F) (B : Bufs F) (fo : Lists)
    (hin : ∀ r x, ((listOf s r).view.read (Elt F) fo x).toNat < (tShape r).size (tGath r).axis) (r : Fin 4) :
    iprop(wmInv embW ιwm ∗ keptHalf d i embW s T B fo hin r ∗ bigSep Finset.univ fun j : Fin 64 => streamRow d i embW s q T B fo hin r j)
      ⊢ (|={Set.univ}=> iprop(((slotOf (buf r) s).view.loc (thr d i) ↦[(slotOf (buf r) s).view.set]{fullShare} (arrived d i s T B fo hin r : Buf (Elt F) ((slotOf (buf r) s).view.loc (thr d i))))
        ∗ ((listOf s r).view.loc (thr d i) ↦[(listOf s r).view.set]{fullShare} (fo : Buf (Elt F) ((listOf s r).view.loc (thr d i))))
        ∗ ((tab r).view.loc (thr d i) ↦[(tab r).view.set]{q} (T r : Buf (Elt F) ((tab r).view.loc (thr d i))))) : sProp 𝕄) := by
  have hrd := stream_rows d i embW s q T B fo hin r
  iintro ⟨#Hwm, Hk, Hd⟩
  ihave Hd := hrd $$ Hd
  icases Hd with ⟨Hw, Hl, Ht⟩
  ihave Hw := (willBeTo_halves (Ix := HIx 1) (Name := ℕ) (Lvl := ℕ) embW (ℓ := (slotOf (buf r) s).view.loc (thr d i)) (q := fullShare) (f := B r)
    (g := fun e => some (landed (thr d i) (tab r) (slotOf (buf r) s) (tGath r) (listOf s r) (numel64 r) (T r) (B r) fo (hin r) e)) (I := (slotOf (buf r) s).view.set) (W₁ := ∅) (W₂ := (slotOf (buf r) s).view.set)).2 $$ [Hk Hw]
  · isplitl [Hk] <;> iassumption
  imod (willBeTo_castOut_some (emb := embW) (ιwm := ιwm) (E := Set.univ)) $$ [Hw] with Hw
  · isplitr; · iexact Hwm
    iexact Hw
  imodintro
  isplitl [Hw]; · iexact Hw
  isplitl [Hl]; · iexact Hl
  iexact Ht

/-- The slot's gathers awaited: its rows the chunk's. -/
theorem wp_waits {Q : α → sProp 𝕄} {ιwm : ℕ} (c : Fin 8) (s : Fin 2) (q : PosShare TreeShare) (T : Tabs F) (ub ib : Ents)
    (O : CellTallies nD τ sig (HIx 1)) (W : Waits sig (HIx 1)) (k : PUnit → TileProg (F := F) i α) :
    iprop(wmInv embW ιwm ∗ flying d i embW c s q T ub ib ∗ owesUpTo (thr d i) O W ∗ MayWaits (thr d i) (default : HIx 1) O)
      ⊢ iprop((iprop((∃ B fo, ⌜RowsOK c s ub ib T B⌝ ∗ rowsPts d i s B ∗ listsPts d i s fo) ∗ tabsPts d i q T ∗ semVal (thr d i, SemLoc.dma (slotSem s)) 0 ∗ owesUpTo (thr d i) O W)
            -∗ wp frame (wpE (defs₀ (F := F)) 𝒱 (thr d i) bd) Set.univ (k ⟨⟩) Q)
          -∗ wp frame (wpE (defs₀ (F := F)) 𝒱 (thr d i) bd) Set.univ (waits i s >>= k) Q) := by
  unfold waits flying
  simp only [bind_assoc]
  iintro ⟨#Hwm, ⟨%B, %fo, %hin, %hL, HB, Hkept⟩, ⟨%W', %hW', HO⟩, #Hmw⟩ Hk
  ihave Hm := (MayWaits.elim (SemLoc.dma (slotSem s))) $$ Hmw
  iapply (wp_waitBatchMulO countersEmb 𝒱 (thr d i) bd (default : HIx 1) 64 (slot_credit s 0) (D := delivers d i embW s q T B fo hin) (j := 256) (u := 0) (by omega)) $$ [HB HO Hm]
  · isplitl [HB]; · iexact HB
    isplitl [HO]; · iexact HO
    iexact Hm
  iintro ⟨HB, HO⟩
  ihave Hm := (MayWaits.elim (SemLoc.dma (slotSem s))) $$ Hmw
  iapply (wp_waitBatchMulO countersEmb 𝒱 (thr d i) bd (default : HIx 1) 64 (slot_credit s 1) (D := delivers d i embW s q T B fo hin) (j := 256) (u := 0 + 64 * rowCr) (by omega)) $$ [HB HO Hm]
  · isplitl [HB]; · iexact HB
    isplitl [HO]; · iexact HO
    iexact Hm
  iintro ⟨HB, HO⟩
  ihave Hm := (MayWaits.elim (SemLoc.dma (slotSem s))) $$ Hmw
  iapply (wp_waitBatchMulO countersEmb 𝒱 (thr d i) bd (default : HIx 1) 64 (slot_credit s 2) (D := delivers d i embW s q T B fo hin) (j := 256) (u := 0 + 64 * rowCr + 64 * rowCr) (by omega)) $$ [HB HO Hm]
  · isplitl [HB]; · iexact HB
    isplitl [HO]; · iexact HO
    iexact Hm
  iintro ⟨HB, HO⟩
  ihave Hm := (MayWaits.elim (SemLoc.dma (slotSem s))) $$ Hmw
  iapply (wp_waitBatchMulO countersEmb 𝒱 (thr d i) bd (default : HIx 1) 64 (slot_credit s 3) (D := delivers d i embW s q T B fo hin) (j := 256) (u := 0 + 64 * rowCr + 64 * rowCr + 64 * rowCr) (by omega)) $$ [HB HO Hm]
  · isplitl [HB]; · iexact HB
    isplitl [HO]; · iexact HO
    iexact Hm
  iintro ⟨HB, HO⟩
  have hu : 0 + 64 * rowCr + 64 * rowCr + 64 * rowCr + 64 * rowCr = rowCr * 256 := by omega
  rw [hu]
  imod (batch_collect' countersEmb (thr d i) rowCr_pos) $$ HB with ⟨HD, Hs⟩
  ihave HD := (Entails.of_eq (delivers_streams d i embW s q T B fo hin)) $$ HD
  ihave HX := Transfers.bigSep_sep_in _ _ _ $$ [Hkept HD]; · isplitl [Hkept] <;> iassumption
  ihave HX := (Transfers.bigSep_mono_pers Finset.univ _ _ _ fun r _ => stream_back d i embW (ιwm := ιwm) s q T B fo hin r) $$ [HX]
  · isplitr; · iexact Hwm
    iexact HX
  imod (bigSep_fupd Finset.univ _) $$ HX with HX
  ihave HX := Transfers.bigSep_sep_out _ _ _ $$ HX
  icases HX with ⟨Hr, HX⟩
  ihave HX := Transfers.bigSep_sep_out _ _ _ $$ HX
  icases HX with ⟨Hl, Ht⟩
  iapply Hk
  isplitl [Hr Hl]
  · iexists arrived d i s T B fo hin, fo
    isplitr; · ipureintro; exact arrived_ok d i c s T B fo ub ib hin hL
    isplitl [Hr]; · iexact Hr
    iapply (Entails.of_eq (lists_split d i s fo).symm)
    iexact Hl
  isplitl [Ht]; · iexact Ht
  isplitl [Hs]; · iexact Hs
  iexists _
  isplitr; swap; · iexact HO
  ipureintro
  intro p hp
  simp only [Finset.mem_insert] at hp
  rcases hp with rfl | rfl | rfl | rfl | hp
  · exact .inr rfl
  · exact .inr rfl
  · exact .inr rfl
  · exact .inr rfl
  · exact hW' p hp

end Cert.KernelIdeal.Lfm
-- ==== Proof.Compute.lean ====
/- A chunk computed from the rows of its slot, while the other slot's gathers may be in flight. -/
module

public import proofs.«01_k».proof.Proof.Fire
public import Idealize.ShloMosaic.Lib.Scf

@[expose] public section

noncomputable section

namespace Cert.KernelIdeal.Lfm

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Cert.GatherRule
open Facts₀ Facts

variable {F : FTy → Type} [FloatOps F] {U : Type} [URA U]

local notation "𝕄" => MT nD τ sig (HIx 1) (Elt F) ℕ U ℕ

/-! ## The value -/

/-- The table entry for user `u` and item `w`, `k` lanes on: in table 0 the user's factor `k`, in table 1 the item's, in tables 2
    and 3 (at `k = 0`) their biases. -/
def cell (T : Tabs F) (r : Fin 4) (u w : BitVec 32) (k : ℕ) : F .f32 :=
  (tab r).view.read (Elt F) (T r) (ixT r (rowW r u w).toNat ((laneW r u w).toNat + k))

/-- The mean, the two biases and the first `n` products, added in the kernel's order. -/
def partial' (T : Tabs F) (u w : BitVec 32) : ℕ → F .f32
  | 0 => FloatOps.addf (FloatOps.addf (Scalar.ofBits .f32 0x40600000#32) (cell T 2 u w 0)) (cell T 3 u w 0)
  | n + 1 => FloatOps.addf (partial' T u w n) (FloatOps.mulf (cell T 0 u w n) (cell T 1 u w n))

/-- The kernel's result for user `u` and item `w`. -/
def score (T : Tabs F) (u w : BitVec 32) : F .f32 := partial' T u w 32

/-- The contents of a tile's result buffer. -/
abbrev Res (F : FTy → Type) : Type := S512.Idx → F .f32
/-- The first `n` results are in. -/
def Done (T : Tabs F) (ub ib : Ents) (n : ℕ) (ob : Res F) : Prop := ∀ y, y < n → ob (ixE y) = score T (ub (ixE y)) (ib (ixE y))

variable (d : Dev nD) (i : grid2.Coords)

abbrev obPts (ob : Res F) : sProp 𝕄 := obM.view.loc (thr d i) ↦{fullShare} (ob : Buf (Elt F) (obM.view.loc (thr d i)))

variable {α : Type} (𝒱 : Variants) (bd : Option 𝒱.V)

/-- Access to the other slot of the four buffers. -/
def OpensAll (s' : Fin 2) (R : Fin 4 → sProp 𝕄) : Prop :=
  ∀ r, Opens ((buf r).view.loc (thr d i)) (slotOf (buf r) s').view.set (R r)

theorem idxAt_eq (s : Fin 2) (sl rows lanes : IVec S16 32) (h : ∀ a x, ((![sl, rows, lanes] : Fin 3 → IVec S16 32) a x).toNat < S2x64x128.size a)
    (hs : ∀ x, (sl x).toNat = s.val) (x : S16.Idx) : idxAt (s := S2x64x128) ![sl, rows, lanes] h x = ixB s.val (rows x).toNat (lanes x).toNat := by
  have h1 := h 1 x; have h2 := h 2 x
  have := s.isLt
  funext a
  apply Fin.ext
  match a with
  | 0 => show (sl x).toNat = s.val % 2; rw [hs]; omega
  | 1 => show (rows x).toNat = (rows x).toNat % 64; exact (Nat.mod_eq_of_lt h1).symm
  | 2 => show (lanes x).toNat = (lanes x).toNat % 128; exact (Nat.mod_eq_of_lt h2).symm

theorem split_at {M : Type} [URA M] {Φ : Fin 4 → sProp M} (r : Fin 4) :
    bigSep Finset.univ Φ = iprop(Φ r ∗ bigSep (Finset.univ.erase r) Φ) := bigSep_univ_split r

/-- One element per lane of buffer `r`. -/
theorem wp_pick {Q : α → sProp 𝕄} {s s' : Fin 2} (hss : s ≠ s') (B : Bufs F) (R : Fin 4 → sProp 𝕄) (hR : OpensAll d i s' R) (r : Fin 4)
    (sl rows lanes : IVec S16 32) (hs : ∀ x, (sl x).toNat = s.val) (hrow : ∀ x, (rows x).toNat < 64) (hlane : ∀ x, (lanes x).toNat < 128)
    (k : Vec F S16 .f32 → TileProg (F := F) i α) :
    iprop(rowsPts d i s B ∗ bigSep Finset.univ R)
      ⊢ iprop((iprop(rowsPts d i s B ∗ bigSep Finset.univ R)
            -∗ wp frame (wpE (defs₀ (F := F)) 𝒱 (thr d i) bd) Set.univ
                (k fun x => (buf r).view.read (Elt F) (B r) (ixB s.val (rows x).toNat (lanes x).toNat)) Q)
          -∗ wp frame (wpE (defs₀ (F := F)) 𝒱 (thr d i) bd) Set.univ (pick i (buf r) sl rows lanes >>= k) Q) := by
  have hc : k2_chk1 rows sl lanes := by
    intro a x
    match a with
    | 0 => show (sl x).toNat < 2; rw [hs]; exact s.isLt
    | 1 => exact hrow x
    | 2 => exact hlane x
  have he : pick i (buf r) sl rows lanes >>= k = .op (.assume (k2_chk1 rows sl lanes) (k2_chk1.dec rows sl lanes)) fun h =>
      .op (.load (buf r) (.whole S2x64x128) (View.loadsAt_whole (View.loads_vmem h_S2x64x128))) fun f =>
        k (loadIdx f ![sl, rows, lanes] (k2_idx1_inb rows sl lanes h.down)) := rfl
  rw [he, wp_assume_of 𝒱 (thr d i) bd Set.univ hc]
  iintro ⟨HB, HR⟩ Hk
  ihave HB := (Entails.of_eq (split_at r)) $$ HB
  ihave HR := (Entails.of_eq (split_at r)) $$ HR
  icases HB with ⟨HBr, HB⟩
  icases HR with ⟨HRr, HR⟩
  iapply (wp_load_beside 𝒱 (thr d i) bd (m := buf r) (S₁ := (slotOf (buf r) s).view.set) (S₂ := (slotOf (buf r) s').view.set) (f := B r) (R := R r)
    (slotOf_disjoint (buf r) hss) (by rw [show (LoadRect.whole S2x64x128).set = Finset.univ from Rect.set_whole _]; exact slotOf_union (buf r) hss) (hR r)) $$ [HBr HRr]
  · isplitl [HBr] <;> iassumption
  iintro %cur %hcur HBr HRr
  have hv : loadIdx ((buf r).view.readAt (Elt F) (.whole S2x64x128) cur) ![sl, rows, lanes] (k2_idx1_inb rows sl lanes hc)
      = fun x => (buf r).view.read (Elt F) (B r) (ixB s.val (rows x).toNat (lanes x).toNat) := by
    funext x
    show (buf r).view.read (Elt F) cur ((LoadRect.whole S2x64x128).idx (idxAt (s := S2x64x128) ![sl, rows, lanes] (k2_idx1_inb rows sl lanes hc) x)) = _
    rw [LoadRect.idx_whole, idxAt_eq s sl rows lanes _ hs x, View.read_apply, View.read_apply]
    congr 1
    refine hcur _ ((mem_slotOf _ _ _).mpr ?_)
    show s.val % 2 = s.val
    have := s.isLt; omega
  rw [← hv]
  iapply Hk
  isplitl [HBr HB]
  · iapply (Entails.of_eq (split_at r).symm)
    isplitl [HBr]; · iexact HBr
    iexact HB
  · iapply (Entails.of_eq (split_at r).symm)
    isplitl [HRr]; · iexact HRr
    iexact HR

/-- The words a group's picks use: the slot, the rows of its sixteen entries. -/
abbrev slotW (s : Fin 2) : IVec S16 32 := broadcast S16 (BitVec.ofNat 32 s.val)
abbrev rowsW (t : Fin grpLoop.trips) : IVec S16 32 := addi (broadcast S16 (Scalar.muli (Scf.iv 0#32 1#32 t) 16#32)) lanes16

theorem slotW_toNat (s : Fin 2) (x : S16.Idx) : (slotW s x).toNat = s.val := by
  show (BitVec.ofNat 32 s.val).toNat = s.val
  rw [BitVec.toNat_ofNat]; have := s.isLt; omega

theorem rowsW_toNat (t : Fin grpLoop.trips) (x : S16.Idx) : (rowsW t x).toNat = 16 * t.val + (x 0).val := by
  have h1 : ∀ t : Fin grpLoop.trips, Scalar.muli (Scf.iv 0#32 1#32 t) 16#32 = BitVec.ofNat 32 (16 * t.val) := by decide
  have h2 : lanes16 x = BitVec.ofNat 32 (x 0).val := by
    show BitVec.ofNat 32 (0 * S16.size 0 + (x 0).val) = _
    rw [Nat.zero_mul, Nat.zero_add]
  have ht : t.val < 4 := t.isLt
  have hx : (x 0).val < 16 := (x 0).isLt
  show (Scalar.muli (Scf.iv 0#32 1#32 t) 16#32 + lanes16 x).toNat = _
  rw [h1, h2, BitVec.toNat_add, BitVec.toNat_ofNat, BitVec.toNat_ofNat]
  omega

theorem laneK_toNat (r : Fin 4) (hr : r = 0 ∨ r = 1) (u w : BitVec 32) (hu : u.toNat < 1000000) (hw : w.toNat < 100000) (k : ℕ) (hk : k < 32) :
    (IntOp.addi (laneW r u w) (BitVec.ofNat 32 k)).toNat = (laneW r u w).toNat + k := by
  have h1 := laneW_toNat r u w hu hw
  have h2 := laneN_le r hr u.toNat w.toNat
  unfold IntOp.addi
  rw [BitVec.toNat_add, BitVec.toNat_ofNat]
  omega

/-- A group's entries: number `x` of group `t` of chunk `c`. -/
abbrev entry (c : Fin 8) (t : Fin grpLoop.trips) (x : S16.Idx) : S512.Idx := ixE (64 * c.val + 16 * t.val + (x 0).val)

/-- What a pick reads of the chunk's rows. -/
theorem rows_cell (c : Fin 8) (s : Fin 2) (t : Fin grpLoop.trips) (T : Tabs F) (B : Bufs F) (ub ib : Ents) (hB : RowsOK c s ub ib T B) (r : Fin 4) (x : S16.Idx) (l k : ℕ)
    (hl : l = (laneW r (ub (entry c t x)) (ib (entry c t x))).toNat + k) (hl' : l < 128) :
    (buf r).view.read (Elt F) (B r) (ixB s.val (rowsW t x).toNat l) = cell T r (ub (entry c t x)) (ib (entry c t x)) k := by
  have ht : t.val < 4 := t.isLt
  have hx : (x 0).val < 16 := (x 0).isLt
  rw [rowsW_toNat, hB r _ l (by omega) hl']
  have he : 64 * c.val + (16 * t.val + (x 0).val) = 64 * c.val + 16 * t.val + (x 0).val := by omega
  rw [he, hl]
  rfl

theorem wp_products {Q : α → sProp 𝕄} {s s' : Fin 2} (hss : s ≠ s') (c : Fin 8) (T : Tabs F) (B : Bufs F) (ub ib : Ents) (hE : EntsOK ub ib) (hB : RowsOK c s ub ib T B)
    (R : Fin 4 → sProp 𝕄) (hR : OpensAll d i s' R) (t : Fin grpLoop.trips) (n : ℕ) :
    ∀ (j : ℕ) (hj : j + n = 32) (k : FVec F S16 .f32 → TileProg (F := F) i α),
    iprop(rowsPts d i s B ∗ bigSep Finset.univ R)
      ⊢ iprop((iprop(rowsPts d i s B ∗ bigSep Finset.univ R)
            -∗ wp frame (wpE (defs₀ (F := F)) 𝒱 (thr d i) bd) Set.univ (k fun x => score T (ub (entry c t x)) (ib (entry c t x))) Q)
          -∗ wp frame (wpE (defs₀ (F := F)) 𝒱 (thr d i) bd) Set.univ
              (products i (slotW s) (rowsW t) (laneP fun x => ub (entry c t x)) (laneQ fun x => ib (entry c t x)) n j
                (fun x => partial' T (ub (entry c t x)) (ib (entry c t x)) j) >>= k) Q) := by
  induction n with
  | zero =>
    intro j hj k
    obtain rfl : j = 32 := by omega
    iintro H Hk
    iapply Hk
    iexact H
  | succ n ih =>
    intro j hj k
    have hlP : ∀ x, (addi (laneP fun x => ub (entry c t x)) (broadcast S16 (BitVec.ofNat 32 j)) x).toNat
        = (laneW 0 (ub (entry c t x)) (ib (entry c t x))).toNat + j := fun x => laneK_toNat 0 (.inl rfl) _ _ (hE _).1 (hE _).2 j (by omega)
    have hlQ : ∀ x, (addi (laneQ fun x => ib (entry c t x)) (broadcast S16 (BitVec.ofNat 32 j)) x).toNat
        = (laneW 1 (ub (entry c t x)) (ib (entry c t x))).toNat + j := fun x => laneK_toNat 1 (.inr rfl) _ _ (hE _).1 (hE _).2 j (by omega)
    have hlt : ∀ (r : Fin 4) (hr : r = 0 ∨ r = 1) x, (laneW r (ub (entry c t x)) (ib (entry c t x))).toNat + j < 128 := fun r hr x => by
      have h1 := laneW_toNat r (ub (entry c t x)) (ib (entry c t x)) (hE _).1 (hE _).2
      have h2 := laneN_le r hr (ub (entry c t x)).toNat (ib (entry c t x)).toNat
      omega
    have hrow : ∀ x, (rowsW t x).toNat < 64 := fun x => by
      rw [rowsW_toNat]
      have ht : t.val < 4 := t.isLt
      have hx : (x 0).val < 16 := (x 0).isLt
      omega
    unfold products
    simp only [bind_assoc]
    iintro H Hk
    iapply (wp_pick d i 𝒱 bd hss B R hR 0 _ _ _ (slotW_toNat s) hrow (fun x => by rw [hlP]; exact hlt 0 (.inl rfl) x)) $$ H
    iintro H
    iapply (wp_pick d i 𝒱 bd hss B R hR 1 _ _ _ (slotW_toNat s) hrow (fun x => by rw [hlQ]; exact hlt 1 (.inr rfl) x)) $$ H
    iintro H
    have hacc : (addf (fun x => partial' T (ub (entry c t x)) (ib (entry c t x)) j : FVec F S16 .f32)
        (mulf (fun x => (buf 0).view.read (Elt F) (B 0) (ixB s.val (rowsW t x).toNat (addi (laneP fun x => ub (entry c t x)) (broadcast S16 (BitVec.ofNat 32 j)) x).toNat))
          (fun x => (buf 1).view.read (Elt F) (B 1) (ixB s.val (rowsW t x).toNat (addi (laneQ fun x => ib (entry c t x)) (broadcast S16 (BitVec.ofNat 32 j)) x).toNat)))
          : FVec F S16 .f32) = fun x => partial' T (ub (entry c t x)) (ib (entry c t x)) (j + 1) := by
      funext x
      have h0 := rows_cell c s t T B ub ib hB 0 x _ j (hlP x) (by rw [hlP]; exact hlt 0 (.inl rfl) x)
      have h1 := rows_cell c s t T B ub ib hB 1 x _ j (hlQ x) (by rw [hlQ]; exact hlt 1 (.inr rfl) x)
      exact congrArg (FloatOps.addf _) (congrArg₂ FloatOps.mulf h0 h1)
    rw [hacc]
    iapply (ih (j + 1) (by omega) k) $$ H
    iexact Hk

/-- What a store of sixteen results leaves. -/
theorem store_results (off : Fin 1 → ℕ) (b : ℕ) (hoff : off 0 = b) (hb : b + 16 ≤ 512) (inb : ∀ a, off a + S16.size a ≤ S512.size a) (ob : Res F) (v : FVec F S16 .f32)
    (y : ℕ) (hy : y < 512) :
    ((obM.view.slice (Rect.unit (s := S512) off S16.size inb)).write (Elt F) ob v Finset.univ : Res F) (ixE y)
      = if h : b ≤ y ∧ y < b + 16 then v (fun | 0 => ⟨y - b, by show y - b < 16; omega⟩) else ob (ixE y) := by
  split_ifs with h
  · have hx : ixE y = (Rect.unit (s := S512) off S16.size inb).emb (fun | 0 => ⟨y - b, by show y - b < 16; omega⟩ : S16.Idx) := by
      funext a
      apply Fin.ext
      match a with
      | 0 => simp [ixE, hoff]; omega
    rw [hx]
    exact View.read_slice_write_emb (Val := Elt F) (v := obM.view) (Rect.unit (s := S512) off S16.size inb) ob v (Finset.mem_univ _)
  · exact View.read_slice_write_of_not_mem (Val := Elt F) (v := obM.view) (Rect.unit (s := S512) off S16.size inb) ob v Finset.univ (y := ixE y) (by
      intro hm
      obtain ⟨x, -, hx⟩ := Finset.mem_map.mp hm
      apply h
      have h1 := congrArg Fin.val (congrFun hx 0)
      have hx2 : (x 0).val < 16 := (x 0).isLt
      simp [ixE, hoff] at h1
      omega)

theorem offG_eq : ∀ (c : Fin 8) (t : Fin grpLoop.trips), offG c t 0 = 64 * c.val + 16 * t.val := by decide

/-- Sixteen results for the users `u` and the items `w`. -/
def sums (s : Fin 2) (t : Fin grpLoop.trips) (u w : IVec S16 32) : TileProg (F := F) i (FVec F S16 .f32) := do
  let bu ← pick i (buf 2) (slotW s) (rowsW t) (laneB u)
  let bi ← pick i (buf 3) (slotW s) (rowsW t) (laneB w)
  products i (slotW s) (rowsW t) (laneP u) (laneQ w) 32 0 (addf (addf (broadcast S16 (Scalar.ofBits .f32 0x40600000#32)) bu) bi)

theorem wp_sums {Q : α → sProp 𝕄} {s s' : Fin 2} (hss : s ≠ s') (c : Fin 8) (T : Tabs F) (B : Bufs F) (ub ib : Ents) (hE : EntsOK ub ib) (hB : RowsOK c s ub ib T B)
    (R : Fin 4 → sProp 𝕄) (hR : OpensAll d i s' R) (t : Fin grpLoop.trips) (k : FVec F S16 .f32 → TileProg (F := F) i α) :
    iprop(rowsPts d i s B ∗ bigSep Finset.univ R)
      ⊢ iprop((iprop(rowsPts d i s B ∗ bigSep Finset.univ R)
            -∗ wp frame (wpE (defs₀ (F := F)) 𝒱 (thr d i) bd) Set.univ (k fun x => score T (ub (entry c t x)) (ib (entry c t x))) Q)
          -∗ wp frame (wpE (defs₀ (F := F)) 𝒱 (thr d i) bd) Set.univ
              (sums i s t (fun x => ub (entry c t x)) (fun x => ib (entry c t x)) >>= k) Q) := by
  have hrow : ∀ x, (rowsW t x).toNat < 64 := fun x => by
    rw [rowsW_toNat]
    have ht : t.val < 4 := t.isLt
    have hx : (x 0).val < 16 := (x 0).isLt
    omega
  have hl : ∀ (r : Fin 4) x, (laneW r (ub (entry c t x)) (ib (entry c t x))).toNat < 128 := fun r x => by
    rw [laneW_toNat r _ _ (hE _).1 (hE _).2]
    exact laneN_lt r _ _
  have hw2 : ∀ x, laneB (fun x => ub (entry c t x)) x = laneW 2 (ub (entry c t x)) (ib (entry c t x)) := fun x => rfl
  have hw3 : ∀ x, laneB (fun x => ib (entry c t x)) x = laneW 3 (ub (entry c t x)) (ib (entry c t x)) := fun x => rfl
  have hl2 : ∀ x, (laneB (fun x => ub (entry c t x)) x).toNat < 128 := fun x => by rw [hw2]; exact hl 2 x
  have hl3 : ∀ x, (laneB (fun x => ib (entry c t x)) x).toNat < 128 := fun x => by rw [hw3]; exact hl 3 x
  unfold sums
  simp only [bind_assoc]
  iintro H Hk
  iapply (wp_pick d i 𝒱 bd hss B R hR 2 _ _ _ (slotW_toNat s) hrow hl2) $$ H
  iintro H
  iapply (wp_pick d i 𝒱 bd hss B R hR 3 _ _ _ (slotW_toNat s) hrow hl3) $$ H
  iintro H
  have hacc : (addf (addf (broadcast S16 (Scalar.ofBits .f32 0x40600000#32))
        (fun x => (buf 2).view.read (Elt F) (B 2) (ixB s.val (rowsW t x).toNat (laneB (fun x => ub (entry c t x)) x).toNat)))
        (fun x => (buf 3).view.read (Elt F) (B 3) (ixB s.val (rowsW t x).toNat (laneB (fun x => ib (entry c t x)) x).toNat))
      : FVec F S16 .f32) = fun x => partial' T (ub (entry c t x)) (ib (entry c t x)) 0 := by
    funext x
    have h0 := rows_cell c s t T B ub ib hB 2 x (laneB (fun x => ub (entry c t x)) x).toNat 0 (by rw [hw2, Nat.add_zero]) (hl2 x)
    have h1 := rows_cell c s t T B ub ib hB 3 x (laneB (fun x => ib (entry c t x)) x).toNat 0 (by rw [hw3, Nat.add_zero]) (hl3 x)
    exact congrArg₂ FloatOps.addf (congrArg (FloatOps.addf _) h0) h1
  rw [hacc]
  iapply (wp_products d i 𝒱 bd hss c T B ub ib hE hB R hR t 32 0 rfl) $$ H
  iexact Hk

/-- The sixteen results of group `t` of chunk `c` put among the block's. -/
def keep (c : Fin 8) (t : Fin grpLoop.trips) (acc : FVec F S16 .f32) : TileProg (F := F) i PUnit := do
  let _ : Vec F S16 .f32 ← Prog.lift (.load obM (Rect.unit (s := S512) (offG c t) S16.size (offG_inb c t)).toLoadRect (View.loadsAt_vmem h_S16))
  Prog.lift (.store obM (Rect.unit (s := S512) (offG c t) S16.size (offG_inb c t)) acc Finset.univ (View.stores_vmem_bits_univ h_S16 rfl) (.inl rfl))

/-- Group `t` of chunk `c` from its users and items on. -/
def groupOf (c : Fin 8) (s : Fin 2) (t : Fin grpLoop.trips) (u w : IVec S16 32) : TileProg (F := F) i PUnit :=
  sums i s t u w >>= keep i c t

/-- Group `t` of chunk `c`, in two steps. -/
def group' (c : Fin 8) (s : Fin 2) (t : Fin grpLoop.trips) : TileProg (F := F) i PUnit := do
  let u : Vec F S16 .i32 ← Prog.lift (.load ubM (Rect.unit (s := S512) (offG c t) S16.size (offG_inb c t)).toLoadRect (View.loadsAt_vmem h_S16))
  let w : Vec F S16 .i32 ← Prog.lift (.load ibM (Rect.unit (s := S512) (offG c t) S16.size (offG_inb c t)).toLoadRect (View.loadsAt_vmem h_S16))
  groupOf i c s t u w

theorem group_eq (c : Fin 8) (s : Fin 2) (t : Fin grpLoop.trips) : (group i c s lanes16 t : TileProg (F := F) i PUnit) = group' i c s t := by
  unfold group group' groupOf keep sums
  simp only [bind_assoc]

theorem wp_keep {Q : α → sProp 𝕄} (c : Fin 8) (T : Tabs F) (ub ib : Ents)
    (t : Fin grpLoop.trips) (ob : Res F) (hD : Done T ub ib (64 * c.val + 16 * t.val) ob) (k : PUnit → TileProg (F := F) i α) :
    obPts d i ob
      ⊢ iprop((iprop(∃ ob', ⌜Done T ub ib (64 * c.val + 16 * (t.val + 1)) ob'⌝ ∗ obPts d i ob')
            -∗ wp frame (wpE (defs₀ (F := F)) 𝒱 (thr d i) bd) Set.univ (k ⟨⟩) Q)
          -∗ wp frame (wpE (defs₀ (F := F)) 𝒱 (thr d i) bd) Set.univ
            (keep i c t (fun x => score T (ub (entry c t x)) (ib (entry c t x))) >>= k) Q) := by
  have ht : t.val < 4 := t.isLt
  have hc := c.isLt
  have hb : 64 * c.val + 16 * t.val + 16 ≤ 512 := by omega
  unfold keep
  simp only [bind_assoc, Prog.bind_lift]
  iintro Ho Hk
  iapply (wp_loadAll 𝒱 (thr d i) bd (m := obM)) $$ Ho
  iintro Ho
  iapply (wp_storeAll 𝒱 (thr d i) bd (m := obM)) $$ Ho
  iintro Ho
  iapply Hk
  iexists _
  isplitr; swap; · iexact Ho
  ipureintro
  intro y hy
  rw [store_results (offG c t) (64 * c.val + 16 * t.val) (offG_eq c t) hb (offG_inb c t) ob _ y (by omega)]
  split_ifs with h
  · have : ixE y = entry c t (fun | 0 => ⟨y - (64 * c.val + 16 * t.val), by show _ < 16; omega⟩) := by
      show ixE y = ixE (64 * c.val + 16 * t.val + (y - (64 * c.val + 16 * t.val)))
      congr 1; omega
    rw [this]
  · exact hD y (by omega)

theorem wp_groupOf {Q : α → sProp 𝕄} {s s' : Fin 2} (hss : s ≠ s') (c : Fin 8) (T : Tabs F) (B : Bufs F) (ub ib : Ents) (hE : EntsOK ub ib) (hB : RowsOK c s ub ib T B)
    (R : Fin 4 → sProp 𝕄) (hR : OpensAll d i s' R) (t : Fin grpLoop.trips) (ob : Res F) (hD : Done T ub ib (64 * c.val + 16 * t.val) ob) (k : PUnit → TileProg (F := F) i α) :
    iprop((rowsPts d i s B ∗ bigSep Finset.univ R) ∗ obPts d i ob)
      ⊢ iprop((iprop(rowsPts d i s B ∗ bigSep Finset.univ R ∗ ∃ ob', ⌜Done T ub ib (64 * c.val + 16 * (t.val + 1)) ob'⌝ ∗ obPts d i ob')
            -∗ wp frame (wpE (defs₀ (F := F)) 𝒱 (thr d i) bd) Set.univ (k ⟨⟩) Q)
          -∗ wp frame (wpE (defs₀ (F := F)) 𝒱 (thr d i) bd) Set.univ
            (groupOf i c s t (fun x => ub (entry c t x)) (fun x => ib (entry c t x)) >>= k) Q) := by
  unfold groupOf
  simp only [bind_assoc]
  iintro ⟨H, Ho⟩ Hk
  iapply (wp_sums d i 𝒱 bd hss c T B ub ib hE hB R hR t) $$ H
  iintro ⟨HB, HR⟩
  iapply (wp_keep d i 𝒱 bd c T ub ib t ob hD) $$ Ho
  iintro Ho
  iapply Hk
  isplitl [HB]; · iexact HB
  isplitl [HR]; · iexact HR
  iexact Ho

theorem wp_group_loads {Q : α → sProp 𝕄} (c : Fin 8) (s : Fin 2) (ub ib : Ents) (t : Fin grpLoop.trips) (k : PUnit → TileProg (F := F) i α) :
    entsPts d i ub ib
      ⊢ iprop((entsPts d i ub ib
            -∗ wp frame (wpE (defs₀ (F := F)) 𝒱 (thr d i) bd) Set.univ (groupOf i c s t (fun x => ub (entry c t x)) (fun x => ib (entry c t x)) >>= k) Q)
          -∗ wp frame (wpE (defs₀ (F := F)) 𝒱 (thr d i) bd) Set.univ (group' i c s t >>= k) Q) := by
  have ht : t.val < 4 := t.isLt
  have hc := c.isLt
  have hb : 64 * c.val + 16 * t.val + 16 ≤ 512 := by omega
  have hu : ubM.view.readAt (Elt F) (Rect.unit (s := S512) (offG c t) S16.size (offG_inb c t)).toLoadRect ub = fun x => ub (entry c t x) :=
    load_entries (F := F) (offG c t) (64 * c.val + 16 * t.val) (offG_eq c t) hb (offG_inb c t) ub
  have hi : ibM.view.readAt (Elt F) (Rect.unit (s := S512) (offG c t) S16.size (offG_inb c t)).toLoadRect ib = fun x => ib (entry c t x) :=
    load_entries (F := F) (offG c t) (64 * c.val + 16 * t.val) (offG_eq c t) hb (offG_inb c t) ib
  rw [← hu, ← hi]
  unfold group'
  simp only [bind_assoc, Prog.bind_lift]
  iintro ⟨Hu, Hi⟩ Hk
  iapply (wp_loadAll 𝒱 (thr d i) bd (m := ubM)) $$ Hu
  iintro Hu
  iapply (wp_loadAll 𝒱 (thr d i) bd (m := ibM)) $$ Hi
  iintro Hi
  iapply Hk
  isplitl [Hu]; · iexact Hu
  iexact Hi

/-- Group `t` of chunk `c` computed. -/
theorem wp_group {Q : α → sProp 𝕄} {s s' : Fin 2} (hss : s ≠ s') (c : Fin 8) (T : Tabs F) (B : Bufs F) (ub ib : Ents) (hE : EntsOK ub ib) (hB : RowsOK c s ub ib T B)
    (R : Fin 4 → sProp 𝕄) (hR : OpensAll d i s' R) (t : Fin grpLoop.trips) (ob : Res F) (hD : Done T ub ib (64 * c.val + 16 * t.val) ob) (k : PUnit → TileProg (F := F) i α) :
    iprop(entsPts d i ub ib ∗ (rowsPts d i s B ∗ bigSep Finset.univ R) ∗ obPts d i ob)
      ⊢ iprop((iprop(entsPts d i ub ib ∗ rowsPts d i s B ∗ bigSep Finset.univ R ∗ ∃ ob', ⌜Done T ub ib (64 * c.val + 16 * (t.val + 1)) ob'⌝ ∗ obPts d i ob')
            -∗ wp frame (wpE (defs₀ (F := F)) 𝒱 (thr d i) bd) Set.univ (k ⟨⟩) Q)
          -∗ wp frame (wpE (defs₀ (F := F)) 𝒱 (thr d i) bd) Set.univ (group' i c s t >>= k) Q) := by
  iintro ⟨HE, H⟩ Hk
  iapply (wp_group_loads d i 𝒱 bd c s ub ib t k) $$ HE
  iintro HE
  iapply (wp_groupOf d i 𝒱 bd hss c T B ub ib hE hB R hR t ob hD k) $$ H
  iintro H
  iapply Hk
  isplitl [HE]; · iexact HE
  iexact H

/-- Chunk `c` computed. -/
theorem wp_compute {Q : α → sProp 𝕄} {s s' : Fin 2} (hss : s ≠ s') (c : Fin 8) (T : Tabs F) (B : Bufs F) (ub ib : Ents) (hE : EntsOK ub ib) (hB : RowsOK c s ub ib T B)
    (R : Fin 4 → sProp 𝕄) (hR : OpensAll d i s' R) (k : PUnit → TileProg (F := F) i α) :
    iprop(entsPts d i ub ib ∗ rowsPts d i s B ∗ bigSep Finset.univ R ∗ ∃ ob, ⌜Done T ub ib (64 * c.val) ob⌝ ∗ obPts d i ob)
      ⊢ iprop((iprop(entsPts d i ub ib ∗ rowsPts d i s B ∗ bigSep Finset.univ R ∗ ∃ ob', ⌜Done T ub ib (64 * c.val + 64) ob'⌝ ∗ obPts d i ob')
            -∗ wp frame (wpE (defs₀ (F := F)) 𝒱 (thr d i) bd) Set.univ (k ⟨⟩) Q)
          -∗ wp frame (wpE (defs₀ (F := F)) 𝒱 (thr d i) bd) Set.univ (compute i c s lanes16 >>= k) Q) := by
  have hI := Scf.wp_for_bind frame (wpE (defs₀ (F := F)) 𝒱 (thr d i) bd) Set.univ grpLoop.lb grpLoop.ub grpLoop.st k2_t1_ok (PUnit.unit)
    (fun t (_ : PUnit) => (group i c s lanes16 t : TileProg (F := F) i PUnit))
    (fun n _ => iprop(entsPts d i ub ib ∗ rowsPts d i s B ∗ bigSep Finset.univ R ∗ ∃ ob, ⌜Done T ub ib (64 * c.val + 16 * n) ob⌝ ∗ obPts d i ob))
    (fun t _ => by
      iintro ⟨He, HB, HR, ⟨%ob, %hD, Ho⟩⟩
      have hg := wp_group d i 𝒱 bd hss c T B ub ib hE hB R hR t ob hD
        (Q := fun _ => iprop(entsPts d i ub ib ∗ rowsPts d i s B ∗ bigSep Finset.univ R ∗ ∃ ob, ⌜Done T ub ib (64 * c.val + 16 * (t.val + 1)) ob⌝ ∗ obPts d i ob))
        (fun _ => pure PUnit.unit)
      rw [bind_pure_comp, id_map', ← group_eq] at hg
      iapply hg $$ [He HB HR Ho]
      · isplitl [He]; · iexact He
        isplitr [Ho]; swap; · iexact Ho
        isplitl [HB]; · iexact HB
        iexact HR
      iintro H
      rw [wp_pure]
      imodintro
      iexact H)
    (kk := k) (Q := Q)
  unfold compute
  iintro H Hk
  iapply hI $$ H
  iintro %acc H
  iapply Hk
  iexact H

end Cert.KernelIdeal.Lfm
-- ==== Proof.Tile.lean ====
/- The whole tile: its indices copied in, eight chunks on two slots in turn, its results copied out. -/
module

public import proofs.«01_k».proof.Proof.Compute

@[expose] public section

noncomputable section

namespace Cert.KernelIdeal.Lfm

open Idealize.ShloMosaic
open Idealize.ShloMosaic.SparseCore (S V T)
open Idealize.ShloMosaic.SparseCore.Cfg (HIx)
open Idealize.ShloMosaic.Transfers hiding landed
open Idealize.SL Idealize.SL.RA Idealize.SL.BI
open scoped Idealize.SL.BI
open Idealize.SL.BI.BIBase Idealize.SL.BI.Laws Idealize.SL.ProofMode Idealize.SL.Sem
open Cert.GatherRule
open Facts₀ Facts

variable {F : FTy → Type} [FloatOps F] {U : Type} [URA U]

local notation "𝕄" => MT nD τ sig (HIx 1) (Elt F) ℕ U ℕ

variable (d : Dev nD) (i : grid2.Coords) [CountersIn U] (embW : UEmb (WmRA nD τ sig (Elt F)) U)

/-- Slot `s` with nothing in flight. -/
def idle (s : Fin 2) (q : PosShare TreeShare) (T : Tabs F) : sProp 𝕄 :=
  iprop((∃ (B : Bufs F) (fo : Lists), rowsPts d i s B ∗ listsPts d i s fo) ∗ tabsPts d i q T ∗ semVal (thr d i, SemLoc.dma (slotSem s)) 0)

/-- The results up to `n` done. -/
def doneTo (T : Tabs F) (ub ib : Ents) (n : ℕ) : sProp 𝕄 := iprop(∃ ob, ⌜Done T ub ib n ob⌝ ∗ obPts d i ob)

variable {α : Type} (𝒱 : Variants) (bd : Option 𝒱.V)

/-- A chunk computed while the other slot's gathers are in flight. -/
theorem wp_compute_beside {Q : α → sProp 𝕄} {ιwm : ℕ} {s s' : Fin 2} (hss : s ≠ s') (c c' : Fin 8) (q' : PosShare TreeShare) (T : Tabs F) (B : Bufs F) (ub ib : Ents)
    (hE : EntsOK ub ib) (hB : RowsOK c s ub ib T B) (k : PUnit → TileProg (F := F) i α) :
    iprop(wmInv embW ιwm ∗ entsPts d i ub ib ∗ rowsPts d i s B ∗ flying d i embW c' s' q' T ub ib ∗ doneTo d i T ub ib (64 * c.val))
      ⊢ iprop((iprop(entsPts d i ub ib ∗ rowsPts d i s B ∗ flying d i embW c' s' q' T ub ib ∗ doneTo d i T ub ib (64 * c.val + 64))
            -∗ wp frame (wpE (defs₀ (F := F)) 𝒱 (thr d i) bd) Set.univ (k ⟨⟩) Q)
          -∗ wp frame (wpE (defs₀ (F := F)) 𝒱 (thr d i) bd) Set.univ (compute i c s lanes16 >>= k) Q) := by
  unfold flying doneTo
  iintro ⟨#Hwm, He, Hr, ⟨%B', %fo, %hin, %hL, HB, Hk'⟩, Ho⟩ Hk
  have hR : OpensAll d i s' (fun r => iprop(wmInv embW ιwm ∗ keptHalf d i embW s' T B' fo hin r)) := fun r =>
    opens_willBeTo (Ix := HIx 1) (Name := ℕ) (Lvl := ℕ) (emb := embW) ιwm _ _ _ _ _ _
  ihave HR := (Transfers.bigSep_mono_pers (P := wmInv embW ιwm) Finset.univ (keptHalf d i embW s' T B' fo hin) (fun r => iprop(wmInv embW ιwm ∗ keptHalf d i embW s' T B' fo hin r)) fun r _ => .rfl) $$ [Hk']
  · isplitr; · iexact Hwm
    iexact Hk'
  iapply (wp_compute d i 𝒱 bd hss c T B ub ib hE hB _ hR) $$ [He Hr HR Ho]
  · isplitl [He]; · iexact He
    isplitl [Hr]; · iexact Hr
    isplitl [HR]; · iexact HR
    iexact Ho
  iintro ⟨He, Hr, HR, Ho⟩
  ihave HR := Transfers.bigSep_sep_out _ _ _ $$ HR
  icases HR with ⟨-, Hk'⟩
  iapply Hk
  isplitl [He]; · iexact He
  isplitl [Hr]; · iexact Hr
  isplitl [HB Hk']
  · iexists B', fo, hin
    isplitr; · ipureintro; exact hL
    isplitl [HB]; · iexact HB
    iexact Hk'
  iexact Ho

/-- The two slots' shares of the tables. -/
def slotShare (q : PosShare TreeShare) : Fin 2 → PosShare TreeShare | 0 => q.left | 1 => q.right

/-- What holds before chunk `c` is awaited, its gathers in flight on slot `s` and the other slot idle. -/
def before (O : CellTallies nD τ sig (HIx 1)) (W : Waits sig (HIx 1)) (q : PosShare TreeShare) (T : Tabs F) (ub ib : Ents) (c : Fin 8) (s s' : Fin 2) : sProp 𝕄 :=
  iprop(entsPts d i ub ib ∗ flying d i embW c s (slotShare q s) T ub ib ∗ idle d i s' (slotShare q s') T ∗ doneTo d i T ub ib (64 * c.val)
    ∗ owesUpTo (thr d i) O W)

/-- One chunk: the next one's gathers issued, this one's awaited, and computed. -/
theorem wp_step {Q : α → sProp 𝕄} {ιwm : ℕ} (O : CellTallies nD τ sig (HIx 1)) (W : Waits sig (HIx 1)) (q : PosShare TreeShare) (T : Tabs F) (ub ib : Ents)
    (hE : EntsOK ub ib) (c c' : Fin 8) (hc : c'.val = c.val + 1) (s s' : Fin 2) (hss : s ≠ s') (k : PUnit → TileProg (F := F) i α) :
    iprop((wmInv embW ιwm ∗ MayWaits (thr d i) (default : HIx 1) O) ∗ before d i embW O W q T ub ib c s s')
      ⊢ iprop((before d i embW O W q T ub ib c' s' s
            -∗ wp frame (wpE (defs₀ (F := F)) 𝒱 (thr d i) bd) Set.univ (k ⟨⟩) Q)
          -∗ wp frame (wpE (defs₀ (F := F)) 𝒱 (thr d i) bd) Set.univ
            (fire i c' s' >>= fun _ => waits i s >>= fun _ => compute i c s lanes16 >>= k) Q) := by
  unfold before idle
  iintro ⟨⟨#Hwm, #Hmw⟩, He, Hf, ⟨⟨%B', %fo', Hr', Hl'⟩, Ht', Hs'⟩, Ho, HO⟩ Hk
  iapply (wp_fire d i embW 𝒱 bd (ιwm := ιwm) c' s' (slotShare q s') T B' ub ib fo' hE) $$ [He Hr' Hl' Ht' Hs']
  · isplitr; · iexact Hwm
    isplitl [He]; · iexact He
    isplitl [Hl']; · iexact Hl'
    isplitl [Hr']; · iexact Hr'
    isplitl [Ht']; · iexact Ht'
    iexact Hs'
  iintro ⟨He, Hf'⟩
  iapply (wp_waits d i embW 𝒱 bd (ιwm := ιwm) c s (slotShare q s) T ub ib O W) $$ [Hf HO]
  · isplitr; · iexact Hwm
    isplitl [Hf]; · iexact Hf
    isplitl [HO]; · iexact HO
    iexact Hmw
  iintro ⟨⟨%B, %fo, %hB, Hr, Hl⟩, Ht, Hs, HO⟩
  iapply (wp_compute_beside d i embW 𝒱 bd (ιwm := ιwm) hss c c' (slotShare q s') T B ub ib hE hB) $$ [He Hr Hf' Ho]
  · isplitr; · iexact Hwm
    isplitl [He]; · iexact He
    isplitl [Hr]; · iexact Hr
    isplitl [Hf']; · iexact Hf'
    iexact Ho
  iintro ⟨He, Hr, Hf', Ho⟩
  iapply Hk
  isplitl [He]; · iexact He
  isplitl [Hf']; · iexact Hf'
  isplitl [Hr Hl Ht Hs]
  · isplitl [Hr Hl]
    · iexists B, fo
      isplitl [Hr]; · iexact Hr
      iexact Hl
    isplitl [Ht]; · iexact Ht
    iexact Hs
  isplitl [Ho]
  · rw [show 64 * c'.val = 64 * c.val + 64 by omega]; iexact Ho
  iexact HO

/-- The last chunk awaited and computed. -/
theorem wp_last {Q : α → sProp 𝕄} {ιwm : ℕ} (O : CellTallies nD τ sig (HIx 1)) (W : Waits sig (HIx 1)) (q : PosShare TreeShare) (T : Tabs F) (ub ib : Ents)
    (hE : EntsOK ub ib) (k : PUnit → TileProg (F := F) i α) :
    iprop((wmInv embW ιwm ∗ MayWaits (thr d i) (default : HIx 1) O) ∗ before d i embW O W q T ub ib 7 1 0)
      ⊢ iprop((iprop(entsPts d i ub ib ∗ idle d i 0 q.left T ∗ idle d i 1 q.right T ∗ doneTo d i T ub ib 512 ∗ owesUpTo (thr d i) O W)
            -∗ wp frame (wpE (defs₀ (F := F)) 𝒱 (thr d i) bd) Set.univ (k ⟨⟩) Q)
          -∗ wp frame (wpE (defs₀ (F := F)) 𝒱 (thr d i) bd) Set.univ
            (waits i 1 >>= fun _ => compute i 7 1 lanes16 >>= k) Q) := by
  unfold before idle
  iintro ⟨⟨#Hwm, #Hmw⟩, He, Hf, ⟨⟨%B', %fo', Hr', Hl'⟩, Ht', Hs'⟩, Ho, HO⟩ Hk
  iapply (wp_waits d i embW 𝒱 bd (ιwm := ιwm) 7 1 (slotShare q 1) T ub ib O W) $$ [Hf HO]
  · isplitr; · iexact Hwm
    isplitl [Hf]; · iexact Hf
    isplitl [HO]; · iexact HO
    iexact Hmw
  iintro ⟨⟨%B, %fo, %hB, Hr, Hl⟩, Ht, Hs, HO⟩
  have hR : OpensAll d i 0 (fun r => ((slotOf (buf r) 0).view.loc (thr d i) ↦[(slotOf (buf r) 0).view.set]{fullShare} (B' r : Buf (Elt F) ((slotOf (buf r) 0).view.loc (thr d i))) : sProp 𝕄)) := fun r =>
    opens_pointsTo (Ix := HIx 1) (Name := ℕ) (Lvl := ℕ) _ _ _
  unfold doneTo
  iapply (wp_compute d i 𝒱 bd (s := 1) (s' := 0) (by decide) 7 T B ub ib hE hB _ hR) $$ [He Hr Hr' Ho]
  · isplitl [He]; · iexact He
    isplitl [Hr]; · iexact Hr
    isplitl [Hr']; · iexact Hr'
    iexact Ho
  iintro ⟨He, Hr, Hr', Ho⟩
  iapply Hk
  isplitl [He]; · iexact He
  isplitl [Hr' Hl' Ht' Hs']
  · isplitl [Hr' Hl']
    · iexists B', fo'
      isplitl [Hr']; · iexact Hr'
      iexact Hl'
    isplitl [Ht']; · iexact Ht'
    iexact Hs'
  isplitl [Hr Hl Ht Hs]
  · isplitl [Hr Hl]
    · iexists B, fo
      isplitl [Hr]; · iexact Hr
      iexact Hl
    isplitl [Ht]; · iexact Ht
    iexact Hs
  isplitl [Ho]; · iexact Ho
  iexact HO

/-- The eight chunks. -/
theorem wp_chunks {Q : α → sProp 𝕄} {ιwm : ℕ} (O : CellTallies nD τ sig (HIx 1)) (W : Waits sig (HIx 1)) (q : PosShare TreeShare) (T : Tabs F) (ub ib : Ents)
    (hE : EntsOK ub ib) (k : PUnit → TileProg (F := F) i α) :
    iprop((wmInv embW ιwm ∗ MayWaits (thr d i) (default : HIx 1) O)
        ∗ entsPts d i ub ib ∗ idle d i 0 q.left T ∗ idle d i 1 q.right T ∗ (∃ ob, obPts d i ob) ∗ owesUpTo (thr d i) O W)
      ⊢ iprop((iprop(entsPts d i ub ib ∗ idle d i 0 q.left T ∗ idle d i 1 q.right T ∗ doneTo d i T ub ib 512 ∗ owesUpTo (thr d i) O W)
            -∗ wp frame (wpE (defs₀ (F := F)) 𝒱 (thr d i) bd) Set.univ (k ⟨⟩) Q)
          -∗ wp frame (wpE (defs₀ (F := F)) 𝒱 (thr d i) bd) Set.univ
            (fire i 0 0 >>= fun _ =>
             fire i 1 1 >>= fun _ => waits i 0 >>= fun _ => compute i 0 0 lanes16 >>= fun _ =>
             fire i 2 0 >>= fun _ => waits i 1 >>= fun _ => compute i 1 1 lanes16 >>= fun _ =>
             fire i 3 1 >>= fun _ => waits i 0 >>= fun _ => compute i 2 0 lanes16 >>= fun _ =>
             fire i 4 0 >>= fun _ => waits i 1 >>= fun _ => compute i 3 1 lanes16 >>= fun _ =>
             fire i 5 1 >>= fun _ => waits i 0 >>= fun _ => compute i 4 0 lanes16 >>= fun _ =>
             fire i 6 0 >>= fun _ => waits i 1 >>= fun _ => compute i 5 1 lanes16 >>= fun _ =>
             fire i 7 1 >>= fun _ => waits i 0 >>= fun _ => compute i 6 0 lanes16 >>= fun _ =>
             waits i 1 >>= fun _ => compute i 7 1 lanes16 >>= k) Q) := by
  iintro ⟨#Hp, He, Hi0, Hi1, ⟨%ob, Ho⟩, HO⟩ Hk
  ihave Hi0 := (Entails.of_eq (show (idle d i 0 q.left T : sProp 𝕄)
    = iprop((∃ (B : Bufs F) (fo : Lists), rowsPts d i 0 B ∗ listsPts d i 0 fo) ∗ tabsPts d i q.left T ∗ semVal (thr d i, SemLoc.dma (slotSem 0)) 0) from rfl)) $$ Hi0
  icases Hi0 with ⟨⟨%B, %fo, Hr, Hl⟩, Ht, Hs⟩
  ihave #Hwm := (sep_elim_left : iprop(wmInv embW ιwm ∗ MayWaits (thr d i) (default : HIx 1) O) ⊢ (wmInv embW ιwm : sProp 𝕄)) $$ Hp
  iapply (wp_fire d i embW 𝒱 bd (ιwm := ιwm) 0 0 q.left T B ub ib fo hE) $$ [He Hr Hl Ht Hs]
  · isplitr; · iexact Hwm
    isplitl [He]; · iexact He
    isplitl [Hl]; · iexact Hl
    isplitl [Hr]; · iexact Hr
    isplitl [Ht]; · iexact Ht
    iexact Hs
  iintro ⟨He, Hf⟩
  ihave HX : before d i embW O W q T ub ib 0 0 1 $$ [He Hf Hi1 Ho HO]
  · unfold before doneTo
    isplitl [He]; · iexact He
    isplitl [Hf]; · iexact Hf
    isplitl [Hi1]; · iexact Hi1
    isplitl [Ho]
    · iexists ob
      isplitr; swap; · iexact Ho
      ipureintro
      intro y hy
      exact absurd hy (by show ¬ y < 64 * 0; omega)
    iexact HO
  iapply (wp_step d i embW 𝒱 bd (ιwm := ιwm) O W q T ub ib hE 0 1 rfl 0 1 (by decide)) $$ [HX]
  · isplitr; · iexact Hp
    iexact HX
  iintro HX
  iapply (wp_step d i embW 𝒱 bd (ιwm := ιwm) O W q T ub ib hE 1 2 rfl 1 0 (by decide)) $$ [HX]
  · isplitr; · iexact Hp
    iexact HX
  iintro HX
  iapply (wp_step d i embW 𝒱 bd (ιwm := ιwm) O W q T ub ib hE 2 3 rfl 0 1 (by decide)) $$ [HX]
  · isplitr; · iexact Hp
    iexact HX
  iintro HX
  iapply (wp_step d i embW 𝒱 bd (ιwm := ιwm) O W q T ub ib hE 3 4 rfl 1 0 (by decide)) $$ [HX]
  · isplitr; · iexact Hp
    iexact HX
  iintro HX
  iapply (wp_step d i embW 𝒱 bd (ιwm := ιwm) O W q T ub ib hE 4 5 rfl 0 1 (by decide)) $$ [HX]
  · isplitr; · iexact Hp
    iexact HX
  iintro HX
  iapply (wp_step d i embW 𝒱 bd (ιwm := ιwm) O W q T ub ib hE 5 6 rfl 1 0 (by decide)) $$ [HX]
  · isplitr; · iexact Hp
    iexact HX
  iintro HX
  iapply (wp_step d i embW 𝒱 bd (ιwm := ιwm) O W q T ub ib hE 6 7 rfl 0 1 (by decide)) $$ [HX]
  · isplitr; · iexact Hp
    iexact HX
  iintro HX
  iapply (wp_last d i embW 𝒱 bd (ιwm := ιwm) O W q T ub ib hE) $$ [HX]
  · isplitr; · iexact Hp
    iexact HX
  iexact Hk

/-! ## The copies -/

/-- The tile's entries of an index array. -/
def mine (m : Memref sig .scVector .hbm S16384 .i32) (f : m.view.ty.Contents (Elt F)) : Ents := (entriesOf i m).view.read (Elt F) f

theorem wp_copyIn {Q : α → sProp 𝕄} (O : CellTallies nD τ sig (HIx 1)) (W : Waits sig (HIx 1)) (qu : PosShare TreeShare)
    (fu : Buf (Elt F) ((entriesOf i uM).view.loc (thr d i))) (fi : Buf (Elt F) ((entriesOf i iM).view.loc (thr d i)))
    (k : PUnit → TileProg (F := F) i α) :
    iprop(MayWaits (thr d i) (default : HIx 1) O
        ∗ ((entriesOf i uM).view.loc (thr d i) ↦[(entriesOf i uM).view.set]{qu} fu) ∗ ((entriesOf i iM).view.loc (thr d i) ↦[(entriesOf i iM).view.set]{qu} fi)
        ∗ (∃ f : Buf (Elt F) (ubM.view.loc (thr d i)), ubM.view.loc (thr d i) ↦{fullShare} f) ∗ (∃ f : Buf (Elt F) (ibM.view.loc (thr d i)), ibM.view.loc (thr d i) ↦{fullShare} f)
        ∗ semVal (thr d i, SemLoc.dma cc2_scoped0.sem) 0 ∗ semVal (thr d i, SemLoc.dma cc2_scoped1.sem) 0 ∗ owesUpTo (thr d i) O W)
      ⊢ iprop((iprop(((entriesOf i uM).view.loc (thr d i) ↦[(entriesOf i uM).view.set]{qu} fu) ∗ ((entriesOf i iM).view.loc (thr d i) ↦[(entriesOf i iM).view.set]{qu} fi)
              ∗ entsPts d i (mine (F := F) i uM fu) (mine (F := F) i iM fi)
              ∗ semVal (thr d i, SemLoc.dma cc2_scoped0.sem) 0 ∗ semVal (thr d i, SemLoc.dma cc2_scoped1.sem) 0 ∗ owesUpTo (thr d i) O W)
            -∗ wp frame (wpE (defs₀ (F := F)) 𝒱 (thr d i) bd) Set.univ (k ⟨⟩) Q)
          -∗ wp frame (wpE (defs₀ (F := F)) 𝒱 (thr d i) bd) Set.univ (copyIn i >>= k) Q) := by
  unfold copyIn
  simp only [bind_assoc, Prog.bind_lift]
  iintro ⟨#Hmw, Hu, Hi, ⟨%gu, Hub⟩, ⟨%gi, Hib⟩, Hs0, Hs1, ⟨%W', %hW', HO⟩⟩ Hk
  iapply (wp_dmaLocal countersEmb 𝒱 (thr d i) bd (default : HIx 1) ubM.view.dmaCredit rfl (View.dmaCredit_pos _ (by decide)) (Finset.subset_univ _)) $$ [Hu Hub Hs0]
  · isplitl [Hu]; · iexact Hu
    isplitl [Hub]; · iexact Hub
    iexact Hs0
  iintro Hf
  ihave Hm := (MayWaits.elim (SemLoc.dma cc2_scoped0.sem)) $$ Hmw
  iapply (wp_waitLocalO countersEmb 𝒱 (thr d i) bd (default : HIx 1) (rfl : ubM.view.dmaCredit = _)) $$ [Hf HO Hm]
  · isplitl [Hf]; · iexact Hf
    isplitl [HO]; · iexact HO
    iexact Hm
  iintro ⟨⟨Hub, Hu⟩, Hs0, HO⟩
  iapply (wp_dmaLocal countersEmb 𝒱 (thr d i) bd (default : HIx 1) ibM.view.dmaCredit rfl (View.dmaCredit_pos _ (by decide)) (Finset.subset_univ _)) $$ [Hi Hib Hs1]
  · isplitl [Hi]; · iexact Hi
    isplitl [Hib]; · iexact Hib
    iexact Hs1
  iintro Hf
  ihave Hm := (MayWaits.elim (SemLoc.dma cc2_scoped1.sem)) $$ Hmw
  iapply (wp_waitLocalO countersEmb 𝒱 (thr d i) bd (default : HIx 1) (rfl : ibM.view.dmaCredit = _)) $$ [Hf HO Hm]
  · isplitl [Hf]; · iexact Hf
    isplitl [HO]; · iexact HO
    iexact Hm
  iintro ⟨⟨Hib, Hi⟩, Hs1, HO⟩
  iapply Hk
  isplitl [Hu]; · iexact Hu
  isplitl [Hi]; · iexact Hi
  isplitl [Hub Hib]
  · isplitl [Hub]
    · iapply (Entails.of_eq (congrArg (fun g : Buf (Elt F) (ubM.view.loc (thr d i)) => (ubM.view.loc (thr d i) ↦{fullShare} g : sProp 𝕄))
        (show ubM.view.write (Elt F) gu (mine (F := F) i uM fu) Finset.univ = mine (F := F) i uM fu from View.write_whole_univ _ _ _)))
      iexact Hub
    · iapply (Entails.of_eq (congrArg (fun g : Buf (Elt F) (ibM.view.loc (thr d i)) => (ibM.view.loc (thr d i) ↦{fullShare} g : sProp 𝕄))
        (show ibM.view.write (Elt F) gi (mine (F := F) i iM fi) Finset.univ = mine (F := F) i iM fi from View.write_whole_univ _ _ _)))
      iexact Hib
  isplitl [Hs0]; · iexact Hs0
  isplitl [Hs1]; · iexact Hs1
  iexists _
  isplitr; swap; · iexact HO
  ipureintro
  intro p hp
  simp only [Finset.mem_insert] at hp
  rcases hp with rfl | rfl | hp
  · exact .inr rfl
  · exact .inr rfl
  · exact hW' p hp

theorem wp_copyOut {Q : α → sProp 𝕄} (O : CellTallies nD τ sig (HIx 1)) (W : Waits sig (HIx 1)) (ob : Res F)
    (fo : Buf (Elt F) ((resultsOf i).view.loc (thr d i)))
    (k : PUnit → TileProg (F := F) i α) :
    iprop(MayWaits (thr d i) (default : HIx 1) O
        ∗ obPts d i ob ∗ ((resultsOf i).view.loc (thr d i) ↦[(resultsOf i).view.set]{fullShare} fo)
        ∗ semVal (thr d i, SemLoc.dma cc2_scoped2.sem) 0 ∗ owesUpTo (thr d i) O W)
      ⊢ iprop((iprop(obPts d i ob
              ∗ ((resultsOf i).view.loc (thr d i) ↦[(resultsOf i).view.set]{fullShare} (resultsOf i).view.write (Elt F) fo ob Finset.univ)
              ∗ semVal (thr d i, SemLoc.dma cc2_scoped2.sem) 0 ∗ owesUpTo (thr d i) O W)
            -∗ wp frame (wpE (defs₀ (F := F)) 𝒱 (thr d i) bd) Set.univ (k ⟨⟩) Q)
          -∗ wp frame (wpE (defs₀ (F := F)) 𝒱 (thr d i) bd) Set.univ (copyOut i >>= k) Q) := by
  have hset : obM.view.set = Finset.univ := View.set_whole _
  unfold copyOut
  simp only [bind_assoc, Prog.bind_lift]
  iintro ⟨#Hmw, Hob, Ho, Hs, ⟨%W', %hW', HO⟩⟩ Hk
  ihave Hob := (Entails.of_eq (show (obPts d i ob : sProp 𝕄) = (obM.view.loc (thr d i) ↦[obM.view.set]{fullShare} (ob : Buf (Elt F) (obM.view.loc (thr d i)))) by rw [hset])) $$ Hob
  iapply (wp_dmaLocal countersEmb 𝒱 (thr d i) bd (default : HIx 1) (resultsOf i).view.dmaCredit rfl (View.dmaCredit_pos _ (by decide)) (Finset.Subset.refl _)) $$ [Hob Ho Hs]
  · isplitl [Hob]; · iexact Hob
    isplitl [Ho]; · iexact Ho
    iexact Hs
  iintro Hf
  ihave Hm := (MayWaits.elim (SemLoc.dma cc2_scoped2.sem)) $$ Hmw
  iapply (wp_waitLocalO countersEmb 𝒱 (thr d i) bd (default : HIx 1) (rfl : (resultsOf i).view.dmaCredit = _)) $$ [Hf HO Hm]
  · isplitl [Hf]; · iexact Hf
    isplitl [HO]; · iexact HO
    iexact Hm
  iintro ⟨⟨Ho, Hob⟩, Hs, HO⟩
  iapply Hk
  isplitl [Hob]
  · iapply (Entails.of_eq (show (obPts d i ob : sProp 𝕄) = (obM.view.loc (thr d i) ↦[obM.view.set]{fullShare} (ob : Buf (Elt F) (obM.view.loc (thr d i)))) by rw [hset]).symm)
    iexact Hob
  isplitl [Ho]; · iexact Ho
  isplitl [Hs]; · iexact Hs
  iexists _
  isplitr; swap; · iexact HO
  ipureintro
  intro p hp
  simp only [Finset.mem_insert] at hp
  rcases hp with rfl | hp
  · exact .inr rfl
  · exact hW' p hp

/-! ## The tile -/

/-- The tile: its results those of its users and items. -/
theorem wp_tile {ιwm : ℕ} (O : CellTallies nD τ sig (HIx 1)) (W : Waits sig (HIx 1)) (qu q : PosShare TreeShare) (T : Tabs F)
    (fu : Buf (Elt F) ((entriesOf i uM).view.loc (thr d i))) (fi : Buf (Elt F) ((entriesOf i iM).view.loc (thr d i)))
    (fo : Buf (Elt F) ((resultsOf i).view.loc (thr d i)))
    (hE : EntsOK (mine (F := F) i uM fu) (mine (F := F) i iM fi)) :
    iprop((wmInv embW ιwm ∗ MayWaits (thr d i) (default : HIx 1) O)
        ∗ (((entriesOf i uM).view.loc (thr d i) ↦[(entriesOf i uM).view.set]{qu} fu) ∗ ((entriesOf i iM).view.loc (thr d i) ↦[(entriesOf i iM).view.set]{qu} fi)
          ∗ ((resultsOf i).view.loc (thr d i) ↦[(resultsOf i).view.set]{fullShare} fo))
        ∗ ((∃ f : Buf (Elt F) (ubM.view.loc (thr d i)), ubM.view.loc (thr d i) ↦{fullShare} f) ∗ (∃ f : Buf (Elt F) (ibM.view.loc (thr d i)), ibM.view.loc (thr d i) ↦{fullShare} f)
          ∗ ∃ ob, obPts d i ob)
        ∗ (semVal (thr d i, SemLoc.dma cc2_scoped0.sem) 0 ∗ semVal (thr d i, SemLoc.dma cc2_scoped1.sem) 0 ∗ semVal (thr d i, SemLoc.dma cc2_scoped2.sem) 0)
        ∗ (idle d i 0 q.left T ∗ idle d i 1 q.right T) ∗ owesUpTo (thr d i) O W)
      ⊢ wp frame (wpE (defs₀ (F := F)) 𝒱 (thr d i) bd) Set.univ (tile i) fun _ => iprop(
          (((entriesOf i uM).view.loc (thr d i) ↦[(entriesOf i uM).view.set]{qu} fu) ∗ ((entriesOf i iM).view.loc (thr d i) ↦[(entriesOf i iM).view.set]{qu} fi)
          ∗ ∃ ob : Res F, ⌜Done T (mine (F := F) i uM fu) (mine (F := F) i iM fi) 512 ob⌝
            ∗ ((resultsOf i).view.loc (thr d i) ↦[(resultsOf i).view.set]{fullShare} (resultsOf i).view.write (Elt F) fo ob Finset.univ))
        ∗ ((∃ f : Buf (Elt F) (ubM.view.loc (thr d i)), ubM.view.loc (thr d i) ↦{fullShare} f) ∗ (∃ f : Buf (Elt F) (ibM.view.loc (thr d i)), ibM.view.loc (thr d i) ↦{fullShare} f)
          ∗ ∃ ob, obPts d i ob)
        ∗ (semVal (thr d i, SemLoc.dma cc2_scoped0.sem) 0 ∗ semVal (thr d i, SemLoc.dma cc2_scoped1.sem) 0 ∗ semVal (thr d i, SemLoc.dma cc2_scoped2.sem) 0)
        ∗ (idle d i 0 q.left T ∗ idle d i 1 q.right T) ∗ owesUpTo (thr d i) O W) := by
  have hb : (tile i : TileProg (F := F) i PUnit) = tile i >>= fun _ => pure ⟨⟩ := (bind_pure _).symm
  rw [hb]
  unfold tile head
  simp only [bind_assoc]
  iintro ⟨⟨#Hwm, #Hmw⟩, ⟨Hu, Hi, Ho⟩, ⟨Hub, Hib, Hob⟩, ⟨Hs0, Hs1, Hs2⟩, ⟨Hi0, Hi1⟩, HO⟩
  iapply (wp_copyIn d i 𝒱 bd O W qu fu fi) $$ [Hu Hi Hub Hib Hs0 Hs1 HO]
  · isplitr; · iexact Hmw
    isplitl [Hu]; · iexact Hu
    isplitl [Hi]; · iexact Hi
    isplitl [Hub]; · iexact Hub
    isplitl [Hib]; · iexact Hib
    isplitl [Hs0]; · iexact Hs0
    isplitl [Hs1]; · iexact Hs1
    iexact HO
  iintro ⟨Hu, Hi, He, Hs0, Hs1, HO⟩
  iapply (wp_chunks d i embW 𝒱 bd (ιwm := ιwm) O W q T _ _ hE) $$ [He Hi0 Hi1 Hob HO]
  · isplitr
    · isplitr; · iexact Hwm
      iexact Hmw
    isplitl [He]; · iexact He
    isplitl [Hi0]; · iexact Hi0
    isplitl [Hi1]; · iexact Hi1
    isplitl [Hob]; · iexact Hob
    iexact HO
  iintro ⟨He, Hi0, Hi1, Hd, HO⟩
  ihave Hd := (Entails.of_eq (show (doneTo d i T (mine (F := F) i uM fu) (mine (F := F) i iM fi) 512 : sProp 𝕄)
    = iprop(∃ ob, ⌜Done T (mine (F := F) i uM fu) (mine (F := F) i iM fi) 512 ob⌝ ∗ obPts d i ob) from rfl)) $$ Hd
  icases Hd with ⟨%ob, %hD, Hob⟩
  iapply (wp_copyOut d i 𝒱 bd O W ob fo) $$ [Hob Ho Hs2 HO]
  · isplitr; · iexact Hmw
    isplitl [Hob]; · iexact Hob
    isplitl [Ho]; · iexact Ho
    isplitl [Hs2]; · iexact Hs2
    iexact HO
  iintro ⟨Hob, Ho, Hs2, HO⟩
  rw [wp_pure]
  imodintro
  icases He with ⟨Hub, Hib⟩
  isplitl [Hu Hi Ho]
  · isplitl [Hu]; · iexact Hu
    isplitl [Hi]; · iexact Hi
    iexists ob
    isplitr; · ipureintro; exact hD
    iexact Ho
  isplitl [Hub Hib Hob]
  · isplitl [Hub]; · iexists _; iexact Hub
    isplitl [Hib]; · iexists _; iexact Hib
    iexists ob; iexact Hob
  isplitl [Hs0 Hs1 Hs2]
  · isplitl [Hs0]; · iexact Hs0
    isplitl [Hs1]; · iexact Hs1
    iexact Hs2
  isplitl [Hi0 Hi1]
  · isplitl [Hi0]; · iexact Hi0
    iexact Hi1
  iexact HO

end Cert.KernelIdeal.Lfm
-- ==== Proof.PackRows.lean ====
/- The two packing calls, block by block: which entry of the transposed table each cell of the packed table takes. -/
module

public import proofs.«01_k».proof.Proof.Tile
public import proofs.«01_k».proof.Proof.Gen.KernelIdeal.Launch
public import proofs.«01_k».proof.Proof.Gen.KernelIdeal.Points
public import proofs.«01_k».proof.Proof.Gen.KernelIdeal.Skeleton
public import Idealize.ShloMosaic.Lib.Pipeline.ValueKit
public import Idealize.ShloMosaic.Lib.Pipeline.ArrRel

@[expose] public section

noncomputable section

namespace Cert.KernelIdeal.Lfm

open Idealize.ShloMosaic
open Idealize.ShloMosaic.TcCoe
open Idealize.ShloMosaic.SparseCore.Cfg (HIx)
open Idealize.SL Idealize.SL.RA
open Cert.KernelIdeal.Gen
open Facts₀ Facts

variable {F : FTy → Type} [FloatOps F]

/-- An index of a matrix. -/
def pair {n m : ℕ} (a : Fin n) (b : Fin m) : (⟨2, ![n, m]⟩ : Shape).Idx := fun | 0 => a | 1 => b
/-- An index of a stack of matrices. -/
def triple {n m l : ℕ} (a : Fin n) (b : Fin m) (c : Fin l) : (⟨3, ![n, m, l]⟩ : Shape).Idx := fun | 0 => a | 1 => b | 2 => c

@[simp] theorem pair_zero {n m : ℕ} (a : Fin n) (b : Fin m) : pair a b 0 = a := rfl
@[simp] theorem pair_one {n m : ℕ} (a : Fin n) (b : Fin m) : pair a b 1 = b := rfl

theorem pair_eq {n m : ℕ} (j : (⟨2, ![n, m]⟩ : Shape).Idx) (a : Fin n) (b : Fin m) (ha : (j 0).val = a.val) (hb : (j 1).val = b.val) : j = pair a b := by
  funext x
  match x with
  | 0 => exact Fin.ext ha
  | 1 => exact Fin.ext hb

/-- A block of 32 rows and `4 n` columns, its four quarters stacked and the whole turned: cell `(r, 32 a + k)` is entry `(k, a n + r)`. -/
theorem packed_block {α : Type} {n : ℕ} (hn : 0 < n) (X : (⟨2, ![32, 4 * n]⟩ : Shape).Idx → α)
    (h1 : (⟨2, ![32, 4 * n]⟩ : Shape).ShapeCasts ⟨3, ![32, 4, n]⟩) (h2 : (⟨3, ![32, 4, n]⟩ : Shape).Transposes [1, 0, 2] ⟨3, ![4, 32, n]⟩)
    (h3 : (⟨3, ![4, 32, n]⟩ : Shape).ShapeCasts ⟨2, ![128, n]⟩) (h4 : (⟨2, ![128, n]⟩ : Shape).Transposes [1, 0] ⟨2, ![n, 128]⟩)
    (j : (⟨2, ![n, 128]⟩ : Shape).Idx) (k : Fin 32) (a : Fin 4) (hj : (j 1).val = a.val * 32 + k.val) (y : Fin (4 * n)) (hy : y.val = a.val * n + (j 0).val) :
    transpose (⟨2, ![n, 128]⟩ : Shape) [1, 0] (shapeCast (⟨2, ![128, n]⟩ : Shape) (transpose (⟨3, ![4, 32, n]⟩ : Shape) [1, 0, 2]
      (shapeCast (⟨3, ![32, 4, n]⟩ : Shape) X h1) h2) h3) h4 j = X (pair k y) := by
  refine (transpose_apply [1, 0] _ h4 j (pair (j 1) (j 0)) fun b => ?_).trans ?_
  · match b with
    | 0 => rfl
    | 1 => rfl
  refine (shapeCast_apply _ h3 _ (triple a k (j 0)) ?_).trans ?_
  · rw [Shape.rowMajor_val_three, Shape.rowMajor_val_two]
    show (a.val * 32 + k.val) * n + (j 0).val = (j 1).val * n + (j 0).val
    rw [hj]
  refine (transpose_apply [1, 0, 2] _ h2 _ (triple k a (j 0)) fun b => ?_).trans ?_
  · match b with
    | 0 => rfl
    | 1 => rfl
    | 2 => rfl
  refine shapeCast_apply _ h1 _ (pair k y) ?_
  rw [Shape.rowMajor_val_three, Shape.rowMajor_val_two]
  show k.val * (4 * n) + y.val = (k.val * 4 + a.val) * n + (j 0).val
  rw [hy]; ring

theorem k0_pay1_apply (X : Vec F S32x65536 .f32) (j : S16384x128.Idx) (k : Fin 32) (a : Fin 4) (hj : (j 1).val = a.val * 32 + k.val)
    (y : Fin 65536) (hy : y.val = a.val * 16384 + (j 0).val) : k0_pay1 X j = X (pair k y) := by
  unfold k0_pay1
  rw [shapeCast_self]
  exact packed_block (n := 16384) (by decide) X _ _ _ _ j k a hj y hy

theorem k1_pay1_apply (X : Vec F S32x4096 .f32) (j : S1024x128.Idx) (k : Fin 32) (a : Fin 4) (hj : (j 1).val = a.val * 32 + k.val)
    (y : Fin 4096) (hy : y.val = a.val * 1024 + (j 0).val) : k1_pay1 X j = X (pair k y) := by
  unfold k1_pay1
  rw [shapeCast_self]
  exact packed_block (n := 1024) (by decide) X _ _ _ _ j k a hj y hy

/-! ### The windows -/

theorem coords0 (t : Fin grid0.N) : ((grid0.coords t) 0).val = t.val := by
  rcases fin_N0 t with rfl | rfl | rfl | rfl | rfl | rfl | rfl | rfl | rfl | rfl | rfl | rfl | rfl | rfl | rfl | rfl <;> decide
theorem index0_0 : ∀ t : Fin grid0.N, win0_0.index t 0 = 0 ∧ win0_0.index t 1 = t.val := by decide +kernel
theorem index0_1 : ∀ t : Fin grid0.N, win0_1.index t 0 = t.val ∧ win0_1.index t 1 = 0 := by decide +kernel
theorem index1_0 : ∀ t : Fin grid1.N, win1_0.index t 0 = 0 ∧ win1_0.index t 1 = t.val := by decide +kernel
theorem index1_1 : ∀ t : Fin grid1.N, win1_1.index t 0 = t.val ∧ win1_1.index t 1 = 0 := by decide +kernel
theorem xsize0_0 : ∀ t : Fin grid0.N, win0_0.xsize (grid0.coords t) 0 = 32 ∧ win0_0.xsize (grid0.coords t) 1 = min 65536 (1000000 - t.val * 65536) := by decide +kernel
theorem xsize1_0 : ∀ t : Fin grid1.N, win1_0.xsize (grid1.coords t) 0 = 32 ∧ win1_0.xsize (grid1.coords t) 1 = min 4096 (100000 - t.val * 4096) := by decide +kernel

/-- Inside the array, what the first call's input block holds. -/
theorem fill0_apply (t : Fin grid0.N) (d : Vec F S32x65536 .f32) (A : Vec F S32x1000000 .f32) (k : Fin 32) (y : Fin 65536) (u : Fin 1000000)
    (hu : u.val = t.val * 65536 + y.val) :
    win0_0.fill (grid0.coords t) d ((win0_0.blk t).view.read (Elt F) A) (pair k y) = A (pair k u) := by
  have hx := xsize0_0 t
  have hm : win0_0.moved (grid0.coords t) (pair k y) = true := (win0_0.moved_iff _ _).mpr fun a => by
    match a with
    | 0 => exact lt_of_lt_of_eq k.isLt hx.1.symm
    | 1 => refine lt_of_lt_of_eq (b := min 65536 (1000000 - t.val * 65536)) ?_ hx.2.symm
           have := y.isLt; have := u.isLt
           show y.val < _
           omega
  unfold Pipeline.Window.fill
  rw [dif_pos hm, View.read_apply]
  refine (cast_eq _ _).trans (congrArg A ?_)
  refine pair_eq _ _ _ ?_ ?_
  · refine (win0_0.rect_emb_val t _ 0).trans ?_
    rw [(index0_0 t).1]; show 0 * 32 + k.val = k.val; omega
  · refine (win0_0.rect_emb_val t _ 1).trans ?_
    rw [(index0_0 t).2]; exact hu.symm

theorem fill1_apply (t : Fin grid1.N) (d : Vec F S32x4096 .f32) (A : Vec F S32x100000 .f32) (k : Fin 32) (y : Fin 4096) (u : Fin 100000)
    (hu : u.val = t.val * 4096 + y.val) :
    win1_0.fill (grid1.coords t) d ((win1_0.blk t).view.read (Elt F) A) (pair k y) = A (pair k u) := by
  have hx := xsize1_0 t
  have hm : win1_0.moved (grid1.coords t) (pair k y) = true := (win1_0.moved_iff _ _).mpr fun a => by
    match a with
    | 0 => exact lt_of_lt_of_eq k.isLt hx.1.symm
    | 1 => refine lt_of_lt_of_eq (b := min 4096 (100000 - t.val * 4096)) ?_ hx.2.symm
           have := y.isLt; have := u.isLt
           show y.val < _
           omega
  unfold Pipeline.Window.fill
  rw [dif_pos hm, View.read_apply]
  refine (cast_eq _ _).trans (congrArg A ?_)
  refine pair_eq _ _ _ ?_ ?_
  · refine (win1_0.rect_emb_val t _ 0).trans ?_
    rw [(index1_0 t).1]; show 0 * 32 + k.val = k.val; omega
  · refine (win1_0.rect_emb_val t _ 1).trans ?_
    rw [(index1_0 t).2]; exact hu.symm

/-- A cell of the packed user table, if it is a user's, holds that user's entry. -/
def CellP (A : Vec F S32x1000000 .f32) (j : S262144x128.Idx) (v : F .f32) : Prop :=
  ∀ (k : Fin 32) (u : Fin 1000000), (j 0).val = u.val / 65536 * 16384 + u.val % 16384 → (j 1).val = u.val / 16384 % 4 * 32 + k.val → v = A (pair k u)
/-- A cell of the packed item table, if it is an item's, holds that item's entry. -/
def CellQ (A : Vec F S32x100000 .f32) (j : S25600x128.Idx) (v : F .f32) : Prop :=
  ∀ (k : Fin 32) (w : Fin 100000), (j 0).val = w.val / 4096 * 1024 + w.val % 1024 → (j 1).val = w.val / 1024 % 4 * 32 + k.val → v = A (pair k w)

theorem cellP_block (t : Fin grid0.N) (d : Vec F S32x65536 .f32) (A : Vec F S32x1000000 .f32) (y : S16384x128.Idx) (j : S262144x128.Idx)
    (h0 : (j 0).val = t.val * 16384 + (y 0).val) (h1 : (j 1).val = (y 1).val) :
    CellP A j (k0_pay1 (win0_0.fill (grid0.coords t) d ((win0_0.blk t).view.read (Elt F) A)) y) := by
  intro k u hr hl
  have hy : (y 0).val < 16384 := (y 0).isLt
  have hu := u.isLt; have hk := k.isLt
  have e1 : t.val = u.val / 65536 := by omega
  have e2 : (y 0).val = u.val % 16384 := by omega
  rw [k0_pay1_apply _ y k ⟨u.val / 16384 % 4, Nat.mod_lt _ (by decide)⟩ (by rw [← h1]; exact hl) ⟨u.val % 65536, Nat.mod_lt _ (by decide)⟩
    (by show u.val % 65536 = u.val / 16384 % 4 * 16384 + (y 0).val; omega)]
  exact fill0_apply t d A k _ u (by show u.val = t.val * 65536 + u.val % 65536; omega)

theorem cellQ_block (t : Fin grid1.N) (d : Vec F S32x4096 .f32) (A : Vec F S32x100000 .f32) (y : S1024x128.Idx) (j : S25600x128.Idx)
    (h0 : (j 0).val = t.val * 1024 + (y 0).val) (h1 : (j 1).val = (y 1).val) :
    CellQ A j (k1_pay1 (win1_0.fill (grid1.coords t) d ((win1_0.blk t).view.read (Elt F) A)) y) := by
  intro k u hr hl
  have hy : (y 0).val < 1024 := (y 0).isLt
  have hu := u.isLt; have hk := k.isLt
  have e1 : t.val = u.val / 4096 := by omega
  have e2 : (y 0).val = u.val % 1024 := by omega
  rw [k1_pay1_apply _ y k ⟨u.val / 1024 % 4, Nat.mod_lt _ (by decide)⟩ (by rw [← h1]; exact hl) ⟨u.val % 4096, Nat.mod_lt _ (by decide)⟩
    (by show u.val % 4096 = u.val / 1024 % 4 * 1024 + (y 0).val; omega)]
  exact fill1_apply t d A k _ u (by show u.val = t.val * 4096 + u.val % 4096; omega)

theorem cover0_1 : win0_1.Covers := by decide +kernel
theorem cover1_1 : win1_1.Covers := by decide +kernel

end Cert.KernelIdeal.Lfm
-- ==== Proof.Pack.lean ====
/- The two packing calls run: from a transposed table to its packed one, on the TensorCore, which then still owes the SparseCore call's starts. -/
module

public import proofs.«01_k».proof.Proof.PackRows
public import Idealize.ShloMosaic.Lib.Pipeline.KitQuiescent
public import Idealize.ShloMosaic.Lib.SparseCore.Quiescent
public import Idealize.ShloMosaic.Lib.Tactic

@[expose] public section

noncomputable section

namespace Cert.KernelIdeal.Lfm

open Idealize.ShloMosaic
open Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F] {U : Type} [URA U]

local notation "𝕄" => MT nD τ sig (HIx 1) (Elt F) ℕ U ℕ

/-! ### The bodies -/

theorem wp_pack0 (c : Dev nD) (E : Set ℕ) (i : grid0.Coords) (s0 : Fin 2) (s1 : Fin 2) (X0 : Vec F S32x65536 .f32) (X1 : Vec F S16384x128 .f32) (K : PUnit → sProp 𝕄) :
    iprop((owns (c : Thread nD τ) (stage0_0 s0) fullShare X0 ∗ owns (c : Thread nD τ) (stage0_1 s1) fullShare X1)
        ∗ (iprop(owns (c : Thread nD τ) (stage0_0 s0) fullShare X0 ∗ owns (c : Thread nD τ) (stage0_1 s1) fullShare (k0_pay1 X0)) -∗ K ⟨⟩))
      ⊢ wp frame (wpE (defs₀ (F := F)) Variants.none (c : Thread nD τ) none) E
          (cc0__pack_body i (stage0_0 s0) (hstage0_0 s0) (stage0_1 s1) (hstage0_1 s1)) K := by
  have hz : (![0, 0] : Fin 2 → Nat) = fun _ => 0 := funext fun a => by fin_cases a <;> rfl
  have a0 : (Memref.whole cc0_stg0_0 : Memref sig .tc _ _ _).view.readAt (Elt F) (Rect.unit (s := S32x65536) ![0, 0] S32x65536.size inb_S32x65536_S32x65536_0_0).toLoadRect = id :=
    funext (Memref.readAt_unit_zero (Elt F) cc0_stg0_0 hz _)
  have a1 : (Memref.whole cc0_stg0_1 : Memref sig .tc _ _ _).view.readAt (Elt F) (Rect.unit (s := S32x65536) ![0, 0] S32x65536.size inb_S32x65536_S32x65536_0_0).toLoadRect = id :=
    funext (Memref.readAt_unit_zero (Elt F) cc0_stg0_1 hz _)
  have b0 : ∀ f w, (((Memref.whole cc0_stg1_0).access (Rect.unit (s := S16384x128) ![0, 0] S16384x128.size inb_S16384x128_S16384x128_0_0)) : View sig .tc _ _ _).write (Elt F) f w Finset.univ = w :=
    Memref.write_access_unit_zero_univ (Elt F) cc0_stg1_0 hz _
  have b1 : ∀ f w, (((Memref.whole cc0_stg1_1).access (Rect.unit (s := S16384x128) ![0, 0] S16384x128.size inb_S16384x128_S16384x128_0_0)) : View sig .tc _ _ _).write (Elt F) f w Finset.univ = w :=
    Memref.write_access_unit_zero_univ (Elt F) cc0_stg1_1 hz _
  fin_cases s0 <;> fin_cases s1 <;>
  · simp only [owns_whole_eq, cc0__pack_body_eq_skeleton]; unfold cc0__pack_body_skel
    simp only [Prog.lift, Prog.bind_op, Prog.bind_ret]
    iintro ⟨⟨⟨%f0, %hf0, H0⟩, ⟨%f1, %hf1, H1⟩⟩, Hk⟩
    sl_steps
    iapply Hk
    first | rw [a0] | rw [a1]
    first | rw [b0] | rw [b1]
    isplitl [H0]
    · iexists f0; isplitr; · ipureintro; exact hf0
      iexact H0
    · iexists k0_pay1 f0; isplitr; · ipureintro; rw [hf0]
      iexact H1

theorem wp_pack1 (c : Dev nD) (E : Set ℕ) (i : grid1.Coords) (s0 : Fin 2) (s1 : Fin 2) (X0 : Vec F S32x4096 .f32) (X1 : Vec F S1024x128 .f32) (K : PUnit → sProp 𝕄) :
    iprop((owns (c : Thread nD τ) (stage1_0 s0) fullShare X0 ∗ owns (c : Thread nD τ) (stage1_1 s1) fullShare X1)
        ∗ (iprop(owns (c : Thread nD τ) (stage1_0 s0) fullShare X0 ∗ owns (c : Thread nD τ) (stage1_1 s1) fullShare (k1_pay1 X0)) -∗ K ⟨⟩))
      ⊢ wp frame (wpE (defs₀ (F := F)) Variants.none (c : Thread nD τ) none) E
          (cc1__pack_body i (stage1_0 s0) (hstage1_0 s0) (stage1_1 s1) (hstage1_1 s1)) K := by
  have hz : (![0, 0] : Fin 2 → Nat) = fun _ => 0 := funext fun a => by fin_cases a <;> rfl
  have a0 : (Memref.whole cc1_stg0_0 : Memref sig .tc _ _ _).view.readAt (Elt F) (Rect.unit (s := S32x4096) ![0, 0] S32x4096.size inb_S32x4096_S32x4096_0_0).toLoadRect = id :=
    funext (Memref.readAt_unit_zero (Elt F) cc1_stg0_0 hz _)
  have a1 : (Memref.whole cc1_stg0_1 : Memref sig .tc _ _ _).view.readAt (Elt F) (Rect.unit (s := S32x4096) ![0, 0] S32x4096.size inb_S32x4096_S32x4096_0_0).toLoadRect = id :=
    funext (Memref.readAt_unit_zero (Elt F) cc1_stg0_1 hz _)
  have b0 : ∀ f w, (((Memref.whole cc1_stg1_0).access (Rect.unit (s := S1024x128) ![0, 0] S1024x128.size inb_S1024x128_S1024x128_0_0)) : View sig .tc _ _ _).write (Elt F) f w Finset.univ = w :=
    Memref.write_access_unit_zero_univ (Elt F) cc1_stg1_0 hz _
  have b1 : ∀ f w, (((Memref.whole cc1_stg1_1).access (Rect.unit (s := S1024x128) ![0, 0] S1024x128.size inb_S1024x128_S1024x128_0_0)) : View sig .tc _ _ _).write (Elt F) f w Finset.univ = w :=
    Memref.write_access_unit_zero_univ (Elt F) cc1_stg1_1 hz _
  fin_cases s0 <;> fin_cases s1 <;>
  · simp only [owns_whole_eq, cc1__pack_body_eq_skeleton]; unfold cc1__pack_body_skel
    simp only [Prog.lift, Prog.bind_op, Prog.bind_ret]
    iintro ⟨⟨⟨%f0, %hf0, H0⟩, ⟨%f1, %hf1, H1⟩⟩, Hk⟩
    sl_steps
    iapply Hk
    first | rw [a0] | rw [a1]
    first | rw [b0] | rw [b1]
    isplitl [H0]
    · iexists f0; isplitr; · ipureintro; exact hf0
      iexact H0
    · iexists k1_pay1 f0; isplitr; · ipureintro; rw [hf0]
      iexact H1

/-! ### What the TensorCore owes meanwhile -/

/-- The starts of the SparseCore call, none of them at the waits' own index. -/
theorem owed_none (c : Dev nD) (g : GSem nD τ sig) : (sc (F := F)).Otc c 0 g (none : HIx 1) = 0 := by
  by_contra h
  have := (sc (F := F)).lev_of_Otc_pos (d := c) (n := 0) (g := g) (ι := none) (Nat.pos_of_ne_zero h)
  rw [SparseCore.Cfg.lev_none] at this
  omega

/-- The waits recorded so far lie below the SparseCore call. -/
def low (F : FTy → Type) [FloatOps F] (c : Dev nD) : Set (SemLoc sig × HIx 1) := {p | (sc (F := F)).lev ((T c : Thread nD τ), p.1) p.2 ≤ 0}

/-- The TensorCore's debt before the SparseCore call. -/
def debt (F : FTy → Type) [FloatOps F] (U : Type) [URA U] (c : Dev nD) : sProp 𝕄 :=
  iprop(∃ W, ⌜(sc (F := F)).WBelow (T c) W 0⌝ ∗ owes (T c : Thread nD τ) ((sc (F := F)).Otc c 0) W)

/-! ### The data of the two calls -/

variable (AP : Vec F S32x1000000 .f32) (GP : Vec F S262144x128 .f32) (AQ : Vec F S32x100000 .f32) (GQ : Vec F S25600x128 .f32)

/-- The first call: the transposed user table read, the packed one left. -/
def rdat0 (U : Type) [URA U] (c : Dev nD) : Pipeline.RDat τ (Elt F) (HIx 1) ℕ U ℕ cfg0 c where
  A w := match w with
    | ⟨0, _⟩ => AP
    | ⟨1, _⟩ => GP
  after w t Y X := match w with
    | ⟨0, _⟩ => X = Y
    | ⟨1, _⟩ => ∃ d, X = k0_pay1 (win0_0.fill (grid0.coords t) d ((win0_0.blk t).view.read (Elt F) AP))
  Φ _ := Pipeline.scopedRest (Ix := HIx 1) (Name := ℕ) (U := U) (Lvl := ℕ) (Val := Elt F) spec0 c
  q _ := fullShare
  owed _ := (sc (F := F)).Otc c 0
  recorded _ := low F c

/-- The second call: the same of the item table. -/
def rdat1 (U : Type) [URA U] (c : Dev nD) : Pipeline.RDat τ (Elt F) (HIx 1) ℕ U ℕ cfg1 c where
  A w := match w with
    | ⟨0, _⟩ => AQ
    | ⟨1, _⟩ => GQ
  after w t Y X := match w with
    | ⟨0, _⟩ => X = Y
    | ⟨1, _⟩ => ∃ d, X = k1_pay1 (win1_0.fill (grid1.coords t) d ((win1_0.blk t).view.read (Elt F) AQ))
  Φ _ := Pipeline.scopedRest (Ix := HIx 1) (Name := ℕ) (U := U) (Lvl := ℕ) (Val := Elt F) spec1 c
  q _ := fullShare
  owed _ := (sc (F := F)).Otc c 0
  recorded _ := low F c

/-- No call reads a table ahead of its loop. -/
abbrev adm (p : Fin 2) : (pcfgs (F := F) p).Adm := (cfgs p).toPCfg_adm

/-- The two calls' data. -/
def rdats (U : Type) [URA U] : (p : Fin 2) → (c : Dev nD) → Pipeline.RDat τ (Elt F) (HIx 1) ℕ U ℕ (Pipeline.pin (pcfgs (F := F)) adm p) c
  | ⟨0, _⟩ => fun c => rdat0 AP GP U c
  | ⟨1, _⟩ => fun c => rdat1 AQ GQ U c

theorem body0 (c : Dev nD) : (rdat0 AP GP U c).BodyObligation (defs₀ (F := F)) Variants.none none Set.univ := fun t Y hY => by
  obtain ⟨d, hd⟩ := ((rdat0 AP GP U c).finds_of_fetch (fetch0_0 t) (Y 0)).mp (hY 0)
  rw [bigSep_W0, bigSep_W0]
  rw [show (rdat0 AP GP U c).Φ t.castSucc = (rdat0 AP GP U c).Φ t.succ from rfl,
    show (rdat0 AP GP U c).owesAt none t.castSucc = (rdat0 AP GP U c).owesAt none t.succ from rfl]
  iintro ⟨HΦ, Howes, H0, H1⟩
  iapply (wp_pack0 c Set.univ (grid0.coords t) (cfg0.slots t 0) (cfg0.slots t 1) (Y 0) (Y 1) _)
  isplitl [H0 H1]; · isplitl [H0] <;> iassumption
  iintro ⟨H0, H1⟩
  isplitl [HΦ]; · iexact HΦ
  isplitl [Howes]; · iexact Howes
  isplitl [H0]; · iexists (Y 0); isplitr; swap; (· iexact H0); ipureintro; exact rfl
  iexists (k0_pay1 (Y 0)); isplitr; swap; (· iexact H1); ipureintro; exact ⟨d, congrArg k0_pay1 hd⟩

theorem body1 (c : Dev nD) : (rdat1 AQ GQ U c).BodyObligation (defs₀ (F := F)) Variants.none none Set.univ := fun t Y hY => by
  obtain ⟨d, hd⟩ := ((rdat1 AQ GQ U c).finds_of_fetch (fetch1_0 t) (Y 0)).mp (hY 0)
  rw [bigSep_W1, bigSep_W1]
  rw [show (rdat1 AQ GQ U c).Φ t.castSucc = (rdat1 AQ GQ U c).Φ t.succ from rfl,
    show (rdat1 AQ GQ U c).owesAt none t.castSucc = (rdat1 AQ GQ U c).owesAt none t.succ from rfl]
  iintro ⟨HΦ, Howes, H0, H1⟩
  iapply (wp_pack1 c Set.univ (grid1.coords t) (cfg1.slots t 0) (cfg1.slots t 1) (Y 0) (Y 1) _)
  isplitl [H0 H1]; · isplitl [H0] <;> iassumption
  iintro ⟨H0, H1⟩
  isplitl [HΦ]; · iexact HΦ
  isplitl [Howes]; · iexact Howes
  isplitl [H0]; · iexists (Y 0); isplitr; swap; (· iexact H0); ipureintro; exact rfl
  iexists (k1_pay1 (Y 0)); isplitr; swap; (· iexact H1); ipureintro; exact ⟨d, congrArg k1_pay1 hd⟩

/-- What the first call leaves in the packed user table. -/
theorem packedP (c : Dev nD) (G : Vec F S262144x128 .f32) (hG : (rdat0 AP GP U c).ArrAt 1 cfg0.N G) (j : S262144x128.Idx) : CellP AP j (G j) := by
  obtain ⟨X, hX, hall⟩ := Pipeline.RDat.ArrAt.exists_exact hG
  have hG' := hall (fun w u => if h : w = 1 then h ▸ X u else fun _ => Classical.arbitrary _) (fun u _ _ => by simp)
  rw [hG']
  refine Pipeline.Dat.arrAt_forall_of_cover (dat := (rdat0 AP GP U c).withAfter _) 1 (fun j v => CellP AP j v) (fun t hf y => ?_)
    (fun i => cover0_1.cover _ (arr_whole0 1) i) j
  obtain ⟨Y, -, d, hd⟩ := hX t t.isLt hf
  have h0 := win0_1.rect_emb_val t y 0
  have h1 := win0_1.rect_emb_val t y 1
  rw [(index0_1 t).1] at h0
  rw [(index0_1 t).2] at h1
  have key := cellP_block t d AP y (((cfg0.win 1).blk t).view.emb y) h0 (h1.trans (by show 0 * 128 + (y 1).val = _; omega))
  rw [← hd] at key
  refine (cast_eq _ _).symm ▸ ?_
  have e : ((rdat0 AP GP U c).withAfter (fun w u => if h : w = 1 then h ▸ X u else fun _ => Classical.arbitrary _)).flushed 1 t y = X t y := by
    unfold Pipeline.Dat.flushed
    rfl
  rw [e]; exact key

/-- What the second call leaves in the packed item table. -/
theorem packedQ (c : Dev nD) (G : Vec F S25600x128 .f32) (hG : (rdat1 AQ GQ U c).ArrAt 1 cfg1.N G) (j : S25600x128.Idx) : CellQ AQ j (G j) := by
  obtain ⟨X, hX, hall⟩ := Pipeline.RDat.ArrAt.exists_exact hG
  have hG' := hall (fun w u => if h : w = 1 then h ▸ X u else fun _ => Classical.arbitrary _) (fun u _ _ => by simp)
  rw [hG']
  refine Pipeline.Dat.arrAt_forall_of_cover (dat := (rdat1 AQ GQ U c).withAfter _) 1 (fun j v => CellQ AQ j v) (fun t hf y => ?_)
    (fun i => cover1_1.cover _ (arr_whole1 1) i) j
  obtain ⟨Y, -, d, hd⟩ := hX t t.isLt hf
  have h0 := win1_1.rect_emb_val t y 0
  have h1 := win1_1.rect_emb_val t y 1
  rw [(index1_1 t).1] at h0
  rw [(index1_1 t).2] at h1
  have key := cellQ_block t d AQ y (((cfg1.win 1).blk t).view.emb y) h0 (h1.trans (by show 0 * 128 + (y 1).val = _; omega))
  rw [← hd] at key
  refine (cast_eq _ _).symm ▸ ?_
  have e : ((rdat1 AQ GQ U c).withAfter (fun w u => if h : w = 1 then h ▸ X u else fun _ => Classical.arbitrary _)).flushed 1 t y = X t y := by
    unfold Pipeline.Dat.flushed
    rfl
  rw [e]; exact key

/-! ### The calls as regions of @main -/

section Regions

theorem low_of_bound {c : Dev nD} {cfg : Pipeline.Cfg sig Λ₀} {W : Waits sig (HIx 1)} (h : (W : Set (SemLoc sig × HIx 1)) ⊆ low F c ∪ cfg.waitPairs none) :
    (sc (F := F)).WBelow (T c) W 0 := fun p hp => by
  rcases h hp with h | ⟨w, s, h⟩
  · exact h
  · rw [h]; exact le_rfl

theorem whole_pts {sp : Space} {S : Shape} {e : EltTy} {M : Memref sig .tc sp S e} (h : M.IsWhole) (c : Dev nD) (q : PosShare TreeShare) (f : Buf (Elt F) (M.view.loc (c : Thread nD τ))) :
    (M.view.loc (c : Thread nD τ) ↦[M.view.set]{q} f : sProp 𝕄) = M.view.loc (c : Thread nD τ) ↦{q} f := by
  rw [h.set_eq_univ]

/-- The first call. -/
def region0 (levels : GSem nD τ sig → HIx 1 → ℕ) (hlev : (sc (F := F)).Refines levels) :
    Pipeline.RDat.RegionSeg (pcfgs (F := F)) adm (rdats AP GP AQ GQ U) none (defs₀ (F := F)) Variants.none (sc (F := F)).L levels 0 where
  win := launch0.win.to₀
  block_pos := launch0.block_pos
  stage_whole := launch0.stage_whole
  K := PEmpty
  osem k := k.elim
  ho := Pipeline.OwnSemFacts.none _
  hbody c := body0 AP GP c
  hwaits c := Pipeline.RDat.cellsWaits_intro _ _ none 0 c fun w s t => (sc (F := F)).mayWait_none _ (owed_none c) levels hlev
  pre c := iprop(((T c : Thread nD τ).loc main_v0 ↦{fullShare} AP) ∗ ((T c : Thread nD τ).loc main_v1 ↦{fullShare} GP) ∗ debt F U c)
  post c := iprop(((T c : Thread nD τ).loc main_v0 ↦{fullShare} AP) ∗ (∃ G : Vec F S262144x128 .f32, ⌜∀ j, CellP AP j (G j)⌝ ∗ (T c : Thread nD τ).loc main_v1 ↦{fullShare} G) ∗ debt F U c)
  X _ := BI.emp
  Y _ := BI.emp
  Z _ := BI.emp
  hentry c := by
    rw [Pipeline.ownSems0_none]
    unfold Pipeline.RDat.arrays debt
    rw [bigSep_W0]
    iintro ⟨⟨H0, H1, HO⟩, -, -⟩
    imodintro
    isplitl [H0 H1]
    · isplitl [H0]
      · iapply (Entails.of_eq (by exact (whole_pts (arr_whole0 0) c fullShare _).symm)) $$ H0
      · iapply (Entails.of_eq (by exact (whole_pts (arr_whole0 1) c fullShare _).symm)) $$ H1
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, %hW, HO⟩; iexists W; isplitr; · ipureintro; exact fun p hp => Or.inl (hW p hp)
      iexact HO
    isplitr <;> iempintro
  hin c := by
    rw [show (rdats AP GP AQ GQ U 0 c).Φ 0 = Pipeline.scopedRest (Ix := HIx 1) (Name := ℕ) (U := U) (Lvl := ℕ) (Val := Elt F) spec0 c from rfl]
    iintro ⟨-, -, Hr⟩; iexact Hr
  hout c := by
    rw [Pipeline.ownSems0_none, show (rdats AP GP AQ GQ U 0 c).Φ (Fin.last _) = Pipeline.scopedRest (Ix := HIx 1) (Name := ℕ) (U := U) (Lvl := ℕ) (Val := Elt F) spec0 c from rfl]
    iintro Hr
    isplitr; · iempintro
    isplitr; · iempintro
    iexact Hr
  hexit c := by
    unfold Pipeline.RDat.arraysAt debt
    rw [bigSep_W0]
    iintro ⟨⟨⟨%f0, %h0, H0⟩, ⟨%f1, %h1, H1⟩⟩, HO, -, -⟩
    imodintro
    have e0 : f0 = AP := (congrFun ((rdat0 AP GP U c).ArrAt_in 0 rfl cfg0.N) f0).mp h0
    subst e0
    isplitl [H0]; · iapply (Entails.of_eq (by exact whole_pts (arr_whole0 0) c fullShare _)) $$ H0
    isplitl [H1]
    · iexists f1; isplitr; · ipureintro; exact packedP f0 GP c f1 h1
      iapply (Entails.of_eq (by exact whole_pts (arr_whole0 1) c fullShare _)) $$ H1
    unfold Pipeline.RDat.owesAt Pipeline.owesWithin
    icases HO with ⟨%W, %hW, HO⟩; iexists W; isplitr; · ipureintro; exact low_of_bound hW
    iexact HO

/-- The second call. -/
def region1 (levels : GSem nD τ sig → HIx 1 → ℕ) (hlev : (sc (F := F)).Refines levels) :
    Pipeline.RDat.RegionSeg (pcfgs (F := F)) adm (rdats AP GP AQ GQ U) none (defs₀ (F := F)) Variants.none (sc (F := F)).L levels 1 where
  win := launch1.win.to₀
  block_pos := launch1.block_pos
  stage_whole := launch1.stage_whole
  K := PEmpty
  osem k := k.elim
  ho := Pipeline.OwnSemFacts.none _
  hbody c := body1 AQ GQ c
  hwaits c := Pipeline.RDat.cellsWaits_intro _ _ none 1 c fun w s t => (sc (F := F)).mayWait_none _ (owed_none c) levels hlev
  pre c := iprop(((T c : Thread nD τ).loc main_v2 ↦{fullShare} AQ) ∗ ((T c : Thread nD τ).loc main_v3 ↦{fullShare} GQ) ∗ debt F U c)
  post c := iprop(((T c : Thread nD τ).loc main_v2 ↦{fullShare} AQ) ∗ (∃ G : Vec F S25600x128 .f32, ⌜∀ j, CellQ AQ j (G j)⌝ ∗ (T c : Thread nD τ).loc main_v3 ↦{fullShare} G) ∗ debt F U c)
  X _ := BI.emp
  Y _ := BI.emp
  Z _ := BI.emp
  hentry c := by
    rw [Pipeline.ownSems0_none]
    unfold Pipeline.RDat.arrays debt
    rw [bigSep_W1]
    iintro ⟨⟨H0, H1, HO⟩, -, -⟩
    imodintro
    isplitl [H0 H1]
    · isplitl [H0]
      · iapply (Entails.of_eq (by exact (whole_pts (arr_whole1 0) c fullShare _).symm)) $$ H0
      · iapply (Entails.of_eq (by exact (whole_pts (arr_whole1 1) c fullShare _).symm)) $$ H1
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, %hW, HO⟩; iexists W; isplitr; · ipureintro; exact fun p hp => Or.inl (hW p hp)
      iexact HO
    isplitr <;> iempintro
  hin c := by
    rw [show (rdats AP GP AQ GQ U 1 c).Φ 0 = Pipeline.scopedRest (Ix := HIx 1) (Name := ℕ) (U := U) (Lvl := ℕ) (Val := Elt F) spec1 c from rfl]
    iintro ⟨-, -, Hr⟩; iexact Hr
  hout c := by
    rw [Pipeline.ownSems0_none, show (rdats AP GP AQ GQ U 1 c).Φ (Fin.last _) = Pipeline.scopedRest (Ix := HIx 1) (Name := ℕ) (U := U) (Lvl := ℕ) (Val := Elt F) spec1 c from rfl]
    iintro Hr
    isplitr; · iempintro
    isplitr; · iempintro
    iexact Hr
  hexit c := by
    unfold Pipeline.RDat.arraysAt debt
    rw [bigSep_W1]
    iintro ⟨⟨⟨%f0, %h0, H0⟩, ⟨%f1, %h1, H1⟩⟩, HO, -, -⟩
    imodintro
    have e0 : f0 = AQ := (congrFun ((rdat1 AQ GQ U c).ArrAt_in 0 rfl cfg1.N) f0).mp h0
    subst e0
    isplitl [H0]; · iapply (Entails.of_eq (by exact whole_pts (arr_whole1 0) c fullShare _)) $$ H0
    isplitl [H1]
    · iexists f1; isplitr; · ipureintro; exact packedQ f0 GQ c f1 h1
      iapply (Entails.of_eq (by exact whole_pts (arr_whole1 1) c fullShare _)) $$ H1
    unfold Pipeline.RDat.owesAt Pipeline.owesWithin
    icases HO with ⟨%W, %hW, HO⟩; iexists W; isplitr; · ipureintro; exact low_of_bound hW
    iexact HO

variable [∀ e, Nonempty (Elt F e)] (EP : Emb (URounds (GSem nD τ sig) Unit) (MT nD τ sig (HIx 1) (Elt F) ℕ U ℕ)) [EP.LandsIn (upEmb : UEmb _ (MT nD τ sig (HIx 1) (Elt F) ℕ U ℕ))]

/-- What the launch gives a call's loop: its semaphores' records. -/
def loopGhost (p : Fin 2) (c : Dev nD) : sProp 𝕄 :=
  iprop(Pipeline.cellsGhost (Pipeline.pin (pcfgs (F := F)) adm) EP p c ∗ Pipeline.toksInit (Pipeline.pin (pcfgs (F := F)) adm) EP p c)

include AQ GQ in
/-- The first call in @main. -/
theorem wp_call0 (levels : GSem nD τ sig → HIx 1 → ℕ) (hlev : (sc (F := F)).Refines levels) (c : Dev nD) (Q : PUnit → sProp 𝕄) :
    iprop((iprop(boundary (T c : Thread nD τ) ∗ ((T c : Thread nD τ).loc main_v0 ↦{fullShare} AP)
          ∗ (∃ G : Vec F S262144x128 .f32, ⌜∀ j, CellP AP j (G j)⌝ ∗ (T c : Thread nD τ).loc main_v1 ↦{fullShare} G) ∗ debt F U c) -∗ Q ⟨⟩)
        ∗ boundary (T c : Thread nD τ) ∗ (((T c : Thread nD τ).loc main_v0 ↦{fullShare} AP) ∗ ((T c : Thread nD τ).loc main_v1 ↦{fullShare} GP) ∗ debt F U c)
        ∗ levAts (sc (F := F)).L levels ∗ loopGhost EP 0 c)
      ⊢ wp frame (wpE ((sc (F := F)).defs (Pipeline.defs pcfgs defs₀)) Variants.none.lift (T c : Thread nD τ) none) Set.univ
          (SparseCore.liftProg (Prog.lift (.customCall (Pipeline.entry 0) ()))) Q := by
  refine BIBase.Entails.trans ?_ ((sc (F := F)).wp_liftProg (Pipeline.defs pcfgs defs₀) Variants.none.lift (T c) Set.univ none _ _)
  refine BIBase.Entails.trans ?_ (Pipeline.RDat.RegionSeg.wp (pcfgs (F := F)) adm (rdats AP GP AQ GQ U) none cellOf_inj EP defs₀ Variants.none
    (sc (F := F)).L levels (region0 AP GP AQ GQ levels hlev) c none (by intro u hu; cases hu) (fun x => .ret x) Q)
  rw [show (region0 AP GP AQ GQ levels hlev (U := U)).post c = iprop(((T c : Thread nD τ).loc main_v0 ↦{fullShare} AP)
      ∗ (∃ G : Vec F S262144x128 .f32, ⌜∀ j, CellP AP j (G j)⌝ ∗ (T c : Thread nD τ).loc main_v1 ↦{fullShare} G) ∗ debt F U c) from rfl,
    show (region0 AP GP AQ GQ levels hlev (U := U)).pre c = iprop(((T c : Thread nD τ).loc main_v0 ↦{fullShare} AP)
      ∗ ((T c : Thread nD τ).loc main_v1 ↦{fullShare} GP) ∗ debt F U c) from rfl]
  unfold loopGhost
  iintro ⟨Hk, Hb, Hp, HL, Hc, Ht⟩
  isplitl [Hk]
  · iintro H
    rw [wp_ret]
    imodintro
    iapply Hk $$ H
  isplitl [Hb]; · iexact Hb
  isplitl [Hp]; · iexact Hp
  isplitl [HL]; · iexact HL
  isplitl [Hc] <;> iassumption

include AP GP in
/-- The second call in @main. -/
theorem wp_call1 (levels : GSem nD τ sig → HIx 1 → ℕ) (hlev : (sc (F := F)).Refines levels) (c : Dev nD) (Q : PUnit → sProp 𝕄) :
    iprop((iprop(boundary (T c : Thread nD τ) ∗ ((T c : Thread nD τ).loc main_v2 ↦{fullShare} AQ)
          ∗ (∃ G : Vec F S25600x128 .f32, ⌜∀ j, CellQ AQ j (G j)⌝ ∗ (T c : Thread nD τ).loc main_v3 ↦{fullShare} G) ∗ debt F U c) -∗ Q ⟨⟩)
        ∗ boundary (T c : Thread nD τ) ∗ (((T c : Thread nD τ).loc main_v2 ↦{fullShare} AQ) ∗ ((T c : Thread nD τ).loc main_v3 ↦{fullShare} GQ) ∗ debt F U c)
        ∗ levAts (sc (F := F)).L levels ∗ loopGhost EP 1 c)
      ⊢ wp frame (wpE ((sc (F := F)).defs (Pipeline.defs pcfgs defs₀)) Variants.none.lift (T c : Thread nD τ) none) Set.univ
          (SparseCore.liftProg (Prog.lift (.customCall (Pipeline.entry 1) ()))) Q := by
  refine BIBase.Entails.trans ?_ ((sc (F := F)).wp_liftProg (Pipeline.defs pcfgs defs₀) Variants.none.lift (T c) Set.univ none _ _)
  refine BIBase.Entails.trans ?_ (Pipeline.RDat.RegionSeg.wp (pcfgs (F := F)) adm (rdats AP GP AQ GQ U) none cellOf_inj EP defs₀ Variants.none
    (sc (F := F)).L levels (region1 AP GP AQ GQ levels hlev) c none (by intro u hu; cases hu) (fun x => .ret x) Q)
  rw [show (region1 AP GP AQ GQ levels hlev (U := U)).post c = iprop(((T c : Thread nD τ).loc main_v2 ↦{fullShare} AQ)
      ∗ (∃ G : Vec F S25600x128 .f32, ⌜∀ j, CellQ AQ j (G j)⌝ ∗ (T c : Thread nD τ).loc main_v3 ↦{fullShare} G) ∗ debt F U c) from rfl,
    show (region1 AP GP AQ GQ levels hlev (U := U)).pre c = iprop(((T c : Thread nD τ).loc main_v2 ↦{fullShare} AQ)
      ∗ ((T c : Thread nD τ).loc main_v3 ↦{fullShare} GQ) ∗ debt F U c) from rfl]
  unfold loopGhost
  iintro ⟨Hk, Hb, Hp, HL, Hc, Ht⟩
  isplitl [Hk]
  · iintro H
    rw [wp_ret]
    imodintro
    iapply Hk $$ H
  isplitl [Hb]; · iexact Hb
  isplitl [Hp]; · iexact Hp
  isplitl [HL]; · iexact HL
  isplitl [Hc] <;> iassumption

end Regions

end Cert.KernelIdeal.Lfm
-- ==== Proof.Grant.lean ====
/- What a tile is handed and hands back, and the kernel's result as a function of its arguments. -/
module

public import proofs.«01_k».proof.Proof.Pack
public import proofs.«01_k».proof.Proof.Tile

@[expose] public section

noncomputable section

namespace Cert.KernelIdeal.Lfm

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Cert.GatherRule
open Facts₀ Facts

variable {F : FTy → Type} [FloatOps F] {U : Type} [URA U]

local notation "𝕄" => MT nD τ sig (HIx 1) (Elt F) ℕ U ℕ

/-! ## The result -/

/-- The user a word names. -/
def userOf (u : BitVec 32) : Fin 1000000 := ⟨u.toNat % 1000000, Nat.mod_lt _ (by decide)⟩
/-- The item a word names. -/
def itemOf (w : BitVec 32) : Fin 100000 := ⟨w.toNat % 100000, Nat.mod_lt _ (by decide)⟩
/-- The lane a number names. -/
def factorOf (k : ℕ) : Fin 32 := ⟨k % 32, Nat.mod_lt _ (by decide)⟩

/-- The mean, the two biases and the first `n` products of factors, added in the kernel's order. -/
def predTo (P : Vec F S1000000x32 .f32) (Q : Vec F S100000x32 .f32) (bu : Vec F S1000000x1 .f32) (bi : Vec F S100000x1 .f32)
    (u : Fin 1000000) (w : Fin 100000) : ℕ → F .f32
  | 0 => FloatOps.addf (FloatOps.addf (Scalar.ofBits .f32 0x40600000#32) (bu (pair u 0))) (bi (pair w 0))
  | n + 1 => FloatOps.addf (predTo P Q bu bi u w n) (FloatOps.mulf (P (pair u (factorOf n))) (Q (pair w (factorOf n))))

abbrev Mem (F : FTy → Type) : Type := (ℓ : Loc nD τ sig) → Buf (Elt F) ℓ

abbrev uLoc (d : Dev nD) : Loc nD τ sig := (T d : Thread nD τ).loc main_arg0
abbrev iLoc (d : Dev nD) : Loc nD τ sig := (T d : Thread nD τ).loc main_arg1
abbrev oLoc (d : Dev nD) : Loc nD τ sig := (T d : Thread nD τ).loc main_v10

variable (m : Mem F) (d : Dev nD)

/-- The prediction for a user and an item, from the launch memory. -/
def pred (u : Fin 1000000) (w : Fin 100000) : F .f32 :=
  predTo (m ((T d : Thread nD τ).loc main_arg2)) (m ((T d : Thread nD τ).loc main_arg3)) (m ((T d : Thread nD τ).loc main_arg4)) (m ((T d : Thread nD τ).loc main_arg5)) u w 32

/-- The kernel's result. -/
def outVal : Buf (Elt F) (oLoc d) :=
  fun x : S16384.Idx => pred m d (userOf ((m (uLoc d) : S16384.Idx → BitVec 32) x)) (itemOf ((m (iLoc d) : S16384.Idx → BitVec 32) x))

/-- The four tables the gathers read hold what the launch memory says. -/
def Good (X : Tabs F) : Prop :=
  ∀ u w : BitVec 32, u.toNat < 1000000 → w.toNat < 100000 → score X u w = pred m d (userOf u) (itemOf w)

/-- The index arrays name users and items. -/
def InRange : Prop := ∀ (d : Dev nD) (x : S16384.Idx),
  ((m (uLoc d) : S16384.Idx → BitVec 32) x).toNat < 1000000 ∧ ((m (iLoc d) : S16384.Idx → BitVec 32) x).toNat < 100000

/-! ## A tile's share -/

variable (i : grid2.Coords)

/-- The tile's part of the index arrays and of the result. -/
abbrev part (i : grid2.Coords) : Rect S16384 := Rect.unit (s := S16384) (k2_off1 i) S512.size (k2_off1_inb i)
abbrev partSet (i : grid2.Coords) : Finset S16384.Idx := (part i).set

/-- What a tile is handed. -/
abbrev goP (q : PosShare TreeShare) : sProp 𝕄 :=
  iprop((uLoc d ↦[partSet i]{fullShare} m (uLoc d)) ∗ (iLoc d ↦[partSet i]{fullShare} m (iLoc d))
    ∗ (∃ f : Buf (Elt F) (oLoc d), oLoc d ↦[partSet i]{fullShare} f) ∗ ∃ X : Tabs F, ⌜Good m d X⌝ ∗ tabsPts d i q X)
/-- What a tile hands back. -/
abbrev tdP : sProp 𝕄 :=
  iprop((uLoc d ↦[partSet i]{fullShare} m (uLoc d)) ∗ (iLoc d ↦[partSet i]{fullShare} m (iLoc d))
    ∗ (oLoc d ↦[partSet i]{fullShare} outVal m d))

omit [FloatOps F] in
theorem set_entries_u : (entriesOf i uM).view.set = partSet i := by
  show ((View.whole (main_arg0_scv : Ref sig .scVector)).slice (part i)).set = _
  rw [View.set_slice]; exact Finset.map_refl
omit [FloatOps F] in
theorem set_entries_i : (entriesOf i iM).view.set = partSet i := by
  show ((View.whole (main_arg1_scv : Ref sig .scVector)).slice (part i)).set = _
  rw [View.set_slice]; exact Finset.map_refl
omit [FloatOps F] in
theorem set_results : (resultsOf i).view.set = partSet i := by
  show ((View.whole (main_v10_scv : Ref sig .scVector)).slice (part i)).set = _
  rw [View.set_slice]; exact Finset.map_refl

omit [FloatOps F] in
theorem pts_entries_u (q : PosShare TreeShare) (f : Buf (Elt F) (uLoc d)) :
    ((entriesOf i uM).view.loc (thr d i) ↦[(entriesOf i uM).view.set]{q} f : sProp 𝕄) = (uLoc d ↦[partSet i]{q} f) := by
  rw [set_entries_u]
omit [FloatOps F] in
theorem pts_entries_i (q : PosShare TreeShare) (f : Buf (Elt F) (iLoc d)) :
    ((entriesOf i iM).view.loc (thr d i) ↦[(entriesOf i iM).view.set]{q} f : sProp 𝕄) = (iLoc d ↦[partSet i]{q} f) := by
  rw [set_entries_i]
omit [FloatOps F] in
theorem pts_results (q : PosShare TreeShare) (f : Buf (Elt F) (oLoc d)) :
    ((resultsOf i).view.loc (thr d i) ↦[(resultsOf i).view.set]{q} f : sProp 𝕄) = (oLoc d ↦[partSet i]{q} f) := by
  rw [set_results]

omit [FloatOps F] in
theorem mine_u (f : Buf (Elt F) (uLoc d)) (y : S512.Idx) : mine (F := F) i uM f y = (f : S16384.Idx → BitVec 32) ((part i).emb y) := rfl
omit [FloatOps F] in
theorem mine_i (f : Buf (Elt F) (iLoc d)) (y : S512.Idx) : mine (F := F) i iM f y = (f : S16384.Idx → BitVec 32) ((part i).emb y) := rfl

theorem entsOK (h : InRange m) : EntsOK (mine (F := F) i uM (m (uLoc d))) (mine (F := F) i iM (m (iLoc d))) := fun y => h d ((part i).emb y)

omit [FloatOps F] in
theorem ixE_surj (y : S512.Idx) : ∃ n, n < 512 ∧ y = ixE n := by
  have h : (y 0).val < 512 := (y 0).isLt
  refine ⟨(y 0).val, h, ?_⟩
  funext a
  match a with
  | 0 => exact Fin.ext (by show (y 0).val = (y 0).val % 512; omega)

/-- The results a tile leaves are the kernel's. -/
theorem results_val (h : InRange m) {X : Tabs F} (hX : Good m d X) (fo : Buf (Elt F) (oLoc d)) (ob : Res F)
    (hD : Done X (mine (F := F) i uM (m (uLoc d))) (mine (F := F) i iM (m (iLoc d))) 512 ob) :
    ((oLoc d ↦[partSet i]{fullShare} (resultsOf i).view.write (Elt F) fo ob Finset.univ) : sProp 𝕄) = (oLoc d ↦[partSet i]{fullShare} outVal m d) := by
  refine pointsTo_congr fun x hx => ?_
  replace hx : x ∈ (resultsOf i).view.set := (set_results i).symm ▸ hx
  obtain ⟨y, -, rfl⟩ := Finset.mem_map.mp hx
  refine (View.write_emb_of_mem (v := (resultsOf i).view) (Val := Elt F) fo ob (Finset.mem_univ y)).trans ?_
  obtain ⟨n, hn, rfl⟩ := ixE_surj y
  have e := (hD n hn).trans (hX _ _ (entsOK m d i h (ixE n)).1 (entsOK m d i h (ixE n)).2)
  exact e

/-! ## Halves and slots -/

omit [FloatOps F] in
theorem tabs_halves (q : PosShare TreeShare) (X : Tabs F) : (tabsPts d i q X : sProp 𝕄) ⊢ iprop(tabsPts d i q.left X ∗ tabsPts d i q.right X) := by
  have e : (tabsPts d i q X : sProp 𝕄) = bigSep Finset.univ fun r : Fin 4 => iprop(
      ((tab r).view.loc (thr d i) ↦[(tab r).view.set]{q.left} (X r : Buf (Elt F) ((tab r).view.loc (thr d i))))
      ∗ ((tab r).view.loc (thr d i) ↦[(tab r).view.set]{q.right} (X r : Buf (Elt F) ((tab r).view.loc (thr d i))))) :=
    bigSep_congr fun r _ => BI.Entails.antisymm (pointsTo_share (PosShare.mem_left_op_right q)).1 (pointsTo_share (PosShare.mem_left_op_right q)).2
  exact Entails.of_eq (e.trans (bigSep_sep' ..))

abbrev bufPts (r : Fin 4) (f : Buf (Elt F) ((buf r).view.loc (thr d i))) : sProp 𝕄 := (buf r).view.loc (thr d i) ↦{fullShare} f
abbrev slotPts (r : Fin 4) (s : Fin 2) (f : Buf (Elt F) ((buf r).view.loc (thr d i))) : sProp 𝕄 :=
  (buf r).view.loc (thr d i) ↦[(slotOf (buf r) s).view.set]{fullShare} f

omit [FloatOps F] in
theorem buf_slots (r : Fin 4) : (slotOf (buf r) 0).view.set ∪ (slotOf (buf r) 1).view.set = Finset.univ := by
  have h : (buf r).view.set = Finset.univ := by fin_cases r <;> exact View.set_whole _
  exact Finset.univ_subset_iff.mp (h ▸ slotOf_union (buf r) (show (0 : Fin 2) ≠ 1 by decide))

omit [FloatOps F] in
theorem buf_split (r : Fin 4) (f : Buf (Elt F) ((buf r).view.loc (thr d i))) :
    (bufPts d i r f : sProp 𝕄) ⊢ iprop(slotPts d i r 0 f ∗ slotPts d i r 1 f) := by
  have e : (bufPts d i r f : sProp 𝕄) = ((buf r).view.loc (thr d i) ↦[(slotOf (buf r) 0).view.set ∪ (slotOf (buf r) 1).view.set]{fullShare} f) := by
    rw [buf_slots]
  rw [e]
  exact (pointsTo_union (slotOf_disjoint (buf r) (show (0 : Fin 2) ≠ 1 by decide))).1
omit [FloatOps F] in
theorem buf_join (r : Fin 4) (f g : Buf (Elt F) ((buf r).view.loc (thr d i))) :
    iprop(slotPts d i r 0 f ∗ slotPts d i r 1 g) ⊢ (iprop(∃ f, bufPts d i r f) : sProp 𝕄) := by
  refine (pointsTo_join (slotOf_disjoint (buf r) (show (0 : Fin 2) ≠ 1 by decide))).trans ?_
  rw [buf_slots]
  iintro H; iexists _; iexact H

abbrev lsPts (f : Buf (Elt F) (lsM.view.loc (thr d i))) : sProp 𝕄 := lsM.view.loc (thr d i) ↦{fullShare} f

omit [FloatOps F] in
theorem ls_split (f : Lists) : (lsPts d i f : sProp 𝕄) ⊢ iprop(listsPts d i 0 f ∗ listsPts d i 1 f) := by
  have e : (lsPts d i f : sProp 𝕄) = (lsM.view.loc (thr d i) ↦[slotLists 0 ∪ slotLists 1]{fullShare} f) := by
    rw [slotLists_union]
  rw [e]
  exact (pointsTo_union slotLists_disjoint).1
omit [FloatOps F] in
theorem ls_join (f g : Lists) : iprop(listsPts d i 0 f ∗ listsPts d i 1 g) ⊢ (iprop(∃ f, lsPts d i f) : sProp 𝕄) := by
  refine (pointsTo_join slotLists_disjoint).trans ?_
  rw [slotLists_union]
  iintro H; iexists _; iexact H

/-- The two slots with nothing in flight, from the tile's buffers, semaphores and share of the tables. -/
theorem idle_of (q : PosShare TreeShare) (X : Tabs F) :
    iprop((∃ f : Lists, lsPts d i f) ∗ ((∃ f, bufPts d i 0 f) ∗ (∃ f, bufPts d i 1 f) ∗ (∃ f, bufPts d i 2 f) ∗ (∃ f, bufPts d i 3 f))
        ∗ (semVal (thr d i, SemLoc.dma (slotSem 0)) 0 ∗ semVal (thr d i, SemLoc.dma (slotSem 1)) 0) ∗ tabsPts d i q X)
      ⊢ (iprop(idle d i 0 q.left X ∗ idle d i 1 q.right X) : sProp 𝕄) := by
  iintro ⟨⟨%fo, Hl⟩, ⟨⟨%f0, H0⟩, ⟨%f1, H1⟩, ⟨%f2, H2⟩, ⟨%f3, H3⟩⟩, ⟨Hs0, Hs1⟩, HT⟩
  icases (ls_split d i fo) $$ Hl with ⟨Hl, Hl'⟩
  icases (buf_split d i 0 f0) $$ H0 with ⟨H0, H0'⟩
  icases (buf_split d i 1 f1) $$ H1 with ⟨H1, H1'⟩
  icases (buf_split d i 2 f2) $$ H2 with ⟨H2, H2'⟩
  icases (buf_split d i 3 f3) $$ H3 with ⟨H3, H3'⟩
  icases (tabs_halves d i q X) $$ HT with ⟨HT, HT'⟩
  unfold idle
  isplitl [Hl H0 H1 H2 H3 HT Hs0]
  · isplitl [Hl H0 H1 H2 H3]
    · iexists (fun | 0 => f0 | 1 => f1 | 2 => f2 | 3 => f3 : Bufs F); iexists fo
      isplitr [Hl]
      · iapply (Entails.of_eq (bigSep_four _).symm)
        isplitl [H0]; · iexact H0
        isplitl [H1]; · iexact H1
        isplitl [H2]; · iexact H2
        iexact H3
      iexact Hl
    isplitl [HT]; · iexact HT
    iexact Hs0
  · isplitl [Hl' H0' H1' H2' H3']
    · iexists (fun | 0 => f0 | 1 => f1 | 2 => f2 | 3 => f3 : Bufs F); iexists fo
      isplitr [Hl']
      · iapply (Entails.of_eq (bigSep_four _).symm)
        isplitl [H0']; · iexact H0'
        isplitl [H1']; · iexact H1'
        isplitl [H2']; · iexact H2'
        iexact H3'
      iexact Hl'
    isplitl [HT']; · iexact HT'
    iexact Hs1

/-- The tile's buffers and semaphores, from the two slots with nothing in flight. -/
theorem of_idle (q q' : PosShare TreeShare) (X : Tabs F) :
    (iprop(idle d i 0 q X ∗ idle d i 1 q' X) : sProp 𝕄)
      ⊢ iprop((∃ f : Lists, lsPts d i f) ∗ ((∃ f, bufPts d i 0 f) ∗ (∃ f, bufPts d i 1 f) ∗ (∃ f, bufPts d i 2 f) ∗ (∃ f, bufPts d i 3 f))
        ∗ (semVal (thr d i, SemLoc.dma (slotSem 0)) 0 ∗ semVal (thr d i, SemLoc.dma (slotSem 1)) 0)) := by
  unfold idle
  iintro ⟨⟨⟨%B, %fo, HB, Hl⟩, -, Hs0⟩, ⟨%B', %fo', HB', Hl'⟩, -, Hs1⟩
  icases (Entails.of_eq (bigSep_four _)) $$ HB with ⟨H0, H1, H2, H3⟩
  icases (Entails.of_eq (bigSep_four _)) $$ HB' with ⟨H0', H1', H2', H3'⟩
  isplitl [Hl Hl']
  · iapply (ls_join d i fo fo')
    isplitl [Hl]; · iexact Hl
    iexact Hl'
  isplitr [Hs0 Hs1]
  · isplitl [H0 H0']
    · iapply (buf_join d i 0 (B 0) (B' 0)); isplitl [H0]; · iexact H0
      iexact H0'
    isplitl [H1 H1']
    · iapply (buf_join d i 1 (B 1) (B' 1)); isplitl [H1]; · iexact H1
      iexact H1'
    isplitl [H2 H2']
    · iapply (buf_join d i 2 (B 2) (B' 2)); isplitl [H2]; · iexact H2
      iexact H2'
    · iapply (buf_join d i 3 (B 3) (B' 3)); isplitl [H3]; · iexact H3
      iexact H3'
  · isplitl [Hs0]; · iexact Hs0
    iexact Hs1

end Cert.KernelIdeal.Lfm

end
-- ==== Proof.Task.lean ====
/- The SparseCore call's obligations: what its handshakes carry, and each tile's task. -/
module

public import proofs.«01_k».proof.Proof.BodyEq
public import proofs.«01_k».proof.Proof.Grant
public import Idealize.ShloMosaic.Lib.SparseCore.Quiescent
public import Idealize.ShloMosaic.Lib.SparseCore.Ops
public import Idealize.ShloMosaic.Lib.Pipeline.Kit

@[expose] public section

noncomputable section

namespace Cert.KernelIdeal.Lfm

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers hiding landed
open Cert.GatherRule
open Facts₀ Facts

variable {F : FTy → Type} [FloatOps F]

/-! ## The launch's set-up -/

abbrev ΛP : Labels := Pipeline.Sig Λ₀ (Fin 2) fun p => (pcfgs (F := F) p).Adm
abbrev K : SparseCore.Cfg τ sig (ΛP (F := F)) 1 := sc (F := F)
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The handshakes' rounds, the packing calls' rounds, the write modes and the transfers' counters. -/
abbrev UH : Type := URounds (GSem nD τ sig) ℕ
abbrev UU (F : FTy → Type) : Type := UH × (URounds (GSem nD τ sig) Unit × (WmRA nD τ sig (Elt F) × Counters))

local notation "𝕄" => MT nD τ sig (HIx 1) (Elt F) ℕ (UU F) ℕ

abbrev EH : Emb UH (MT nD τ sig (HIx 1) (Elt F) ℕ (UU F) ℕ) := embL
abbrev embP : UEmb (URounds (GSem nD τ sig) Unit) (UU F) := UEmb.inl.trans UEmb.inr
abbrev EP : Emb (URounds (GSem nD τ sig) Unit) (MT nD τ sig (HIx 1) (Elt F) ℕ (UU F) ℕ) := (embP (F := F)).toEmb.trans (uEmb : UEmb (UU F) 𝕄).toEmb
abbrev embW : UEmb (WmRA nD τ sig (Elt F)) (UU F) := (UEmb.inl.trans UEmb.inr).trans UEmb.inr

example : (EP (F := F)).LandsIn (upEmb : UEmb _ 𝕄) := inferInstance
example : (EH (F := F)).LandsIn (upEmb : UEmb _ 𝕄) := inferInstance

/-! ## What the handshakes carry -/

def coordsV (c : Fin (grid2.bound 0)) (s : Fin (grid2.bound 1)) : grid2.Coords :=
  fun | 0 => c | 1 => s | ⟨_ + 2, h⟩ => absurd h (Nat.not_lt.2 (Nat.le_add_left _ _))

/-- Leaf `j` of the depth-`n` halving of the share `q`. -/
def leaf : (n : ℕ) → PosShare TreeShare → Fin (2 ^ n) → PosShare TreeShare
  | 0, q, _ => q
  | n + 1, q, j => if h : j.val < 2 ^ n then leaf n q.left ⟨j.val, h⟩ else leaf n q.right ⟨j.val - 2 ^ n, by omega⟩

/-- The tile's number, and its share of the tables. -/
def tileNo (i : grid2.Coords) : Fin (2 ^ 5) :=
  ⟨16 * (i 0).val + (i 1).val, by
    have h0 : (i 0).val < 2 := (i 0).isLt
    have h1 : (i 1).val < 16 := (i 1).isLt
    omega⟩
def shareOf (i : grid2.Coords) : PosShare TreeShare := leaf 5 fullShare (tileNo i)

variable (m : Mem F)

/-- A tile's part, at its share of the tables. -/
def goT (d : Dev nD) (i : grid2.Coords) : sProp 𝕄 := goP m d i (shareOf i)
def tdT (d : Dev nD) (i : grid2.Coords) : sProp 𝕄 := tdP m d i

instance goT_storable (d : Dev nD) (i : grid2.Coords) : BI.Storable (upEmb : UEmb _ 𝕄) (goT m d i) :=
  (inferInstance : BI.Storable (upEmb : UEmb _ 𝕄) (goP m d i (shareOf i)))
instance tdT_storable (d : Dev nD) (i : grid2.Coords) : BI.Storable (upEmb : UEmb _ 𝕄) (tdT m d i) :=
  (inferInstance : BI.Storable (upEmb : UEmb _ 𝕄) (tdP m d i))

/-- Each core's part is its tiles'; a tile is handed its part, the table shares included, and brings back its indices and its
    results. -/
def P : (K (F := F)).Pay (nD := nD) (Val := Elt F) (Name := ℕ) (U := UU F) where
  st := fun q d c => match q with | 0 => bigSep Finset.univ fun s : Fin (grid2.bound 1) => goT m d (coordsV c s)
  dn := fun q d c => match q with | 0 => bigSep Finset.univ fun s : Fin (grid2.bound 1) => tdT m d (coordsV c s)
  go := fun q d c s => match q with | 0 => goT m d (coordsV c s)
  td := fun q d c s => match q with | 0 => tdT m d (coordsV c s)
  x := fun _ _ => iprop(∃ ι : ℕ, wmInv (embW (F := F)) ι)

instance P_storable : (P (F := F) m).IsStorable where
  st q d c := match q with
    | 0 => (inferInstance : BI.Storable (upEmb : UEmb _ 𝕄) (bigSep Finset.univ fun s : Fin (grid2.bound 1) => goT m d (coordsV c s)))
  dn q d c := match q with
    | 0 => (inferInstance : BI.Storable (upEmb : UEmb _ 𝕄) (bigSep Finset.univ fun s : Fin (grid2.bound 1) => tdT m d (coordsV c s)))
  go q d c s := match q with | 0 => goT_storable m d (coordsV c s)
  td q d c s := match q with | 0 => tdT_storable m d (coordsV c s)

theorem vecSplit : (K (F := F)).VecSplit' (P m) 0 := by
  intro d c
  show (bigSep Finset.univ fun s : Fin (grid2.bound 1) => goT m d (coordsV c s)) ⊢ |={Set.univ}=> iprop(
      (bigSep Finset.univ fun s : Fin (grid2.bound 1) => goT m d (coordsV c s))
      ∗ ((bigSep Finset.univ fun s : Fin (grid2.bound 1) => tdT m d (coordsV c s)) -∗ bigSep Finset.univ fun s : Fin (grid2.bound 1) => tdT m d (coordsV c s)))
  iintro H; imodintro
  isplitl [H]; · iexact H
  iintro H; iexact H

/-! ## The task -/

section Tile

variable (d : Dev nD) (i : grid2.Coords)

abbrev cV (i : grid2.Coords) : Fin τ.nSC := (i 0).castLE hcore2
abbrev jV (i : grid2.Coords) : Fin τ.nSub := (i 1).castLE hsub2

omit [FloatOps F] in
/-- Some of a family's members, one by one, and the rest. -/
theorem bigSep_take {I M : Type} [DecidableEq I] [URA M] (Φ : I → sProp M) : ∀ (l : List I) (S : Finset I), l.Nodup → (∀ x ∈ l, x ∈ S) →
    bigSep S Φ = l.foldr (fun a R => iprop(Φ a ∗ R)) (bigSep (S \ l.toFinset) Φ)
  | [], S, _, _ => by rw [List.toFinset_nil, Finset.sdiff_empty]; rfl
  | a :: l, S, hn, hm => by
    rw [SparseCore.bigSep_erase' (hm a List.mem_cons_self), bigSep_take Φ l (S.erase a) (List.nodup_cons.mp hn).2 fun x hx =>
      Finset.mem_erase.mpr ⟨fun e => (List.nodup_cons.mp hn).1 (e ▸ hx), hm x (List.mem_cons_of_mem _ hx)⟩, List.foldr_cons]
    congr 3
    ext x
    simp only [Finset.mem_sdiff, Finset.mem_erase, List.mem_toFinset, List.mem_cons, not_or]
    tauto

/-- The kernel's semaphores of a tile. -/
def semRefs : List (SemLoc sig) :=
  [.dma cc2_scratch8.sem, .dma cc2_scratch9.sem, .dma cc2_scoped0.sem, .dma cc2_scoped1.sem, .dma cc2_scoped2.sem]
theorem semRefs_nodup : semRefs.Nodup := by decide
theorem semRefs_scoped : ∀ s ∈ semRefs, s.isScoped .scVector = true := by decide
/-- The kernel's buffers of a tile. -/
def bufRefs : List (Ref sig .scVector) :=
  [cc2_scratch0, cc2_scratch1, cc2_scratch2, cc2_scratch3, cc2_scratch4, cc2_scratch5, cc2_scratch6, cc2_scratch7]
theorem bufRefs_nodup : bufRefs.Nodup := by decide

/-- The tile's other semaphores, and its other buffers. -/
def semsLeft : sProp 𝕄 := bigSep (ownCells (thr d i) \ (semRefs.map fun s => ((thr d i, s) : GSem nD τ sig)).toFinset) fun g => semVal g 0
def bufsLeft : sProp 𝕄 :=
  bigSep (ownRefs (τ := τ) (.scVector (cV i) (jV i)) \ (bufRefs.map fun r => (Proc.scVector (cV i) (jV i)).devRef r).toFinset)
    fun b => iprop(∃ f, ((d, b) : Loc nD τ sig) ↦{fullShare} f)

omit [FloatOps F] in
theorem ownSems0_V :
    (ownSems0 (thr d i) : sProp 𝕄)
      = iprop(semVal (thr d i, SemLoc.dma (slotSem 0)) 0 ∗ semVal (thr d i, SemLoc.dma (slotSem 1)) 0 ∗ semVal (thr d i, SemLoc.dma cc2_scoped0.sem) 0
          ∗ semVal (thr d i, SemLoc.dma cc2_scoped1.sem) 0 ∗ semVal (thr d i, SemLoc.dma cc2_scoped2.sem) 0 ∗ semsLeft d i) := by
  unfold SparseCore.Cfg.ownSems0
  exact bigSep_take (fun g => semVal g 0) (semRefs.map fun s => ((thr d i, s) : GSem nD τ sig)) (ownCells (thr d i))
    (semRefs_nodup.map fun a b e => congrArg Prod.snd e) fun x hx => by
      obtain ⟨s, hs, rfl⟩ := List.mem_map.mp hx
      exact mem_ownCells.mpr ⟨rfl, semRefs_scoped s hs⟩

theorem bufRefs_owner (r : Ref sig .scVector) (hr : r ∈ bufRefs) : ((Proc.scVector (cV i) (jV i)).devRef r).owner = .proc (Proc.scVector (cV i) (jV i)) := by
  simp only [bufRefs, List.mem_cons, List.not_mem_nil, or_false] at hr
  rcases hr with rfl | rfl | rfl | rfl | rfl | rfl | rfl | rfl <;> rfl

omit [FloatOps F] in
theorem ownBufs_V :
    (ownBufs (thr d i) : sProp 𝕄)
      = iprop((∃ f, (thr d i).loc cc2_scratch0 ↦{fullShare} f) ∗ (∃ f, (thr d i).loc cc2_scratch1 ↦{fullShare} f)
          ∗ (∃ f, (thr d i).loc cc2_scratch2 ↦{fullShare} f) ∗ (∃ f, (thr d i).loc cc2_scratch3 ↦{fullShare} f)
          ∗ (∃ f, (thr d i).loc cc2_scratch4 ↦{fullShare} f) ∗ (∃ f, (thr d i).loc cc2_scratch5 ↦{fullShare} f)
          ∗ (∃ f, (thr d i).loc cc2_scratch6 ↦{fullShare} f) ∗ (∃ f, (thr d i).loc cc2_scratch7 ↦{fullShare} f) ∗ bufsLeft d i) := by
  unfold SparseCore.Cfg.ownBufs bufsLeft
  refine (bigSep_take (fun b => iprop(∃ f, ((d, b) : Loc nD τ sig) ↦{fullShare} f)) (bufRefs.map fun r => (Proc.scVector (cV i) (jV i)).devRef r)
    (ownRefs (τ := τ) (.scVector (cV i) (jV i))) (bufRefs_nodup.map (Proc.devRef_injective _)) fun x hx => ?_).trans ?_
  · obtain ⟨r, hr, rfl⟩ := List.mem_map.mp hx
    exact SparseCore.Cfg.mem_ownRefs_of_owner (p := Proc.scVector (cV i) (jV i)) (bufRefs_owner i r hr)
  · simp only [bufRefs, List.map_cons, List.map_nil, List.foldr_cons, List.foldr_nil]

set_option maxHeartbeats 1000000 in
/-- The task: from its part of the arrays, its share of the tables, its buffers and semaphores, its results. -/
theorem tile_body (hF : (K (F := F)).Facts) (hR : InRange m) (O : CellTallies nD τ sig (HIx 1)) (W : Waits sig (HIx 1)) (hO : ∀ g, O g none = 0) :
    iprop(levAts (K (F := F)).L (K (F := F)).lev ∗ (∃ ι : ℕ, wmInv (embW (F := F)) ι) ∗ goT m d i
        ∗ scopedBufs (thr d i) ∗ scopedSems0 (thr d i) ∗ owes (thr d i) O W)
      ⊢ wp frame (wpE (defs₀ (F := F)) 𝒱₀ (thr d i) none) Set.univ (tile (F := F) i)
          fun _ => iprop(tdT m d i ∗ scopedBufs (thr d i) ∗ scopedSems0 (thr d i)
            ∗ ∃ W', ⌜∀ p ∈ W', p ∈ W ∨ p.2 = none⌝ ∗ owes (thr d i) O W') := by
  rw [(K (F := F)).scopedBufs_V hF d (cV i) (jV i), SparseCore.Cfg.scopedSems0_V (Val := Elt F) d (cV i) (jV i), ownSems0_V, ownBufs_V]
  unfold goT tdT
  iintro ⟨#Hlv, ⟨%ι, #Hwm⟩, ⟨Hu, Hi, ⟨%fo, Ho⟩, ⟨%X, %hX, HX⟩⟩,
    ⟨⟨%f0, H0⟩, ⟨%f1, H1⟩, ⟨%f2, H2⟩, ⟨%f3, H3⟩, ⟨%f4, H4⟩, ⟨%f5, H5⟩, ⟨%f6, H6⟩, ⟨%f7, H7⟩, Hbufs⟩, ⟨Hs8, Hs9, Hc0, Hc1, Hc2, Hsems⟩, HO⟩
  ihave #Hmw := (show levAts (K (F := F)).L (K (F := F)).lev ⊢ MayWaits (thr d i) (default : HIx 1) O from
    (K (F := F)).mayWaits_none (thr := thr d i) hO) $$ Hlv
  ihave Hu := (Entails.of_eq (pts_entries_u d i fullShare _).symm) $$ Hu
  ihave Hi := (Entails.of_eq (pts_entries_i d i fullShare _).symm) $$ Hi
  ihave Ho := (Entails.of_eq (pts_results d i fullShare _).symm) $$ Ho
  ihave Hid := (idle_of d i (shareOf i) X) $$ [H2 H3 H4 H5 H6 Hs8 Hs9 HX]
  · isplitl [H2]; · iexists f2; iexact H2
    isplitl [H3 H4 H5 H6]
    · isplitl [H3]; · iexists f3; iexact H3
      isplitl [H4]; · iexists f4; iexact H4
      isplitl [H5]; · iexists f5; iexact H5
      iexists f6; iexact H6
    isplitl [Hs8 Hs9]
    · isplitl [Hs8]; · iexact Hs8
      iexact Hs9
    iexact HX
  ihave Hwp := (wp_tile d i (embW (F := F)) 𝒱₀ none (ιwm := ι) O W fullShare (shareOf i) X (m (uLoc d)) (m (iLoc d)) fo (entsOK m d i hR))
      $$ [Hu Hi Ho H0 H1 H7 Hc0 Hc1 Hc2 Hid HO]
  · isplitr
    · isplitr; · iexact Hwm
      iexact Hmw
    isplitl [Hu Hi Ho]
    · isplitl [Hu]; · iexact Hu
      isplitl [Hi]; · iexact Hi
      iexact Ho
    isplitl [H0 H1 H7]
    · isplitl [H0]; · iexists f0; iexact H0
      isplitl [H1]; · iexists f1; iexact H1
      iexists f7; iexact H7
    isplitl [Hc0 Hc1 Hc2]
    · isplitl [Hc0]; · iexact Hc0
      isplitl [Hc1]; · iexact Hc1
      iexact Hc2
    isplitl [Hid]; · iexact Hid
    iexists W; isplitr; · ipureintro; exact fun p hp => .inl hp
    iexact HO
  iapply (wp_wand_r frame (wpE (defs₀ (F := F)) 𝒱₀ (thr d i) none) Set.univ)
  isplitl [Hwp]; · iexact Hwp
  iintro %a ⟨⟨Hu, Hi, ⟨%ob, %hD, Ho⟩⟩, ⟨⟨%g0, H0⟩, ⟨%g1, H1⟩, ⟨%g7, H7⟩⟩, ⟨Hc0, Hc1, Hc2⟩, Hid, HO⟩
  ihave Ho := (Entails.of_eq ((pts_results d i fullShare _).trans (results_val m d i hR hX fo ob hD))) $$ Ho
  ihave Hu := (Entails.of_eq (pts_entries_u d i fullShare _)) $$ Hu
  ihave Hi := (Entails.of_eq (pts_entries_i d i fullShare _)) $$ Hi
  icases (of_idle d i _ _ X) $$ Hid with ⟨⟨%h2, H2⟩, ⟨⟨%h3, H3⟩, ⟨%h4, H4⟩, ⟨%h5, H5⟩, ⟨%h6, H6⟩⟩, Hs8, Hs9⟩
  isplitl [Hu Hi Ho]
  · isplitl [Hu]; · iexact Hu
    isplitl [Hi]; · iexact Hi
    iexact Ho
  isplitl [H0 H1 H2 H3 H4 H5 H6 H7 Hbufs]
  · isplitl [H0]; · iexists g0; iexact H0
    isplitl [H1]; · iexists g1; iexact H1
    isplitl [H2]; · iexists h2; iexact H2
    isplitl [H3]; · iexists h3; iexact H3
    isplitl [H4]; · iexists h4; iexact H4
    isplitl [H5]; · iexists h5; iexact H5
    isplitl [H6]; · iexists h6; iexact H6
    isplitl [H7]; · iexists g7; iexact H7
    iexact Hbufs
  isplitr [HO]
  · isplitl [Hs8]; · iexact Hs8
    isplitl [Hs9]; · iexact Hs9
    isplitl [Hc0]; · iexact Hc0
    isplitl [Hc1]; · iexact Hc1
    isplitl [Hc2]; · iexact Hc2
    iexact Hsems
  iexact HO

theorem defs₀_vector (c : Fin τ.nSC) (s : Fin τ.nSub) :
    defs₀ (F := F) (.scVector c s) 2 ()
      = SparseCore.onTile hcore2 hsub2 (fun c s => cc2__lfm_kernel (F := F) (coordsV c s) uM (Memref.isWhole_whole _) iM (Memref.isWhole_whole _)
          tpM (Memref.isWhole_whole _) tqM (Memref.isWhole_whole _) tbM (Memref.isWhole_whole _) tcM (Memref.isWhole_whole _) outM (Memref.isWhole_whole _)
          ubM (Memref.isWhole_whole _) ibM (Memref.isWhole_whole _) lsM (Memref.isWhole_whole _) prM (Memref.isWhole_whole _) qrM (Memref.isWhole_whole _)
          brM (Memref.isWhole_whole _) crM (Memref.isWhole_whole _) obM (Memref.isWhole_whole _)
          cc2_scratch8 cc2_scratch9 cc2_scoped0 cc2_scoped1 cc2_scoped2) ⟨⟩ c s := rfl

omit [FloatOps F] in
/-- Fewer kinds of waits are allowed kinds. -/
theorem waits_weaken {t : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes t O W')
      ⊢ iprop(A ∗ B ∗ C ∗ ∃ W', ⌜∀ p ∈ W', p ∈ W ∨ p.2 = none ∨ p.2 = some q⌝ ∗ owes t O W') := by
  iintro ⟨HA, HB, HC, %W', %hW, HO⟩
  isplitl [HA]; · iexact HA
  isplitl [HB]; · iexact HB
  isplitl [HC]; · iexact HC
  iexists W'
  isplitr
  · ipureintro; exact fun p hp => (hW p hp).imp_right Or.inl
  iexact HO

set_option maxRecDepth 16384 in
theorem tileObl (hR : InRange m) : (K (F := F)).TileObl (D (F := F)) 𝒱 (P m) v₀ 0 := by
  intro d c s O W hO _ _
  simp only [show (P m).ox = fun _ _ => 0 from rfl, add_zero]
  have hcs : ((K (F := F)).core 0 c).val < grid2.bound 0 ∧ ((K (F := F)).sub 0 s).val < grid2.bound 1 := ⟨c.isLt, s.isLt⟩
  change _ ⊢ wp _ _ _ (Pipeline.liftProg (defs₀ (F := F) (.scVector ((K (F := F)).core 0 c) ((K (F := F)).sub 0 s)) 2 ())) _
  refine BI.Entails.trans ?_ (Pipeline.wp_liftProg (D (F := F)) (Pipeline.defs_kernel pcfgs defs₀) 𝒱₀ _ Set.univ none _ _)
  rw [defs₀_vector]; simp only [SparseCore.onTile, hcs, and_self, ↓reduceDIte]
  rw [kernel_eq]
  exact (tile_body m d (coordsV ⟨_, hcs.1⟩ ⟨_, hcs.2⟩) facts hR O W hO).trans (wp_mono frame _ _ fun _ => waits_weaken)

end Tile

end Cert.KernelIdeal.Lfm

end
-- ==== Proof.Split.lean ====
/- The call's arrays dealt out to the tiles, and what the tiles bring back put together. -/
module

public import proofs.«01_k».proof.Proof.Task
public import Idealize.ShloMosaic.Lib.VecWindow

@[expose] public section

noncomputable section

namespace Cert.KernelIdeal.Lfm

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Cert.GatherRule

variable {F : FTy → Type}

local notation "𝕄" => MT nD τ sig (HIx 1) (Elt F) ℕ (UU F) ℕ

/-! ## Shares -/

/-- The two halves of `2 ^ (n + 1)` numbers. -/
def halvesEquiv (n : ℕ) : Fin (2 ^ n) ⊕ Fin (2 ^ n) ≃ Fin (2 ^ (n + 1)) :=
  finSumFinEquiv.trans (finCongr (by rw [pow_succ]; omega))

theorem leaf_left (n : ℕ) (q : PosShare TreeShare) (j : Fin (2 ^ n)) : leaf (n + 1) q (halvesEquiv n (.inl j)) = leaf n q.left j := by
  have e : (halvesEquiv n (.inl j)).val = j.val := rfl
  have h : (halvesEquiv n (.inl j)).val < 2 ^ n := e ▸ j.isLt
  rw [leaf, dif_pos h]
  exact congrArg _ (Fin.ext e)
theorem leaf_right (n : ℕ) (q : PosShare TreeShare) (j : Fin (2 ^ n)) : leaf (n + 1) q (halvesEquiv n (.inr j)) = leaf n q.right j := by
  have e : (halvesEquiv n (.inr j)).val = 2 ^ n + j.val := by simp [halvesEquiv]; omega
  have h : ¬ (halvesEquiv n (.inr j)).val < 2 ^ n := by omega
  rw [leaf, dif_neg h]
  exact congrArg _ (Fin.ext (by show (halvesEquiv n (.inr j)).val - 2 ^ n = j.val; omega))

/-- A share of a buffer is its leaves. -/
theorem pts_leaves {ℓ : Loc nD τ sig} (f : Buf (Elt F) ℓ) : ∀ (n : ℕ) (q : PosShare TreeShare),
    (ℓ ↦{q} f : sProp 𝕄) = bigSep Finset.univ fun j : Fin (2 ^ n) => ℓ ↦{leaf n q j} f
  | 0, q => (bigSep_univ_of_subsingleton (0 : Fin 1) (Φ := fun j : Fin (2 ^ 0) => (ℓ ↦{leaf 0 q j} f : sProp 𝕄))).symm
  | n + 1, q => by
    have e : (ℓ ↦{q} f : sProp 𝕄) = iprop((ℓ ↦{q.left} f) ∗ (ℓ ↦{q.right} f)) :=
      BI.Entails.antisymm (pointsTo_share (PosShare.mem_left_op_right q)).1 (pointsTo_share (PosShare.mem_left_op_right q)).2
    rw [bigSep_univ_equiv (halvesEquiv n) (fun j : Fin (2 ^ (n + 1)) => (ℓ ↦{leaf (n + 1) q j} f : sProp 𝕄)), bigSep_univ_sum, e,
      pts_leaves f n q.left, pts_leaves f n q.right]
    simp only [leaf_left, leaf_right]
    rfl

/-! ## The tiles -/

/-- The tiles, by core and subcore. -/
abbrev J : Type := Fin (grid2.bound 0) × Fin (grid2.bound 1)
abbrev at' (p : J) : grid2.Coords := coordsV p.1 p.2

/-- The tiles by their numbers. -/
def numEquiv : J ≃ Fin (2 ^ 5) := (finProdFinEquiv (m := 2) (n := 16))

theorem numEquiv_eq (p : J) : numEquiv p = tileNo (at' p) := Fin.ext (by
  show p.2.val + 16 * p.1.val = 16 * p.1.val + p.2.val
  omega)

/-- A whole buffer is the tiles' shares of it. -/
theorem pts_shares {ℓ : Loc nD τ sig} (f : Buf (Elt F) ℓ) :
    (ℓ ↦{fullShare} f : sProp 𝕄) = bigSep Finset.univ fun p : J => ℓ ↦{shareOf (at' p)} f := by
  rw [pts_leaves f 5 fullShare, bigSep_univ_equiv numEquiv]
  exact bigSep_congr fun p _ => by rw [numEquiv_eq]; rfl

theorem mem_partSet (p : J) (x : S16384.Idx) : x ∈ partSet (at' p) ↔ (x 0).val / 512 = 2 * p.2.val + p.1.val := by
  have h0 : p.1.val < 2 := p.1.isLt
  have e : k2_off1 (at' p) 0 = 1024 * p.2.val + 512 * p.1.val := by rw [Gen.k2_off1_eq]; rfl
  rw [Rect.mem_set_unit]
  constructor
  · intro h
    have := h 0
    rw [e] at this
    have hs : S512.size 0 = 512 := rfl
    omega
  · intro h a
    match a with
    | 0 =>
      rw [e]
      have hs : S512.size 0 = 512 := rfl
      constructor <;> omega

theorem parts_disjoint : ∀ p ∈ (Finset.univ : Finset J), ∀ p' ∈ (Finset.univ : Finset J), p ≠ p' → Disjoint (partSet (at' p)) (partSet (at' p')) := by
  intro p _ p' _ h
  refine Finset.disjoint_left.mpr fun x hx hx' => h ?_
  rw [mem_partSet] at hx hx'
  have h0 : p.1.val < 2 := p.1.isLt
  have h0' : p'.1.val < 2 := p'.1.isLt
  exact Prod.ext (Fin.ext (by omega)) (Fin.ext (by omega))

theorem parts_cover : (Finset.univ : Finset J).biUnion (fun p => partSet (at' p)) = Finset.univ := by
  refine Finset.eq_univ_iff_forall.mpr fun x => ?_
  have hx : (x 0).val < 16384 := (x 0).isLt
  refine Finset.mem_biUnion.mpr ⟨(⟨(x 0).val / 512 % 2, Nat.mod_lt _ (by decide)⟩, ⟨(x 0).val / 1024, by show _ < 16; omega⟩), Finset.mem_univ _, ?_⟩
  rw [mem_partSet]
  show (x 0).val / 512 = 2 * ((x 0).val / 1024) + (x 0).val / 512 % 2
  omega

theorem u_parts (d : Dev nD) (f : Buf (Elt F) (uLoc d)) :
    (uLoc d ↦{fullShare} f : sProp 𝕄) = bigSep Finset.univ fun p : J => uLoc d ↦[partSet (at' p)]{fullShare} f := by
  rw [← pointsTo_biUnion Finset.univ (ℓ := uLoc d) (fun p : J => partSet (at' p)) parts_disjoint, parts_cover]
theorem i_parts (d : Dev nD) (f : Buf (Elt F) (iLoc d)) :
    (iLoc d ↦{fullShare} f : sProp 𝕄) = bigSep Finset.univ fun p : J => iLoc d ↦[partSet (at' p)]{fullShare} f := by
  rw [← pointsTo_biUnion Finset.univ (ℓ := iLoc d) (fun p : J => partSet (at' p)) parts_disjoint, parts_cover]
theorem o_parts (d : Dev nD) (f : Buf (Elt F) (oLoc d)) :
    (oLoc d ↦{fullShare} f : sProp 𝕄) = bigSep Finset.univ fun p : J => oLoc d ↦[partSet (at' p)]{fullShare} f := by
  rw [← pointsTo_biUnion Finset.univ (ℓ := oLoc d) (fun p : J => partSet (at' p)) parts_disjoint, parts_cover]

/-! ## The tables -/

abbrev tbl0 (d : Dev nD) : Loc nD τ sig := (T d : Thread nD τ).loc main_v1
abbrev tbl1 (d : Dev nD) : Loc nD τ sig := (T d : Thread nD τ).loc main_v3
abbrev tbl2 (d : Dev nD) : Loc nD τ sig := (T d : Thread nD τ).loc main_v6
abbrev tbl3 (d : Dev nD) : Loc nD τ sig := (T d : Thread nD τ).loc main_v9

/-- The four tables from their buffers' contents. -/
def tables (d : Dev nD) (G0 : Buf (Elt F) (tbl0 d)) (G1 : Buf (Elt F) (tbl1 d)) (G2 : Buf (Elt F) (tbl2 d)) (G3 : Buf (Elt F) (tbl3 d)) : Tabs F
  | 0 => G0 | 1 => G1 | 2 => G2 | 3 => G3

theorem tab_set : ∀ r : Fin 4, (tab r).view.set = Finset.univ
  | 0 => Finset.eq_univ_iff_forall.mpr fun x => Finset.mem_map.mpr ⟨x, Finset.mem_univ _, Rect.emb_unit_full (s := S262144x128) Gen.inb_S262144x128_S262144x128_0_0 x⟩
  | 1 => Finset.eq_univ_iff_forall.mpr fun x => Finset.mem_map.mpr ⟨x, Finset.mem_univ _, Rect.emb_unit_full (s := S25600x128) Gen.inb_S25600x128_S25600x128_0_0 x⟩
  | 2 => Finset.eq_univ_iff_forall.mpr fun x => Finset.mem_map.mpr ⟨x, Finset.mem_univ _, Rect.emb_unit_full (s := S7813x128) Gen.inb_S7813x128_S7813x128_0_0 x⟩
  | 3 => Finset.eq_univ_iff_forall.mpr fun x => Finset.mem_map.mpr ⟨x, Finset.mem_univ _, Rect.emb_unit_full (s := S782x128) Gen.inb_S782x128_S782x128_0_0 x⟩

theorem tabs_whole (d : Dev nD) (i : grid2.Coords) (q : PosShare TreeShare) (X : Tabs F) :
    (tabsPts d i q X : sProp 𝕄)
      = bigSep Finset.univ fun r : Fin 4 => (tab r).view.loc (thr d i) ↦{q} (X r : Buf (Elt F) ((tab r).view.loc (thr d i))) :=
  bigSep_congr fun r _ => by rw [tab_set]

set_option maxRecDepth 16384 in
theorem tabs_tile (d : Dev nD) (i : grid2.Coords) (q : PosShare TreeShare)
    (G0 : Buf (Elt F) (tbl0 d)) (G1 : Buf (Elt F) (tbl1 d)) (G2 : Buf (Elt F) (tbl2 d)) (G3 : Buf (Elt F) (tbl3 d)) :
    (tabsPts d i q (tables d G0 G1 G2 G3) : sProp 𝕄)
      = iprop((tbl0 d ↦{q} G0) ∗ (tbl1 d ↦{q} G1) ∗ (tbl2 d ↦{q} G2) ∗ (tbl3 d ↦{q} G3)) :=
  (tabs_whole d i q _).trans (bigSep_four _)

variable [FloatOps F] (m : Mem F) (d : Dev nD)

theorem deal_tile (fo : Buf (Elt F) (oLoc d)) (G0 : Buf (Elt F) (tbl0 d)) (G1 : Buf (Elt F) (tbl1 d)) (G2 : Buf (Elt F) (tbl2 d)) (G3 : Buf (Elt F) (tbl3 d))
    (hX : Good m d (tables d G0 G1 G2 G3)) (i : grid2.Coords) :
    (iprop(((uLoc d ↦[partSet i]{fullShare} m (uLoc d)) ∗ (iLoc d ↦[partSet i]{fullShare} m (iLoc d)) ∗ (oLoc d ↦[partSet i]{fullShare} fo))
        ∗ ((tbl0 d ↦{shareOf i} G0) ∗ (tbl1 d ↦{shareOf i} G1) ∗ (tbl2 d ↦{shareOf i} G2) ∗ (tbl3 d ↦{shareOf i} G3))) : sProp 𝕄)
      ⊢ goT m d i := by
  unfold goT goP
  iintro ⟨⟨Hu, Hi, Ho⟩, HX⟩
  isplitl [Hu]; · iexact Hu
  isplitl [Hi]; · iexact Hi
  isplitl [Ho]; · iexists fo; iexact Ho
  iexists (tables d G0 G1 G2 G3)
  isplitr; · ipureintro; exact hX
  iapply (Entails.of_eq (tabs_tile d i (shareOf i) G0 G1 G2 G3).symm)
  iexact HX

/-- Each tile's part out of the whole arrays. -/
theorem deal (fo : Buf (Elt F) (oLoc d)) (G0 : Buf (Elt F) (tbl0 d)) (G1 : Buf (Elt F) (tbl1 d)) (G2 : Buf (Elt F) (tbl2 d)) (G3 : Buf (Elt F) (tbl3 d))
    (hX : Good m d (tables d G0 G1 G2 G3)) :
    (iprop(((uLoc d ↦{fullShare} m (uLoc d)) ∗ (iLoc d ↦{fullShare} m (iLoc d)) ∗ (oLoc d ↦{fullShare} fo))
        ∗ ((tbl0 d ↦{fullShare} G0) ∗ (tbl1 d ↦{fullShare} G1) ∗ (tbl2 d ↦{fullShare} G2) ∗ (tbl3 d ↦{fullShare} G3))) : sProp 𝕄)
      ⊢ bigSep Finset.univ fun c : Fin (grid2.bound 0) => bigSep Finset.univ fun s : Fin (grid2.bound 1) => goT m d (coordsV c s) := by
  rw [← bigSep_univ_prod (fun p : J => goT m d (at' p)), u_parts, i_parts, o_parts, pts_shares G0, pts_shares G1, pts_shares G2, pts_shares G3]
  simp only [← bigSep_sep']
  exact BI.bigSep_mono fun p _ => deal_tile m d fo G0 G1 G2 G3 hX (at' p)

/-- The whole arrays out of what the tiles bring back. -/
theorem collect :
    (bigSep Finset.univ fun c : Fin (grid2.bound 0) => bigSep Finset.univ fun s : Fin (grid2.bound 1) => tdT m d (coordsV c s))
      ⊢ (iprop((uLoc d ↦{fullShare} m (uLoc d)) ∗ (iLoc d ↦{fullShare} m (iLoc d)) ∗ (oLoc d ↦{fullShare} outVal m d)) : sProp 𝕄) := by
  rw [← bigSep_univ_prod (fun p : J => tdT m d (at' p)), u_parts, i_parts, o_parts]
  simp only [← bigSep_sep']
  exact Entails.of_eq rfl

end Cert.KernelIdeal.Lfm

end
-- ==== Proof.Values.lean ====
/- The four tables @main hands to the call, entry by entry: what they hold makes the tiles' results the kernel's. -/
module

public import proofs.«01_k».proof.Proof.Split
public import Idealize.ShloMosaic.Lib.KernelVsHost

@[expose] public section

noncomputable section

namespace Cert.KernelIdeal.Lfm

open Idealize.ShloMosaic
open Idealize.ShloMosaic.SparseCore (S V T)
open Idealize.SL.Sem
open Facts₀ Facts

variable {F : FTy → Type}

/-! ## Reading a table -/

/-- The tables' entries. -/
def entriesT (X : Tabs F) : (r : Fin 4) → (tShape r).Idx → F .f32
  | 0 => X 0 | 1 => X 1 | 2 => X 2 | 3 => X 3

theorem read_tab : ∀ (r : Fin 4) (X : Tabs F) (x : (tShape r).Idx), (tab r).view.read (Elt F) (X r) x = entriesT X r x
  | 0, X, x => congrArg (X 0 : S262144x128.Idx → F .f32) (Rect.emb_unit_full (s := S262144x128) Gen.inb_S262144x128_S262144x128_0_0 x)
  | 1, X, x => congrArg (X 1 : S25600x128.Idx → F .f32) (Rect.emb_unit_full (s := S25600x128) Gen.inb_S25600x128_S25600x128_0_0 x)
  | 2, X, x => congrArg (X 2 : S7813x128.Idx → F .f32) (Rect.emb_unit_full (s := S7813x128) Gen.inb_S7813x128_S7813x128_0_0 x)
  | 3, X, x => congrArg (X 3 : S782x128.Idx → F .f32) (Rect.emb_unit_full (s := S782x128) Gen.inb_S782x128_S782x128_0_0 x)

/-! ## The host operations, entry by entry -/

/-- The factor matrices turned. -/
def turnP (A : Vec F S1000000x32 .f32) : Vec F S32x1000000 .f32 := transpose S32x1000000 [1, 0] A transposes_S1000000x32_S32x1000000_1_0
def turnQ (A : Vec F S100000x32 .f32) : Vec F S32x100000 .f32 := transpose S32x100000 [1, 0] A transposes_S100000x32_S32x100000_1_0
/-- The biases laid out in rows of 128, the last row filled with `z`. -/
def rowsU (A : Vec F S1000000x1 .f32) (z : Vec F S_ .f32) : Vec F S7813x128 .f32 :=
  shapeCast S7813x128 (pad S1x1000064 ![0, 0] ![0, 64] ![0, 0] (transpose S1x1000000 [1, 0] A transposes_S1000000x1_S1x1000000_1_0) z
    pads_S1x1000000_S1x1000064_000_0640 h_S_) shapeCasts_S1x1000064_S7813x128
def rowsI (A : Vec F S100000x1 .f32) (z : Vec F S_ .f32) : Vec F S782x128 .f32 :=
  shapeCast S782x128 (pad S1x100096 ![0, 0] ![0, 96] ![0, 0] (transpose S1x100000 [1, 0] A transposes_S100000x1_S1x100000_1_0) z
    pads_S1x100000_S1x100096_000_0960 h_S_) shapeCasts_S1x100096_S782x128

theorem turnP_apply (A : Vec F S1000000x32 .f32) (k : Fin 32) (u : Fin 1000000) : turnP A (pair k u) = A (pair u k) :=
  transpose_apply [1, 0] A _ _ (pair u k) fun b => by match b with | 0 => rfl | 1 => rfl
theorem turnQ_apply (A : Vec F S100000x32 .f32) (k : Fin 32) (w : Fin 100000) : turnQ A (pair k w) = A (pair w k) :=
  transpose_apply [1, 0] A _ _ (pair w k) fun b => by match b with | 0 => rfl | 1 => rfl

theorem rowsU_apply (A : Vec F S1000000x1 .f32) (z : Vec F S_ .f32) (j : S7813x128.Idx) (u : Fin 1000000) (h : (j 0).val * 128 + (j 1).val = u.val) :
    rowsU A z j = A (pair u 0) := by
  unfold rowsU
  refine (shapeCast_apply _ _ j (pair (⟨0, Nat.one_pos⟩ : Fin 1) (⟨u.val, by omega⟩ : Fin 1000064)) ?_).trans ?_
  · rw [Shape.rowMajor_val_two, Shape.rowMajor_val_two]
    have e : ((pair (⟨0, Nat.one_pos⟩ : Fin 1) (⟨u.val, by omega⟩ : Fin 1000064)) 0).val * 1000064 + u.val = (j 0).val * 128 + (j 1).val := by
      rw [pair_zero, h, Nat.zero_mul, Nat.zero_add]
    exact e
  refine (pad_apply_of_inside _ _ _ _ _ _ _ _ (pair (⟨0, Nat.one_pos⟩ : Fin 1) u) fun a => ?_).trans ?_
  · match a with
    | 0 => show (0 : ℕ) = 0 + 0 * (0 + 1); rfl
    | 1 => show u.val = 0 + u.val * (0 + 1); omega
  exact transpose_apply [1, 0] A _ _ (pair u 0) fun b => by match b with | 0 => rfl | 1 => rfl

theorem rowsI_apply (A : Vec F S100000x1 .f32) (z : Vec F S_ .f32) (j : S782x128.Idx) (w : Fin 100000) (h : (j 0).val * 128 + (j 1).val = w.val) :
    rowsI A z j = A (pair w 0) := by
  unfold rowsI
  refine (shapeCast_apply _ _ j (pair (⟨0, Nat.one_pos⟩ : Fin 1) (⟨w.val, by omega⟩ : Fin 100096)) ?_).trans ?_
  · rw [Shape.rowMajor_val_two, Shape.rowMajor_val_two]
    have e : ((pair (⟨0, Nat.one_pos⟩ : Fin 1) (⟨w.val, by omega⟩ : Fin 100096)) 0).val * 100096 + w.val = (j 0).val * 128 + (j 1).val := by
      rw [pair_zero, h, Nat.zero_mul, Nat.zero_add]
    exact e
  refine (pad_apply_of_inside _ _ _ _ _ _ _ _ (pair (⟨0, Nat.one_pos⟩ : Fin 1) w) fun a => ?_).trans ?_
  · match a with
    | 0 => show (0 : ℕ) = 0 + 0 * (0 + 1); rfl
    | 1 => show w.val = 0 + w.val * (0 + 1); omega
  exact transpose_apply [1, 0] A _ _ (pair w 0) fun b => by match b with | 0 => rfl | 1 => rfl

/-! ## The tables' cells -/

variable [FloatOps F] (m : Mem F) (d : Dev nD)

abbrev argP : Vec F S1000000x32 .f32 := m ((T d : Thread nD τ).loc main_arg2)
abbrev argQ : Vec F S100000x32 .f32 := m ((T d : Thread nD τ).loc main_arg3)
abbrev argU : Vec F S1000000x1 .f32 := m ((T d : Thread nD τ).loc main_arg4)
abbrev argI : Vec F S100000x1 .f32 := m ((T d : Thread nD τ).loc main_arg5)

theorem cell_eq (X : Tabs F) (r : Fin 4) (u w : BitVec 32) (hu : u.toNat < 1000000) (hw : w.toNat < 100000) (k : ℕ) (hk : k < 32) :
    ∃ j : (tShape r).Idx, (j 0).val = rowN r u.toNat w.toNat ∧ (j 1).val = (laneN r u.toNat w.toNat + k) % 128
      ∧ cell X r u w k = entriesT X r j := by
  refine ⟨ixT r (rowW r u w).toNat ((laneW r u w).toNat + k), ?_, ?_, read_tab r X _⟩
  · show (rowW r u w).toNat % tRows r = _
    rw [rowW_toNat r u w hu hw, Nat.mod_eq_of_lt (rowN_lt r _ _ hu hw)]
  · show ((laneW r u w).toNat + k) % 128 = _
    rw [laneW_toNat r u w hu hw]

variable {m d}

theorem good_of (G0 : Vec F S262144x128 .f32) (G1 : Vec F S25600x128 .f32) (z z' : Vec F S_ .f32)
    (h0 : ∀ j, CellP (turnP (argP m d)) j (G0 j)) (h1 : ∀ j, CellQ (turnQ (argQ m d)) j (G1 j)) :
    Good m d (tables d G0 G1 (rowsU (argU m d) z) (rowsI (argI m d) z')) := by
  intro u w hu hw
  have eu : (userOf u).val = u.toNat := Nat.mod_eq_of_lt hu
  have ew : (itemOf w).val = w.toNat := Nat.mod_eq_of_lt hw
  have key : ∀ n, n ≤ 32 → partial' (tables d G0 G1 (rowsU (argU m d) z) (rowsI (argI m d) z')) u w n
      = predTo (argP m d) (argQ m d) (argU m d) (argI m d) (userOf u) (itemOf w) n := by
    intro n
    induction n with
    | zero =>
      intro _
      obtain ⟨j, hj0, hj1, e⟩ := cell_eq (tables d G0 G1 (rowsU (argU m d) z) (rowsI (argI m d) z')) 2 u w hu hw 0 (by omega)
      obtain ⟨j', hj0', hj1', e'⟩ := cell_eq (tables d G0 G1 (rowsU (argU m d) z) (rowsI (argI m d) z')) 3 u w hu hw 0 (by omega)
      have hb : cell (tables d G0 G1 (rowsU (argU m d) z) (rowsI (argI m d) z')) 2 u w 0 = argU m d (pair (userOf u) 0) := by
        refine e.trans (rowsU_apply _ z j (userOf u) ?_)
        rw [eu, hj0, hj1]
        show u.toNat / 128 * 128 + (u.toNat % 128 + 0) % 128 = u.toNat
        omega
      have hb' : cell (tables d G0 G1 (rowsU (argU m d) z) (rowsI (argI m d) z')) 3 u w 0 = argI m d (pair (itemOf w) 0) := by
        refine e'.trans (rowsI_apply _ z' j' (itemOf w) ?_)
        rw [ew, hj0', hj1']
        show w.toNat / 128 * 128 + (w.toNat % 128 + 0) % 128 = w.toNat
        omega
      rw [partial', hb, hb']
      rfl
    | succ n ih =>
      intro hn
      obtain ⟨j, hj0, hj1, e⟩ := cell_eq (tables d G0 G1 (rowsU (argU m d) z) (rowsI (argI m d) z')) 0 u w hu hw n (by omega)
      obtain ⟨j', hj0', hj1', e'⟩ := cell_eq (tables d G0 G1 (rowsU (argU m d) z) (rowsI (argI m d) z')) 1 u w hu hw n (by omega)
      have hk : (factorOf n).val = n := Nat.mod_eq_of_lt (by omega)
      have hb : cell (tables d G0 G1 (rowsU (argU m d) z) (rowsI (argI m d) z')) 0 u w n = argP m d (pair (userOf u) (factorOf n)) := by
        refine e.trans ((h0 j (factorOf n) (userOf u) ?_ ?_).trans (turnP_apply _ _ _))
        · rw [hj0, eu]; rfl
        · rw [hj1, eu, hk]
          show (u.toNat / 16384 % 4 * 32 + n) % 128 = u.toNat / 16384 % 4 * 32 + n
          omega
      have hb' : cell (tables d G0 G1 (rowsU (argU m d) z) (rowsI (argI m d) z')) 1 u w n = argQ m d (pair (itemOf w) (factorOf n)) := by
        refine e'.trans ((h1 j' (factorOf n) (itemOf w) ?_ ?_).trans (turnQ_apply _ _ _))
        · rw [hj0', ew]; rfl
        · rw [hj1', ew, hk]
          show (w.toNat / 1024 % 4 * 32 + n) % 128 = w.toNat / 1024 % 4 * 32 + n
          omega
      rw [partial', ih (by omega), hb, hb']
      rfl
  exact key 32 le_rfl

end Cert.KernelIdeal.Lfm

end
-- ==== Proof.Host.lean ====
/- @main as its host operations around its three calls, and what the buffers hold after each stretch. -/
module

public import proofs.«01_k».proof.Proof.Values
public import Idealize.ShloMosaic.Lib.StableHlo.Run

@[expose] public section

noncomputable section

namespace Cert.KernelIdeal.Lfm

open Idealize.ShloMosaic Idealize.ShloMosaic.TcCoe
open Idealize.ShloMosaic.StableHlo (seq after held)
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Facts₀ Facts

variable {F : FTy → Type} [FloatOps F]

/-! ## The program -/

abbrev opP : HloOp τ sig (Elt F) :=
  StableHlo.unary main_arg2 main_v0 ((transpose S32x1000000 [1, 0] · transposes_S1000000x32_S32x1000000_1_0) : (⟨S1000000x32, .f32⟩ : BufTy).Contents (Elt F) → (⟨S32x1000000, .f32⟩ : BufTy).Contents (Elt F))
abbrev opQ : HloOp τ sig (Elt F) :=
  StableHlo.unary main_arg3 main_v2 ((transpose S32x100000 [1, 0] · transposes_S100000x32_S32x100000_1_0) : (⟨S100000x32, .f32⟩ : BufTy).Contents (Elt F) → (⟨S32x100000, .f32⟩ : BufTy).Contents (Elt F))
abbrev opsB : List (HloOp τ sig (Elt F)) :=
  [StableHlo.unary main_arg4 main_v4 ((transpose S1x1000000 [1, 0] · transposes_S1000000x1_S1x1000000_1_0) : (⟨S1000000x1, .f32⟩ : BufTy).Contents (Elt F) → (⟨S1x1000000, .f32⟩ : BufTy).Contents (Elt F)),
   StableHlo.nullary main_c (constantI S_ 32 0#32),
   StableHlo.TRef.unary (StableHlo.TRef.of main_c : StableHlo.TRef sig ⟨S_, .i32⟩) main_call0.v0 (sitofp .f32),
   StableHlo.TRef.binary (StableHlo.TRef.of main_v4 : StableHlo.TRef sig ⟨S1x1000000, .f32⟩) main_call0.v0 main_call0.v1 (fun x v => pad S1x1000064 ![0, 0] ![0, 64] ![0, 0] x v pads_S1x1000000_S1x1000064_000_0640 h_S_),
   StableHlo.reshape main_v5 main_v6 (rfl : (.f32 : EltTy) = .f32) shapeCasts_S1x1000064_S7813x128,
   StableHlo.unary main_arg5 main_v7 ((transpose S1x100000 [1, 0] · transposes_S100000x1_S1x100000_1_0) : (⟨S100000x1, .f32⟩ : BufTy).Contents (Elt F) → (⟨S1x100000, .f32⟩ : BufTy).Contents (Elt F)),
   StableHlo.nullary main_c_0 (constantI S_ 32 0#32),
   StableHlo.TRef.unary (StableHlo.TRef.of main_c_0 : StableHlo.TRef sig ⟨S_, .i32⟩) main_call1.v0 (sitofp .f32),
   StableHlo.TRef.binary (StableHlo.TRef.of main_v7 : StableHlo.TRef sig ⟨S1x100000, .f32⟩) main_call1.v0 main_call1.v1 (fun x v => pad S1x100096 ![0, 0] ![0, 96] ![0, 0] x v pads_S1x100000_S1x100096_000_0960 h_S_),
   StableHlo.reshape main_v8 main_v9 (rfl : (.f32 : EltTy) = .f32) shapeCasts_S1x100096_S782x128]

abbrev ΛT : Labels := SparseCore.Sig (Pipeline.Sig Λ₀ (Fin 2) fun p => (pcfgs (F := F) p).Adm) 1

theorem main_eq (d : Dev nD) : main (F := F) d = seq (Λ := ΛT (F := F)) [opP] >>= fun _ =>
    SparseCore.liftProg (Prog.lift (.customCall (Pipeline.entry 0) ())) >>= fun _ => seq [opQ] >>= fun _ =>
    SparseCore.liftProg (Prog.lift (.customCall (Pipeline.entry 1) ())) >>= fun _ => seq opsB >>= fun _ =>
    sc.run d 0 >>= fun _ => pure ⟨⟩ := by
  rfl

/-! ## The buffers -/

/-- The buffers @main keeps from one call to the next. -/
def kept : Finset (Ref sig .tc) := Finset.univ.filter fun b : Ref sig .tc => ¬ b.isScoped
def keptD : Finset (DevRef τ sig) := kept.map ⟨Proc.devRef (sig := sig) (.tc : Proc τ), Proc.devRef_injective _⟩

theorem mem_keptD {b : Ref sig .tc} (h : b.isScoped = false) : Proc.devRef (τ := τ) .tc b ∈ keptD :=
  Finset.mem_map_of_mem _ (Finset.mem_filter.mpr ⟨Finset.mem_univ _, by rw [h]; exact Bool.false_ne_true⟩)

theorem two_sub {x y : Ref sig .tc} (hx : x.isScoped = false) (hy : y.isScoped = false) :
    ({(x : DevRef τ sig), (y : DevRef τ sig)} : Finset (DevRef τ sig)) ⊆ keptD :=
  Finset.insert_subset (mem_keptD hx) (Finset.singleton_subset_iff.mpr (mem_keptD hy))
theorem three_sub {x y z : Ref sig .tc} (hx : x.isScoped = false) (hy : y.isScoped = false) (hz : z.isScoped = false) :
    ({(x : DevRef τ sig), (y : DevRef τ sig), (z : DevRef τ sig)} : Finset (DevRef τ sig)) ⊆ keptD :=
  Finset.insert_subset (mem_keptD hx) (two_sub hy hz)

theorem opP_sub : ∀ op ∈ ([opP] : List (HloOp τ sig (Elt F))), op.bufs ⊆ keptD :=
  List.forall_iff_forall_mem.mp (show _ ⊆ keptD from two_sub rfl rfl)
theorem opQ_sub : ∀ op ∈ ([opQ] : List (HloOp τ sig (Elt F))), op.bufs ⊆ keptD :=
  List.forall_iff_forall_mem.mp (show _ ⊆ keptD from two_sub rfl rfl)
theorem opsB_sub : ∀ op ∈ (opsB : List (HloOp τ sig (Elt F))), op.bufs ⊆ keptD :=
  List.forall_iff_forall_mem.mp ⟨two_sub rfl rfl, Finset.singleton_subset_iff.mpr (mem_keptD rfl), two_sub rfl rfl, three_sub rfl rfl rfl, two_sub rfl rfl,
    two_sub rfl rfl, Finset.singleton_subset_iff.mpr (mem_keptD rfl), two_sub rfl rfl, three_sub rfl rfl rfl, two_sub rfl rfl⟩
theorem opP_fresh : ∀ op ∈ ([opP] : List (HloOp τ sig (Elt F))), op.fresh = ∅ := List.forall_iff_forall_mem.mp (StableHlo.forall_fresh_of_map rfl)
theorem opQ_fresh : ∀ op ∈ ([opQ] : List (HloOp τ sig (Elt F))), op.fresh = ∅ := List.forall_iff_forall_mem.mp (StableHlo.forall_fresh_of_map rfl)
theorem opsB_fresh : ∀ op ∈ (opsB : List (HloOp τ sig (Elt F))), op.fresh = ∅ := List.forall_iff_forall_mem.mp (StableHlo.forall_fresh_of_map rfl)

/-! ## What they hold -/

abbrev Vals (F : FTy → Type) : Type := Valuation τ sig (Elt F)

/-- A buffer's new contents put among the rest. -/
def put (V : Vals F) (y : Ref sig .tc) (g : y.ty.Contents (Elt F)) : Vals F := Function.update V (Proc.devRef .tc y) g

omit [FloatOps F] in
theorem put_same (V : Vals F) (y : Ref sig .tc) (g : y.ty.Contents (Elt F)) : put V y g (Proc.devRef .tc y) = g := Function.update_self ..
omit [FloatOps F] in
theorem put_ne (V : Vals F) (y : Ref sig .tc) (g : y.ty.Contents (Elt F)) {x : Ref sig .tc} (h : x ≠ y) : put V y g (Proc.devRef .tc x) = V (Proc.devRef .tc x) :=
  Function.update_of_ne (StableHlo.devRef_ne_of_ne h) ..

variable (V : Vals F)

/-- The fill of the last row. -/
def fill : Vec F S_ .f32 := sitofp .f32 (constantI S_ 32 0#32)

theorem opP_v0 : after [opP] V main_v0 = turnP (V main_arg2) := by after_results; rfl
theorem opQ_v2 : after [opQ] V main_v2 = turnQ (V main_arg3) := by after_results; rfl
theorem opP_other {b : Ref sig .tc} (h : b ≠ main_v0) : after [opP] V b = V b :=
  StableHlo.after_of_writes_sub (W := [main_v0]) [opP] V (StableHlo.forall_writes_sub_of_map rfl) (by simpa using h)
theorem opQ_other {b : Ref sig .tc} (h : b ≠ main_v2) : after [opQ] V b = V b :=
  StableHlo.after_of_writes_sub (W := [main_v2]) [opQ] V (StableHlo.forall_writes_sub_of_map rfl) (by simpa using h)
theorem opsB_other {b : Ref sig .tc} (h : b ∉ [main_v4, main_c, main_call0_v0, main_v5, main_v6, main_v7, main_c_0, main_call1_v0, main_v8, main_v9]) :
    after opsB V b = V b :=
  StableHlo.after_of_writes_sub (W := [main_v4, main_c, main_call0_v0, main_v5, main_v6, main_v7, main_c_0, main_call1_v0, main_v8, main_v9]) opsB V
    (StableHlo.forall_writes_sub_of_map rfl) h
theorem opsB_v6 : after opsB V main_v6 = rowsU (V main_arg4) fill := by after_results; rfl
theorem opsB_v9 : after opsB V main_v9 = rowsI (V main_arg5) fill := by after_results; rfl

/-- After everything before the SparseCore call, the packing calls having left `G0` and `G1`. -/
def valsAt (G0 : Vec F S262144x128 .f32) (G1 : Vec F S25600x128 .f32) : Vals F :=
  after opsB (put (after [opQ] (put (after [opP] V) main_v1 G0)) main_v3 G1)

variable (G0 : Vec F S262144x128 .f32) (G1 : Vec F S25600x128 .f32)

theorem valsAt_v1 : valsAt V G0 G1 main_v1 = G0 := by
  unfold valsAt; rw [opsB_other _ (by decide), put_ne _ _ _ (by decide), opQ_other _ (by decide), put_same]
theorem valsAt_v3 : valsAt V G0 G1 main_v3 = G1 := by
  unfold valsAt; rw [opsB_other _ (by decide), put_same]
theorem valsAt_v6 : valsAt V G0 G1 main_v6 = rowsU (V main_arg4) fill := by
  unfold valsAt; rw [opsB_v6, put_ne _ _ _ (by decide), opQ_other _ (by decide), put_ne _ _ _ (by decide), opP_other _ (by decide)]
theorem valsAt_v9 : valsAt V G0 G1 main_v9 = rowsI (V main_arg5) fill := by
  unfold valsAt; rw [opsB_v9, put_ne _ _ _ (by decide), opQ_other _ (by decide), put_ne _ _ _ (by decide), opP_other _ (by decide)]
theorem valsAt_other {b : Ref sig .tc} (hb : b ∈ [main_arg0, main_arg1, main_arg2, main_arg3, main_arg4, main_arg5]) : valsAt V G0 G1 b = V b := by
  have h1 : b ∉ [main_v4, main_c, main_call0_v0, main_v5, main_v6, main_v7, main_c_0, main_call1_v0, main_v8, main_v9] := by revert b; decide
  have h2 : b ≠ main_v3 := by revert b; decide
  have h3 : b ≠ main_v2 := by revert b; decide
  have h4 : b ≠ main_v1 := by revert b; decide
  have h5 : b ≠ main_v0 := by revert b; decide
  unfold valsAt; rw [opsB_other _ h1, put_ne _ _ _ h2, opQ_other _ h3, put_ne _ _ _ h4, opP_other _ h5]

end Cert.KernelIdeal.Lfm

end
-- ==== Proof.Launch.lean ====
/- The kernel's run: @main on the TensorCore from the launch contents to its result, and the whole program's run. -/
module

public import proofs.«01_k».proof.Proof.Host

@[expose] public section

noncomputable section

namespace Cert.KernelIdeal.Lfm

open Idealize.ShloMosaic Idealize.ShloMosaic.TcCoe
open Idealize.ShloMosaic.StableHlo (seq after held launchContents)
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen (cellOf_inj)

variable {F : FTy → Type} [FloatOps F]

local notation "𝕄" => MT nD τ sig (HIx 1) (Elt F) ℕ (UU F) ℕ

variable (m : Mem F) (ρ : Dev nD → PrngReg)

/-! ## The launch's ghost state -/

abbrev pinned := Pipeline.pin (pcfgs (F := F)) adm

def u₀ : UU F :=
  (initOf (K (F := F)).hsCells (K (F := F)).hsToks,
    (initOf (Pipeline.cells (pinned (F := F)) cellOf_inj) (Pipeline.launchToks (pinned (F := F)) cellOf_inj), (wm₀ nD τ sig (Elt F), 1)))

/-- What a device's two packing calls are given. -/
def G (d : Dev nD) : sProp 𝕄 := iprop(loopGhost (F := F) EP 0 d ∗ loopGhost (F := F) EP 1 d)

theorem u₀_split : (ownU (u₀ (F := F)) : sProp 𝕄)
    ⊢ iprop(BI.own (EH (initOf (K (F := F)).hsCells (K (F := F)).hsToks))
        ∗ BI.own (EP (initOf (Pipeline.cells (pinned (F := F)) cellOf_inj) (Pipeline.launchToks (pinned (F := F)) cellOf_inj)))
        ∗ ownU (embW (F := F) (wm₀ nD τ sig (Elt F)))) := by
  unfold u₀
  iintro H
  icases (ownU_pair _ _) $$ H with ⟨H1, H⟩
  icases (own_pair_emb embR _ _) $$ H with ⟨H2, H⟩
  icases (own_pair_emb ((Emb.inr).trans embR) _ _) $$ H with ⟨H3, -⟩
  isplitl [H1]; · iexact H1
  isplitl [H2]; · iexact H2
  iapply (Entails.of_eq (show (BI.own (((Emb.inl).trans ((Emb.inr).trans embR)) (wm₀ nD τ sig (Elt F))) : sProp 𝕄)
    = ownU (embW (F := F) (wm₀ nD τ sig (Elt F))) from rfl))
  iexact H3

theorem ghost_deal :
    iprop((bigSep Finset.univ fun d : Dev nD => bigSep Finset.univ fun p => Pipeline.cellsGhost (pinned (F := F)) EP p d)
        ∗ (bigSep Finset.univ fun d : Dev nD => bigSep Finset.univ fun p => Pipeline.toksInit (pinned (F := F)) EP p d))
      ⊢ (bigSep Finset.univ (G (F := F)) : sProp 𝕄) := by
  have e : (bigSep Finset.univ (G (F := F)) : sProp 𝕄)
      = bigSep Finset.univ fun d : Dev nD => bigSep Finset.univ fun p : Fin 2 => loopGhost (F := F) EP p d :=
    bigSep_congr fun d _ => by
      rw [show (Finset.univ : Finset (Fin 2)) = {0, 1} by decide, SparseCore.bigSep_insert' (by decide), bigSep_singleton]; rfl
  rw [e]
  unfold loopGhost
  simp only [bigSep_sep']
  exact Entails.of_eq rfl

theorem wm_known (ι : ℕ) (thr : Thread nD τ) : (wmInv (embW (F := F)) ι : sProp 𝕄) ⊢ bigSep Finset.univ fun q : Fin 1 => (P m).x q thr := by
  rw [bigSep_univ_of_subsingleton (0 : Fin 1)]
  show (wmInv (embW (F := F)) ι : sProp 𝕄) ⊢ iprop(∃ ι : ℕ, wmInv (embW (F := F)) ι)
  iintro H; iexists ι; iexact H

theorem hu₀ : (ownU (u₀ (F := F)) : sProp 𝕄)
    ⊢ |={Set.univ}=> iprop(BI.own (EH (initOf (K (F := F)).hsCells (K (F := F)).hsToks)) ∗ (bigSep Finset.univ (G (F := F)))
        ∗ bigSep Finset.univ fun thr : Thread nD τ => bigSep Finset.univ fun q : Fin 1 => (P m).x q thr) := by
  iintro Hu
  icases (u₀_split (F := F)) $$ Hu with ⟨H1, H2, H3⟩
  imod (Pipeline.fund_ghost (pinned (F := F)) EP cellOf_inj) $$ H2 with H2
  imod (wmInv_alloc (emb := embW (F := F)) ⟨m, fun _ => 0, fun _ => default⟩) $$ H3 with ⟨%ι, -, #Hwm⟩
  imodintro
  isplitl [H1]; · iexact H1
  isplitl [H2]; · iapply ghost_deal; iexact H2
  iapply (bigSep_intro_persistent (S := (Finset.univ : Finset (Thread nD τ))) (R := wmInv (embW (F := F)) ι)
    (Φ := fun thr => bigSep Finset.univ fun q : Fin 1 => (P m).x q thr) fun thr _ => wm_known m ι thr)
  iexact Hwm

end Cert.KernelIdeal.Lfm

end
-- ==== Proof.Main.lean ====
/- @main on the TensorCore, from the launch contents to its result. -/
module

public import proofs.«01_k».proof.Proof.Launch

@[expose] public section

noncomputable section

namespace Cert.KernelIdeal.Lfm

open Idealize.ShloMosaic Idealize.ShloMosaic.TcCoe
open Idealize.ShloMosaic.StableHlo (seq after held launchContents)
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ (UU F) ℕ

/-! ## The buffers -/

variable (d : Dev nD)

abbrev at_ (b : Ref sig .tc) : Loc nD τ sig := (T d : Thread nD τ).loc b

omit [FloatOps F] in
/-- Two buffers out of the ones @main keeps. -/
theorem held_two {x y : Ref sig .tc} (hne : x ≠ y) (hx : x.isScoped = false) (hy : y.isScoped = false) (V : Vals F) :
    (held (T d : Thread nD τ) keptD V : sProp 𝕄)
      = iprop(((at_ d x ↦{fullShare} V x) ∗ (at_ d y ↦{fullShare} V y)) ∗ held (T d : Thread nD τ) (keptD \ {(x : DevRef τ sig), (y : DevRef τ sig)}) V) := by
  have hn : (x : DevRef τ sig) ∉ ({(y : DevRef τ sig)} : Finset (DevRef τ sig)) := fun h => StableHlo.devRef_ne_of_ne hne (Finset.mem_singleton.mp h)
  rw [StableHlo.held_sub_split (T d : Thread nD τ) (two_sub hx hy)]
  congr 1
  unfold StableHlo.held
  rw [SparseCore.bigSep_insert' hn, bigSep_singleton]

omit [FloatOps F] in
/-- The second put back at new contents. -/
theorem held_put {x y : Ref sig .tc} (hne : x ≠ y) (hx : x.isScoped = false) (hy : y.isScoped = false) (V : Vals F) (g : y.ty.Contents (Elt F)) :
    (iprop(((at_ d x ↦{fullShare} V x) ∗ (at_ d y ↦{fullShare} (g : Buf (Elt F) (at_ d y)))) ∗ held (T d : Thread nD τ) (keptD \ {(x : DevRef τ sig), (y : DevRef τ sig)}) V) : sProp 𝕄)
      = held (T d : Thread nD τ) keptD (put V y g) := by
  rw [held_two d hne hx hy (put V y g), put_same, put_ne V y g hne]
  congr 1
  refine StableHlo.held_congr _ fun b hb => ?_
  refine (Function.update_of_ne (fun h => (Finset.mem_sdiff.mp hb).2 ?_) _ _).symm
  rw [h]; exact Finset.mem_insert_of_mem (Finset.mem_singleton_self _)

theorem unscoped_held (m : Mem F) : (unscopedBufs d (fun b => m ((T d : Thread nD τ).loc b)) : sProp 𝕄) = held (T d : Thread nD τ) keptD (launchContents m d) := by
  unfold unscopedBufs StableHlo.held keptD kept
  rw [bigSep_map]
  rfl

/-! ## The packing calls -/

variable [∀ e, Nonempty (Elt F e)]

theorem pack0 {α : Type} (V : Vals F) (k : PUnit → Prog (TpuEff nD τ sig (Elt F) (ΛT (F := F)) .tc) α) (Q : α → sProp 𝕄) :
    iprop(boundary (T d : Thread nD τ) ∗ held (T d : Thread nD τ) keptD V ∗ debt F (UU F) d ∗ levAts (sc (F := F)).L (K (F := F)).lev ∗ loopGhost (F := F) EP 0 d)
      ⊢ iprop((∀ g : Vec F S262144x128 .f32, ⌜∀ j, CellP (V main_v0) j (g j)⌝ -∗ (boundary (T d : Thread nD τ) ∗ held (T d : Thread nD τ) keptD (put V main_v1 g) ∗ debt F (UU F) d)
            -∗ wp frame (wpE ((K (F := F)).defs (D (F := F))) 𝒱 (T d : Thread nD τ) none) Set.univ (k ⟨⟩) Q)
          -∗ wp frame (wpE ((K (F := F)).defs (D (F := F))) 𝒱 (T d : Thread nD τ) none) Set.univ
              (SparseCore.liftProg (Prog.lift (.customCall (Pipeline.entry 0) ())) >>= k) Q) := by
  rw [held_two d (x := main_v0) (y := main_v1) (by decide) rfl rfl V, wp_bind]
  iintro ⟨Hb, ⟨⟨H0, H1⟩, HU⟩, HD, Hlv, HG⟩ Hk
  iapply (wp_call0 (V main_v0) (V main_v1) (V main_v2) (V main_v3) EP (K (F := F)).lev (K (F := F)).refines_self d
    (fun a => wp frame (wpE ((K (F := F)).defs (D (F := F))) 𝒱 (T d : Thread nD τ) none) Set.univ (k a) Q))
  isplitl [Hk HU]
  · iintro ⟨Hb, H0, ⟨%g, %hg, H1⟩, HD⟩
    iapply Hk $$ %g %hg
    isplitl [Hb]; · iexact Hb
    isplitr [HD]
    · iapply (Entails.of_eq (held_put d (x := main_v0) (y := main_v1) (by decide) rfl rfl V g))
      isplitr [HU]
      · isplitl [H0]; · iexact H0
        iexact H1
      iexact HU
    iexact HD
  isplitl [Hb]; · iexact Hb
  isplitl [H0 H1 HD]
  · isplitl [H0]; · iexact H0
    isplitl [H1]; · iexact H1
    iexact HD
  isplitl [Hlv]; · iexact Hlv
  iexact HG

theorem pack1 {α : Type} (V : Vals F) (k : PUnit → Prog (TpuEff nD τ sig (Elt F) (ΛT (F := F)) .tc) α) (Q : α → sProp 𝕄) :
    iprop(boundary (T d : Thread nD τ) ∗ held (T d : Thread nD τ) keptD V ∗ debt F (UU F) d ∗ levAts (sc (F := F)).L (K (F := F)).lev ∗ loopGhost (F := F) EP 1 d)
      ⊢ iprop((∀ g : Vec F S25600x128 .f32, ⌜∀ j, CellQ (V main_v2) j (g j)⌝ -∗ (boundary (T d : Thread nD τ) ∗ held (T d : Thread nD τ) keptD (put V main_v3 g) ∗ debt F (UU F) d)
            -∗ wp frame (wpE ((K (F := F)).defs (D (F := F))) 𝒱 (T d : Thread nD τ) none) Set.univ (k ⟨⟩) Q)
          -∗ wp frame (wpE ((K (F := F)).defs (D (F := F))) 𝒱 (T d : Thread nD τ) none) Set.univ
              (SparseCore.liftProg (Prog.lift (.customCall (Pipeline.entry 1) ())) >>= k) Q) := by
  rw [held_two d (x := main_v2) (y := main_v3) (by decide) rfl rfl V, wp_bind]
  iintro ⟨Hb, ⟨⟨H0, H1⟩, HU⟩, HD, Hlv, HG⟩ Hk
  iapply (wp_call1 (V main_v0) (V main_v1) (V main_v2) (V main_v3) EP (K (F := F)).lev (K (F := F)).refines_self d
    (fun a => wp frame (wpE ((K (F := F)).defs (D (F := F))) 𝒱 (T d : Thread nD τ) none) Set.univ (k a) Q))
  isplitl [Hk HU]
  · iintro ⟨Hb, H0, ⟨%g, %hg, H1⟩, HD⟩
    iapply Hk $$ %g %hg
    isplitl [Hb]; · iexact Hb
    isplitr [HD]
    · iapply (Entails.of_eq (held_put d (x := main_v2) (y := main_v3) (by decide) rfl rfl V g))
      isplitr [HU]
      · isplitl [H0]; · iexact H0
        iexact H1
      iexact HU
    iexact HD
  isplitl [Hb]; · iexact Hb
  isplitl [H0 H1 HD]
  · isplitl [H0]; · iexact H0
    isplitl [H1]; · iexact H1
    iexact HD
  isplitl [Hlv]; · iexact Hlv
  iexact HG

/-! ## The buffers the SparseCore call reads and the arguments -/

variable (m : Mem F)

/-- The factors and the biases, as launched. -/
def argsPts : sProp 𝕄 :=
  iprop((at_ d main_arg2 ↦{fullShare} m (at_ d main_arg2)) ∗ (at_ d main_arg3 ↦{fullShare} m (at_ d main_arg3))
    ∗ (at_ d main_arg4 ↦{fullShare} m (at_ d main_arg4)) ∗ (at_ d main_arg5 ↦{fullShare} m (at_ d main_arg5)))

def callRefs : List (Ref sig .tc) :=
  [main_arg0, main_arg1, main_v10, main_v1, main_v3, main_v6, main_v9, main_arg2, main_arg3, main_arg4, main_arg5]
theorem callRefs_nodup : callRefs.Nodup := by decide
theorem callRefs_kept : ∀ b ∈ callRefs, b.isScoped = false := by decide

theorem held_call (G0 : Vec F S262144x128 .f32) (G1 : Vec F S25600x128 .f32) :
    (held (T d : Thread nD τ) keptD (valsAt (launchContents m d) G0 G1) : sProp 𝕄)
      ⊢ iprop((((uLoc d ↦{fullShare} m (uLoc d)) ∗ (iLoc d ↦{fullShare} m (iLoc d)) ∗ (oLoc d ↦{fullShare} (valsAt (launchContents m d) G0 G1 main_v10)))
          ∗ ((tbl0 d ↦{fullShare} G0) ∗ (tbl1 d ↦{fullShare} G1) ∗ (tbl2 d ↦{fullShare} rowsU (argU m d) fill) ∗ (tbl3 d ↦{fullShare} rowsI (argI m d) fill)))
        ∗ argsPts d m) := by
  have e : (held (T d : Thread nD τ) keptD (valsAt (launchContents m d) G0 G1) : sProp 𝕄) = _ :=
    bigSep_take (fun b : DevRef τ sig => (((d, b) : Loc nD τ sig) ↦{fullShare} valsAt (launchContents m d) G0 G1 b : sProp 𝕄))
      (callRefs.map (Proc.devRef (τ := τ) .tc)) keptD (callRefs_nodup.map (Proc.devRef_injective _)) fun x hx => by
        obtain ⟨b, hb, rfl⟩ := List.mem_map.mp hx
        exact mem_keptD (callRefs_kept b hb)
  rw [e]
  simp only [callRefs, List.map_cons, List.map_nil, List.foldr_cons, List.foldr_nil]
  rw [valsAt_v1, valsAt_v3, valsAt_v6, valsAt_v9, valsAt_other _ _ _ (b := main_arg0) (by decide), valsAt_other _ _ _ (b := main_arg1) (by decide),
    valsAt_other _ _ _ (b := main_arg2) (by decide), valsAt_other _ _ _ (b := main_arg3) (by decide), valsAt_other _ _ _ (b := main_arg4) (by decide),
    valsAt_other _ _ _ (b := main_arg5) (by decide)]
  unfold argsPts
  iintro ⟨Hu, Hi, Ho, H0, H1, H2, H3, A2, A3, A4, A5, -⟩
  isplitr [A2 A3 A4 A5]
  · isplitl [Hu Hi Ho]
    · isplitl [Hu]; · iexact Hu
      isplitl [Hi]; · iexact Hi
      iexact Ho
    isplitl [H0]; · iexact H0
    isplitl [H1]; · iexact H1
    isplitl [H2]; · iexact H2
    iexact H3
  isplitl [A2]; · iexact A2
  isplitl [A3]; · iexact A3
  isplitl [A4]; · iexact A4
  iexact A5

end Cert.KernelIdeal.Lfm

end
-- ==== Proof.Run.lean ====
/- @main's run on the TensorCore, and the whole program's: the arguments kept, the result every pair's prediction, every counter
   back at zero. -/
module

public import proofs.«01_k».proof.Proof.Main

@[expose] public section

noncomputable section

namespace Cert.KernelIdeal.Lfm

open Idealize.ShloMosaic Idealize.ShloMosaic.TcCoe
open Idealize.ShloMosaic.StableHlo (seq after held launchContents)
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [∀ e, Nonempty (Elt F e)]

local notation "𝕄" => MT nD τ sig (HIx 1) (Elt F) ℕ (UU F) ℕ

variable (m : Mem F) (ρ : Dev nD → PrngReg)

/-! ## @main on the TensorCore -/

/-- What @main ends with: the six arguments as launched and the result. -/
def FIN (d : Dev nD) : sProp 𝕄 :=
  iprop(((uLoc d ↦{fullShare} m (uLoc d)) ∗ (iLoc d ↦{fullShare} m (iLoc d)) ∗ (oLoc d ↦{fullShare} outVal m d)) ∗ argsPts d m)

theorem st0_eq (d : Dev nD) : (bigSep Finset.univ fun c : Fin ((K (F := F)).nCore 0) => (P m).st 0 d c : sProp 𝕄)
    = bigSep Finset.univ fun c : Fin (grid2.bound 0) => bigSep Finset.univ fun s : Fin (grid2.bound 1) => goT m d (coordsV c s) := rfl
theorem dn0_eq (d : Dev nD) : (bigSep Finset.univ fun c : Fin ((K (F := F)).nCore 0) => (P m).dn 0 d c : sProp 𝕄)
    = bigSep Finset.univ fun c : Fin (grid2.bound 0) => bigSep Finset.univ fun s : Fin (grid2.bound 1) => tdT m d (coordsV c s) := rfl

/-- @main from the SparseCore call on. -/
abbrev tail2 (d : Dev nD) : Prog (TpuEff nD τ sig (Elt F) (ΛT (F := F)) .tc) PUnit := sc.run d 0 >>= fun _ => pure ⟨⟩

/-- The SparseCore call and @main's end. -/
theorem end_call (κ : GSem nD τ sig → ℕ) (d : Dev nD) (G0 : Vec F S262144x128 .f32) (G1 : Vec F S25600x128 .f32)
    (h0 : ∀ j, CellP (turnP (argP m d)) j (G0 j)) (h1 : ∀ j, CellQ (turnQ (argQ m d)) j (G1 j)) :
    iprop((K (F := F)).ctx EH (P m) κ ∗ (K (F := F)).tcSt EH d 0 ∗ boundary (T d : Thread nD τ)
        ∗ held (T d : Thread nD τ) keptD (valsAt (launchContents m d) G0 G1) ∗ (K (F := F)).tcSems0 d)
      ⊢ wp frame (wpE ((K (F := F)).defs (D (F := F))) 𝒱 (T d : Thread nD τ) none) Set.univ (tail2 d)
          fun _ => (iprop((K (F := F)).tcSt EH d 1 ∗ FIN m d ∗ (K (F := F)).tcEnd d) : sProp 𝕄) := by
  unfold tail2
  rw [wp_bind]
  iintro ⟨#Hctx, Hst, Hb, HS, Hts⟩
  ihave HS := (held_call d m G0 G1) $$ HS
  icases HS with ⟨HC, HA⟩
  iapply ((K (F := F)).wp_run (D (F := F)) 𝒱 (EH := EH) (P := P m) κ d 0)
  isplitr; · iexact Hctx
  isplitl [Hst]; · iexact Hst
  isplitl [HC]
  · iapply (Entails.of_eq (st0_eq m d).symm)
    iapply (deal m d (valsAt (launchContents m d) G0 G1 main_v10) G0 G1 (rowsU (argU m d) fill) (rowsI (argI m d) fill)
      (good_of (G0 := G0) (G1 := G1) (z := fill) (z' := fill) h0 h1))
    iexact HC
  iintro ⟨Hst, Hdn⟩
  ihave Hdn := (Entails.of_eq (dn0_eq m d)) $$ Hdn
  ihave Hdn := (collect m d) $$ Hdn
  rw [wp_pure]
  imodintro
  unfold FIN SparseCore.Cfg.tcEnd
  isplitl [Hst]; · iexact Hst
  isplitr [Hb Hts]
  · isplitl [Hdn]; · iexact Hdn
    iexact HA
  isplitl [Hb] <;> iassumption

omit [∀ e, Nonempty (Elt F e)] in
theorem packed0 (d : Dev nD) (G0 : Vec F S262144x128 .f32) (h : ∀ j, CellP (after [opP] (launchContents m d) main_v0) j (G0 j)) :
    ∀ j, CellP (turnP (argP m d)) j (G0 j) := by
  rw [opP_v0] at h; exact h

omit [∀ e, Nonempty (Elt F e)] in
theorem packed1 (d : Dev nD) (G0 : Vec F S262144x128 .f32) (G1 : Vec F S25600x128 .f32)
    (h : ∀ j, CellQ (after [opQ] (put (after [opP] (launchContents m d)) main_v1 G0) main_v2) j (G1 j)) :
    ∀ j, CellQ (turnQ (argQ m d)) j (G1 j) := by
  rw [opQ_v2, put_ne _ _ _ (by decide), opP_other _ (by decide)] at h; exact h

omit [∀ e, Nonempty (Elt F e)] in
/-- What @main's core owes before the SparseCore call, apart from the rest of its state. -/
theorem start_eq (d : Dev nD) : ∃ R : sProp 𝕄, ((K (F := F)).tcSt EH d 0 : sProp 𝕄) = iprop(debt F (UU F) d ∗ R) := ⟨_, rfl⟩

/-- @main on a device's TensorCore: the tables packed, the biases laid out in rows, the SparseCore call. -/
theorem hmain (κ : GSem nD τ sig → ℕ) (d : Dev nD) :
    iprop((K (F := F)).ctx EH (P m) κ ∗ (K (F := F)).tcSt EH d 0 ∗ (K (F := F)).tcRes m ρ d ∗ G (F := F) d)
      ⊢ wp frame (wpE ((K (F := F)).defs (D (F := F))) 𝒱 (T d : Thread nD τ) none) Set.univ (main d)
          fun _ => (iprop((K (F := F)).tcSt EH d 1 ∗ FIN m d ∗ (K (F := F)).tcEnd d) : sProp 𝕄) := by
  obtain ⟨R, e0⟩ := start_eq (F := F) d
  unfold SparseCore.Cfg.tcRes G
  rw [unscoped_held d m, main_eq]
  iintro ⟨#Hctx, Hst, ⟨Hb, HS, Hts, -⟩, HG0, HG1⟩
  ihave Hst := (Entails.of_eq e0) $$ Hst
  icases Hst with ⟨HD, Hop⟩
  ihave #Hlv := ((K (F := F)).ctx_levAts (EH := EH) (P := P m) κ) $$ Hctx
  iapply (StableHlo.wp_seq 𝒱 none Set.univ d keptD _ [opP] opP_sub opP_fresh (launchContents m d)) $$ [Hb HS]
  · isplitl [Hb] <;> iassumption
  iintro ⟨Hb, HS⟩
  iapply (pack0 d (after [opP] (launchContents m d)) _ _) $$ [Hb HS HD HG0]
  · isplitl [Hb]; · iexact Hb
    isplitl [HS]; · iexact HS
    isplitl [HD]; · iexact HD
    isplitr; · iexact Hlv
    iexact HG0
  iintro %G0 %h0 ⟨Hb, HS, HD⟩
  iapply (StableHlo.wp_seq 𝒱 none Set.univ d keptD _ [opQ] opQ_sub opQ_fresh (put (after [opP] (launchContents m d)) main_v1 G0)) $$ [Hb HS]
  · isplitl [Hb] <;> iassumption
  iintro ⟨Hb, HS⟩
  iapply (pack1 d (after [opQ] (put (after [opP] (launchContents m d)) main_v1 G0)) _ _) $$ [Hb HS HD HG1]
  · isplitl [Hb]; · iexact Hb
    isplitl [HS]; · iexact HS
    isplitl [HD]; · iexact HD
    isplitr; · iexact Hlv
    iexact HG1
  iintro %G1 %h1 ⟨Hb, HS, HD⟩
  iapply (StableHlo.wp_seq 𝒱 none Set.univ d keptD _ opsB opsB_sub opsB_fresh
    (put (after [opQ] (put (after [opP] (launchContents m d)) main_v1 G0)) main_v3 G1)) $$ [Hb HS]
  · isplitl [Hb] <;> iassumption
  iintro ⟨Hb, HS⟩
  iapply (end_call m κ d G0 G1 (packed0 m d G0 h0) (packed1 m d G0 G1 h1))
  isplitr; · iexact Hctx
  isplitl [HD Hop]
  · iapply (Entails.of_eq e0.symm)
    isplitl [HD] <;> iassumption
  isplitl [Hb]; · iexact Hb
  isplitl [HS]; · iexact HS
  iexact Hts

/-! ## What the final memory holds -/

def fq (d : Dev nD) (s' : Phys nD τ sig (Elt F)) : Prop :=
  s'.mem.mem (uLoc d) = m (uLoc d) ∧ s'.mem.mem (iLoc d) = m (iLoc d) ∧ s'.mem.mem (oLoc d) = outVal m d
    ∧ s'.mem.mem (at_ d main_arg2) = m (at_ d main_arg2) ∧ s'.mem.mem (at_ d main_arg3) = m (at_ d main_arg3)
    ∧ s'.mem.mem (at_ d main_arg4) = m (at_ d main_arg4) ∧ s'.mem.mem (at_ d main_arg5) = m (at_ d main_arg5)

theorem holds_of (s' : Phys nD τ sig (Elt F)) (ℓ : Loc nD τ sig) (f : Buf (Elt F) ℓ) :
    (iprop(SI s' ∗ (ℓ ↦{fullShare} f)) : sProp 𝕄) ⊢ iprop(⌜s'.mem.mem ℓ = f⌝ ∗ SI s' ∗ (ℓ ↦{fullShare} f)) := by
  iintro H
  ihave H := (persistent_entails_right (SI_pointsTo_agree (st := s') (ℓ := ℓ) (I := Finset.univ) (q := fullShare) (f := f))) $$ H
  icases H with ⟨%h, H⟩
  isplitr; · ipureintro; exact funext fun i => h i (Finset.mem_univ i)
  iexact H

theorem hfin (d : Dev nD) (s' : Phys nD τ sig (Elt F)) : iprop(FIN m d ∗ SI s') ⊢ (⌜fq m d s'⌝ : sProp 𝕄) := by
  unfold FIN argsPts
  iintro ⟨⟨⟨Hu, Hi, Ho⟩, H2, H3, H4, H5⟩, HSI⟩
  ihave H := (holds_of s' _ _) $$ [HSI Hu]
  · isplitl [HSI] <;> iassumption
  icases H with ⟨%eu, HSI, -⟩
  ihave H := (holds_of s' _ _) $$ [HSI Hi]
  · isplitl [HSI] <;> iassumption
  icases H with ⟨%ei, HSI, -⟩
  ihave H := (holds_of s' _ _) $$ [HSI Ho]
  · isplitl [HSI] <;> iassumption
  icases H with ⟨%eo, HSI, -⟩
  ihave H := (holds_of s' _ _) $$ [HSI H2]
  · isplitl [HSI] <;> iassumption
  icases H with ⟨%e2, HSI, -⟩
  ihave H := (holds_of s' _ _) $$ [HSI H3]
  · isplitl [HSI] <;> iassumption
  icases H with ⟨%e3, HSI, -⟩
  ihave H := (holds_of s' _ _) $$ [HSI H4]
  · isplitl [HSI] <;> iassumption
  icases H with ⟨%e4, HSI, -⟩
  ihave H := (holds_of s' _ _) $$ [HSI H5]
  · isplitl [HSI] <;> iassumption
  icases H with ⟨%e5, -, -⟩
  ipureintro
  exact ⟨eu, ei, eo, e2, e3, e4, e5⟩

/-! ## The program's run -/

def QC : PUnit × MemSt nD τ sig (Elt F) → Prop := fun r => (∀ d : Dev nD,
  r.2.mem (uLoc d) = m (uLoc d) ∧ r.2.mem (iLoc d) = m (iLoc d) ∧ r.2.mem (oLoc d) = outVal m d
    ∧ r.2.mem (at_ d main_arg2) = m (at_ d main_arg2) ∧ r.2.mem (at_ d main_arg3) = m (at_ d main_arg3)
    ∧ r.2.mem (at_ d main_arg4) = m (at_ d main_arg4) ∧ r.2.mem (at_ d main_arg5) = m (at_ d main_arg5)) ∧ r.2.sem = fun _ => 0

theorem run_main (hR : InRange m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m hR)
    (fun q _ => match q with | 0 => SparseCore.Cfg.VecSplit.of_plain (vecSplit m))
    m ρ main (G (F := F)) (FIN m) (u₀ (F := F)) (sep_elim_left.trans (hu₀ m)) (hmain m ρ) (fq m) (hfin m) (QC m) (fun _ h hz => ⟨h, hz⟩)

end Cert.KernelIdeal.Lfm

end
-- ==== Proof.InRange.lean ====
/- The precondition read: both index arrays name users and items. -/
module

public import proofs.«01_k».proof.Pre_in_range
public import Idealize.ShloMosaic.Lib.ReduceAll
public import Idealize.ShloMosaic.Lib.Affine

@[expose] public section

noncomputable section

namespace Cert.Pre_in_range

open Idealize.ShloMosaic
open Facts

variable [Facts] {F : FTy → Type} [FloatOps F]

instance : Subsingleton S_.Idx := ⟨fun a b => funext fun k => k.elim0⟩

theorem word_lt (v n : BitVec 32) (hn : n.toNat < 2 ^ 31) (h0 : IntOp.cmpi .sge v 0#32 = 1#1) (h1 : IntOp.cmpi .slt v n = 1#1) : v.toNat < n.toNat := by
  rw [IntOp.cmpi_sge] at h0
  rw [IntOp.cmpi_slt] at h1
  simp only [BitVec.toInt_eq_toNat_cond, BitVec.toNat_ofNat] at h0 h1
  split_ifs at h0 h1 <;> omega

theorem both_one (p q : BitVec 1) (h : IntOp.andi p q = 1#1) : p = 1#1 ∧ q = 1#1 := by
  revert p q; decide

theorem below (a : IVec S16384 32) (n : BitVec 32) (hn : n.toNat < 2 ^ 31) (b : S_.Idx)
    (h0 : Host.reduce IntOp.andi (cmpi .sge a (broadcastInDim S16384 ![] bcast_S_S16384 (constantI S_ 32 0#32))) (constantI S_ 1 1#1) reducesTo_S16384_S_d0 h_S_ b = 1#1)
    (h1 : Host.reduce IntOp.andi (cmpi .slt a (broadcastInDim S16384 ![] bcast_S_S16384 (constantI S_ 32 n))) (constantI S_ 1 1#1) reducesTo_S16384_S_d0 h_S_ b = 1#1)
    (x : S16384.Idx) : (a x).toNat < n.toNat :=
  word_lt (a x) n hn (Host.reduce_andi_all _ _ _ _ b h0 x) (Host.reduce_andi_all _ _ _ _ b h1 x)

theorem bounds (u i : IVec S16384 32) (P : FVec F S1000000x32 .f32) (Q : FVec F S100000x32 .f32) (bu : FVec F S1000000x1 .f32) (bi : FVec F S100000x1 .f32)
    (h : fn u i P Q bu bi = fun _ => 1#1) (x : S16384.Idx) : (u x).toNat < 1000000 ∧ (i x).toNat < 100000 := by
  have b : S_.Idx := fun k => k.elim0
  have e := congrFun h b
  obtain ⟨e, h3⟩ := both_one _ _ e
  obtain ⟨e, h2⟩ := both_one _ _ e
  obtain ⟨h0, h1⟩ := both_one _ _ e
  exact ⟨below u 1000000#32 (by decide) b h0 h1 x, below i 100000#32 (by decide) b h2 h3 x⟩

end Cert.Pre_in_range

end
-- ==== Proof.RefValue.lean ====
/- What the reference computes: for in-range indices, the mean, the two biases and the sum of the products of factors. -/
module

public import proofs.«01_k».proof.Proof.Gen.ReferenceIdeal.Run
public import Idealize.ShloMosaic.Lib.ReduceAll
public import Idealize.ShloMosaic.Lib.Affine
public import Idealize.ShloMosaic.Lib.Routing.Ops
public import Idealize.ShloMosaic.Lib.Pointwise.Reduce

@[expose] public section

noncomputable section

namespace Cert.ReferenceIdeal.Lfm

open Cert.ReferenceIdeal Cert.ReferenceIdeal.Gen Idealize.ShloMosaic Idealize.ShloMosaic.TcCoe

variable {F : FTy → Type} [FloatOps F]

/-! ## The pieces of a row lookup -/

/-- An index array with each negative word moved up by the table's length. -/
def wrapped (n : BitVec 32) (u : IVec S16384 32) : IVec S16384 32 :=
  select (cmpi .slt u (broadcastInDim S16384 ![] bcast_S_S16384 (constantI S_ 32 0#32))) (addi u (broadcastInDim S16384 ![] bcast_S_S16384 (constantI S_ 32 n))) u

/-- The same as a column. -/
def column (n : BitVec 32) (u : IVec S16384 32) : IVec S16384x1 32 := broadcastInDim S16384x1 ![0] bcast_S16384_S16384x1_0 (wrapped n u)

/-- Which words name a row. -/
def valid (n l : BitVec 32) (u : IVec S16384 32) : IVec S16384 1 :=
  Host.reduce IntOp.andi (andi (cmpi .sge (column n u) (broadcastInDim S16384x1 ![] bcast_S_S16384x1 (constantI S_ 32 0#32)))
      (cmpi .sle (column n u) (broadcastInDim S16384x1 ![0, 1] bcast_S1x1_S16384x1_0_1 (broadcastInDim S1x1 ![1] bcast_S1_S1x1_1 (constantI S1 32 l)))))
    (constantI S_ 1 1#1) reducesTo_S16384x1_S16384_d1 h_S_

/-- The rows of a 32-wide table, with a fill where the word names none. -/
def rows32 {N : ℕ} (d : GatherDims ⟨2, ![N, 32]⟩ S16384x1 S16384x32) (n l : BitVec 32) (A : FVec F ⟨2, ![N, 32]⟩ .f32) (u : IVec S16384 32) : FVec F S16384x32 .f32 :=
  select (broadcastInDim S16384x32 ![0] bcast_S16384_S16384x32_0 (valid n l u)) (Host.gather d A (column n u))
    (broadcastInDim S16384x32 ![] bcast_S_S16384x32 (constant S_ .f32 0x7FC00000#32))

/-- The rows of a 1-wide table. -/
def rows1 {N : ℕ} (d : GatherDims ⟨2, ![N, 1]⟩ S16384x1 S16384x1) (n l : BitVec 32) (A : FVec F ⟨2, ![N, 1]⟩ .f32) (u : IVec S16384 32) : FVec F S16384x1 .f32 :=
  select (broadcastInDim S16384x1 ![0] bcast_S16384_S16384x1_0 (valid n l u)) (Host.gather d A (column n u))
    (broadcastInDim S16384x1 ![] bcast_S_S16384x1 (constant S_ .f32 0x7FC00000#32))

/-- The reference's value as a function of its arguments. -/
def refVal (u i : IVec S16384 32) (P : FVec F S1000000x32 .f32) (Q : FVec F S100000x32 .f32) (bu : FVec F S1000000x1 .f32) (bi : FVec F S100000x1 .f32) : FVec F S16384 .f32 :=
  addf (addf (addf (broadcastInDim S16384 ![] bcast_S_S16384 (constant S_ .f32 0x40600000#32))
        (shapeCast S16384 (rows1 gather_S1000000x1_S16384x1_S16384x1_1_0_n_n_0_1_11 1000000#32 999999#32 bu u) shapeCasts_S16384x1_S16384))
      (shapeCast S16384 (rows1 gather_S100000x1_S16384x1_S16384x1_1_0_n_n_0_1_11 100000#32 99999#32 bi i) shapeCasts_S16384x1_S16384))
    (Host.reduceAdd (mulf (rows32 gather_S1000000x32_S16384x1_S16384x32_1_0_n_n_0_1_132 1000000#32 999999#32 P u)
        (rows32 gather_S100000x32_S16384x1_S16384x32_1_0_n_n_0_1_132 100000#32 99999#32 Q i)) (constant S_ .f32 0x00000000#32) reducesTo_S16384x32_S16384_d1 h_S_)

set_option maxRecDepth 16384 in
theorem res_eq (m : (ℓ : Loc nD τ sig) → Buf (Elt F) ℓ) (c : Dev nD) :
    Value.res_main_v11 m c = refVal (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) := by
  unfold Value.res_main_v11 refVal rows32 rows1 valid column wrapped
  rfl

/-! ## In range -/

theorem select_all {α : Type} {s : Shape} (c : IVec s 1) (h : ∀ j, c j = 1#1) (a b : s.Idx → α) : select c a b = a :=
  funext fun j => if_pos (h j)

theorem spread_all {s t : Shape} (dims : Fin s.rank → Fin t.rank) (hb : s.BroadcastsInDim t dims) (v : IVec s 1) (h : ∀ j, v j = 1#1) (j : t.Idx) :
    broadcastInDim t dims hb v j = 1#1 := h _

section
variable (n l : BitVec 32) (hl : l.toNat + 1 = n.toNat) (hn : n.toNat < 2 ^ 31) (u : IVec S16384 32) (hu : ∀ x, (u x).toNat < n.toNat)

theorem toInt_small (v : BitVec 32) (h : v.toNat < 2 ^ 31) : v.toInt = v.toNat := by
  rw [BitVec.toInt_eq_toNat_cond, if_pos (by omega)]

include hn hu in
theorem wrapped_eq : wrapped n u = u := by
  funext x
  show Scalar.select (IntOp.cmpi .slt (u x) 0#32) _ (u x) = u x
  unfold Scalar.select
  rw [if_neg]
  intro h
  have h := IntOp.cmpi_slt.mp h
  rw [toInt_small _ (Nat.lt_trans (hu x) hn)] at h
  have : (0#32 : BitVec 32).toInt = 0 := rfl
  omega

include hn hu in
theorem column_apply (y : S16384x1.Idx) : column n u y = u (ix1 ⟨(y 0).val, ValueIdx.idx2_lt0 y⟩) := by
  unfold column
  rw [wrapped_eq n hn u hu]
  unfold broadcastInDim
  refine congrArg u (funext fun a => ?_)
  match a with
  | ⟨0, _⟩ => rfl

include hl hn hu in
theorem valid_eq (x : S16384.Idx) : valid n l u x = 1#1 := by
  refine Host.reduce_andi_one _ _ _ _ _ rfl fun y => ?_
  have hc := column_apply n hn u hu y
  have hb := hu (ix1 ⟨(y 0).val, ValueIdx.idx2_lt0 y⟩)
  have h0 : IntOp.cmpi .sge (column n u y) 0#32 = 1#1 := by
    rw [IntOp.cmpi_sge, hc, toInt_small _ (Nat.lt_trans hb hn)]
    exact Int.natCast_nonneg _
  have h1 : IntOp.cmpi .sle (column n u y) l = 1#1 := by
    rw [IntOp.cmpi_sle, hc, toInt_small _ (Nat.lt_trans hb hn), toInt_small l (by omega)]
    omega
  show IntOp.andi (IntOp.cmpi .sge (column n u y) 0#32) (IntOp.cmpi .sle (column n u y) l) = 1#1
  rw [h0, h1]; rfl

include hl hn hu in
theorem rows32_apply {N : ℕ} (d : GatherDims ⟨2, ![N, 32]⟩ S16384x1 S16384x32) (hoff : d.offsetDims = [1]) (hcoll : d.collapsedSliceDims = [0])
    (hob : d.operandBatchingDims = []) (hsim : d.startIndexMap = [0]) (hivd : d.indexVectorDim = 1) (hN : N = n.toNat)
    (A : FVec F ⟨2, ![N, 32]⟩ .f32) (c : Fin 16384) (k : Fin 32) :
    rows32 d n l A u (ix2 c k) = A (ix2 ⟨(u (ix1 c)).toNat, hN ▸ hu _⟩ k) := by
  refine (congrFun (select_all _ (spread_all _ _ _ (valid_eq n l hl hn u hu)) _ _) _).trans ?_
  have hb : (u (ix1 c)).toNat < N := hN ▸ hu _
  have hc : column n u (ix2 c (0 : Fin 1)) = BitVec.ofNat 32 (u (ix1 c)).toNat := (column_apply n hn u hu _).trans (BitVec.eq_of_toNat_eq (by simp))
  exact Routing.gather_row (nb := N) (B := 32) (n := 16384) d hoff hcoll hob hsim hivd A (column n u) c k ⟨(u (ix1 c)).toNat, hb⟩ hc (hN ▸ hn)

include hl hn hu in
theorem rows1_apply {N : ℕ} (d : GatherDims ⟨2, ![N, 1]⟩ S16384x1 S16384x1) (hoff : d.offsetDims = [1]) (hcoll : d.collapsedSliceDims = [0])
    (hob : d.operandBatchingDims = []) (hsim : d.startIndexMap = [0]) (hivd : d.indexVectorDim = 1) (hN : N = n.toNat)
    (A : FVec F ⟨2, ![N, 1]⟩ .f32) (c : Fin 16384) (k : Fin 1) :
    rows1 d n l A u (ix2 c k) = A (ix2 ⟨(u (ix1 c)).toNat, hN ▸ hu _⟩ k) := by
  refine (congrFun (select_all _ (spread_all _ _ _ (valid_eq n l hl hn u hu)) _ _) _).trans ?_
  have hb : (u (ix1 c)).toNat < N := hN ▸ hu _
  have hc : column n u (ix2 c (0 : Fin 1)) = BitVec.ofNat 32 (u (ix1 c)).toNat := (column_apply n hn u hu _).trans (BitVec.eq_of_toNat_eq (by simp))
  exact Routing.gather_row (nb := N) (B := 1) (n := 16384) d hoff hcoll hob hsim hivd A (column n u) c k ⟨(u (ix1 c)).toNat, hb⟩ hc (hN ▸ hn)

end

/-- A column read as a vector. -/
theorem flat_apply {α : Type} (x : S16384x1.Idx → α) (c : Fin 16384) : shapeCast S16384 x shapeCasts_S16384x1_S16384 (ix1 c) = x (ix2 c 0) :=
  Routing.cast21 x _ c 0 c (by simp)

/-! ## The value -/

theorem refVal_apply (u i : IVec S16384 32) (P : FVec Ideal S1000000x32 .f32) (Q : FVec Ideal S100000x32 .f32) (bu : FVec Ideal S1000000x1 .f32) (bi : FVec Ideal S100000x1 .f32)
    (hu : ∀ x, (u x).toNat < 1000000) (hi : ∀ x, (i x).toNat < 100000) (c : Fin 16384) :
    (refVal u i P Q bu bi (ix1 c) : EReal) = ((Ideal.ofBits .f32 0x40600000#32 : EReal) + bu (ix2 ⟨(u (ix1 c)).toNat, hu _⟩ 0)) + bi (ix2 ⟨(i (ix1 c)).toNat, hi _⟩ 0)
      + ∑ k : Fin 32, (P (ix2 ⟨(u (ix1 c)).toNat, hu _⟩ k) * Q (ix2 ⟨(i (ix1 c)).toNat, hi _⟩ k) : EReal) := by
  have eu := rows1_apply (F := Ideal) 1000000#32 999999#32 rfl (by decide) u hu gather_S1000000x1_S16384x1_S16384x1_1_0_n_n_0_1_11 rfl rfl rfl rfl rfl rfl bu c 0
  have ei := rows1_apply (F := Ideal) 100000#32 99999#32 rfl (by decide) i hi gather_S100000x1_S16384x1_S16384x1_1_0_n_n_0_1_11 rfl rfl rfl rfl rfl rfl bi c 0
  have eP := rows32_apply (F := Ideal) 1000000#32 999999#32 rfl (by decide) u hu gather_S1000000x32_S16384x1_S16384x32_1_0_n_n_0_1_132 rfl rfl rfl rfl rfl rfl P c
  have eQ := rows32_apply (F := Ideal) 100000#32 99999#32 rfl (by decide) i hi gather_S100000x32_S16384x1_S16384x32_1_0_n_n_0_1_132 rfl rfl rfl rfl rfl rfl Q c
  have es : Host.reduceAdd (mulf (rows32 gather_S1000000x32_S16384x1_S16384x32_1_0_n_n_0_1_132 1000000#32 999999#32 P u)
        (rows32 gather_S100000x32_S16384x1_S16384x32_1_0_n_n_0_1_132 100000#32 99999#32 Q i)) (constant S_ .f32 0x00000000#32) reducesTo_S16384x32_S16384_d1 h_S_ (ix1 c)
      = ∑ k : Fin 32, (P (ix2 ⟨(u (ix1 c)).toNat, hu _⟩ k) * Q (ix2 ⟨(i (ix1 c)).toNat, hi _⟩ k) : EReal) := by
    rw [Host.reduceAdd_apply, Ideal.hostReduceAdd_def, Ideal.hostReduceAdd_r2_a1]
    show Ideal.ofBits .f32 0x00000000#32 + _ = _
    rw [Ideal.ofBits_zero_f32, zero_add]
    refine Finset.sum_congr rfl fun k _ => ?_
    exact congrArg₂ (· * · : EReal → EReal → EReal) (eP k) (eQ k)
  have fu := (flat_apply (rows1 gather_S1000000x1_S16384x1_S16384x1_1_0_n_n_0_1_11 1000000#32 999999#32 bu u) c).trans eu
  have fi := (flat_apply (rows1 gather_S100000x1_S16384x1_S16384x1_1_0_n_n_0_1_11 100000#32 99999#32 bi i) c).trans ei
  exact congrArg₂ (· + · : EReal → EReal → EReal) (congrArg₂ (· + · : EReal → EReal → EReal) (congrArg (fun z : EReal => (Ideal.ofBits .f32 0x40600000#32 : EReal) + z) fu) fi) es

end Cert.ReferenceIdeal.Lfm

end
-- ==== Proof.Equal.lean ====
/- The kernel's result is the reference's, over the extended reals. -/
module

public import proofs.«01_k».proof.Proof.Grant
public import proofs.«01_k».proof.Proof.RefValue

@[expose] public section

noncomputable section

namespace Cert.Equal

open Idealize.ShloMosaic Idealize.ShloMosaic.TcCoe
open Cert.KernelIdeal.Lfm (predTo userOf itemOf factorOf)
open Cert.ReferenceIdeal.Lfm (refVal refVal_apply)

abbrev S16384 : Shape := Cert.ReferenceIdeal.S16384

variable (P : FVec Ideal Cert.KernelIdeal.S1000000x32 .f32) (Q : FVec Ideal Cert.KernelIdeal.S100000x32 .f32)
  (bu : FVec Ideal Cert.KernelIdeal.S1000000x1 .f32) (bi : FVec Ideal Cert.KernelIdeal.S100000x1 .f32)

theorem pair_ix2 {n m : ℕ} (a : Fin n) (b : Fin m) : Cert.KernelIdeal.Lfm.pair a b = ix2 a b := by
  funext k; match k with
  | ⟨0, _⟩ => rfl
  | ⟨1, _⟩ => rfl

/-- The kernel's order of addition: one product after the other. -/
theorem predTo_sum (u : Fin 1000000) (w : Fin 100000) (n : ℕ) :
    (show EReal from predTo (F := Ideal) P Q bu bi u w n) = ((Ideal.ofBits .f32 0x40600000#32 : EReal) + bu (ix2 u 0)) + bi (ix2 w 0)
      + ∑ k ∈ Finset.range n, (P (ix2 u (factorOf k)) * Q (ix2 w (factorOf k)) : EReal) := by
  induction n with
  | zero =>
    rw [Finset.sum_range_zero, add_zero, ← pair_ix2, ← pair_ix2]
    rfl
  | succ n ih =>
    rw [Finset.sum_range_succ, ← add_assoc, ← ih, ← pair_ix2, ← pair_ix2]
    rfl

theorem factorOf_val (k : Fin 32) : factorOf k.val = k := Fin.ext (Nat.mod_eq_of_lt k.isLt)

theorem refVal_eq (u i : IVec S16384 32) (hu : ∀ x, (u x).toNat < 1000000) (hi : ∀ x, (i x).toNat < 100000) (x : S16384.Idx) :
    refVal u i P Q bu bi x = predTo (F := Ideal) P Q bu bi (userOf (u x)) (itemOf (i x)) 32 := by
  obtain ⟨c, rfl⟩ : ∃ c : Fin 16384, x = ix1 c := ⟨x 0, funext fun a => by match a with | ⟨0, _⟩ => rfl⟩
  have eu : userOf (u (ix1 c)) = ⟨(u (ix1 c)).toNat, hu _⟩ := Fin.ext (Nat.mod_eq_of_lt (hu _))
  have ei : itemOf (i (ix1 c)) = ⟨(i (ix1 c)).toNat, hi _⟩ := Fin.ext (Nat.mod_eq_of_lt (hi _))
  refine (refVal_apply u i P Q bu bi hu hi c).trans ?_
  rw [eu, ei]
  refine Eq.trans ?_ (predTo_sum P Q bu bi _ _ 32).symm
  rw [← Fin.sum_univ_eq_sum_range (fun k => (P (ix2 _ (factorOf k)) * Q (ix2 _ (factorOf k)) : EReal)) 32]
  simp only [factorOf_val]

end Cert.Equal

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_in_range
public import proofs.«01_k».proof.Proof.Run
public import proofs.«01_k».proof.Proof.InRange
public import proofs.«01_k».proof.Proof.Equal
public import Idealize.ShloMosaic.Adequacy
public import Idealize.ShloMosaic.Init
public import Idealize.ShloMosaic.Lib.Quiescent

@[expose] public section

noncomputable section

namespace Cert.Proof

open Idealize.ShloMosaic Idealize.ShloMosaic.TcCoe Idealize.SL.Sem
open Cert.KernelIdeal.Lfm (InRange outVal QC run_main)

/-- The precondition gives the two index ranges, whatever the float values are. -/
theorem inRange_of {F : FTy → Type} [FloatOps F] (m : (ℓ : Loc Cert.KernelIdeal.nD Cert.KernelIdeal.τ Cert.KernelIdeal.sig) → Buf (Elt F) ℓ)
    (h : ∀ c : Dev Cert.KernelIdeal.nD, Cert.Pre_in_range.fn (F := F)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)) = fun _ => 1#1) : InRange m :=
  fun d x => Cert.Pre_in_range.bounds _ _ _ _ _ _ (h d) x

/-- The kernel's frame, for any float values: the run with the result dropped. -/
theorem run_frame {F : FTy → Type} [FloatOps F] [∀ e, Nonempty (Elt F e)]
    (m : (ℓ : Loc Cert.KernelIdeal.nD Cert.KernelIdeal.τ Cert.KernelIdeal.sig) → Buf (Elt F) ℓ) (ρ : Dev Cert.KernelIdeal.nD → PrngReg) (hR : InRange m) :
    θ_run (Cert.KernelIdeal.defs (F := F)) (Cert.KernelIdeal.threads (F := F)) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0) :=
  (θ_run Cert.KernelIdeal.defs _ _).mono (fun _ h => ⟨fun c => ⟨(h.1 c).1, (h.1 c).2.1, (h.1 c).2.2.2⟩, h.2⟩) (run_main m ρ hR)

/-- The two programs have the same text, kernel body by kernel body. -/
theorem tables_eq : Cert.Kernel.defs₀ (F := Bits) = Cert.KernelIdeal.defs₀ (F := Bits) := by
  funext p l a
  match p, l, a with
  | .tc, 0, _ => rfl
  | .tc, 1, _ => rfl
  | .tc, 2, _ => rfl
  | .scScalar _, 0, _ => rfl
  | .scScalar _, 1, _ => rfl
  | .scScalar _, 2, _ => rfl
  | .scVector _ _, 0, _ => rfl
  | .scVector _ _, 1, _ => rfl
  | .scVector _ _, 2, _ => rfl

theorem defs_eq : Cert.Kernel.defs (F := Bits) = Cert.KernelIdeal.defs (F := Bits) :=
  congrArg (fun t => Cert.KernelIdeal.sc.defs (Pipeline.defs Cert.KernelIdeal.pcfgs t)) tables_eq

/-- So this frame is the run of `KernelIdeal` at the bit-exact floats. -/
theorem frame_kernel : Cert.quiescent_Kernel := by
  intro m ρ hm
  rw [defs_eq]
  exact run_frame (F := Bits) m ρ (inRange_of (F := Bits) m hm)

theorem frame_ideal : Cert.quiescent_KernelIdeal := fun m ρ hm => run_frame (F := Ideal) m ρ (inRange_of (F := Ideal) m hm)

/-- The reference declares no semaphore. -/
theorem frame_ref : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem frame_ref_in_range : Cert.quiescent_ReferenceIdeal_pre_in_range := fun m ρ _ => frame_ref m ρ trivial

theorem algebraic : Cert.algebraic_KernelIdeal_ReferenceIdeal := by
  intro m ρ m' ρ' hm hagree
  have hR : InRange m := inRange_of (F := Ideal) m hm
  refine ⟨fun c => outVal m c,
    (θ_run Cert.KernelIdeal.defs _ _).mono (fun _ h c => ⟨(h.1 c).2.2.1, (h.1 c).1, (h.1 c).2.1, (h.1 c).2.2.2⟩)
      (run_main (F := Ideal) m ρ hR),
    (θ_run Cert.ReferenceIdeal.defs _ _).mono (fun r h c => ⟨(h c).1.trans ?_, (h c).2⟩)
      (Cert.ReferenceIdeal.Value.run (F := Ideal) m' ρ')⟩
  obtain ⟨e0, e1, e2, e3, e4, e5⟩ := hagree c
  rw [Cert.ReferenceIdeal.Lfm.res_eq, e0, e1, e2, e3, e4, e5]
  exact funext fun x => Cert.Equal.refVal_eq _ _ _ _ _ _ (fun y => (hR c y).1) (fun y => (hR c y).2) x

theorem claim : Cert.Claim := ⟨Cert.Kernel.Gen.facts, Cert.KernelIdeal.Gen.facts, Cert.ReferenceIdeal.Gen.facts, Cert.Pre_in_range.Gen.facts,
  frame_kernel, frame_ideal, frame_ref, frame_ref_in_range, trivial, algebraic⟩

end Cert.Proof

end
